-- ==== Defs.lean ====
def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite_inputs [hPre_finite_inputs : Cert.Pre_finite_inputs.Facts] (m : (ℓ : Loc Cert.DiffIdeal.nD Cert.DiffIdeal.τ Cert.DiffIdeal.sig) → Buf (Elt Ideal) ℓ) : Prop :=
  ∀ c : Dev Cert.DiffIdeal.nD,
    (Cert.Pre_finite_inputs.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3))).1 = (fun _ => 1#1)
    ∧ (Cert.Pre_finite_inputs.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3))).2.1 = (fun _ => 1#1)
    ∧ (Cert.Pre_finite_inputs.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3))).2.2 = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite_inputs [hPre_finite_inputs : Cert.Pre_finite_inputs.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite_inputs.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3))).1 = (fun _ => 1#1)
    ∧ (Cert.Pre_finite_inputs.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3))).2.1 = (fun _ => 1#1)
    ∧ (Cert.Pre_finite_inputs.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpIdeal_finite_weights [hPre_finite_weights : Cert.Pre_finite_weights.Facts] (m : (ℓ : Loc Cert.InpIdeal.nD Cert.InpIdeal.τ Cert.InpIdeal.sig) → Buf (Elt Ideal) ℓ) : Prop :=
  ∀ c : Dev Cert.InpIdeal.nD,
    (Cert.Pre_finite_weights.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4))).1 = (fun _ => 1#1)
    ∧ (Cert.Pre_finite_weights.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4))).2.1 = (fun _ => 1#1)
    ∧ (Cert.Pre_finite_weights.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4))).2.2.1 = (fun _ => 1#1)
    ∧ (Cert.Pre_finite_weights.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4))).2.2.2 = (fun _ => 1#1)

def Pre_InpRefIdeal (m : (ℓ : Loc Cert.InpRefIdeal.nD Cert.InpRefIdeal.τ Cert.InpRefIdeal.sig) → Buf (Elt Ideal) ℓ) : Prop :=
  True

def Pre_InpRefIdeal_finite_weights [hPre_finite_weights : Cert.Pre_finite_weights.Facts] (m : (ℓ : Loc Cert.InpRefIdeal.nD Cert.InpRefIdeal.τ Cert.InpRefIdeal.sig) → Buf (Elt Ideal) ℓ) : Prop :=
  ∀ c : Dev Cert.InpRefIdeal.nD,
    (Cert.Pre_finite_weights.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4))).1 = (fun _ => 1#1)
    ∧ (Cert.Pre_finite_weights.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4))).2.1 = (fun _ => 1#1)
    ∧ (Cert.Pre_finite_weights.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4))).2.2.1 = (fun _ => 1#1)
    ∧ (Cert.Pre_finite_weights.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4))).2.2.2 = (fun _ => 1#1)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3))
      ∧ r.2.sem = fun _ => 0)

def quiescent_DiffIdeal_pre_finite_inputs [hDiffIdeal : Cert.DiffIdeal.Facts] [hPre_finite_inputs : Cert.Pre_finite_inputs.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite_inputs m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3))
      ∧ r.2.sem = fun _ => 0)

def quiescent_DiffRefIdeal_pre_finite_inputs [hDiffRefIdeal : Cert.DiffRefIdeal.Facts] [hPre_finite_inputs : Cert.Pre_finite_inputs.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite_inputs m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ r.2.sem = fun _ => 0)

def quiescent_InpIdeal_pre_finite_weights [hInpIdeal : Cert.InpIdeal.Facts] [hPre_finite_weights : Cert.Pre_finite_weights.Facts] : Prop :=
  ∀ (m : (ℓ : Loc Cert.InpIdeal.nD Cert.InpIdeal.τ Cert.InpIdeal.sig) → Buf (Elt Ideal) ℓ) (g : Dev Cert.InpIdeal.nD → PrngReg), Pre_InpIdeal_finite_weights m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4))
      ∧ r.2.sem = fun _ => 0)

def quiescent_InpRefIdeal_pre_finite_weights [hInpRefIdeal : Cert.InpRefIdeal.Facts] [hPre_finite_weights : Cert.Pre_finite_weights.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal_finite_weights m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4))
      ∧ r.2.sem = fun _ => 0)

def preserves_Diff_DiffIdeal : Prop :=
  True

def algebraic_DiffIdeal_DiffRefIdeal_pre_finite_inputs [hDiffIdeal : Cert.DiffIdeal.Facts] [hDiffRefIdeal : Cert.DiffRefIdeal.Facts] [hPre_finite_inputs : Cert.Pre_finite_inputs.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite_inputs m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)) →
    ∃ (v0 : (c : Dev Cert.DiffIdeal.nD) → Buf (Elt Ideal) ((c.tc : Thread Cert.DiffIdeal.nD Cert.DiffIdeal.τ).loc Cert.DiffIdeal.main_v44)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v44) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v85) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v21) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_Inp_InpIdeal : Prop :=
  IdealRules.named_const.Statement Cert.InpIdeal.κ "q_scale" .f32 0x3E38AA3B#32 (((1 / 8) * (Real.log 2)⁻¹ : ℝ) : EReal)

def algebraic_InpIdeal_InpRefIdeal_pre_finite_weights [hInpIdeal : Cert.InpIdeal.Facts] [hInpRefIdeal : Cert.InpRefIdeal.Facts] [hPre_finite_weights : Cert.Pre_finite_weights.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal_finite_weights m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)) →
    ∃ (v0 : (c : Dev Cert.InpIdeal.nD) → Buf (Elt Ideal) ((c.tc : Thread Cert.InpIdeal.nD Cert.InpIdeal.τ).loc Cert.InpIdeal.main_v56_0)) (v1 : (c : Dev Cert.InpIdeal.nD) → Buf (Elt Ideal) ((c.tc : Thread Cert.InpIdeal.nD Cert.InpIdeal.τ).loc Cert.InpIdeal.main_v56_1)) (v2 : (c : Dev Cert.InpIdeal.nD) → Buf (Elt Ideal) ((c.tc : Thread Cert.InpIdeal.nD Cert.InpIdeal.τ).loc Cert.InpIdeal.main_v56_2)) (v3 : (c : Dev Cert.InpIdeal.nD) → Buf (Elt Ideal) ((c.tc : Thread Cert.InpIdeal.nD Cert.InpIdeal.τ).loc Cert.InpIdeal.main_v56_3)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v56_0) = v0 c
          ∧ r.2.mem ((c.tc : Thread Cert.InpIdeal.nD Cert.InpIdeal.τ).loc Cert.InpIdeal.main_v56_1) = v1 c
          ∧ r.2.mem ((c.tc : Thread Cert.InpIdeal.nD Cert.InpIdeal.τ).loc Cert.InpIdeal.main_v56_2) = v2 c
          ∧ r.2.mem ((c.tc : Thread Cert.InpIdeal.nD Cert.InpIdeal.τ).loc Cert.InpIdeal.main_v56_3) = v3 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v333) = v0 c
          ∧ r.2.mem ((c.tc : Thread Cert.InpRefIdeal.nD Cert.InpRefIdeal.τ).loc Cert.InpRefIdeal.main_v334) = v1 c
          ∧ r.2.mem ((c.tc : Thread Cert.InpRefIdeal.nD Cert.InpRefIdeal.τ).loc Cert.InpRefIdeal.main_v335) = v2 c
          ∧ r.2.mem ((c.tc : Thread Cert.InpRefIdeal.nD Cert.InpRefIdeal.τ).loc Cert.InpRefIdeal.main_v336) = v3 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4))

def Claim : Prop :=
  ∃ (hDiff : Cert.Diff.Facts) (hDiffIdeal : Cert.DiffIdeal.Facts) (hDiffRefIdeal : Cert.DiffRefIdeal.Facts) (hFfn : Cert.Ffn.Facts) (hFfnIdeal : Cert.FfnIdeal.Facts) (hFfnRefIdeal : Cert.FfnRefIdeal.Facts) (hInp : Cert.Inp.Facts) (hInpIdeal : Cert.InpIdeal.Facts) (hInpRefIdeal : Cert.InpRefIdeal.Facts) (hPre_finite_inputs : Cert.Pre_finite_inputs.Facts) (hPre_finite_weights : Cert.Pre_finite_weights.Facts),
    quiescent_Diff (hDiff := hDiff)
    ∧ quiescent_DiffIdeal (hDiffIdeal := hDiffIdeal)
    ∧ quiescent_DiffIdeal_pre_finite_inputs (hDiffIdeal := hDiffIdeal) (hPre_finite_inputs := hPre_finite_inputs)
    ∧ quiescent_DiffRefIdeal (hDiffRefIdeal := hDiffRefIdeal)
    ∧ quiescent_DiffRefIdeal_pre_finite_inputs (hDiffRefIdeal := hDiffRefIdeal) (hPre_finite_inputs := hPre_finite_inputs)
    ∧ quiescent_Ffn (hFfn := hFfn)
    ∧ quiescent_FfnIdeal (hFfnIdeal := hFfnIdeal)
    ∧ quiescent_FfnRefIdeal (hFfnRefIdeal := hFfnRefIdeal)
    ∧ quiescent_Inp (hInp := hInp)
    ∧ quiescent_InpIdeal (hInpIdeal := hInpIdeal)
    ∧ quiescent_InpIdeal_pre_finite_weights (hInpIdeal := hInpIdeal) (hPre_finite_weights := hPre_finite_weights)
    ∧ quiescent_InpRefIdeal (hInpRefIdeal := hInpRefIdeal)
    ∧ quiescent_InpRefIdeal_pre_finite_weights (hInpRefIdeal := hInpRefIdeal) (hPre_finite_weights := hPre_finite_weights)
    ∧ preserves_Diff_DiffIdeal
    ∧ algebraic_DiffIdeal_DiffRefIdeal_pre_finite_inputs (hDiffIdeal := hDiffIdeal) (hDiffRefIdeal := hDiffRefIdeal) (hPre_finite_inputs := hPre_finite_inputs)
    ∧ preserves_Ffn_FfnIdeal
    ∧ algebraic_FfnIdeal_FfnRefIdeal (hFfnIdeal := hFfnIdeal) (hFfnRefIdeal := hFfnRefIdeal)
    ∧ preserves_Inp_InpIdeal
    ∧ algebraic_InpIdeal_InpRefIdeal_pre_finite_weights (hInpIdeal := hInpIdeal) (hInpRefIdeal := hInpRefIdeal) (hPre_finite_weights := hPre_finite_weights)
-- ==== Pre_finite_inputs.lean ====
abbrev S8x4096x2688 : Shape := ⟨3, ![8, 4096, 2688]⟩
abbrev S8x4096x512 : Shape := ⟨3, ![8, 4096, 512]⟩
abbrev S4x64 : Shape := ⟨2, ![4, 64]⟩
abbrev S128 : Shape := ⟨1, ![128]⟩
abbrev S8x4096x1024 : Shape := ⟨3, ![8, 4096, 1024]⟩
abbrev S_ : Shape := ⟨0, ![]⟩

class Facts : Prop where
  slices_S8x4096x2688_S8x4096x1024_0_0_512 : S8x4096x2688.Slices ![0, 0, 512] S8x4096x1024
  bcast_S_S8x4096x1024 : S_.BroadcastsInDim S8x4096x1024 (![] : Fin 0 → Fin S8x4096x1024.rank)
  bcast_S_S8x4096x512 : S_.BroadcastsInDim S8x4096x512 (![] : Fin 0 → Fin S8x4096x512.rank)
  bcast_S_S4x64 : S_.BroadcastsInDim S4x64 (![] : Fin 0 → Fin S4x64.rank)

variable [Facts]

def fn {F : FTy → Type} [FloatOps F] (main_arg0 : FVec F S8x4096x2688 .f32) (main_arg1 : FVec F S8x4096x512 .f32) (main_arg2 : FVec F S4x64 .f32) (main_arg3 : FVec F S128 .f32) : IVec S8x4096x1024 1 × IVec S8x4096x512 1 × IVec S4x64 1 :=
  let main_v0 : FVec F S8x4096x1024 .f32 := (extractStridedSlice S8x4096x1024 ![0, 0, 512] · slices_S8x4096x2688_S8x4096x1024_0_0_512) main_arg0
  let main_v1 : FVec F S8x4096x1024 .f32 := Host.absf main_v0
  let main_cst : FVec F S_ .f32 := constant S_ .f32 0x7F800000#32
  let main_v2 : FVec F S8x4096x1024 .f32 := broadcastInDim S8x4096x1024 ![] bcast_S_S8x4096x1024 main_cst
  let main_v3 : IVec S8x4096x1024 1 := cmpf .olt main_v1 main_v2
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_v7 : FVec F S4x64 .f32 := Host.absf main_arg2
  let main_cst_1 : FVec F S_ .f32 := constant S_ .f32 0x7F800000#32
  let main_v8 : FVec F S4x64 .f32 := broadcastInDim S4x64 ![] bcast_S_S4x64 main_cst_1
  let main_v9 : IVec S4x64 1 := cmpf .olt main_v7 main_v8
  (main_v3, main_v6, main_v9)
-- ==== Pre_finite_weights.lean ====
abbrev S32768x1024 : Shape := ⟨2, ![32768, 1024]⟩
abbrev S1024 : Shape := ⟨1, ![1024]⟩
abbrev S1024x3656 : Shape := ⟨2, ![1024, 3656]⟩
abbrev S3x64 : Shape := ⟨2, ![3, 64]⟩
abbrev S_ : Shape := ⟨0, ![]⟩
abbrev S1024x512 : Shape := ⟨2, ![1024, 512]⟩
abbrev S1024x1024 : Shape := ⟨2, ![1024, 1024]⟩

class Facts : Prop where
  bcast_S_S1024 : S_.BroadcastsInDim S1024 (![] : Fin 0 → Fin S1024.rank)
  slices_S1024x3656_S1024x512_0_0 : S1024x3656.Slices ![0, 0] S1024x512
  bcast_S_S1024x512 : S_.BroadcastsInDim S1024x512 (![] : Fin 0 → Fin S1024x512.rank)
  slices_S1024x3656_S1024x1024_0_768 : S1024x3656.Slices ![0, 768] S1024x1024
  bcast_S_S1024x1024 : S_.BroadcastsInDim S1024x1024 (![] : Fin 0 → Fin S1024x1024.rank)
  slices_S1024x3656_S1024x512_0_2304 : S1024x3656.Slices ![0, 2304] S1024x512

variable [Facts]

def fn {F : FTy → Type} [FloatOps F] (main_arg0 : FVec F S32768x1024 .f32) (main_arg1 : FVec F S1024 .f32) (main_arg2 : FVec F S1024x3656 .f32) (main_arg3 : FVec F S3x64 .f32) (main_arg4 : FVec F S3x64 .f32) : IVec S1024 1 × IVec S1024x512 1 × IVec S1024x1024 1 × IVec S1024x512 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x512 .f32 := (extractStridedSlice S1024x512 ![0, 0] · slices_S1024x3656_S1024x512_0_0) main_arg2
  let main_v4 : FVec F S1024x512 .f32 := Host.absf main_v3
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_v7 : FVec F S1024x1024 .f32 := (extractStridedSlice S1024x1024 ![0, 768] · slices_S1024x3656_S1024x1024_0_768) main_arg2
  let main_v8 : FVec F S1024x1024 .f32 := Host.absf main_v7
  let main_cst_1 : FVec F S_ .f32 := constant S_ .f32 0x7F800000#32
  let main_v9 : FVec F S1024x1024 .f32 := broadcastInDim S1024x1024 ![] bcast_S_S1024x1024 main_cst_1
  let main_v10 : IVec S1024x1024 1 := cmpf .olt main_v8 main_v9
  let main_v11 : FVec F S1024x512 .f32 := (extractStridedSlice S1024x512 ![0, 2304] · slices_S1024x3656_S1024x512_0_2304) main_arg2
  let main_v12 : FVec F S1024x512 .f32 := Host.absf main_v11
  let main_cst_2 : FVec F S_ .f32 := constant S_ .f32 0x7F800000#32
  let main_v13 : FVec F S1024x512 .f32 := broadcastInDim S1024x512 ![] bcast_S_S1024x512 main_cst_2
  let main_v14 : IVec S1024x512 1 := cmpf .olt main_v12 main_v13
  (main_v2, main_v6, main_v10, main_v14)
-- ==== Diff.lean ====
abbrev S8x4096x2688 : Shape := ⟨3, ![8, 4096, 2688]⟩
abbrev S8x4096x512 : Shape := ⟨3, ![8, 4096, 512]⟩
abbrev S4x64 : Shape := ⟨2, ![4, 64]⟩
abbrev S128 : Shape := ⟨1, ![128]⟩
abbrev S_ : Shape := ⟨0, ![]⟩
abbrev S8x4096x1664 : Shape := ⟨3, ![8, 4096, 1664]⟩
abbrev S8x16x256x4x128 : Shape := ⟨5, ![8, 16, 256, 4, 128]⟩
abbrev S8x4x16x128x256 : Shape := ⟨5, ![8, 4, 16, 128, 256]⟩
abbrev S8x4x16x16x256 : Shape := ⟨5, ![8, 4, 16, 16, 256]⟩
abbrev S8x4x16x144x256 : Shape := ⟨5, ![8, 4, 16, 144, 256]⟩
abbrev S1x128 : Shape := ⟨2, ![1, 128]⟩
abbrev S256x1024 : Shape := ⟨2, ![256, 1024]⟩
abbrev S1x256x1024 : Shape := ⟨3, ![1, 256, 1024]⟩
abbrev S5x256x1024 : Shape := ⟨3, ![5, 256, 1024]⟩
abbrev S1x1024x128 : Shape := ⟨3, ![1, 1024, 128]⟩
abbrev S1x4096x128 : Shape := ⟨3, ![1, 4096, 128]⟩
abbrev S1x1x16x144x256 : Shape := ⟨5, ![1, 1, 16, 144, 256]⟩
abbrev S2x144x1024 : Shape := ⟨3, ![2, 144, 1024]⟩
abbrev S2x2x256x1024 : Shape := ⟨4, ![2, 2, 256, 1024]⟩
abbrev S1024x128 : Shape := ⟨2, ![1024, 128]⟩
abbrev S128x1024 : Shape := ⟨2, ![128, 1024]⟩
abbrev S128x1 : Shape := ⟨2, ![128, 1]⟩
abbrev S144x1024 : Shape := ⟨2, ![144, 1024]⟩
abbrev S1x144x1024 : Shape := ⟨3, ![1, 144, 1024]⟩
abbrev S1x1024 : Shape := ⟨2, ![1, 1024]⟩
abbrev S1x1x256x1024 : Shape := ⟨4, ![1, 1, 256, 1024]⟩
abbrev S1x256x128 : Shape := ⟨3, ![1, 256, 128]⟩
abbrev S256x128 : Shape := ⟨2, ![256, 128]⟩
abbrev S1024 : Shape := ⟨1, ![1024]⟩
abbrev S1x1x1x144x256 : Shape := ⟨5, ![1, 1, 1, 144, 256]⟩
abbrev S144x256 : Shape := ⟨2, ![144, 256]⟩
abbrev S1x64 : Shape := ⟨2, ![1, 64]⟩
abbrev S1 : Shape := ⟨1, ![1]⟩
abbrev S1x1 : Shape := ⟨2, ![1, 1]⟩
abbrev S1x128x1024 : Shape := ⟨3, ![1, 128, 1024]⟩
abbrev S1x1x1024 : Shape := ⟨3, ![1, 1, 1024]⟩
abbrev S1024x1 : Shape := ⟨2, ![1024, 1]⟩

abbrev nBuf : Space → Nat
  | .hbm => 73
  | .vmem => 14
  | .smem => 0
  | _ => 0

abbrev bufTy : (tb : Table) → Fin (tcTables nBuf tb) → BufTy
  | .hbm, ⟨0, _⟩ => ⟨S8x4096x2688, .f32⟩
  | .hbm, ⟨1, _⟩ => ⟨S8x4096x512, .f32⟩
  | .hbm, ⟨2, _⟩ => ⟨S4x64, .f32⟩
  | .hbm, ⟨3, _⟩ => ⟨S128, .f32⟩
  | .hbm, ⟨4, _⟩ => ⟨S8x4096x512, .f32⟩
  | .hbm, ⟨5, _⟩ => ⟨S8x4096x512, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x4096x512, .f32⟩
  | .hbm, ⟨11, _⟩ => ⟨S8x4096x512, .f32⟩
  | .hbm, ⟨12, _⟩ => ⟨S8x4096x1664, .f32⟩
  | .hbm, ⟨13, _⟩ => ⟨S8x4096x2688, .f32⟩
  | .hbm, ⟨14, _⟩ => ⟨S8x4096x2688, .bf16⟩
  | .hbm, ⟨15, _⟩ => ⟨S8x16x256x4x128, .f32⟩
  | .hbm, ⟨16, _⟩ => ⟨S8x4x16x128x256, .f32⟩
  | .hbm, ⟨17, _⟩ => ⟨S8x4x16x128x256, .bf16⟩
  | .hbm, ⟨18, _⟩ => ⟨S_, .bf16⟩
  | .hbm, ⟨19, _⟩ => ⟨S8x4x16x16x256, .bf16⟩
  | .hbm, ⟨20, _⟩ => ⟨S8x4x16x144x256, .bf16⟩
  | .hbm, ⟨21, _⟩ => ⟨S1x128, .f32⟩
  | .hbm, ⟨22, _⟩ => ⟨S256x1024, .i32⟩
  | .hbm, ⟨23, _⟩ => ⟨S256x1024, .i32⟩
  | .hbm, ⟨24, _⟩ => ⟨S_, .f32⟩
  | .hbm, ⟨25, _⟩ => ⟨S256x1024, .f32⟩
  | .hbm, ⟨26, _⟩ => ⟨S_, .i32⟩
  | .hbm, ⟨27, _⟩ => ⟨S256x1024, .i32⟩
  | .hbm, ⟨28, _⟩ => ⟨S256x1024, .i32⟩
  | .hbm, ⟨29, _⟩ => ⟨S256x1024, .i1⟩
  | .hbm, ⟨30, _⟩ => ⟨S_, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .i32⟩
  | .hbm, ⟨37, _⟩ => ⟨S256x1024, .i32⟩
  | .hbm, ⟨38, _⟩ => ⟨S256x1024, .i32⟩
  | .hbm, ⟨39, _⟩ => ⟨S256x1024, .i1⟩
  | .hbm, ⟨40, _⟩ => ⟨S_, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S_, .i32⟩
  | .hbm, ⟨47, _⟩ => ⟨S256x1024, .i32⟩
  | .hbm, ⟨48, _⟩ => ⟨S256x1024, .i32⟩
  | .hbm, ⟨49, _⟩ => ⟨S256x1024, .i1⟩
  | .hbm, ⟨50, _⟩ => ⟨S_, .f32⟩
  | .hbm, ⟨51, _⟩ => ⟨S_, .f32⟩
  | .hbm, ⟨52, _⟩ => ⟨S256x1024, .f32⟩
  | .hbm, ⟨53, _⟩ => ⟨S256x1024, .f32⟩
  | .hbm, ⟨54, _⟩ => ⟨S256x1024, .f32⟩
  | .hbm, ⟨55, _⟩ => ⟨S256x1024, .f32⟩
  | .hbm, ⟨56, _⟩ => ⟨S_, .i32⟩
  | .hbm, ⟨57, _⟩ => ⟨S256x1024, .i32⟩
  | .hbm, ⟨58, _⟩ => ⟨S256x1024, .i32⟩
  | .hbm, ⟨59, _⟩ => ⟨S256x1024, .i1⟩
  | .hbm, ⟨60, _⟩ => ⟨S_, .f32⟩
  | .hbm, ⟨61, _⟩ => ⟨S_, .f32⟩
  | .hbm, ⟨62, _⟩ => ⟨S256x1024, .f32⟩
  | .hbm, ⟨63, _⟩ => ⟨S256x1024, .f32⟩
  | .hbm, ⟨64, _⟩ => ⟨S256x1024, .f32⟩
  | .hbm, ⟨65, _⟩ => ⟨S256x1024, .f32⟩
  | .hbm, ⟨66, _⟩ => ⟨S1x256x1024, .f32⟩
  | .hbm, ⟨67, _⟩ => ⟨S1x256x1024, .f32⟩
  | .hbm, ⟨68, _⟩ => ⟨S1x256x1024, .f32⟩
  | .hbm, ⟨69, _⟩ => ⟨S1x256x1024, .f32⟩
  | .hbm, ⟨70, _⟩ => ⟨S1x256x1024, .f32⟩
  | .hbm, ⟨71, _⟩ => ⟨S5x256x1024, .f32⟩
  | .hbm, ⟨72, _⟩ => ⟨S8x4096x512, .bf16⟩
  | .local _ .vmem, ⟨0, _⟩ => ⟨S4x64, .f32⟩
  | .local _ .vmem, ⟨1, _⟩ => ⟨S1x1024x128, .bf16⟩
  | .local _ .vmem, ⟨2, _⟩ => ⟨S1x1024x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x1x16x144x256, .bf16⟩
  | .local _ .vmem, ⟨6, _⟩ => ⟨S1x1x16x144x256, .bf16⟩
  | .local _ .vmem, ⟨7, _⟩ => ⟨S1x128, .f32⟩
  | .local _ .vmem, ⟨8, _⟩ => ⟨S5x256x1024, .f32⟩
  | .local _ .vmem, ⟨9, _⟩ => ⟨S1x1024x128, .bf16⟩
  | .local _ .vmem, ⟨10, _⟩ => ⟨S1x1024x128, .bf16⟩
  | .local _ .vmem, ⟨11, _⟩ => ⟨S2x144x1024, .f32⟩
  | .local _ .vmem, ⟨12, _⟩ => ⟨S2x2x256x1024, .f32⟩
  | .local _ .vmem, ⟨13, _⟩ => ⟨S2x2x256x1024, .bf16⟩
  | _, _ => ⟨S8x4096x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_cst_7 : Ref sig .tc := ⟨.hbm, 41, rfl⟩
abbrev main_call1_v0 : Ref sig .tc := ⟨.hbm, 42, rfl⟩
abbrev main_call1_v1 : Ref sig .tc := ⟨.hbm, 43, rfl⟩
abbrev main_v26 : Ref sig .tc := ⟨.hbm, 44, rfl⟩
abbrev main_v27 : Ref sig .tc := ⟨.hbm, 45, rfl⟩
abbrev main_c_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_cst_10 : Ref sig .tc := ⟨.hbm, 51, rfl⟩
abbrev main_call2_v0 : Ref sig .tc := ⟨.hbm, 52, rfl⟩
abbrev main_call2_v1 : Ref sig .tc := ⟨.hbm, 53, rfl⟩
abbrev main_v31 : Ref sig .tc := ⟨.hbm, 54, rfl⟩
abbrev main_v32 : Ref sig .tc := ⟨.hbm, 55, rfl⟩
abbrev main_c_11 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_12 : Ref sig .tc := ⟨.hbm, 60, rfl⟩
abbrev main_cst_13 : Ref sig .tc := ⟨.hbm, 61, rfl⟩
abbrev main_call3_v0 : Ref sig .tc := ⟨.hbm, 62, rfl⟩
abbrev main_call3_v1 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let c0_i32_31 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let v59 : BitVec 32 := Scalar.minsi c0_i32_31 v2
  let c256_i32 : BitVec 32 := 256#32
  let v60 : BitVec 32 := Scalar.muli v59 c256_i32
  v60
def k0_off1 (i : grid0.Coords) : Fin 3 → Nat :=
  let c0_32 : Index := 0#32
  let c0_i32_31 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let v59 : BitVec 32 := Scalar.minsi c0_i32_31 v2
  let c256_i32 : BitVec 32 := 256#32
  let v60 : BitVec 32 := Scalar.muli v59 c256_i32
  let v61 : BitVec 32 := v60
  let v62 : Index := Scalar.indexCast v61
  let c0_33 : Index := 0#32
  ![0, v62.toNat, 0]
def k0_off2 (i : grid0.Coords) : Fin 3 → Nat :=
  let c4_i32_38 : BitVec 32 := 4#32
  let c0_i32_37 : BitVec 32 := 0#32
  let c0_i32_35 : BitVec 32 := 0#32
  let arg2 : BitVec 32 := BitVec.ofNat 32 (i 2).val
  let c4_i32 : BitVec 32 := 4#32
  let v0 : BitVec 32 := Scalar.muli arg2 c4_i32
  let v66 : BitVec 32 := Scalar.subi c0_i32_35 v0
  let c1_i32_36 : BitVec 32 := 1#32
  let v67 : BitVec 32 := Scalar.addi v66 c1_i32_36
  let v68 : BitVec 32 := Scalar.maxsi c0_i32_37 v67
  let v69 : BitVec 32 := Scalar.minsi c4_i32_38 v68
  let v70 : Index := Scalar.indexCast v69
  let c0_39 : Index := 0#32
  let c0_40 : Index := 0#32
  ![v70.toNat, 0, 0]
def k0_mult2 (i : grid0.Coords) : BitVec 32 :=
  let c0_i32_48 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let v83 : BitVec 32 := Scalar.minsi c0_i32_48 v2
  let c256_i32_49 : BitVec 32 := 256#32
  let v84 : BitVec 32 := Scalar.muli v83 c256_i32_49
  v84
@[reducible] def k0_t1_loop (i : grid0.Coords) : Scf.Loop 32 :=
  let c0_i32_75 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c1_i32_12 : BitVec 32 := 1#32
  let v30 : BitVec 32 := Scalar.addi v2 c1_i32_12
  let c1_i32_25 : BitVec 32 := 1#32
  let v41 : BitVec 32 := Scalar.addi v30 c1_i32_25
  let c0_i32 : BitVec 32 := 0#32
  let v43 : BitVec 1 := Scalar.cmpi .sgt v41 c0_i32
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32 : BitVec 32 := 2#32
  let c0_i32_27 : BitVec 32 := 0#32
  let v48 : BitVec 1 := Scalar.cmpi .sgt c2_i32 c0_i32_27
  let v49 : BitVec 32 := Scalar.extui v48
  let c0_i32_28 : BitVec 32 := 0#32
  let v50 : BitVec 1 := Scalar.cmpi .slt c2_i32 c0_i32_28
  let v51 : BitVec 32 := Scalar.extui v50
  let v52 : BitVec 32 := Scalar.subi v49 v51
  let v53 : BitVec 1 := Scalar.cmpi .ne v47 v52
  let v54 : BitVec 32 := Scalar.remsi v41 c2_i32
  let c0_i32_29 : BitVec 32 := 0#32
  let v55 : BitVec 1 := Scalar.cmpi .ne v54 c0_i32_29
  let v56 : BitVec 1 := Scalar.andi v53 v55
  let v42 : BitVec 32 := Scalar.divsi v41 c2_i32
  let c1_i32_30 : BitVec 32 := 1#32
  let v57 : BitVec 32 := Scalar.subi v42 c1_i32_30
  let v58 : BitVec 32 := Scalar.select v56 v57 v42
  let c0_i32_74 : BitVec 32 := 0#32
  let c1_i32_66 : BitVec 32 := 1#32
  let v107 : BitVec 32 := Scalar.subi v0 c1_i32_66
  let c0_i32_68 : BitVec 32 := 0#32
  let v109 : BitVec 1 := Scalar.cmpi .sgt v107 c0_i32_68
  let v110 : BitVec 32 := Scalar.extui v109
  let c0_i32_69 : BitVec 32 := 0#32
  let v111 : BitVec 1 := Scalar.cmpi .slt v107 c0_i32_69
  let v112 : BitVec 32 := Scalar.extui v111
  let v113 : BitVec 32 := Scalar.subi v110 v112
  let c2_i32_67 : BitVec 32 := 2#32
  let c0_i32_70 : BitVec 32 := 0#32
  let v114 : BitVec 1 := Scalar.cmpi .sgt c2_i32_67 c0_i32_70
  let v115 : BitVec 32 := Scalar.extui v114
  let c0_i32_71 : BitVec 32 := 0#32
  let v116 : BitVec 1 := Scalar.cmpi .slt c2_i32_67 c0_i32_71
  let v117 : BitVec 32 := Scalar.extui v116
  let v118 : BitVec 32 := Scalar.subi v115 v117
  let v119 : BitVec 1 := Scalar.cmpi .ne v113 v118
  let v120 : BitVec 32 := Scalar.remsi v107 c2_i32_67
  let c0_i32_72 : BitVec 32 := 0#32
  let v121 : BitVec 1 := Scalar.cmpi .ne v120 c0_i32_72
  let v122 : BitVec 1 := Scalar.andi v119 v121
  let v108 : BitVec 32 := Scalar.divsi v107 c2_i32_67
  let c1_i32_73 : BitVec 32 := 1#32
  let v123 : BitVec 32 := Scalar.subi v108 c1_i32_73
  let v124 : BitVec 32 := Scalar.select v122 v123 v108
  let v125 : BitVec 32 := Scalar.maxsi c0_i32_74 v124
  let v126 : BitVec 32 := Scalar.minsi v58 v125
  let v127 : BitVec 32 := Scalar.subi v126 c0_i32_75
  let c1_i32_76 : BitVec 32 := 1#32
  let v129 : BitVec 32 := Scalar.divsi v127 c1_i32_76
  let v130 : BitVec 32 := Scalar.muli v129 c1_i32_76
  let v131 : BitVec 32 := Scalar.addi c0_i32_75 v130
  let c1_i32_77 : BitVec 32 := 1#32
  ⟨c0_i32_75, v131, c1_i32_77⟩
def k0_mult3 (i : grid0.Coords) (k0_t1 : Fin (k0_t1_loop i).trips) : BitVec 32 :=
  let c2_i32_141 : BitVec 32 := 2#32
  let c0_i32_75 : BitVec 32 := 0#32
  let c1_i32_77 : BitVec 32 := 1#32
  let arg13 : BitVec 32 := Scf.iv c0_i32_75 c1_i32_77 k0_t1
  let v227 : BitVec 32 := Scalar.muli c2_i32_141 arg13
  let c1_i32_142 : BitVec 32 := 1#32
  let v228 : BitVec 32 := Scalar.addi v227 c1_i32_142
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let v229 : BitVec 32 := Scalar.minsi v228 v2
  let c256_i32_143 : BitVec 32 := 256#32
  let v230 : BitVec 32 := Scalar.muli v229 c256_i32_143
  v230
def k0_off3 (i : grid0.Coords) (k0_t1 : Fin (k0_t1_loop i).trips) (c1_i32_142 : BitVec 32) : Fin 3 → Nat :=
  let c0_144 : Index := 0#32
  let c2_i32_141 : BitVec 32 := 2#32
  let c0_i32_75 : BitVec 32 := 0#32
  let c1_i32_77 : BitVec 32 := 1#32
  let arg13 : BitVec 32 := Scf.iv c0_i32_75 c1_i32_77 k0_t1
  let v227 : BitVec 32 := Scalar.muli c2_i32_141 arg13
  let v228 : BitVec 32 := Scalar.addi v227 c1_i32_142
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let v229 : BitVec 32 := Scalar.minsi v228 v2
  let c256_i32_143 : BitVec 32 := 256#32
  let v230 : BitVec 32 := Scalar.muli v229 c256_i32_143
  let v231 : BitVec 32 := v230
  let v232 : Index := Scalar.indexCast v231
  let c0_145 : Index := 0#32
  ![0, v232.toNat, 0]
def k0_mult4 (i : grid0.Coords) (k0_t1 : Fin (k0_t1_loop i).trips) : BitVec 32 :=
  let c2_i32_141 : BitVec 32 := 2#32
  let c0_i32_75 : BitVec 32 := 0#32
  let c1_i32_77 : BitVec 32 := 1#32
  let arg13 : BitVec 32 := Scf.iv c0_i32_75 c1_i32_77 k0_t1
  let v227 : BitVec 32 := Scalar.muli c2_i32_141 arg13
  let c1_i32_142 : BitVec 32 := 1#32
  let v228 : BitVec 32 := Scalar.addi v227 c1_i32_142
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let v245 : BitVec 32 := Scalar.minsi v228 v2
  let c256_i32_153 : BitVec 32 := 256#32
  let v246 : BitVec 32 := Scalar.muli v245 c256_i32_153
  v246
def k0_off4 (i : grid0.Coords) (k0_t1 : Fin (k0_t1_loop i).trips) : Fin 5 → Nat :=
  let c0_190 : Index := 0#32
  let c0_191 : Index := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c0_i32_189 : BitVec 32 := 0#32
  let c2_i32_141 : BitVec 32 := 2#32
  let c0_i32_75 : BitVec 32 := 0#32
  let c1_i32_77 : BitVec 32 := 1#32
  let arg13 : BitVec 32 := Scf.iv c0_i32_75 c1_i32_77 k0_t1
  let v227 : BitVec 32 := Scalar.muli c2_i32_141 arg13
  let c1_i32_185 : BitVec 32 := 1#32
  let v301 : BitVec 32 := Scalar.subi v227 c1_i32_185
  let v306 : BitVec 32 := Scalar.maxsi c0_i32_189 v301
  let v307 : BitVec 32 := Scalar.minsi v2 v306
  let v308 : Index := Scalar.indexCast v307
  let c0_192 : Index := 0#32
  let c0_193 : Index := 0#32
  ![0, 0, v308.toNat, 0, 0]
def k0_mult5 (i : grid0.Coords) (k0_t1 : Fin (k0_t1_loop i).trips) : BitVec 32 :=
  let c2_i32_141 : BitVec 32 := 2#32
  let c0_i32_75 : BitVec 32 := 0#32
  let c1_i32_77 : BitVec 32 := 1#32
  let arg13 : BitVec 32 := Scf.iv c0_i32_75 c1_i32_77 k0_t1
  let v227 : BitVec 32 := Scalar.muli c2_i32_141 arg13
  let c2_i32_218 : BitVec 32 := 2#32
  let v334 : BitVec 32 := Scalar.addi v227 c2_i32_218
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let v335 : BitVec 32 := Scalar.minsi v334 v2
  let c256_i32_219 : BitVec 32 := 256#32
  let v336 : BitVec 32 := Scalar.muli v335 c256_i32_219
  v336
def k0_mult6 (i : grid0.Coords) (k0_t1 : Fin (k0_t1_loop i).trips) : BitVec 32 :=
  let c2_i32_141 : BitVec 32 := 2#32
  let c0_i32_75 : BitVec 32 := 0#32
  let c1_i32_77 : BitVec 32 := 1#32
  let arg13 : BitVec 32 := Scf.iv c0_i32_75 c1_i32_77 k0_t1
  let v227 : BitVec 32 := Scalar.muli c2_i32_141 arg13
  let c2_i32_218 : BitVec 32 := 2#32
  let v334 : BitVec 32 := Scalar.addi v227 c2_i32_218
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let v351 : BitVec 32 := Scalar.minsi v334 v2
  let c256_i32_229 : BitVec 32 := 256#32
  let v352 : BitVec 32 := Scalar.muli v351 c256_i32_229
  v352
def k0_off5 (i : grid0.Coords) (k0_t1 : Fin (k0_t1_loop i).trips) : Fin 5 → Nat :=
  let c0_266 : Index := 0#32
  let c0_267 : Index := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c0_i32_265 : BitVec 32 := 0#32
  let c2_i32_141 : BitVec 32 := 2#32
  let c0_i32_75 : BitVec 32 := 0#32
  let c1_i32_77 : BitVec 32 := 1#32
  let arg13 : BitVec 32 := Scf.iv c0_i32_75 c1_i32_77 k0_t1
  let v227 : BitVec 32 := Scalar.muli c2_i32_141 arg13
  let v412 : BitVec 32 := Scalar.maxsi c0_i32_265 v227
  let v413 : BitVec 32 := Scalar.minsi v2 v412
  let v414 : Index := Scalar.indexCast v413
  let c0_268 : Index := 0#32
  let c0_269 : Index := 0#32
  ![0, 0, v414.toNat, 0, 0]
@[reducible] def k0_t2_loop (i : grid0.Coords) : Scf.Loop 32 :=
  let c0_i32_75 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c1_i32_12 : BitVec 32 := 1#32
  let v30 : BitVec 32 := Scalar.addi v2 c1_i32_12
  let c1_i32_25 : BitVec 32 := 1#32
  let v41 : BitVec 32 := Scalar.addi v30 c1_i32_25
  let c0_i32 : BitVec 32 := 0#32
  let v43 : BitVec 1 := Scalar.cmpi .sgt v41 c0_i32
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32 : BitVec 32 := 2#32
  let c0_i32_27 : BitVec 32 := 0#32
  let v48 : BitVec 1 := Scalar.cmpi .sgt c2_i32 c0_i32_27
  let v49 : BitVec 32 := Scalar.extui v48
  let c0_i32_28 : BitVec 32 := 0#32
  let v50 : BitVec 1 := Scalar.cmpi .slt c2_i32 c0_i32_28
  let v51 : BitVec 32 := Scalar.extui v50
  let v52 : BitVec 32 := Scalar.subi v49 v51
  let v53 : BitVec 1 := Scalar.cmpi .ne v47 v52
  let v54 : BitVec 32 := Scalar.remsi v41 c2_i32
  let c0_i32_29 : BitVec 32 := 0#32
  let v55 : BitVec 1 := Scalar.cmpi .ne v54 c0_i32_29
  let v56 : BitVec 1 := Scalar.andi v53 v55
  let v42 : BitVec 32 := Scalar.divsi v41 c2_i32
  let c1_i32_30 : BitVec 32 := 1#32
  let v57 : BitVec 32 := Scalar.subi v42 c1_i32_30
  let v58 : BitVec 32 := Scalar.select v56 v57 v42
  let c0_i32_74 : BitVec 32 := 0#32
  let c1_i32_66 : BitVec 32 := 1#32
  let v107 : BitVec 32 := Scalar.subi v0 c1_i32_66
  let c0_i32_68 : BitVec 32 := 0#32
  let v109 : BitVec 1 := Scalar.cmpi .sgt v107 c0_i32_68
  let v110 : BitVec 32 := Scalar.extui v109
  let c0_i32_69 : BitVec 32 := 0#32
  let v111 : BitVec 1 := Scalar.cmpi .slt v107 c0_i32_69
  let v112 : BitVec 32 := Scalar.extui v111
  let v113 : BitVec 32 := Scalar.subi v110 v112
  let c2_i32_67 : BitVec 32 := 2#32
  let c0_i32_70 : BitVec 32 := 0#32
  let v114 : BitVec 1 := Scalar.cmpi .sgt c2_i32_67 c0_i32_70
  let v115 : BitVec 32 := Scalar.extui v114
  let c0_i32_71 : BitVec 32 := 0#32
  let v116 : BitVec 1 := Scalar.cmpi .slt c2_i32_67 c0_i32_71
  let v117 : BitVec 32 := Scalar.extui v116
  let v118 : BitVec 32 := Scalar.subi v115 v117
  let v119 : BitVec 1 := Scalar.cmpi .ne v113 v118
  let v120 : BitVec 32 := Scalar.remsi v107 c2_i32_67
  let c0_i32_72 : BitVec 32 := 0#32
  let v121 : BitVec 1 := Scalar.cmpi .ne v120 c0_i32_72
  let v122 : BitVec 1 := Scalar.andi v119 v121
  let v108 : BitVec 32 := Scalar.divsi v107 c2_i32_67
  let c1_i32_73 : BitVec 32 := 1#32
  let v123 : BitVec 32 := Scalar.subi v108 c1_i32_73
  let v124 : BitVec 32 := Scalar.select v122 v123 v108
  let v125 : BitVec 32 := Scalar.maxsi c0_i32_74 v124
  let v126 : BitVec 32 := Scalar.minsi v58 v125
  let v127 : BitVec 32 := Scalar.subi v126 c0_i32_75
  let c1_i32_76 : BitVec 32 := 1#32
  let v129 : BitVec 32 := Scalar.divsi v127 c1_i32_76
  let v130 : BitVec 32 := Scalar.muli v129 c1_i32_76
  let v131 : BitVec 32 := Scalar.addi c0_i32_75 v130
  let v128 : BitVec 32 := Scalar.addi c0_i32_75 v127
  let c1_i32_78 : BitVec 32 := 1#32
  ⟨v131, v128, c1_i32_78⟩
def k0_mult7 (i : grid0.Coords) (k0_t2 : Fin (k0_t2_loop i).trips) : BitVec 32 :=
  let c2_i32_141 : BitVec 32 := 2#32
  let c0_i32_75 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c1_i32_12 : BitVec 32 := 1#32
  let v30 : BitVec 32 := Scalar.addi v2 c1_i32_12
  let c1_i32_25 : BitVec 32 := 1#32
  let v41 : BitVec 32 := Scalar.addi v30 c1_i32_25
  let c0_i32 : BitVec 32 := 0#32
  let v43 : BitVec 1 := Scalar.cmpi .sgt v41 c0_i32
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32 : BitVec 32 := 2#32
  let c0_i32_27 : BitVec 32 := 0#32
  let v48 : BitVec 1 := Scalar.cmpi .sgt c2_i32 c0_i32_27
  let v49 : BitVec 32 := Scalar.extui v48
  let c0_i32_28 : BitVec 32 := 0#32
  let v50 : BitVec 1 := Scalar.cmpi .slt c2_i32 c0_i32_28
  let v51 : BitVec 32 := Scalar.extui v50
  let v52 : BitVec 32 := Scalar.subi v49 v51
  let v53 : BitVec 1 := Scalar.cmpi .ne v47 v52
  let v54 : BitVec 32 := Scalar.remsi v41 c2_i32
  let c0_i32_29 : BitVec 32 := 0#32
  let v55 : BitVec 1 := Scalar.cmpi .ne v54 c0_i32_29
  let v56 : BitVec 1 := Scalar.andi v53 v55
  let v42 : BitVec 32 := Scalar.divsi v41 c2_i32
  let c1_i32_30 : BitVec 32 := 1#32
  let v57 : BitVec 32 := Scalar.subi v42 c1_i32_30
  let v58 : BitVec 32 := Scalar.select v56 v57 v42
  let c0_i32_74 : BitVec 32 := 0#32
  let c1_i32_66 : BitVec 32 := 1#32
  let v107 : BitVec 32 := Scalar.subi v0 c1_i32_66
  let c0_i32_68 : BitVec 32 := 0#32
  let v109 : BitVec 1 := Scalar.cmpi .sgt v107 c0_i32_68
  let v110 : BitVec 32 := Scalar.extui v109
  let c0_i32_69 : BitVec 32 := 0#32
  let v111 : BitVec 1 := Scalar.cmpi .slt v107 c0_i32_69
  let v112 : BitVec 32 := Scalar.extui v111
  let v113 : BitVec 32 := Scalar.subi v110 v112
  let c2_i32_67 : BitVec 32 := 2#32
  let c0_i32_70 : BitVec 32 := 0#32
  let v114 : BitVec 1 := Scalar.cmpi .sgt c2_i32_67 c0_i32_70
  let v115 : BitVec 32 := Scalar.extui v114
  let c0_i32_71 : BitVec 32 := 0#32
  let v116 : BitVec 1 := Scalar.cmpi .slt c2_i32_67 c0_i32_71
  let v117 : BitVec 32 := Scalar.extui v116
  let v118 : BitVec 32 := Scalar.subi v115 v117
  let v119 : BitVec 1 := Scalar.cmpi .ne v113 v118
  let v120 : BitVec 32 := Scalar.remsi v107 c2_i32_67
  let c0_i32_72 : BitVec 32 := 0#32
  let v121 : BitVec 1 := Scalar.cmpi .ne v120 c0_i32_72
  let v122 : BitVec 1 := Scalar.andi v119 v121
  let v108 : BitVec 32 := Scalar.divsi v107 c2_i32_67
  let c1_i32_73 : BitVec 32 := 1#32
  let v123 : BitVec 32 := Scalar.subi v108 c1_i32_73
  let v124 : BitVec 32 := Scalar.select v122 v123 v108
  let v125 : BitVec 32 := Scalar.maxsi c0_i32_74 v124
  let v126 : BitVec 32 := Scalar.minsi v58 v125
  let v127 : BitVec 32 := Scalar.subi v126 c0_i32_75
  let c1_i32_76 : BitVec 32 := 1#32
  let v129 : BitVec 32 := Scalar.divsi v127 c1_i32_76
  let v130 : BitVec 32 := Scalar.muli v129 c1_i32_76
  let v131 : BitVec 32 := Scalar.addi c0_i32_75 v130
  let c1_i32_78 : BitVec 32 := 1#32
  let arg13 : BitVec 32 := Scf.iv v131 c1_i32_78 k0_t2
  let v227 : BitVec 32 := Scalar.muli c2_i32_141 arg13
  let c1_i32_142 : BitVec 32 := 1#32
  let v228 : BitVec 32 := Scalar.addi v227 c1_i32_142
  let v229 : BitVec 32 := Scalar.minsi v228 v2
  let c256_i32_143 : BitVec 32 := 256#32
  let v230 : BitVec 32 := Scalar.muli v229 c256_i32_143
  v230
def k0_off6 (i : grid0.Coords) (k0_t2 : Fin (k0_t2_loop i).trips) (c1_i32_142 : BitVec 32) : Fin 3 → Nat :=
  let c0_144 : Index := 0#32
  let c2_i32_141 : BitVec 32 := 2#32
  let c0_i32_75 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c1_i32_12 : BitVec 32 := 1#32
  let v30 : BitVec 32 := Scalar.addi v2 c1_i32_12
  let c1_i32_25 : BitVec 32 := 1#32
  let v41 : BitVec 32 := Scalar.addi v30 c1_i32_25
  let c0_i32 : BitVec 32 := 0#32
  let v43 : BitVec 1 := Scalar.cmpi .sgt v41 c0_i32
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32 : BitVec 32 := 2#32
  let c0_i32_27 : BitVec 32 := 0#32
  let v48 : BitVec 1 := Scalar.cmpi .sgt c2_i32 c0_i32_27
  let v49 : BitVec 32 := Scalar.extui v48
  let c0_i32_28 : BitVec 32 := 0#32
  let v50 : BitVec 1 := Scalar.cmpi .slt c2_i32 c0_i32_28
  let v51 : BitVec 32 := Scalar.extui v50
  let v52 : BitVec 32 := Scalar.subi v49 v51
  let v53 : BitVec 1 := Scalar.cmpi .ne v47 v52
  let v54 : BitVec 32 := Scalar.remsi v41 c2_i32
  let c0_i32_29 : BitVec 32 := 0#32
  let v55 : BitVec 1 := Scalar.cmpi .ne v54 c0_i32_29
  let v56 : BitVec 1 := Scalar.andi v53 v55
  let v42 : BitVec 32 := Scalar.divsi v41 c2_i32
  let c1_i32_30 : BitVec 32 := 1#32
  let v57 : BitVec 32 := Scalar.subi v42 c1_i32_30
  let v58 : BitVec 32 := Scalar.select v56 v57 v42
  let c0_i32_74 : BitVec 32 := 0#32
  let c1_i32_66 : BitVec 32 := 1#32
  let v107 : BitVec 32 := Scalar.subi v0 c1_i32_66
  let c0_i32_68 : BitVec 32 := 0#32
  let v109 : BitVec 1 := Scalar.cmpi .sgt v107 c0_i32_68
  let v110 : BitVec 32 := Scalar.extui v109
  let c0_i32_69 : BitVec 32 := 0#32
  let v111 : BitVec 1 := Scalar.cmpi .slt v107 c0_i32_69
  let v112 : BitVec 32 := Scalar.extui v111
  let v113 : BitVec 32 := Scalar.subi v110 v112
  let c2_i32_67 : BitVec 32 := 2#32
  let c0_i32_70 : BitVec 32 := 0#32
  let v114 : BitVec 1 := Scalar.cmpi .sgt c2_i32_67 c0_i32_70
  let v115 : BitVec 32 := Scalar.extui v114
  let c0_i32_71 : BitVec 32 := 0#32
  let v116 : BitVec 1 := Scalar.cmpi .slt c2_i32_67 c0_i32_71
  let v117 : BitVec 32 := Scalar.extui v116
  let v118 : BitVec 32 := Scalar.subi v115 v117
  let v119 : BitVec 1 := Scalar.cmpi .ne v113 v118
  let v120 : BitVec 32 := Scalar.remsi v107 c2_i32_67
  let c0_i32_72 : BitVec 32 := 0#32
  let v121 : BitVec 1 := Scalar.cmpi .ne v120 c0_i32_72
  let v122 : BitVec 1 := Scalar.andi v119 v121
  let v108 : BitVec 32 := Scalar.divsi v107 c2_i32_67
  let c1_i32_73 : BitVec 32 := 1#32
  let v123 : BitVec 32 := Scalar.subi v108 c1_i32_73
  let v124 : BitVec 32 := Scalar.select v122 v123 v108
  let v125 : BitVec 32 := Scalar.maxsi c0_i32_74 v124
  let v126 : BitVec 32 := Scalar.minsi v58 v125
  let v127 : BitVec 32 := Scalar.subi v126 c0_i32_75
  let c1_i32_76 : BitVec 32 := 1#32
  let v129 : BitVec 32 := Scalar.divsi v127 c1_i32_76
  let v130 : BitVec 32 := Scalar.muli v129 c1_i32_76
  let v131 : BitVec 32 := Scalar.addi c0_i32_75 v130
  let c1_i32_78 : BitVec 32 := 1#32
  let arg13 : BitVec 32 := Scf.iv v131 c1_i32_78 k0_t2
  let v227 : BitVec 32 := Scalar.muli c2_i32_141 arg13
  let v228 : BitVec 32 := Scalar.addi v227 c1_i32_142
  let v229 : BitVec 32 := Scalar.minsi v228 v2
  let c256_i32_143 : BitVec 32 := 256#32
  let v230 : BitVec 32 := Scalar.muli v229 c256_i32_143
  let v231 : BitVec 32 := v230
  let v232 : Index := Scalar.indexCast v231
  let c0_145 : Index := 0#32
  ![0, v232.toNat, 0]
def k0_mult8 (i : grid0.Coords) (k0_t2 : Fin (k0_t2_loop i).trips) : BitVec 32 :=
  let c2_i32_141 : BitVec 32 := 2#32
  let c0_i32_75 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c1_i32_12 : BitVec 32 := 1#32
  let v30 : BitVec 32 := Scalar.addi v2 c1_i32_12
  let c1_i32_25 : BitVec 32 := 1#32
  let v41 : BitVec 32 := Scalar.addi v30 c1_i32_25
  let c0_i32 : BitVec 32 := 0#32
  let v43 : BitVec 1 := Scalar.cmpi .sgt v41 c0_i32
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32 : BitVec 32 := 2#32
  let c0_i32_27 : BitVec 32 := 0#32
  let v48 : BitVec 1 := Scalar.cmpi .sgt c2_i32 c0_i32_27
  let v49 : BitVec 32 := Scalar.extui v48
  let c0_i32_28 : BitVec 32 := 0#32
  let v50 : BitVec 1 := Scalar.cmpi .slt c2_i32 c0_i32_28
  let v51 : BitVec 32 := Scalar.extui v50
  let v52 : BitVec 32 := Scalar.subi v49 v51
  let v53 : BitVec 1 := Scalar.cmpi .ne v47 v52
  let v54 : BitVec 32 := Scalar.remsi v41 c2_i32
  let c0_i32_29 : BitVec 32 := 0#32
  let v55 : BitVec 1 := Scalar.cmpi .ne v54 c0_i32_29
  let v56 : BitVec 1 := Scalar.andi v53 v55
  let v42 : BitVec 32 := Scalar.divsi v41 c2_i32
  let c1_i32_30 : BitVec 32 := 1#32
  let v57 : BitVec 32 := Scalar.subi v42 c1_i32_30
  let v58 : BitVec 32 := Scalar.select v56 v57 v42
  let c0_i32_74 : BitVec 32 := 0#32
  let c1_i32_66 : BitVec 32 := 1#32
  let v107 : BitVec 32 := Scalar.subi v0 c1_i32_66
  let c0_i32_68 : BitVec 32 := 0#32
  let v109 : BitVec 1 := Scalar.cmpi .sgt v107 c0_i32_68
  let v110 : BitVec 32 := Scalar.extui v109
  let c0_i32_69 : BitVec 32 := 0#32
  let v111 : BitVec 1 := Scalar.cmpi .slt v107 c0_i32_69
  let v112 : BitVec 32 := Scalar.extui v111
  let v113 : BitVec 32 := Scalar.subi v110 v112
  let c2_i32_67 : BitVec 32 := 2#32
  let c0_i32_70 : BitVec 32 := 0#32
  let v114 : BitVec 1 := Scalar.cmpi .sgt c2_i32_67 c0_i32_70
  let v115 : BitVec 32 := Scalar.extui v114
  let c0_i32_71 : BitVec 32 := 0#32
  let v116 : BitVec 1 := Scalar.cmpi .slt c2_i32_67 c0_i32_71
  let v117 : BitVec 32 := Scalar.extui v116
  let v118 : BitVec 32 := Scalar.subi v115 v117
  let v119 : BitVec 1 := Scalar.cmpi .ne v113 v118
  let v120 : BitVec 32 := Scalar.remsi v107 c2_i32_67
  let c0_i32_72 : BitVec 32 := 0#32
  let v121 : BitVec 1 := Scalar.cmpi .ne v120 c0_i32_72
  let v122 : BitVec 1 := Scalar.andi v119 v121
  let v108 : BitVec 32 := Scalar.divsi v107 c2_i32_67
  let c1_i32_73 : BitVec 32 := 1#32
  let v123 : BitVec 32 := Scalar.subi v108 c1_i32_73
  let v124 : BitVec 32 := Scalar.select v122 v123 v108
  let v125 : BitVec 32 := Scalar.maxsi c0_i32_74 v124
  let v126 : BitVec 32 := Scalar.minsi v58 v125
  let v127 : BitVec 32 := Scalar.subi v126 c0_i32_75
  let c1_i32_76 : BitVec 32 := 1#32
  let v129 : BitVec 32 := Scalar.divsi v127 c1_i32_76
  let v130 : BitVec 32 := Scalar.muli v129 c1_i32_76
  let v131 : BitVec 32 := Scalar.addi c0_i32_75 v130
  let c1_i32_78 : BitVec 32 := 1#32
  let arg13 : BitVec 32 := Scf.iv v131 c1_i32_78 k0_t2
  let v227 : BitVec 32 := Scalar.muli c2_i32_141 arg13
  let c1_i32_142 : BitVec 32 := 1#32
  let v228 : BitVec 32 := Scalar.addi v227 c1_i32_142
  let v245 : BitVec 32 := Scalar.minsi v228 v2
  let c256_i32_153 : BitVec 32 := 256#32
  let v246 : BitVec 32 := Scalar.muli v245 c256_i32_153
  v246
def k0_off7 (i : grid0.Coords) (k0_t2 : Fin (k0_t2_loop i).trips) : Fin 5 → Nat :=
  let c0_190 : Index := 0#32
  let c0_191 : Index := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c0_i32_189 : BitVec 32 := 0#32
  let c2_i32_141 : BitVec 32 := 2#32
  let c0_i32_75 : BitVec 32 := 0#32
  let c1_i32_12 : BitVec 32 := 1#32
  let v30 : BitVec 32 := Scalar.addi v2 c1_i32_12
  let c1_i32_25 : BitVec 32 := 1#32
  let v41 : BitVec 32 := Scalar.addi v30 c1_i32_25
  let c0_i32 : BitVec 32 := 0#32
  let v43 : BitVec 1 := Scalar.cmpi .sgt v41 c0_i32
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32 : BitVec 32 := 2#32
  let c0_i32_27 : BitVec 32 := 0#32
  let v48 : BitVec 1 := Scalar.cmpi .sgt c2_i32 c0_i32_27
  let v49 : BitVec 32 := Scalar.extui v48
  let c0_i32_28 : BitVec 32 := 0#32
  let v50 : BitVec 1 := Scalar.cmpi .slt c2_i32 c0_i32_28
  let v51 : BitVec 32 := Scalar.extui v50
  let v52 : BitVec 32 := Scalar.subi v49 v51
  let v53 : BitVec 1 := Scalar.cmpi .ne v47 v52
  let v54 : BitVec 32 := Scalar.remsi v41 c2_i32
  let c0_i32_29 : BitVec 32 := 0#32
  let v55 : BitVec 1 := Scalar.cmpi .ne v54 c0_i32_29
  let v56 : BitVec 1 := Scalar.andi v53 v55
  let v42 : BitVec 32 := Scalar.divsi v41 c2_i32
  let c1_i32_30 : BitVec 32 := 1#32
  let v57 : BitVec 32 := Scalar.subi v42 c1_i32_30
  let v58 : BitVec 32 := Scalar.select v56 v57 v42
  let c0_i32_74 : BitVec 32 := 0#32
  let c1_i32_66 : BitVec 32 := 1#32
  let v107 : BitVec 32 := Scalar.subi v0 c1_i32_66
  let c0_i32_68 : BitVec 32 := 0#32
  let v109 : BitVec 1 := Scalar.cmpi .sgt v107 c0_i32_68
  let v110 : BitVec 32 := Scalar.extui v109
  let c0_i32_69 : BitVec 32 := 0#32
  let v111 : BitVec 1 := Scalar.cmpi .slt v107 c0_i32_69
  let v112 : BitVec 32 := Scalar.extui v111
  let v113 : BitVec 32 := Scalar.subi v110 v112
  let c2_i32_67 : BitVec 32 := 2#32
  let c0_i32_70 : BitVec 32 := 0#32
  let v114 : BitVec 1 := Scalar.cmpi .sgt c2_i32_67 c0_i32_70
  let v115 : BitVec 32 := Scalar.extui v114
  let c0_i32_71 : BitVec 32 := 0#32
  let v116 : BitVec 1 := Scalar.cmpi .slt c2_i32_67 c0_i32_71
  let v117 : BitVec 32 := Scalar.extui v116
  let v118 : BitVec 32 := Scalar.subi v115 v117
  let v119 : BitVec 1 := Scalar.cmpi .ne v113 v118
  let v120 : BitVec 32 := Scalar.remsi v107 c2_i32_67
  let c0_i32_72 : BitVec 32 := 0#32
  let v121 : BitVec 1 := Scalar.cmpi .ne v120 c0_i32_72
  let v122 : BitVec 1 := Scalar.andi v119 v121
  let v108 : BitVec 32 := Scalar.divsi v107 c2_i32_67
  let c1_i32_73 : BitVec 32 := 1#32
  let v123 : BitVec 32 := Scalar.subi v108 c1_i32_73
  let v124 : BitVec 32 := Scalar.select v122 v123 v108
  let v125 : BitVec 32 := Scalar.maxsi c0_i32_74 v124
  let v126 : BitVec 32 := Scalar.minsi v58 v125
  let v127 : BitVec 32 := Scalar.subi v126 c0_i32_75
  let c1_i32_76 : BitVec 32 := 1#32
  let v129 : BitVec 32 := Scalar.divsi v127 c1_i32_76
  let v130 : BitVec 32 := Scalar.muli v129 c1_i32_76
  let v131 : BitVec 32 := Scalar.addi c0_i32_75 v130
  let c1_i32_78 : BitVec 32 := 1#32
  let arg13 : BitVec 32 := Scf.iv v131 c1_i32_78 k0_t2
  let v227 : BitVec 32 := Scalar.muli c2_i32_141 arg13
  let c1_i32_185 : BitVec 32 := 1#32
  let v301 : BitVec 32 := Scalar.subi v227 c1_i32_185
  let v306 : BitVec 32 := Scalar.maxsi c0_i32_189 v301
  let v307 : BitVec 32 := Scalar.minsi v2 v306
  let v308 : Index := Scalar.indexCast v307
  let c0_192 : Index := 0#32
  let c0_193 : Index := 0#32
  ![0, 0, v308.toNat, 0, 0]
def k0_mult9 (i : grid0.Coords) (k0_t2 : Fin (k0_t2_loop i).trips) : BitVec 32 :=
  let c2_i32_141 : BitVec 32 := 2#32
  let c0_i32_75 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c1_i32_12 : BitVec 32 := 1#32
  let v30 : BitVec 32 := Scalar.addi v2 c1_i32_12
  let c1_i32_25 : BitVec 32 := 1#32
  let v41 : BitVec 32 := Scalar.addi v30 c1_i32_25
  let c0_i32 : BitVec 32 := 0#32
  let v43 : BitVec 1 := Scalar.cmpi .sgt v41 c0_i32
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32 : BitVec 32 := 2#32
  let c0_i32_27 : BitVec 32 := 0#32
  let v48 : BitVec 1 := Scalar.cmpi .sgt c2_i32 c0_i32_27
  let v49 : BitVec 32 := Scalar.extui v48
  let c0_i32_28 : BitVec 32 := 0#32
  let v50 : BitVec 1 := Scalar.cmpi .slt c2_i32 c0_i32_28
  let v51 : BitVec 32 := Scalar.extui v50
  let v52 : BitVec 32 := Scalar.subi v49 v51
  let v53 : BitVec 1 := Scalar.cmpi .ne v47 v52
  let v54 : BitVec 32 := Scalar.remsi v41 c2_i32
  let c0_i32_29 : BitVec 32 := 0#32
  let v55 : BitVec 1 := Scalar.cmpi .ne v54 c0_i32_29
  let v56 : BitVec 1 := Scalar.andi v53 v55
  let v42 : BitVec 32 := Scalar.divsi v41 c2_i32
  let c1_i32_30 : BitVec 32 := 1#32
  let v57 : BitVec 32 := Scalar.subi v42 c1_i32_30
  let v58 : BitVec 32 := Scalar.select v56 v57 v42
  let c0_i32_74 : BitVec 32 := 0#32
  let c1_i32_66 : BitVec 32 := 1#32
  let v107 : BitVec 32 := Scalar.subi v0 c1_i32_66
  let c0_i32_68 : BitVec 32 := 0#32
  let v109 : BitVec 1 := Scalar.cmpi .sgt v107 c0_i32_68
  let v110 : BitVec 32 := Scalar.extui v109
  let c0_i32_69 : BitVec 32 := 0#32
  let v111 : BitVec 1 := Scalar.cmpi .slt v107 c0_i32_69
  let v112 : BitVec 32 := Scalar.extui v111
  let v113 : BitVec 32 := Scalar.subi v110 v112
  let c2_i32_67 : BitVec 32 := 2#32
  let c0_i32_70 : BitVec 32 := 0#32
  let v114 : BitVec 1 := Scalar.cmpi .sgt c2_i32_67 c0_i32_70
  let v115 : BitVec 32 := Scalar.extui v114
  let c0_i32_71 : BitVec 32 := 0#32
  let v116 : BitVec 1 := Scalar.cmpi .slt c2_i32_67 c0_i32_71
  let v117 : BitVec 32 := Scalar.extui v116
  let v118 : BitVec 32 := Scalar.subi v115 v117
  let v119 : BitVec 1 := Scalar.cmpi .ne v113 v118
  let v120 : BitVec 32 := Scalar.remsi v107 c2_i32_67
  let c0_i32_72 : BitVec 32 := 0#32
  let v121 : BitVec 1 := Scalar.cmpi .ne v120 c0_i32_72
  let v122 : BitVec 1 := Scalar.andi v119 v121
  let v108 : BitVec 32 := Scalar.divsi v107 c2_i32_67
  let c1_i32_73 : BitVec 32 := 1#32
  let v123 : BitVec 32 := Scalar.subi v108 c1_i32_73
  let v124 : BitVec 32 := Scalar.select v122 v123 v108
  let v125 : BitVec 32 := Scalar.maxsi c0_i32_74 v124
  let v126 : BitVec 32 := Scalar.minsi v58 v125
  let v127 : BitVec 32 := Scalar.subi v126 c0_i32_75
  let c1_i32_76 : BitVec 32 := 1#32
  let v129 : BitVec 32 := Scalar.divsi v127 c1_i32_76
  let v130 : BitVec 32 := Scalar.muli v129 c1_i32_76
  let v131 : BitVec 32 := Scalar.addi c0_i32_75 v130
  let c1_i32_78 : BitVec 32 := 1#32
  let arg13 : BitVec 32 := Scf.iv v131 c1_i32_78 k0_t2
  let v227 : BitVec 32 := Scalar.muli c2_i32_141 arg13
  let c2_i32_218 : BitVec 32 := 2#32
  let v334 : BitVec 32 := Scalar.addi v227 c2_i32_218
  let v335 : BitVec 32 := Scalar.minsi v334 v2
  let c256_i32_219 : BitVec 32 := 256#32
  let v336 : BitVec 32 := Scalar.muli v335 c256_i32_219
  v336
def k0_mult10 (i : grid0.Coords) (k0_t2 : Fin (k0_t2_loop i).trips) : BitVec 32 :=
  let c2_i32_141 : BitVec 32 := 2#32
  let c0_i32_75 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c1_i32_12 : BitVec 32 := 1#32
  let v30 : BitVec 32 := Scalar.addi v2 c1_i32_12
  let c1_i32_25 : BitVec 32 := 1#32
  let v41 : BitVec 32 := Scalar.addi v30 c1_i32_25
  let c0_i32 : BitVec 32 := 0#32
  let v43 : BitVec 1 := Scalar.cmpi .sgt v41 c0_i32
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32 : BitVec 32 := 2#32
  let c0_i32_27 : BitVec 32 := 0#32
  let v48 : BitVec 1 := Scalar.cmpi .sgt c2_i32 c0_i32_27
  let v49 : BitVec 32 := Scalar.extui v48
  let c0_i32_28 : BitVec 32 := 0#32
  let v50 : BitVec 1 := Scalar.cmpi .slt c2_i32 c0_i32_28
  let v51 : BitVec 32 := Scalar.extui v50
  let v52 : BitVec 32 := Scalar.subi v49 v51
  let v53 : BitVec 1 := Scalar.cmpi .ne v47 v52
  let v54 : BitVec 32 := Scalar.remsi v41 c2_i32
  let c0_i32_29 : BitVec 32 := 0#32
  let v55 : BitVec 1 := Scalar.cmpi .ne v54 c0_i32_29
  let v56 : BitVec 1 := Scalar.andi v53 v55
  let v42 : BitVec 32 := Scalar.divsi v41 c2_i32
  let c1_i32_30 : BitVec 32 := 1#32
  let v57 : BitVec 32 := Scalar.subi v42 c1_i32_30
  let v58 : BitVec 32 := Scalar.select v56 v57 v42
  let c0_i32_74 : BitVec 32 := 0#32
  let c1_i32_66 : BitVec 32 := 1#32
  let v107 : BitVec 32 := Scalar.subi v0 c1_i32_66
  let c0_i32_68 : BitVec 32 := 0#32
  let v109 : BitVec 1 := Scalar.cmpi .sgt v107 c0_i32_68
  let v110 : BitVec 32 := Scalar.extui v109
  let c0_i32_69 : BitVec 32 := 0#32
  let v111 : BitVec 1 := Scalar.cmpi .slt v107 c0_i32_69
  let v112 : BitVec 32 := Scalar.extui v111
  let v113 : BitVec 32 := Scalar.subi v110 v112
  let c2_i32_67 : BitVec 32 := 2#32
  let c0_i32_70 : BitVec 32 := 0#32
  let v114 : BitVec 1 := Scalar.cmpi .sgt c2_i32_67 c0_i32_70
  let v115 : BitVec 32 := Scalar.extui v114
  let c0_i32_71 : BitVec 32 := 0#32
  let v116 : BitVec 1 := Scalar.cmpi .slt c2_i32_67 c0_i32_71
  let v117 : BitVec 32 := Scalar.extui v116
  let v118 : BitVec 32 := Scalar.subi v115 v117
  let v119 : BitVec 1 := Scalar.cmpi .ne v113 v118
  let v120 : BitVec 32 := Scalar.remsi v107 c2_i32_67
  let c0_i32_72 : BitVec 32 := 0#32
  let v121 : BitVec 1 := Scalar.cmpi .ne v120 c0_i32_72
  let v122 : BitVec 1 := Scalar.andi v119 v121
  let v108 : BitVec 32 := Scalar.divsi v107 c2_i32_67
  let c1_i32_73 : BitVec 32 := 1#32
  let v123 : BitVec 32 := Scalar.subi v108 c1_i32_73
  let v124 : BitVec 32 := Scalar.select v122 v123 v108
  let v125 : BitVec 32 := Scalar.maxsi c0_i32_74 v124
  let v126 : BitVec 32 := Scalar.minsi v58 v125
  let v127 : BitVec 32 := Scalar.subi v126 c0_i32_75
  let c1_i32_76 : BitVec 32 := 1#32
  let v129 : BitVec 32 := Scalar.divsi v127 c1_i32_76
  let v130 : BitVec 32 := Scalar.muli v129 c1_i32_76
  let v131 : BitVec 32 := Scalar.addi c0_i32_75 v130
  let c1_i32_78 : BitVec 32 := 1#32
  let arg13 : BitVec 32 := Scf.iv v131 c1_i32_78 k0_t2
  let v227 : BitVec 32 := Scalar.muli c2_i32_141 arg13
  let c2_i32_218 : BitVec 32 := 2#32
  let v334 : BitVec 32 := Scalar.addi v227 c2_i32_218
  let v351 : BitVec 32 := Scalar.minsi v334 v2
  let c256_i32_229 : BitVec 32 := 256#32
  let v352 : BitVec 32 := Scalar.muli v351 c256_i32_229
  v352
def k0_off8 (i : grid0.Coords) (k0_t2 : Fin (k0_t2_loop i).trips) : Fin 5 → Nat :=
  let c0_266 : Index := 0#32
  let c0_267 : Index := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c0_i32_265 : BitVec 32 := 0#32
  let c2_i32_141 : BitVec 32 := 2#32
  let c0_i32_75 : BitVec 32 := 0#32
  let c1_i32_12 : BitVec 32 := 1#32
  let v30 : BitVec 32 := Scalar.addi v2 c1_i32_12
  let c1_i32_25 : BitVec 32 := 1#32
  let v41 : BitVec 32 := Scalar.addi v30 c1_i32_25
  let c0_i32 : BitVec 32 := 0#32
  let v43 : BitVec 1 := Scalar.cmpi .sgt v41 c0_i32
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32 : BitVec 32 := 2#32
  let c0_i32_27 : BitVec 32 := 0#32
  let v48 : BitVec 1 := Scalar.cmpi .sgt c2_i32 c0_i32_27
  let v49 : BitVec 32 := Scalar.extui v48
  let c0_i32_28 : BitVec 32 := 0#32
  let v50 : BitVec 1 := Scalar.cmpi .slt c2_i32 c0_i32_28
  let v51 : BitVec 32 := Scalar.extui v50
  let v52 : BitVec 32 := Scalar.subi v49 v51
  let v53 : BitVec 1 := Scalar.cmpi .ne v47 v52
  let v54 : BitVec 32 := Scalar.remsi v41 c2_i32
  let c0_i32_29 : BitVec 32 := 0#32
  let v55 : BitVec 1 := Scalar.cmpi .ne v54 c0_i32_29
  let v56 : BitVec 1 := Scalar.andi v53 v55
  let v42 : BitVec 32 := Scalar.divsi v41 c2_i32
  let c1_i32_30 : BitVec 32 := 1#32
  let v57 : BitVec 32 := Scalar.subi v42 c1_i32_30
  let v58 : BitVec 32 := Scalar.select v56 v57 v42
  let c0_i32_74 : BitVec 32 := 0#32
  let c1_i32_66 : BitVec 32 := 1#32
  let v107 : BitVec 32 := Scalar.subi v0 c1_i32_66
  let c0_i32_68 : BitVec 32 := 0#32
  let v109 : BitVec 1 := Scalar.cmpi .sgt v107 c0_i32_68
  let v110 : BitVec 32 := Scalar.extui v109
  let c0_i32_69 : BitVec 32 := 0#32
  let v111 : BitVec 1 := Scalar.cmpi .slt v107 c0_i32_69
  let v112 : BitVec 32 := Scalar.extui v111
  let v113 : BitVec 32 := Scalar.subi v110 v112
  let c2_i32_67 : BitVec 32 := 2#32
  let c0_i32_70 : BitVec 32 := 0#32
  let v114 : BitVec 1 := Scalar.cmpi .sgt c2_i32_67 c0_i32_70
  let v115 : BitVec 32 := Scalar.extui v114
  let c0_i32_71 : BitVec 32 := 0#32
  let v116 : BitVec 1 := Scalar.cmpi .slt c2_i32_67 c0_i32_71
  let v117 : BitVec 32 := Scalar.extui v116
  let v118 : BitVec 32 := Scalar.subi v115 v117
  let v119 : BitVec 1 := Scalar.cmpi .ne v113 v118
  let v120 : BitVec 32 := Scalar.remsi v107 c2_i32_67
  let c0_i32_72 : BitVec 32 := 0#32
  let v121 : BitVec 1 := Scalar.cmpi .ne v120 c0_i32_72
  let v122 : BitVec 1 := Scalar.andi v119 v121
  let v108 : BitVec 32 := Scalar.divsi v107 c2_i32_67
  let c1_i32_73 : BitVec 32 := 1#32
  let v123 : BitVec 32 := Scalar.subi v108 c1_i32_73
  let v124 : BitVec 32 := Scalar.select v122 v123 v108
  let v125 : BitVec 32 := Scalar.maxsi c0_i32_74 v124
  let v126 : BitVec 32 := Scalar.minsi v58 v125
  let v127 : BitVec 32 := Scalar.subi v126 c0_i32_75
  let c1_i32_76 : BitVec 32 := 1#32
  let v129 : BitVec 32 := Scalar.divsi v127 c1_i32_76
  let v130 : BitVec 32 := Scalar.muli v129 c1_i32_76
  let v131 : BitVec 32 := Scalar.addi c0_i32_75 v130
  let c1_i32_78 : BitVec 32 := 1#32
  let arg13 : BitVec 32 := Scf.iv v131 c1_i32_78 k0_t2
  let v227 : BitVec 32 := Scalar.muli c2_i32_141 arg13
  let v412 : BitVec 32 := Scalar.maxsi c0_i32_265 v227
  let v413 : BitVec 32 := Scalar.minsi v2 v412
  let v414 : Index := Scalar.indexCast v413
  let c0_268 : Index := 0#32
  let c0_269 : Index := 0#32
  ![0, 0, v414.toNat, 0, 0]
@[reducible] def k0_t3_loop (i : grid0.Coords) : Scf.Loop 32 :=
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c1_i32_12 : BitVec 32 := 1#32
  let v30 : BitVec 32 := Scalar.addi v2 c1_i32_12
  let c1_i32_25 : BitVec 32 := 1#32
  let v41 : BitVec 32 := Scalar.addi v30 c1_i32_25
  let c0_i32 : BitVec 32 := 0#32
  let v43 : BitVec 1 := Scalar.cmpi .sgt v41 c0_i32
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32 : BitVec 32 := 2#32
  let c0_i32_27 : BitVec 32 := 0#32
  let v48 : BitVec 1 := Scalar.cmpi .sgt c2_i32 c0_i32_27
  let v49 : BitVec 32 := Scalar.extui v48
  let c0_i32_28 : BitVec 32 := 0#32
  let v50 : BitVec 1 := Scalar.cmpi .slt c2_i32 c0_i32_28
  let v51 : BitVec 32 := Scalar.extui v50
  let v52 : BitVec 32 := Scalar.subi v49 v51
  let v53 : BitVec 1 := Scalar.cmpi .ne v47 v52
  let v54 : BitVec 32 := Scalar.remsi v41 c2_i32
  let c0_i32_29 : BitVec 32 := 0#32
  let v55 : BitVec 1 := Scalar.cmpi .ne v54 c0_i32_29
  let v56 : BitVec 1 := Scalar.andi v53 v55
  let v42 : BitVec 32 := Scalar.divsi v41 c2_i32
  let c1_i32_30 : BitVec 32 := 1#32
  let v57 : BitVec 32 := Scalar.subi v42 c1_i32_30
  let v58 : BitVec 32 := Scalar.select v56 v57 v42
  let c0_i32_74 : BitVec 32 := 0#32
  let c1_i32_66 : BitVec 32 := 1#32
  let v107 : BitVec 32 := Scalar.subi v0 c1_i32_66
  let c0_i32_68 : BitVec 32 := 0#32
  let v109 : BitVec 1 := Scalar.cmpi .sgt v107 c0_i32_68
  let v110 : BitVec 32 := Scalar.extui v109
  let c0_i32_69 : BitVec 32 := 0#32
  let v111 : BitVec 1 := Scalar.cmpi .slt v107 c0_i32_69
  let v112 : BitVec 32 := Scalar.extui v111
  let v113 : BitVec 32 := Scalar.subi v110 v112
  let c2_i32_67 : BitVec 32 := 2#32
  let c0_i32_70 : BitVec 32 := 0#32
  let v114 : BitVec 1 := Scalar.cmpi .sgt c2_i32_67 c0_i32_70
  let v115 : BitVec 32 := Scalar.extui v114
  let c0_i32_71 : BitVec 32 := 0#32
  let v116 : BitVec 1 := Scalar.cmpi .slt c2_i32_67 c0_i32_71
  let v117 : BitVec 32 := Scalar.extui v116
  let v118 : BitVec 32 := Scalar.subi v115 v117
  let v119 : BitVec 1 := Scalar.cmpi .ne v113 v118
  let v120 : BitVec 32 := Scalar.remsi v107 c2_i32_67
  let c0_i32_72 : BitVec 32 := 0#32
  let v121 : BitVec 1 := Scalar.cmpi .ne v120 c0_i32_72
  let v122 : BitVec 1 := Scalar.andi v119 v121
  let v108 : BitVec 32 := Scalar.divsi v107 c2_i32_67
  let c1_i32_73 : BitVec 32 := 1#32
  let v123 : BitVec 32 := Scalar.subi v108 c1_i32_73
  let v124 : BitVec 32 := Scalar.select v122 v123 v108
  let v125 : BitVec 32 := Scalar.maxsi c0_i32_74 v124
  let v126 : BitVec 32 := Scalar.minsi v58 v125
  let v134 : BitVec 32 := Scalar.subi v58 v126
  let c1_i32_79 : BitVec 32 := 1#32
  let v136 : BitVec 32 := Scalar.divsi v134 c1_i32_79
  let v137 : BitVec 32 := Scalar.muli v136 c1_i32_79
  let v138 : BitVec 32 := Scalar.addi v126 v137
  let c1_i32_80 : BitVec 32 := 1#32
  ⟨v126, v138, c1_i32_80⟩
def k0_mult11 (i : grid0.Coords) (k0_t3 : Fin (k0_t3_loop i).trips) : BitVec 32 :=
  let c2_i32_141 : BitVec 32 := 2#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c1_i32_12 : BitVec 32 := 1#32
  let v30 : BitVec 32 := Scalar.addi v2 c1_i32_12
  let c1_i32_25 : BitVec 32 := 1#32
  let v41 : BitVec 32 := Scalar.addi v30 c1_i32_25
  let c0_i32 : BitVec 32 := 0#32
  let v43 : BitVec 1 := Scalar.cmpi .sgt v41 c0_i32
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32 : BitVec 32 := 2#32
  let c0_i32_27 : BitVec 32 := 0#32
  let v48 : BitVec 1 := Scalar.cmpi .sgt c2_i32 c0_i32_27
  let v49 : BitVec 32 := Scalar.extui v48
  let c0_i32_28 : BitVec 32 := 0#32
  let v50 : BitVec 1 := Scalar.cmpi .slt c2_i32 c0_i32_28
  let v51 : BitVec 32 := Scalar.extui v50
  let v52 : BitVec 32 := Scalar.subi v49 v51
  let v53 : BitVec 1 := Scalar.cmpi .ne v47 v52
  let v54 : BitVec 32 := Scalar.remsi v41 c2_i32
  let c0_i32_29 : BitVec 32 := 0#32
  let v55 : BitVec 1 := Scalar.cmpi .ne v54 c0_i32_29
  let v56 : BitVec 1 := Scalar.andi v53 v55
  let v42 : BitVec 32 := Scalar.divsi v41 c2_i32
  let c1_i32_30 : BitVec 32 := 1#32
  let v57 : BitVec 32 := Scalar.subi v42 c1_i32_30
  let v58 : BitVec 32 := Scalar.select v56 v57 v42
  let c0_i32_74 : BitVec 32 := 0#32
  let c1_i32_66 : BitVec 32 := 1#32
  let v107 : BitVec 32 := Scalar.subi v0 c1_i32_66
  let c0_i32_68 : BitVec 32 := 0#32
  let v109 : BitVec 1 := Scalar.cmpi .sgt v107 c0_i32_68
  let v110 : BitVec 32 := Scalar.extui v109
  let c0_i32_69 : BitVec 32 := 0#32
  let v111 : BitVec 1 := Scalar.cmpi .slt v107 c0_i32_69
  let v112 : BitVec 32 := Scalar.extui v111
  let v113 : BitVec 32 := Scalar.subi v110 v112
  let c2_i32_67 : BitVec 32 := 2#32
  let c0_i32_70 : BitVec 32 := 0#32
  let v114 : BitVec 1 := Scalar.cmpi .sgt c2_i32_67 c0_i32_70
  let v115 : BitVec 32 := Scalar.extui v114
  let c0_i32_71 : BitVec 32 := 0#32
  let v116 : BitVec 1 := Scalar.cmpi .slt c2_i32_67 c0_i32_71
  let v117 : BitVec 32 := Scalar.extui v116
  let v118 : BitVec 32 := Scalar.subi v115 v117
  let v119 : BitVec 1 := Scalar.cmpi .ne v113 v118
  let v120 : BitVec 32 := Scalar.remsi v107 c2_i32_67
  let c0_i32_72 : BitVec 32 := 0#32
  let v121 : BitVec 1 := Scalar.cmpi .ne v120 c0_i32_72
  let v122 : BitVec 1 := Scalar.andi v119 v121
  let v108 : BitVec 32 := Scalar.divsi v107 c2_i32_67
  let c1_i32_73 : BitVec 32 := 1#32
  let v123 : BitVec 32 := Scalar.subi v108 c1_i32_73
  let v124 : BitVec 32 := Scalar.select v122 v123 v108
  let v125 : BitVec 32 := Scalar.maxsi c0_i32_74 v124
  let v126 : BitVec 32 := Scalar.minsi v58 v125
  let c1_i32_80 : BitVec 32 := 1#32
  let arg13 : BitVec 32 := Scf.iv v126 c1_i32_80 k0_t3
  let v227 : BitVec 32 := Scalar.muli c2_i32_141 arg13
  let c1_i32_142 : BitVec 32 := 1#32
  let v228 : BitVec 32 := Scalar.addi v227 c1_i32_142
  let v229 : BitVec 32 := Scalar.minsi v228 v2
  let c256_i32_143 : BitVec 32 := 256#32
  let v230 : BitVec 32 := Scalar.muli v229 c256_i32_143
  v230
def k0_off9 (i : grid0.Coords) (k0_t3 : Fin (k0_t3_loop i).trips) (c1_i32_142 : BitVec 32) : Fin 3 → Nat :=
  let c0_144 : Index := 0#32
  let c2_i32_141 : BitVec 32 := 2#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c1_i32_12 : BitVec 32 := 1#32
  let v30 : BitVec 32 := Scalar.addi v2 c1_i32_12
  let c1_i32_25 : BitVec 32 := 1#32
  let v41 : BitVec 32 := Scalar.addi v30 c1_i32_25
  let c0_i32 : BitVec 32 := 0#32
  let v43 : BitVec 1 := Scalar.cmpi .sgt v41 c0_i32
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32 : BitVec 32 := 2#32
  let c0_i32_27 : BitVec 32 := 0#32
  let v48 : BitVec 1 := Scalar.cmpi .sgt c2_i32 c0_i32_27
  let v49 : BitVec 32 := Scalar.extui v48
  let c0_i32_28 : BitVec 32 := 0#32
  let v50 : BitVec 1 := Scalar.cmpi .slt c2_i32 c0_i32_28
  let v51 : BitVec 32 := Scalar.extui v50
  let v52 : BitVec 32 := Scalar.subi v49 v51
  let v53 : BitVec 1 := Scalar.cmpi .ne v47 v52
  let v54 : BitVec 32 := Scalar.remsi v41 c2_i32
  let c0_i32_29 : BitVec 32 := 0#32
  let v55 : BitVec 1 := Scalar.cmpi .ne v54 c0_i32_29
  let v56 : BitVec 1 := Scalar.andi v53 v55
  let v42 : BitVec 32 := Scalar.divsi v41 c2_i32
  let c1_i32_30 : BitVec 32 := 1#32
  let v57 : BitVec 32 := Scalar.subi v42 c1_i32_30
  let v58 : BitVec 32 := Scalar.select v56 v57 v42
  let c0_i32_74 : BitVec 32 := 0#32
  let c1_i32_66 : BitVec 32 := 1#32
  let v107 : BitVec 32 := Scalar.subi v0 c1_i32_66
  let c0_i32_68 : BitVec 32 := 0#32
  let v109 : BitVec 1 := Scalar.cmpi .sgt v107 c0_i32_68
  let v110 : BitVec 32 := Scalar.extui v109
  let c0_i32_69 : BitVec 32 := 0#32
  let v111 : BitVec 1 := Scalar.cmpi .slt v107 c0_i32_69
  let v112 : BitVec 32 := Scalar.extui v111
  let v113 : BitVec 32 := Scalar.subi v110 v112
  let c2_i32_67 : BitVec 32 := 2#32
  let c0_i32_70 : BitVec 32 := 0#32
  let v114 : BitVec 1 := Scalar.cmpi .sgt c2_i32_67 c0_i32_70
  let v115 : BitVec 32 := Scalar.extui v114
  let c0_i32_71 : BitVec 32 := 0#32
  let v116 : BitVec 1 := Scalar.cmpi .slt c2_i32_67 c0_i32_71
  let v117 : BitVec 32 := Scalar.extui v116
  let v118 : BitVec 32 := Scalar.subi v115 v117
  let v119 : BitVec 1 := Scalar.cmpi .ne v113 v118
  let v120 : BitVec 32 := Scalar.remsi v107 c2_i32_67
  let c0_i32_72 : BitVec 32 := 0#32
  let v121 : BitVec 1 := Scalar.cmpi .ne v120 c0_i32_72
  let v122 : BitVec 1 := Scalar.andi v119 v121
  let v108 : BitVec 32 := Scalar.divsi v107 c2_i32_67
  let c1_i32_73 : BitVec 32 := 1#32
  let v123 : BitVec 32 := Scalar.subi v108 c1_i32_73
  let v124 : BitVec 32 := Scalar.select v122 v123 v108
  let v125 : BitVec 32 := Scalar.maxsi c0_i32_74 v124
  let v126 : BitVec 32 := Scalar.minsi v58 v125
  let c1_i32_80 : BitVec 32 := 1#32
  let arg13 : BitVec 32 := Scf.iv v126 c1_i32_80 k0_t3
  let v227 : BitVec 32 := Scalar.muli c2_i32_141 arg13
  let v228 : BitVec 32 := Scalar.addi v227 c1_i32_142
  let v229 : BitVec 32 := Scalar.minsi v228 v2
  let c256_i32_143 : BitVec 32 := 256#32
  let v230 : BitVec 32 := Scalar.muli v229 c256_i32_143
  let v231 : BitVec 32 := v230
  let v232 : Index := Scalar.indexCast v231
  let c0_145 : Index := 0#32
  ![0, v232.toNat, 0]
def k0_off10 (i : grid0.Coords) (k0_t3 : Fin (k0_t3_loop i).trips) (c1_i32_142 : BitVec 32) : Fin 3 → Nat :=
  let c4_i32_149 : BitVec 32 := 4#32
  let c0_i32_148 : BitVec 32 := 0#32
  let c2_i32_141 : BitVec 32 := 2#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c1_i32_12 : BitVec 32 := 1#32
  let v30 : BitVec 32 := Scalar.addi v2 c1_i32_12
  let c1_i32_25 : BitVec 32 := 1#32
  let v41 : BitVec 32 := Scalar.addi v30 c1_i32_25
  let c0_i32 : BitVec 32 := 0#32
  let v43 : BitVec 1 := Scalar.cmpi .sgt v41 c0_i32
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32 : BitVec 32 := 2#32
  let c0_i32_27 : BitVec 32 := 0#32
  let v48 : BitVec 1 := Scalar.cmpi .sgt c2_i32 c0_i32_27
  let v49 : BitVec 32 := Scalar.extui v48
  let c0_i32_28 : BitVec 32 := 0#32
  let v50 : BitVec 1 := Scalar.cmpi .slt c2_i32 c0_i32_28
  let v51 : BitVec 32 := Scalar.extui v50
  let v52 : BitVec 32 := Scalar.subi v49 v51
  let v53 : BitVec 1 := Scalar.cmpi .ne v47 v52
  let v54 : BitVec 32 := Scalar.remsi v41 c2_i32
  let c0_i32_29 : BitVec 32 := 0#32
  let v55 : BitVec 1 := Scalar.cmpi .ne v54 c0_i32_29
  let v56 : BitVec 1 := Scalar.andi v53 v55
  let v42 : BitVec 32 := Scalar.divsi v41 c2_i32
  let c1_i32_30 : BitVec 32 := 1#32
  let v57 : BitVec 32 := Scalar.subi v42 c1_i32_30
  let v58 : BitVec 32 := Scalar.select v56 v57 v42
  let c0_i32_74 : BitVec 32 := 0#32
  let c1_i32_66 : BitVec 32 := 1#32
  let v107 : BitVec 32 := Scalar.subi v0 c1_i32_66
  let c0_i32_68 : BitVec 32 := 0#32
  let v109 : BitVec 1 := Scalar.cmpi .sgt v107 c0_i32_68
  let v110 : BitVec 32 := Scalar.extui v109
  let c0_i32_69 : BitVec 32 := 0#32
  let v111 : BitVec 1 := Scalar.cmpi .slt v107 c0_i32_69
  let v112 : BitVec 32 := Scalar.extui v111
  let v113 : BitVec 32 := Scalar.subi v110 v112
  let c2_i32_67 : BitVec 32 := 2#32
  let c0_i32_70 : BitVec 32 := 0#32
  let v114 : BitVec 1 := Scalar.cmpi .sgt c2_i32_67 c0_i32_70
  let v115 : BitVec 32 := Scalar.extui v114
  let c0_i32_71 : BitVec 32 := 0#32
  let v116 : BitVec 1 := Scalar.cmpi .slt c2_i32_67 c0_i32_71
  let v117 : BitVec 32 := Scalar.extui v116
  let v118 : BitVec 32 := Scalar.subi v115 v117
  let v119 : BitVec 1 := Scalar.cmpi .ne v113 v118
  let v120 : BitVec 32 := Scalar.remsi v107 c2_i32_67
  let c0_i32_72 : BitVec 32 := 0#32
  let v121 : BitVec 1 := Scalar.cmpi .ne v120 c0_i32_72
  let v122 : BitVec 1 := Scalar.andi v119 v121
  let v108 : BitVec 32 := Scalar.divsi v107 c2_i32_67
  let c1_i32_73 : BitVec 32 := 1#32
  let v123 : BitVec 32 := Scalar.subi v108 c1_i32_73
  let v124 : BitVec 32 := Scalar.select v122 v123 v108
  let v125 : BitVec 32 := Scalar.maxsi c0_i32_74 v124
  let v126 : BitVec 32 := Scalar.minsi v58 v125
  let c1_i32_80 : BitVec 32 := 1#32
  let arg13 : BitVec 32 := Scf.iv v126 c1_i32_80 k0_t3
  let v227 : BitVec 32 := Scalar.muli c2_i32_141 arg13
  let v228 : BitVec 32 := Scalar.addi v227 c1_i32_142
  let v236 : BitVec 32 := Scalar.subi v228 v0
  let c1_i32_147 : BitVec 32 := 1#32
  let v237 : BitVec 32 := Scalar.addi v236 c1_i32_147
  let v238 : BitVec 32 := Scalar.maxsi c0_i32_148 v237
  let v239 : BitVec 32 := Scalar.minsi c4_i32_149 v238
  let v240 : Index := Scalar.indexCast v239
  let c0_150 : Index := 0#32
  let c0_151 : Index := 0#32
  ![v240.toNat, 0, 0]
def k0_mult12 (i : grid0.Coords) (k0_t3 : Fin (k0_t3_loop i).trips) : BitVec 32 :=
  let c2_i32_141 : BitVec 32 := 2#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c1_i32_12 : BitVec 32 := 1#32
  let v30 : BitVec 32 := Scalar.addi v2 c1_i32_12
  let c1_i32_25 : BitVec 32 := 1#32
  let v41 : BitVec 32 := Scalar.addi v30 c1_i32_25
  let c0_i32 : BitVec 32 := 0#32
  let v43 : BitVec 1 := Scalar.cmpi .sgt v41 c0_i32
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32 : BitVec 32 := 2#32
  let c0_i32_27 : BitVec 32 := 0#32
  let v48 : BitVec 1 := Scalar.cmpi .sgt c2_i32 c0_i32_27
  let v49 : BitVec 32 := Scalar.extui v48
  let c0_i32_28 : BitVec 32 := 0#32
  let v50 : BitVec 1 := Scalar.cmpi .slt c2_i32 c0_i32_28
  let v51 : BitVec 32 := Scalar.extui v50
  let v52 : BitVec 32 := Scalar.subi v49 v51
  let v53 : BitVec 1 := Scalar.cmpi .ne v47 v52
  let v54 : BitVec 32 := Scalar.remsi v41 c2_i32
  let c0_i32_29 : BitVec 32 := 0#32
  let v55 : BitVec 1 := Scalar.cmpi .ne v54 c0_i32_29
  let v56 : BitVec 1 := Scalar.andi v53 v55
  let v42 : BitVec 32 := Scalar.divsi v41 c2_i32
  let c1_i32_30 : BitVec 32 := 1#32
  let v57 : BitVec 32 := Scalar.subi v42 c1_i32_30
  let v58 : BitVec 32 := Scalar.select v56 v57 v42
  let c0_i32_74 : BitVec 32 := 0#32
  let c1_i32_66 : BitVec 32 := 1#32
  let v107 : BitVec 32 := Scalar.subi v0 c1_i32_66
  let c0_i32_68 : BitVec 32 := 0#32
  let v109 : BitVec 1 := Scalar.cmpi .sgt v107 c0_i32_68
  let v110 : BitVec 32 := Scalar.extui v109
  let c0_i32_69 : BitVec 32 := 0#32
  let v111 : BitVec 1 := Scalar.cmpi .slt v107 c0_i32_69
  let v112 : BitVec 32 := Scalar.extui v111
  let v113 : BitVec 32 := Scalar.subi v110 v112
  let c2_i32_67 : BitVec 32 := 2#32
  let c0_i32_70 : BitVec 32 := 0#32
  let v114 : BitVec 1 := Scalar.cmpi .sgt c2_i32_67 c0_i32_70
  let v115 : BitVec 32 := Scalar.extui v114
  let c0_i32_71 : BitVec 32 := 0#32
  let v116 : BitVec 1 := Scalar.cmpi .slt c2_i32_67 c0_i32_71
  let v117 : BitVec 32 := Scalar.extui v116
  let v118 : BitVec 32 := Scalar.subi v115 v117
  let v119 : BitVec 1 := Scalar.cmpi .ne v113 v118
  let v120 : BitVec 32 := Scalar.remsi v107 c2_i32_67
  let c0_i32_72 : BitVec 32 := 0#32
  let v121 : BitVec 1 := Scalar.cmpi .ne v120 c0_i32_72
  let v122 : BitVec 1 := Scalar.andi v119 v121
  let v108 : BitVec 32 := Scalar.divsi v107 c2_i32_67
  let c1_i32_73 : BitVec 32 := 1#32
  let v123 : BitVec 32 := Scalar.subi v108 c1_i32_73
  let v124 : BitVec 32 := Scalar.select v122 v123 v108
  let v125 : BitVec 32 := Scalar.maxsi c0_i32_74 v124
  let v126 : BitVec 32 := Scalar.minsi v58 v125
  let c1_i32_80 : BitVec 32 := 1#32
  let arg13 : BitVec 32 := Scf.iv v126 c1_i32_80 k0_t3
  let v227 : BitVec 32 := Scalar.muli c2_i32_141 arg13
  let c1_i32_142 : BitVec 32 := 1#32
  let v228 : BitVec 32 := Scalar.addi v227 c1_i32_142
  let v253 : BitVec 32 := Scalar.minsi v228 v2
  let c256_i32_158 : BitVec 32 := 256#32
  let v254 : BitVec 32 := Scalar.muli v253 c256_i32_158
  v254
def k0_off11 (i : grid0.Coords) (k0_t3 : Fin (k0_t3_loop i).trips) : Fin 5 → Nat :=
  let c0_200 : Index := 0#32
  let c0_201 : Index := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c0_i32_199 : BitVec 32 := 0#32
  let c2_i32_141 : BitVec 32 := 2#32
  let c1_i32_12 : BitVec 32 := 1#32
  let v30 : BitVec 32 := Scalar.addi v2 c1_i32_12
  let c1_i32_25 : BitVec 32 := 1#32
  let v41 : BitVec 32 := Scalar.addi v30 c1_i32_25
  let c0_i32 : BitVec 32 := 0#32
  let v43 : BitVec 1 := Scalar.cmpi .sgt v41 c0_i32
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32 : BitVec 32 := 2#32
  let c0_i32_27 : BitVec 32 := 0#32
  let v48 : BitVec 1 := Scalar.cmpi .sgt c2_i32 c0_i32_27
  let v49 : BitVec 32 := Scalar.extui v48
  let c0_i32_28 : BitVec 32 := 0#32
  let v50 : BitVec 1 := Scalar.cmpi .slt c2_i32 c0_i32_28
  let v51 : BitVec 32 := Scalar.extui v50
  let v52 : BitVec 32 := Scalar.subi v49 v51
  let v53 : BitVec 1 := Scalar.cmpi .ne v47 v52
  let v54 : BitVec 32 := Scalar.remsi v41 c2_i32
  let c0_i32_29 : BitVec 32 := 0#32
  let v55 : BitVec 1 := Scalar.cmpi .ne v54 c0_i32_29
  let v56 : BitVec 1 := Scalar.andi v53 v55
  let v42 : BitVec 32 := Scalar.divsi v41 c2_i32
  let c1_i32_30 : BitVec 32 := 1#32
  let v57 : BitVec 32 := Scalar.subi v42 c1_i32_30
  let v58 : BitVec 32 := Scalar.select v56 v57 v42
  let c0_i32_74 : BitVec 32 := 0#32
  let c1_i32_66 : BitVec 32 := 1#32
  let v107 : BitVec 32 := Scalar.subi v0 c1_i32_66
  let c0_i32_68 : BitVec 32 := 0#32
  let v109 : BitVec 1 := Scalar.cmpi .sgt v107 c0_i32_68
  let v110 : BitVec 32 := Scalar.extui v109
  let c0_i32_69 : BitVec 32 := 0#32
  let v111 : BitVec 1 := Scalar.cmpi .slt v107 c0_i32_69
  let v112 : BitVec 32 := Scalar.extui v111
  let v113 : BitVec 32 := Scalar.subi v110 v112
  let c2_i32_67 : BitVec 32 := 2#32
  let c0_i32_70 : BitVec 32 := 0#32
  let v114 : BitVec 1 := Scalar.cmpi .sgt c2_i32_67 c0_i32_70
  let v115 : BitVec 32 := Scalar.extui v114
  let c0_i32_71 : BitVec 32 := 0#32
  let v116 : BitVec 1 := Scalar.cmpi .slt c2_i32_67 c0_i32_71
  let v117 : BitVec 32 := Scalar.extui v116
  let v118 : BitVec 32 := Scalar.subi v115 v117
  let v119 : BitVec 1 := Scalar.cmpi .ne v113 v118
  let v120 : BitVec 32 := Scalar.remsi v107 c2_i32_67
  let c0_i32_72 : BitVec 32 := 0#32
  let v121 : BitVec 1 := Scalar.cmpi .ne v120 c0_i32_72
  let v122 : BitVec 1 := Scalar.andi v119 v121
  let v108 : BitVec 32 := Scalar.divsi v107 c2_i32_67
  let c1_i32_73 : BitVec 32 := 1#32
  let v123 : BitVec 32 := Scalar.subi v108 c1_i32_73
  let v124 : BitVec 32 := Scalar.select v122 v123 v108
  let v125 : BitVec 32 := Scalar.maxsi c0_i32_74 v124
  let v126 : BitVec 32 := Scalar.minsi v58 v125
  let c1_i32_80 : BitVec 32 := 1#32
  let arg13 : BitVec 32 := Scf.iv v126 c1_i32_80 k0_t3
  let v227 : BitVec 32 := Scalar.muli c2_i32_141 arg13
  let c1_i32_195 : BitVec 32 := 1#32
  let v317 : BitVec 32 := Scalar.subi v227 c1_i32_195
  let v322 : BitVec 32 := Scalar.maxsi c0_i32_199 v317
  let v323 : BitVec 32 := Scalar.minsi v2 v322
  let v324 : Index := Scalar.indexCast v323
  let c0_202 : Index := 0#32
  let c0_203 : Index := 0#32
  ![0, 0, v324.toNat, 0, 0]
def k0_mult13 (i : grid0.Coords) (k0_t3 : Fin (k0_t3_loop i).trips) : BitVec 32 :=
  let c2_i32_141 : BitVec 32 := 2#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c1_i32_12 : BitVec 32 := 1#32
  let v30 : BitVec 32 := Scalar.addi v2 c1_i32_12
  let c1_i32_25 : BitVec 32 := 1#32
  let v41 : BitVec 32 := Scalar.addi v30 c1_i32_25
  let c0_i32 : BitVec 32 := 0#32
  let v43 : BitVec 1 := Scalar.cmpi .sgt v41 c0_i32
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32 : BitVec 32 := 2#32
  let c0_i32_27 : BitVec 32 := 0#32
  let v48 : BitVec 1 := Scalar.cmpi .sgt c2_i32 c0_i32_27
  let v49 : BitVec 32 := Scalar.extui v48
  let c0_i32_28 : BitVec 32 := 0#32
  let v50 : BitVec 1 := Scalar.cmpi .slt c2_i32 c0_i32_28
  let v51 : BitVec 32 := Scalar.extui v50
  let v52 : BitVec 32 := Scalar.subi v49 v51
  let v53 : BitVec 1 := Scalar.cmpi .ne v47 v52
  let v54 : BitVec 32 := Scalar.remsi v41 c2_i32
  let c0_i32_29 : BitVec 32 := 0#32
  let v55 : BitVec 1 := Scalar.cmpi .ne v54 c0_i32_29
  let v56 : BitVec 1 := Scalar.andi v53 v55
  let v42 : BitVec 32 := Scalar.divsi v41 c2_i32
  let c1_i32_30 : BitVec 32 := 1#32
  let v57 : BitVec 32 := Scalar.subi v42 c1_i32_30
  let v58 : BitVec 32 := Scalar.select v56 v57 v42
  let c0_i32_74 : BitVec 32 := 0#32
  let c1_i32_66 : BitVec 32 := 1#32
  let v107 : BitVec 32 := Scalar.subi v0 c1_i32_66
  let c0_i32_68 : BitVec 32 := 0#32
  let v109 : BitVec 1 := Scalar.cmpi .sgt v107 c0_i32_68
  let v110 : BitVec 32 := Scalar.extui v109
  let c0_i32_69 : BitVec 32 := 0#32
  let v111 : BitVec 1 := Scalar.cmpi .slt v107 c0_i32_69
  let v112 : BitVec 32 := Scalar.extui v111
  let v113 : BitVec 32 := Scalar.subi v110 v112
  let c2_i32_67 : BitVec 32 := 2#32
  let c0_i32_70 : BitVec 32 := 0#32
  let v114 : BitVec 1 := Scalar.cmpi .sgt c2_i32_67 c0_i32_70
  let v115 : BitVec 32 := Scalar.extui v114
  let c0_i32_71 : BitVec 32 := 0#32
  let v116 : BitVec 1 := Scalar.cmpi .slt c2_i32_67 c0_i32_71
  let v117 : BitVec 32 := Scalar.extui v116
  let v118 : BitVec 32 := Scalar.subi v115 v117
  let v119 : BitVec 1 := Scalar.cmpi .ne v113 v118
  let v120 : BitVec 32 := Scalar.remsi v107 c2_i32_67
  let c0_i32_72 : BitVec 32 := 0#32
  let v121 : BitVec 1 := Scalar.cmpi .ne v120 c0_i32_72
  let v122 : BitVec 1 := Scalar.andi v119 v121
  let v108 : BitVec 32 := Scalar.divsi v107 c2_i32_67
  let c1_i32_73 : BitVec 32 := 1#32
  let v123 : BitVec 32 := Scalar.subi v108 c1_i32_73
  let v124 : BitVec 32 := Scalar.select v122 v123 v108
  let v125 : BitVec 32 := Scalar.maxsi c0_i32_74 v124
  let v126 : BitVec 32 := Scalar.minsi v58 v125
  let c1_i32_80 : BitVec 32 := 1#32
  let arg13 : BitVec 32 := Scf.iv v126 c1_i32_80 k0_t3
  let v227 : BitVec 32 := Scalar.muli c2_i32_141 arg13
  let c2_i32_228 : BitVec 32 := 2#32
  let v350 : BitVec 32 := Scalar.addi v227 c2_i32_228
  let v351 : BitVec 32 := Scalar.minsi v350 v2
  let c256_i32_229 : BitVec 32 := 256#32
  let v352 : BitVec 32 := Scalar.muli v351 c256_i32_229
  v352
def k0_mult14 (i : grid0.Coords) (k0_t3 : Fin (k0_t3_loop i).trips) : BitVec 32 :=
  let c2_i32_141 : BitVec 32 := 2#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c1_i32_12 : BitVec 32 := 1#32
  let v30 : BitVec 32 := Scalar.addi v2 c1_i32_12
  let c1_i32_25 : BitVec 32 := 1#32
  let v41 : BitVec 32 := Scalar.addi v30 c1_i32_25
  let c0_i32 : BitVec 32 := 0#32
  let v43 : BitVec 1 := Scalar.cmpi .sgt v41 c0_i32
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32 : BitVec 32 := 2#32
  let c0_i32_27 : BitVec 32 := 0#32
  let v48 : BitVec 1 := Scalar.cmpi .sgt c2_i32 c0_i32_27
  let v49 : BitVec 32 := Scalar.extui v48
  let c0_i32_28 : BitVec 32 := 0#32
  let v50 : BitVec 1 := Scalar.cmpi .slt c2_i32 c0_i32_28
  let v51 : BitVec 32 := Scalar.extui v50
  let v52 : BitVec 32 := Scalar.subi v49 v51
  let v53 : BitVec 1 := Scalar.cmpi .ne v47 v52
  let v54 : BitVec 32 := Scalar.remsi v41 c2_i32
  let c0_i32_29 : BitVec 32 := 0#32
  let v55 : BitVec 1 := Scalar.cmpi .ne v54 c0_i32_29
  let v56 : BitVec 1 := Scalar.andi v53 v55
  let v42 : BitVec 32 := Scalar.divsi v41 c2_i32
  let c1_i32_30 : BitVec 32 := 1#32
  let v57 : BitVec 32 := Scalar.subi v42 c1_i32_30
  let v58 : BitVec 32 := Scalar.select v56 v57 v42
  let c0_i32_74 : BitVec 32 := 0#32
  let c1_i32_66 : BitVec 32 := 1#32
  let v107 : BitVec 32 := Scalar.subi v0 c1_i32_66
  let c0_i32_68 : BitVec 32 := 0#32
  let v109 : BitVec 1 := Scalar.cmpi .sgt v107 c0_i32_68
  let v110 : BitVec 32 := Scalar.extui v109
  let c0_i32_69 : BitVec 32 := 0#32
  let v111 : BitVec 1 := Scalar.cmpi .slt v107 c0_i32_69
  let v112 : BitVec 32 := Scalar.extui v111
  let v113 : BitVec 32 := Scalar.subi v110 v112
  let c2_i32_67 : BitVec 32 := 2#32
  let c0_i32_70 : BitVec 32 := 0#32
  let v114 : BitVec 1 := Scalar.cmpi .sgt c2_i32_67 c0_i32_70
  let v115 : BitVec 32 := Scalar.extui v114
  let c0_i32_71 : BitVec 32 := 0#32
  let v116 : BitVec 1 := Scalar.cmpi .slt c2_i32_67 c0_i32_71
  let v117 : BitVec 32 := Scalar.extui v116
  let v118 : BitVec 32 := Scalar.subi v115 v117
  let v119 : BitVec 1 := Scalar.cmpi .ne v113 v118
  let v120 : BitVec 32 := Scalar.remsi v107 c2_i32_67
  let c0_i32_72 : BitVec 32 := 0#32
  let v121 : BitVec 1 := Scalar.cmpi .ne v120 c0_i32_72
  let v122 : BitVec 1 := Scalar.andi v119 v121
  let v108 : BitVec 32 := Scalar.divsi v107 c2_i32_67
  let c1_i32_73 : BitVec 32 := 1#32
  let v123 : BitVec 32 := Scalar.subi v108 c1_i32_73
  let v124 : BitVec 32 := Scalar.select v122 v123 v108
  let v125 : BitVec 32 := Scalar.maxsi c0_i32_74 v124
  let v126 : BitVec 32 := Scalar.minsi v58 v125
  let c1_i32_80 : BitVec 32 := 1#32
  let arg13 : BitVec 32 := Scf.iv v126 c1_i32_80 k0_t3
  let v227 : BitVec 32 := Scalar.muli c2_i32_141 arg13
  let c2_i32_228 : BitVec 32 := 2#32
  let v350 : BitVec 32 := Scalar.addi v227 c2_i32_228
  let v375 : BitVec 32 := Scalar.minsi v350 v2
  let c256_i32_244 : BitVec 32 := 256#32
  let v376 : BitVec 32 := Scalar.muli v375 c256_i32_244
  v376
def k0_off12 (i : grid0.Coords) (k0_t3 : Fin (k0_t3_loop i).trips) : Fin 5 → Nat :=
  let c0_286 : Index := 0#32
  let c0_287 : Index := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c0_i32_285 : BitVec 32 := 0#32
  let c2_i32_141 : BitVec 32 := 2#32
  let c1_i32_12 : BitVec 32 := 1#32
  let v30 : BitVec 32 := Scalar.addi v2 c1_i32_12
  let c1_i32_25 : BitVec 32 := 1#32
  let v41 : BitVec 32 := Scalar.addi v30 c1_i32_25
  let c0_i32 : BitVec 32 := 0#32
  let v43 : BitVec 1 := Scalar.cmpi .sgt v41 c0_i32
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32 : BitVec 32 := 2#32
  let c0_i32_27 : BitVec 32 := 0#32
  let v48 : BitVec 1 := Scalar.cmpi .sgt c2_i32 c0_i32_27
  let v49 : BitVec 32 := Scalar.extui v48
  let c0_i32_28 : BitVec 32 := 0#32
  let v50 : BitVec 1 := Scalar.cmpi .slt c2_i32 c0_i32_28
  let v51 : BitVec 32 := Scalar.extui v50
  let v52 : BitVec 32 := Scalar.subi v49 v51
  let v53 : BitVec 1 := Scalar.cmpi .ne v47 v52
  let v54 : BitVec 32 := Scalar.remsi v41 c2_i32
  let c0_i32_29 : BitVec 32 := 0#32
  let v55 : BitVec 1 := Scalar.cmpi .ne v54 c0_i32_29
  let v56 : BitVec 1 := Scalar.andi v53 v55
  let v42 : BitVec 32 := Scalar.divsi v41 c2_i32
  let c1_i32_30 : BitVec 32 := 1#32
  let v57 : BitVec 32 := Scalar.subi v42 c1_i32_30
  let v58 : BitVec 32 := Scalar.select v56 v57 v42
  let c0_i32_74 : BitVec 32 := 0#32
  let c1_i32_66 : BitVec 32 := 1#32
  let v107 : BitVec 32 := Scalar.subi v0 c1_i32_66
  let c0_i32_68 : BitVec 32 := 0#32
  let v109 : BitVec 1 := Scalar.cmpi .sgt v107 c0_i32_68
  let v110 : BitVec 32 := Scalar.extui v109
  let c0_i32_69 : BitVec 32 := 0#32
  let v111 : BitVec 1 := Scalar.cmpi .slt v107 c0_i32_69
  let v112 : BitVec 32 := Scalar.extui v111
  let v113 : BitVec 32 := Scalar.subi v110 v112
  let c2_i32_67 : BitVec 32 := 2#32
  let c0_i32_70 : BitVec 32 := 0#32
  let v114 : BitVec 1 := Scalar.cmpi .sgt c2_i32_67 c0_i32_70
  let v115 : BitVec 32 := Scalar.extui v114
  let c0_i32_71 : BitVec 32 := 0#32
  let v116 : BitVec 1 := Scalar.cmpi .slt c2_i32_67 c0_i32_71
  let v117 : BitVec 32 := Scalar.extui v116
  let v118 : BitVec 32 := Scalar.subi v115 v117
  let v119 : BitVec 1 := Scalar.cmpi .ne v113 v118
  let v120 : BitVec 32 := Scalar.remsi v107 c2_i32_67
  let c0_i32_72 : BitVec 32 := 0#32
  let v121 : BitVec 1 := Scalar.cmpi .ne v120 c0_i32_72
  let v122 : BitVec 1 := Scalar.andi v119 v121
  let v108 : BitVec 32 := Scalar.divsi v107 c2_i32_67
  let c1_i32_73 : BitVec 32 := 1#32
  let v123 : BitVec 32 := Scalar.subi v108 c1_i32_73
  let v124 : BitVec 32 := Scalar.select v122 v123 v108
  let v125 : BitVec 32 := Scalar.maxsi c0_i32_74 v124
  let v126 : BitVec 32 := Scalar.minsi v58 v125
  let c1_i32_80 : BitVec 32 := 1#32
  let arg13 : BitVec 32 := Scf.iv v126 c1_i32_80 k0_t3
  let v227 : BitVec 32 := Scalar.muli c2_i32_141 arg13
  let v444 : BitVec 32 := Scalar.maxsi c0_i32_285 v227
  let v445 : BitVec 32 := Scalar.minsi v2 v444
  let v446 : Index := Scalar.indexCast v445
  let c0_288 : Index := 0#32
  let c0_289 : Index := 0#32
  ![0, 0, v446.toNat, 0, 0]
@[reducible] def k0_t4_loop (i : grid0.Coords) : Scf.Loop 32 :=
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c1_i32_12 : BitVec 32 := 1#32
  let v30 : BitVec 32 := Scalar.addi v2 c1_i32_12
  let c1_i32_25 : BitVec 32 := 1#32
  let v41 : BitVec 32 := Scalar.addi v30 c1_i32_25
  let c0_i32 : BitVec 32 := 0#32
  let v43 : BitVec 1 := Scalar.cmpi .sgt v41 c0_i32
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32 : BitVec 32 := 2#32
  let c0_i32_27 : BitVec 32 := 0#32
  let v48 : BitVec 1 := Scalar.cmpi .sgt c2_i32 c0_i32_27
  let v49 : BitVec 32 := Scalar.extui v48
  let c0_i32_28 : BitVec 32 := 0#32
  let v50 : BitVec 1 := Scalar.cmpi .slt c2_i32 c0_i32_28
  let v51 : BitVec 32 := Scalar.extui v50
  let v52 : BitVec 32 := Scalar.subi v49 v51
  let v53 : BitVec 1 := Scalar.cmpi .ne v47 v52
  let v54 : BitVec 32 := Scalar.remsi v41 c2_i32
  let c0_i32_29 : BitVec 32 := 0#32
  let v55 : BitVec 1 := Scalar.cmpi .ne v54 c0_i32_29
  let v56 : BitVec 1 := Scalar.andi v53 v55
  let v42 : BitVec 32 := Scalar.divsi v41 c2_i32
  let c1_i32_30 : BitVec 32 := 1#32
  let v57 : BitVec 32 := Scalar.subi v42 c1_i32_30
  let v58 : BitVec 32 := Scalar.select v56 v57 v42
  let c0_i32_74 : BitVec 32 := 0#32
  let c1_i32_66 : BitVec 32 := 1#32
  let v107 : BitVec 32 := Scalar.subi v0 c1_i32_66
  let c0_i32_68 : BitVec 32 := 0#32
  let v109 : BitVec 1 := Scalar.cmpi .sgt v107 c0_i32_68
  let v110 : BitVec 32 := Scalar.extui v109
  let c0_i32_69 : BitVec 32 := 0#32
  let v111 : BitVec 1 := Scalar.cmpi .slt v107 c0_i32_69
  let v112 : BitVec 32 := Scalar.extui v111
  let v113 : BitVec 32 := Scalar.subi v110 v112
  let c2_i32_67 : BitVec 32 := 2#32
  let c0_i32_70 : BitVec 32 := 0#32
  let v114 : BitVec 1 := Scalar.cmpi .sgt c2_i32_67 c0_i32_70
  let v115 : BitVec 32 := Scalar.extui v114
  let c0_i32_71 : BitVec 32 := 0#32
  let v116 : BitVec 1 := Scalar.cmpi .slt c2_i32_67 c0_i32_71
  let v117 : BitVec 32 := Scalar.extui v116
  let v118 : BitVec 32 := Scalar.subi v115 v117
  let v119 : BitVec 1 := Scalar.cmpi .ne v113 v118
  let v120 : BitVec 32 := Scalar.remsi v107 c2_i32_67
  let c0_i32_72 : BitVec 32 := 0#32
  let v121 : BitVec 1 := Scalar.cmpi .ne v120 c0_i32_72
  let v122 : BitVec 1 := Scalar.andi v119 v121
  let v108 : BitVec 32 := Scalar.divsi v107 c2_i32_67
  let c1_i32_73 : BitVec 32 := 1#32
  let v123 : BitVec 32 := Scalar.subi v108 c1_i32_73
  let v124 : BitVec 32 := Scalar.select v122 v123 v108
  let v125 : BitVec 32 := Scalar.maxsi c0_i32_74 v124
  let v126 : BitVec 32 := Scalar.minsi v58 v125
  let v134 : BitVec 32 := Scalar.subi v58 v126
  let c1_i32_79 : BitVec 32 := 1#32
  let v136 : BitVec 32 := Scalar.divsi v134 c1_i32_79
  let v137 : BitVec 32 := Scalar.muli v136 c1_i32_79
  let v138 : BitVec 32 := Scalar.addi v126 v137
  let v135 : BitVec 32 := Scalar.addi v126 v134
  let c1_i32_81 : BitVec 32 := 1#32
  ⟨v138, v135, c1_i32_81⟩
def k0_mult15 (i : grid0.Coords) (k0_t4 : Fin (k0_t4_loop i).trips) : BitVec 32 :=
  let c2_i32_141 : BitVec 32 := 2#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c1_i32_12 : BitVec 32 := 1#32
  let v30 : BitVec 32 := Scalar.addi v2 c1_i32_12
  let c1_i32_25 : BitVec 32 := 1#32
  let v41 : BitVec 32 := Scalar.addi v30 c1_i32_25
  let c0_i32 : BitVec 32 := 0#32
  let v43 : BitVec 1 := Scalar.cmpi .sgt v41 c0_i32
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32 : BitVec 32 := 2#32
  let c0_i32_27 : BitVec 32 := 0#32
  let v48 : BitVec 1 := Scalar.cmpi .sgt c2_i32 c0_i32_27
  let v49 : BitVec 32 := Scalar.extui v48
  let c0_i32_28 : BitVec 32 := 0#32
  let v50 : BitVec 1 := Scalar.cmpi .slt c2_i32 c0_i32_28
  let v51 : BitVec 32 := Scalar.extui v50
  let v52 : BitVec 32 := Scalar.subi v49 v51
  let v53 : BitVec 1 := Scalar.cmpi .ne v47 v52
  let v54 : BitVec 32 := Scalar.remsi v41 c2_i32
  let c0_i32_29 : BitVec 32 := 0#32
  let v55 : BitVec 1 := Scalar.cmpi .ne v54 c0_i32_29
  let v56 : BitVec 1 := Scalar.andi v53 v55
  let v42 : BitVec 32 := Scalar.divsi v41 c2_i32
  let c1_i32_30 : BitVec 32 := 1#32
  let v57 : BitVec 32 := Scalar.subi v42 c1_i32_30
  let v58 : BitVec 32 := Scalar.select v56 v57 v42
  let c0_i32_74 : BitVec 32 := 0#32
  let c1_i32_66 : BitVec 32 := 1#32
  let v107 : BitVec 32 := Scalar.subi v0 c1_i32_66
  let c0_i32_68 : BitVec 32 := 0#32
  let v109 : BitVec 1 := Scalar.cmpi .sgt v107 c0_i32_68
  let v110 : BitVec 32 := Scalar.extui v109
  let c0_i32_69 : BitVec 32 := 0#32
  let v111 : BitVec 1 := Scalar.cmpi .slt v107 c0_i32_69
  let v112 : BitVec 32 := Scalar.extui v111
  let v113 : BitVec 32 := Scalar.subi v110 v112
  let c2_i32_67 : BitVec 32 := 2#32
  let c0_i32_70 : BitVec 32 := 0#32
  let v114 : BitVec 1 := Scalar.cmpi .sgt c2_i32_67 c0_i32_70
  let v115 : BitVec 32 := Scalar.extui v114
  let c0_i32_71 : BitVec 32 := 0#32
  let v116 : BitVec 1 := Scalar.cmpi .slt c2_i32_67 c0_i32_71
  let v117 : BitVec 32 := Scalar.extui v116
  let v118 : BitVec 32 := Scalar.subi v115 v117
  let v119 : BitVec 1 := Scalar.cmpi .ne v113 v118
  let v120 : BitVec 32 := Scalar.remsi v107 c2_i32_67
  let c0_i32_72 : BitVec 32 := 0#32
  let v121 : BitVec 1 := Scalar.cmpi .ne v120 c0_i32_72
  let v122 : BitVec 1 := Scalar.andi v119 v121
  let v108 : BitVec 32 := Scalar.divsi v107 c2_i32_67
  let c1_i32_73 : BitVec 32 := 1#32
  let v123 : BitVec 32 := Scalar.subi v108 c1_i32_73
  let v124 : BitVec 32 := Scalar.select v122 v123 v108
  let v125 : BitVec 32 := Scalar.maxsi c0_i32_74 v124
  let v126 : BitVec 32 := Scalar.minsi v58 v125
  let v134 : BitVec 32 := Scalar.subi v58 v126
  let c1_i32_79 : BitVec 32 := 1#32
  let v136 : BitVec 32 := Scalar.divsi v134 c1_i32_79
  let v137 : BitVec 32 := Scalar.muli v136 c1_i32_79
  let v138 : BitVec 32 := Scalar.addi v126 v137
  let c1_i32_81 : BitVec 32 := 1#32
  let arg13 : BitVec 32 := Scf.iv v138 c1_i32_81 k0_t4
  let v227 : BitVec 32 := Scalar.muli c2_i32_141 arg13
  let c1_i32_142 : BitVec 32 := 1#32
  let v228 : BitVec 32 := Scalar.addi v227 c1_i32_142
  let v229 : BitVec 32 := Scalar.minsi v228 v2
  let c256_i32_143 : BitVec 32 := 256#32
  let v230 : BitVec 32 := Scalar.muli v229 c256_i32_143
  v230
def k0_off13 (i : grid0.Coords) (k0_t4 : Fin (k0_t4_loop i).trips) (c1_i32_142 : BitVec 32) : Fin 3 → Nat :=
  let c0_144 : Index := 0#32
  let c2_i32_141 : BitVec 32 := 2#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c1_i32_12 : BitVec 32 := 1#32
  let v30 : BitVec 32 := Scalar.addi v2 c1_i32_12
  let c1_i32_25 : BitVec 32 := 1#32
  let v41 : BitVec 32 := Scalar.addi v30 c1_i32_25
  let c0_i32 : BitVec 32 := 0#32
  let v43 : BitVec 1 := Scalar.cmpi .sgt v41 c0_i32
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32 : BitVec 32 := 2#32
  let c0_i32_27 : BitVec 32 := 0#32
  let v48 : BitVec 1 := Scalar.cmpi .sgt c2_i32 c0_i32_27
  let v49 : BitVec 32 := Scalar.extui v48
  let c0_i32_28 : BitVec 32 := 0#32
  let v50 : BitVec 1 := Scalar.cmpi .slt c2_i32 c0_i32_28
  let v51 : BitVec 32 := Scalar.extui v50
  let v52 : BitVec 32 := Scalar.subi v49 v51
  let v53 : BitVec 1 := Scalar.cmpi .ne v47 v52
  let v54 : BitVec 32 := Scalar.remsi v41 c2_i32
  let c0_i32_29 : BitVec 32 := 0#32
  let v55 : BitVec 1 := Scalar.cmpi .ne v54 c0_i32_29
  let v56 : BitVec 1 := Scalar.andi v53 v55
  let v42 : BitVec 32 := Scalar.divsi v41 c2_i32
  let c1_i32_30 : BitVec 32 := 1#32
  let v57 : BitVec 32 := Scalar.subi v42 c1_i32_30
  let v58 : BitVec 32 := Scalar.select v56 v57 v42
  let c0_i32_74 : BitVec 32 := 0#32
  let c1_i32_66 : BitVec 32 := 1#32
  let v107 : BitVec 32 := Scalar.subi v0 c1_i32_66
  let c0_i32_68 : BitVec 32 := 0#32
  let v109 : BitVec 1 := Scalar.cmpi .sgt v107 c0_i32_68
  let v110 : BitVec 32 := Scalar.extui v109
  let c0_i32_69 : BitVec 32 := 0#32
  let v111 : BitVec 1 := Scalar.cmpi .slt v107 c0_i32_69
  let v112 : BitVec 32 := Scalar.extui v111
  let v113 : BitVec 32 := Scalar.subi v110 v112
  let c2_i32_67 : BitVec 32 := 2#32
  let c0_i32_70 : BitVec 32 := 0#32
  let v114 : BitVec 1 := Scalar.cmpi .sgt c2_i32_67 c0_i32_70
  let v115 : BitVec 32 := Scalar.extui v114
  let c0_i32_71 : BitVec 32 := 0#32
  let v116 : BitVec 1 := Scalar.cmpi .slt c2_i32_67 c0_i32_71
  let v117 : BitVec 32 := Scalar.extui v116
  let v118 : BitVec 32 := Scalar.subi v115 v117
  let v119 : BitVec 1 := Scalar.cmpi .ne v113 v118
  let v120 : BitVec 32 := Scalar.remsi v107 c2_i32_67
  let c0_i32_72 : BitVec 32 := 0#32
  let v121 : BitVec 1 := Scalar.cmpi .ne v120 c0_i32_72
  let v122 : BitVec 1 := Scalar.andi v119 v121
  let v108 : BitVec 32 := Scalar.divsi v107 c2_i32_67
  let c1_i32_73 : BitVec 32 := 1#32
  let v123 : BitVec 32 := Scalar.subi v108 c1_i32_73
  let v124 : BitVec 32 := Scalar.select v122 v123 v108
  let v125 : BitVec 32 := Scalar.maxsi c0_i32_74 v124
  let v126 : BitVec 32 := Scalar.minsi v58 v125
  let v134 : BitVec 32 := Scalar.subi v58 v126
  let c1_i32_79 : BitVec 32 := 1#32
  let v136 : BitVec 32 := Scalar.divsi v134 c1_i32_79
  let v137 : BitVec 32 := Scalar.muli v136 c1_i32_79
  let v138 : BitVec 32 := Scalar.addi v126 v137
  let c1_i32_81 : BitVec 32 := 1#32
  let arg13 : BitVec 32 := Scf.iv v138 c1_i32_81 k0_t4
  let v227 : BitVec 32 := Scalar.muli c2_i32_141 arg13
  let v228 : BitVec 32 := Scalar.addi v227 c1_i32_142
  let v229 : BitVec 32 := Scalar.minsi v228 v2
  let c256_i32_143 : BitVec 32 := 256#32
  let v230 : BitVec 32 := Scalar.muli v229 c256_i32_143
  let v231 : BitVec 32 := v230
  let v232 : Index := Scalar.indexCast v231
  let c0_145 : Index := 0#32
  ![0, v232.toNat, 0]
def k0_off14 (i : grid0.Coords) (k0_t4 : Fin (k0_t4_loop i).trips) (c1_i32_142 : BitVec 32) : Fin 3 → Nat :=
  let c4_i32_149 : BitVec 32 := 4#32
  let c0_i32_148 : BitVec 32 := 0#32
  let c2_i32_141 : BitVec 32 := 2#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c1_i32_12 : BitVec 32 := 1#32
  let v30 : BitVec 32 := Scalar.addi v2 c1_i32_12
  let c1_i32_25 : BitVec 32 := 1#32
  let v41 : BitVec 32 := Scalar.addi v30 c1_i32_25
  let c0_i32 : BitVec 32 := 0#32
  let v43 : BitVec 1 := Scalar.cmpi .sgt v41 c0_i32
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32 : BitVec 32 := 2#32
  let c0_i32_27 : BitVec 32 := 0#32
  let v48 : BitVec 1 := Scalar.cmpi .sgt c2_i32 c0_i32_27
  let v49 : BitVec 32 := Scalar.extui v48
  let c0_i32_28 : BitVec 32 := 0#32
  let v50 : BitVec 1 := Scalar.cmpi .slt c2_i32 c0_i32_28
  let v51 : BitVec 32 := Scalar.extui v50
  let v52 : BitVec 32 := Scalar.subi v49 v51
  let v53 : BitVec 1 := Scalar.cmpi .ne v47 v52
  let v54 : BitVec 32 := Scalar.remsi v41 c2_i32
  let c0_i32_29 : BitVec 32 := 0#32
  let v55 : BitVec 1 := Scalar.cmpi .ne v54 c0_i32_29
  let v56 : BitVec 1 := Scalar.andi v53 v55
  let v42 : BitVec 32 := Scalar.divsi v41 c2_i32
  let c1_i32_30 : BitVec 32 := 1#32
  let v57 : BitVec 32 := Scalar.subi v42 c1_i32_30
  let v58 : BitVec 32 := Scalar.select v56 v57 v42
  let c0_i32_74 : BitVec 32 := 0#32
  let c1_i32_66 : BitVec 32 := 1#32
  let v107 : BitVec 32 := Scalar.subi v0 c1_i32_66
  let c0_i32_68 : BitVec 32 := 0#32
  let v109 : BitVec 1 := Scalar.cmpi .sgt v107 c0_i32_68
  let v110 : BitVec 32 := Scalar.extui v109
  let c0_i32_69 : BitVec 32 := 0#32
  let v111 : BitVec 1 := Scalar.cmpi .slt v107 c0_i32_69
  let v112 : BitVec 32 := Scalar.extui v111
  let v113 : BitVec 32 := Scalar.subi v110 v112
  let c2_i32_67 : BitVec 32 := 2#32
  let c0_i32_70 : BitVec 32 := 0#32
  let v114 : BitVec 1 := Scalar.cmpi .sgt c2_i32_67 c0_i32_70
  let v115 : BitVec 32 := Scalar.extui v114
  let c0_i32_71 : BitVec 32 := 0#32
  let v116 : BitVec 1 := Scalar.cmpi .slt c2_i32_67 c0_i32_71
  let v117 : BitVec 32 := Scalar.extui v116
  let v118 : BitVec 32 := Scalar.subi v115 v117
  let v119 : BitVec 1 := Scalar.cmpi .ne v113 v118
  let v120 : BitVec 32 := Scalar.remsi v107 c2_i32_67
  let c0_i32_72 : BitVec 32 := 0#32
  let v121 : BitVec 1 := Scalar.cmpi .ne v120 c0_i32_72
  let v122 : BitVec 1 := Scalar.andi v119 v121
  let v108 : BitVec 32 := Scalar.divsi v107 c2_i32_67
  let c1_i32_73 : BitVec 32 := 1#32
  let v123 : BitVec 32 := Scalar.subi v108 c1_i32_73
  let v124 : BitVec 32 := Scalar.select v122 v123 v108
  let v125 : BitVec 32 := Scalar.maxsi c0_i32_74 v124
  let v126 : BitVec 32 := Scalar.minsi v58 v125
  let v134 : BitVec 32 := Scalar.subi v58 v126
  let c1_i32_79 : BitVec 32 := 1#32
  let v136 : BitVec 32 := Scalar.divsi v134 c1_i32_79
  let v137 : BitVec 32 := Scalar.muli v136 c1_i32_79
  let v138 : BitVec 32 := Scalar.addi v126 v137
  let c1_i32_81 : BitVec 32 := 1#32
  let arg13 : BitVec 32 := Scf.iv v138 c1_i32_81 k0_t4
  let v227 : BitVec 32 := Scalar.muli c2_i32_141 arg13
  let v228 : BitVec 32 := Scalar.addi v227 c1_i32_142
  let v236 : BitVec 32 := Scalar.subi v228 v0
  let c1_i32_147 : BitVec 32 := 1#32
  let v237 : BitVec 32 := Scalar.addi v236 c1_i32_147
  let v238 : BitVec 32 := Scalar.maxsi c0_i32_148 v237
  let v239 : BitVec 32 := Scalar.minsi c4_i32_149 v238
  let v240 : Index := Scalar.indexCast v239
  let c0_150 : Index := 0#32
  let c0_151 : Index := 0#32
  ![v240.toNat, 0, 0]
def k0_mult16 (i : grid0.Coords) (k0_t4 : Fin (k0_t4_loop i).trips) : BitVec 32 :=
  let c2_i32_141 : BitVec 32 := 2#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c1_i32_12 : BitVec 32 := 1#32
  let v30 : BitVec 32 := Scalar.addi v2 c1_i32_12
  let c1_i32_25 : BitVec 32 := 1#32
  let v41 : BitVec 32 := Scalar.addi v30 c1_i32_25
  let c0_i32 : BitVec 32 := 0#32
  let v43 : BitVec 1 := Scalar.cmpi .sgt v41 c0_i32
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32 : BitVec 32 := 2#32
  let c0_i32_27 : BitVec 32 := 0#32
  let v48 : BitVec 1 := Scalar.cmpi .sgt c2_i32 c0_i32_27
  let v49 : BitVec 32 := Scalar.extui v48
  let c0_i32_28 : BitVec 32 := 0#32
  let v50 : BitVec 1 := Scalar.cmpi .slt c2_i32 c0_i32_28
  let v51 : BitVec 32 := Scalar.extui v50
  let v52 : BitVec 32 := Scalar.subi v49 v51
  let v53 : BitVec 1 := Scalar.cmpi .ne v47 v52
  let v54 : BitVec 32 := Scalar.remsi v41 c2_i32
  let c0_i32_29 : BitVec 32 := 0#32
  let v55 : BitVec 1 := Scalar.cmpi .ne v54 c0_i32_29
  let v56 : BitVec 1 := Scalar.andi v53 v55
  let v42 : BitVec 32 := Scalar.divsi v41 c2_i32
  let c1_i32_30 : BitVec 32 := 1#32
  let v57 : BitVec 32 := Scalar.subi v42 c1_i32_30
  let v58 : BitVec 32 := Scalar.select v56 v57 v42
  let c0_i32_74 : BitVec 32 := 0#32
  let c1_i32_66 : BitVec 32 := 1#32
  let v107 : BitVec 32 := Scalar.subi v0 c1_i32_66
  let c0_i32_68 : BitVec 32 := 0#32
  let v109 : BitVec 1 := Scalar.cmpi .sgt v107 c0_i32_68
  let v110 : BitVec 32 := Scalar.extui v109
  let c0_i32_69 : BitVec 32 := 0#32
  let v111 : BitVec 1 := Scalar.cmpi .slt v107 c0_i32_69
  let v112 : BitVec 32 := Scalar.extui v111
  let v113 : BitVec 32 := Scalar.subi v110 v112
  let c2_i32_67 : BitVec 32 := 2#32
  let c0_i32_70 : BitVec 32 := 0#32
  let v114 : BitVec 1 := Scalar.cmpi .sgt c2_i32_67 c0_i32_70
  let v115 : BitVec 32 := Scalar.extui v114
  let c0_i32_71 : BitVec 32 := 0#32
  let v116 : BitVec 1 := Scalar.cmpi .slt c2_i32_67 c0_i32_71
  let v117 : BitVec 32 := Scalar.extui v116
  let v118 : BitVec 32 := Scalar.subi v115 v117
  let v119 : BitVec 1 := Scalar.cmpi .ne v113 v118
  let v120 : BitVec 32 := Scalar.remsi v107 c2_i32_67
  let c0_i32_72 : BitVec 32 := 0#32
  let v121 : BitVec 1 := Scalar.cmpi .ne v120 c0_i32_72
  let v122 : BitVec 1 := Scalar.andi v119 v121
  let v108 : BitVec 32 := Scalar.divsi v107 c2_i32_67
  let c1_i32_73 : BitVec 32 := 1#32
  let v123 : BitVec 32 := Scalar.subi v108 c1_i32_73
  let v124 : BitVec 32 := Scalar.select v122 v123 v108
  let v125 : BitVec 32 := Scalar.maxsi c0_i32_74 v124
  let v126 : BitVec 32 := Scalar.minsi v58 v125
  let v134 : BitVec 32 := Scalar.subi v58 v126
  let c1_i32_79 : BitVec 32 := 1#32
  let v136 : BitVec 32 := Scalar.divsi v134 c1_i32_79
  let v137 : BitVec 32 := Scalar.muli v136 c1_i32_79
  let v138 : BitVec 32 := Scalar.addi v126 v137
  let c1_i32_81 : BitVec 32 := 1#32
  let arg13 : BitVec 32 := Scf.iv v138 c1_i32_81 k0_t4
  let v227 : BitVec 32 := Scalar.muli c2_i32_141 arg13
  let c1_i32_142 : BitVec 32 := 1#32
  let v228 : BitVec 32 := Scalar.addi v227 c1_i32_142
  let v253 : BitVec 32 := Scalar.minsi v228 v2
  let c256_i32_158 : BitVec 32 := 256#32
  let v254 : BitVec 32 := Scalar.muli v253 c256_i32_158
  v254
def k0_off15 (i : grid0.Coords) (k0_t4 : Fin (k0_t4_loop i).trips) : Fin 5 → Nat :=
  let c0_200 : Index := 0#32
  let c0_201 : Index := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c0_i32_199 : BitVec 32 := 0#32
  let c2_i32_141 : BitVec 32 := 2#32
  let c1_i32_12 : BitVec 32 := 1#32
  let v30 : BitVec 32 := Scalar.addi v2 c1_i32_12
  let c1_i32_25 : BitVec 32 := 1#32
  let v41 : BitVec 32 := Scalar.addi v30 c1_i32_25
  let c0_i32 : BitVec 32 := 0#32
  let v43 : BitVec 1 := Scalar.cmpi .sgt v41 c0_i32
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32 : BitVec 32 := 2#32
  let c0_i32_27 : BitVec 32 := 0#32
  let v48 : BitVec 1 := Scalar.cmpi .sgt c2_i32 c0_i32_27
  let v49 : BitVec 32 := Scalar.extui v48
  let c0_i32_28 : BitVec 32 := 0#32
  let v50 : BitVec 1 := Scalar.cmpi .slt c2_i32 c0_i32_28
  let v51 : BitVec 32 := Scalar.extui v50
  let v52 : BitVec 32 := Scalar.subi v49 v51
  let v53 : BitVec 1 := Scalar.cmpi .ne v47 v52
  let v54 : BitVec 32 := Scalar.remsi v41 c2_i32
  let c0_i32_29 : BitVec 32 := 0#32
  let v55 : BitVec 1 := Scalar.cmpi .ne v54 c0_i32_29
  let v56 : BitVec 1 := Scalar.andi v53 v55
  let v42 : BitVec 32 := Scalar.divsi v41 c2_i32
  let c1_i32_30 : BitVec 32 := 1#32
  let v57 : BitVec 32 := Scalar.subi v42 c1_i32_30
  let v58 : BitVec 32 := Scalar.select v56 v57 v42
  let c0_i32_74 : BitVec 32 := 0#32
  let c1_i32_66 : BitVec 32 := 1#32
  let v107 : BitVec 32 := Scalar.subi v0 c1_i32_66
  let c0_i32_68 : BitVec 32 := 0#32
  let v109 : BitVec 1 := Scalar.cmpi .sgt v107 c0_i32_68
  let v110 : BitVec 32 := Scalar.extui v109
  let c0_i32_69 : BitVec 32 := 0#32
  let v111 : BitVec 1 := Scalar.cmpi .slt v107 c0_i32_69
  let v112 : BitVec 32 := Scalar.extui v111
  let v113 : BitVec 32 := Scalar.subi v110 v112
  let c2_i32_67 : BitVec 32 := 2#32
  let c0_i32_70 : BitVec 32 := 0#32
  let v114 : BitVec 1 := Scalar.cmpi .sgt c2_i32_67 c0_i32_70
  let v115 : BitVec 32 := Scalar.extui v114
  let c0_i32_71 : BitVec 32 := 0#32
  let v116 : BitVec 1 := Scalar.cmpi .slt c2_i32_67 c0_i32_71
  let v117 : BitVec 32 := Scalar.extui v116
  let v118 : BitVec 32 := Scalar.subi v115 v117
  let v119 : BitVec 1 := Scalar.cmpi .ne v113 v118
  let v120 : BitVec 32 := Scalar.remsi v107 c2_i32_67
  let c0_i32_72 : BitVec 32 := 0#32
  let v121 : BitVec 1 := Scalar.cmpi .ne v120 c0_i32_72
  let v122 : BitVec 1 := Scalar.andi v119 v121
  let v108 : BitVec 32 := Scalar.divsi v107 c2_i32_67
  let c1_i32_73 : BitVec 32 := 1#32
  let v123 : BitVec 32 := Scalar.subi v108 c1_i32_73
  let v124 : BitVec 32 := Scalar.select v122 v123 v108
  let v125 : BitVec 32 := Scalar.maxsi c0_i32_74 v124
  let v126 : BitVec 32 := Scalar.minsi v58 v125
  let v134 : BitVec 32 := Scalar.subi v58 v126
  let c1_i32_79 : BitVec 32 := 1#32
  let v136 : BitVec 32 := Scalar.divsi v134 c1_i32_79
  let v137 : BitVec 32 := Scalar.muli v136 c1_i32_79
  let v138 : BitVec 32 := Scalar.addi v126 v137
  let c1_i32_81 : BitVec 32 := 1#32
  let arg13 : BitVec 32 := Scf.iv v138 c1_i32_81 k0_t4
  let v227 : BitVec 32 := Scalar.muli c2_i32_141 arg13
  let c1_i32_195 : BitVec 32 := 1#32
  let v317 : BitVec 32 := Scalar.subi v227 c1_i32_195
  let v322 : BitVec 32 := Scalar.maxsi c0_i32_199 v317
  let v323 : BitVec 32 := Scalar.minsi v2 v322
  let v324 : Index := Scalar.indexCast v323
  let c0_202 : Index := 0#32
  let c0_203 : Index := 0#32
  ![0, 0, v324.toNat, 0, 0]
def k0_mult17 (i : grid0.Coords) (k0_t4 : Fin (k0_t4_loop i).trips) : BitVec 32 :=
  let c2_i32_141 : BitVec 32 := 2#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c1_i32_12 : BitVec 32 := 1#32
  let v30 : BitVec 32 := Scalar.addi v2 c1_i32_12
  let c1_i32_25 : BitVec 32 := 1#32
  let v41 : BitVec 32 := Scalar.addi v30 c1_i32_25
  let c0_i32 : BitVec 32 := 0#32
  let v43 : BitVec 1 := Scalar.cmpi .sgt v41 c0_i32
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32 : BitVec 32 := 2#32
  let c0_i32_27 : BitVec 32 := 0#32
  let v48 : BitVec 1 := Scalar.cmpi .sgt c2_i32 c0_i32_27
  let v49 : BitVec 32 := Scalar.extui v48
  let c0_i32_28 : BitVec 32 := 0#32
  let v50 : BitVec 1 := Scalar.cmpi .slt c2_i32 c0_i32_28
  let v51 : BitVec 32 := Scalar.extui v50
  let v52 : BitVec 32 := Scalar.subi v49 v51
  let v53 : BitVec 1 := Scalar.cmpi .ne v47 v52
  let v54 : BitVec 32 := Scalar.remsi v41 c2_i32
  let c0_i32_29 : BitVec 32 := 0#32
  let v55 : BitVec 1 := Scalar.cmpi .ne v54 c0_i32_29
  let v56 : BitVec 1 := Scalar.andi v53 v55
  let v42 : BitVec 32 := Scalar.divsi v41 c2_i32
  let c1_i32_30 : BitVec 32 := 1#32
  let v57 : BitVec 32 := Scalar.subi v42 c1_i32_30
  let v58 : BitVec 32 := Scalar.select v56 v57 v42
  let c0_i32_74 : BitVec 32 := 0#32
  let c1_i32_66 : BitVec 32 := 1#32
  let v107 : BitVec 32 := Scalar.subi v0 c1_i32_66
  let c0_i32_68 : BitVec 32 := 0#32
  let v109 : BitVec 1 := Scalar.cmpi .sgt v107 c0_i32_68
  let v110 : BitVec 32 := Scalar.extui v109
  let c0_i32_69 : BitVec 32 := 0#32
  let v111 : BitVec 1 := Scalar.cmpi .slt v107 c0_i32_69
  let v112 : BitVec 32 := Scalar.extui v111
  let v113 : BitVec 32 := Scalar.subi v110 v112
  let c2_i32_67 : BitVec 32 := 2#32
  let c0_i32_70 : BitVec 32 := 0#32
  let v114 : BitVec 1 := Scalar.cmpi .sgt c2_i32_67 c0_i32_70
  let v115 : BitVec 32 := Scalar.extui v114
  let c0_i32_71 : BitVec 32 := 0#32
  let v116 : BitVec 1 := Scalar.cmpi .slt c2_i32_67 c0_i32_71
  let v117 : BitVec 32 := Scalar.extui v116
  let v118 : BitVec 32 := Scalar.subi v115 v117
  let v119 : BitVec 1 := Scalar.cmpi .ne v113 v118
  let v120 : BitVec 32 := Scalar.remsi v107 c2_i32_67
  let c0_i32_72 : BitVec 32 := 0#32
  let v121 : BitVec 1 := Scalar.cmpi .ne v120 c0_i32_72
  let v122 : BitVec 1 := Scalar.andi v119 v121
  let v108 : BitVec 32 := Scalar.divsi v107 c2_i32_67
  let c1_i32_73 : BitVec 32 := 1#32
  let v123 : BitVec 32 := Scalar.subi v108 c1_i32_73
  let v124 : BitVec 32 := Scalar.select v122 v123 v108
  let v125 : BitVec 32 := Scalar.maxsi c0_i32_74 v124
  let v126 : BitVec 32 := Scalar.minsi v58 v125
  let v134 : BitVec 32 := Scalar.subi v58 v126
  let c1_i32_79 : BitVec 32 := 1#32
  let v136 : BitVec 32 := Scalar.divsi v134 c1_i32_79
  let v137 : BitVec 32 := Scalar.muli v136 c1_i32_79
  let v138 : BitVec 32 := Scalar.addi v126 v137
  let c1_i32_81 : BitVec 32 := 1#32
  let arg13 : BitVec 32 := Scf.iv v138 c1_i32_81 k0_t4
  let v227 : BitVec 32 := Scalar.muli c2_i32_141 arg13
  let c2_i32_228 : BitVec 32 := 2#32
  let v350 : BitVec 32 := Scalar.addi v227 c2_i32_228
  let v351 : BitVec 32 := Scalar.minsi v350 v2
  let c256_i32_229 : BitVec 32 := 256#32
  let v352 : BitVec 32 := Scalar.muli v351 c256_i32_229
  v352
def k0_mult18 (i : grid0.Coords) (k0_t4 : Fin (k0_t4_loop i).trips) : BitVec 32 :=
  let c2_i32_141 : BitVec 32 := 2#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c1_i32_12 : BitVec 32 := 1#32
  let v30 : BitVec 32 := Scalar.addi v2 c1_i32_12
  let c1_i32_25 : BitVec 32 := 1#32
  let v41 : BitVec 32 := Scalar.addi v30 c1_i32_25
  let c0_i32 : BitVec 32 := 0#32
  let v43 : BitVec 1 := Scalar.cmpi .sgt v41 c0_i32
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32 : BitVec 32 := 2#32
  let c0_i32_27 : BitVec 32 := 0#32
  let v48 : BitVec 1 := Scalar.cmpi .sgt c2_i32 c0_i32_27
  let v49 : BitVec 32 := Scalar.extui v48
  let c0_i32_28 : BitVec 32 := 0#32
  let v50 : BitVec 1 := Scalar.cmpi .slt c2_i32 c0_i32_28
  let v51 : BitVec 32 := Scalar.extui v50
  let v52 : BitVec 32 := Scalar.subi v49 v51
  let v53 : BitVec 1 := Scalar.cmpi .ne v47 v52
  let v54 : BitVec 32 := Scalar.remsi v41 c2_i32
  let c0_i32_29 : BitVec 32 := 0#32
  let v55 : BitVec 1 := Scalar.cmpi .ne v54 c0_i32_29
  let v56 : BitVec 1 := Scalar.andi v53 v55
  let v42 : BitVec 32 := Scalar.divsi v41 c2_i32
  let c1_i32_30 : BitVec 32 := 1#32
  let v57 : BitVec 32 := Scalar.subi v42 c1_i32_30
  let v58 : BitVec 32 := Scalar.select v56 v57 v42
  let c0_i32_74 : BitVec 32 := 0#32
  let c1_i32_66 : BitVec 32 := 1#32
  let v107 : BitVec 32 := Scalar.subi v0 c1_i32_66
  let c0_i32_68 : BitVec 32 := 0#32
  let v109 : BitVec 1 := Scalar.cmpi .sgt v107 c0_i32_68
  let v110 : BitVec 32 := Scalar.extui v109
  let c0_i32_69 : BitVec 32 := 0#32
  let v111 : BitVec 1 := Scalar.cmpi .slt v107 c0_i32_69
  let v112 : BitVec 32 := Scalar.extui v111
  let v113 : BitVec 32 := Scalar.subi v110 v112
  let c2_i32_67 : BitVec 32 := 2#32
  let c0_i32_70 : BitVec 32 := 0#32
  let v114 : BitVec 1 := Scalar.cmpi .sgt c2_i32_67 c0_i32_70
  let v115 : BitVec 32 := Scalar.extui v114
  let c0_i32_71 : BitVec 32 := 0#32
  let v116 : BitVec 1 := Scalar.cmpi .slt c2_i32_67 c0_i32_71
  let v117 : BitVec 32 := Scalar.extui v116
  let v118 : BitVec 32 := Scalar.subi v115 v117
  let v119 : BitVec 1 := Scalar.cmpi .ne v113 v118
  let v120 : BitVec 32 := Scalar.remsi v107 c2_i32_67
  let c0_i32_72 : BitVec 32 := 0#32
  let v121 : BitVec 1 := Scalar.cmpi .ne v120 c0_i32_72
  let v122 : BitVec 1 := Scalar.andi v119 v121
  let v108 : BitVec 32 := Scalar.divsi v107 c2_i32_67
  let c1_i32_73 : BitVec 32 := 1#32
  let v123 : BitVec 32 := Scalar.subi v108 c1_i32_73
  let v124 : BitVec 32 := Scalar.select v122 v123 v108
  let v125 : BitVec 32 := Scalar.maxsi c0_i32_74 v124
  let v126 : BitVec 32 := Scalar.minsi v58 v125
  let v134 : BitVec 32 := Scalar.subi v58 v126
  let c1_i32_79 : BitVec 32 := 1#32
  let v136 : BitVec 32 := Scalar.divsi v134 c1_i32_79
  let v137 : BitVec 32 := Scalar.muli v136 c1_i32_79
  let v138 : BitVec 32 := Scalar.addi v126 v137
  let c1_i32_81 : BitVec 32 := 1#32
  let arg13 : BitVec 32 := Scf.iv v138 c1_i32_81 k0_t4
  let v227 : BitVec 32 := Scalar.muli c2_i32_141 arg13
  let c2_i32_228 : BitVec 32 := 2#32
  let v350 : BitVec 32 := Scalar.addi v227 c2_i32_228
  let v375 : BitVec 32 := Scalar.minsi v350 v2
  let c256_i32_244 : BitVec 32 := 256#32
  let v376 : BitVec 32 := Scalar.muli v375 c256_i32_244
  v376
def k0_off16 (i : grid0.Coords) (k0_t4 : Fin (k0_t4_loop i).trips) : Fin 5 → Nat :=
  let c0_286 : Index := 0#32
  let c0_287 : Index := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c0_i32_285 : BitVec 32 := 0#32
  let c2_i32_141 : BitVec 32 := 2#32
  let c1_i32_12 : BitVec 32 := 1#32
  let v30 : BitVec 32 := Scalar.addi v2 c1_i32_12
  let c1_i32_25 : BitVec 32 := 1#32
  let v41 : BitVec 32 := Scalar.addi v30 c1_i32_25
  let c0_i32 : BitVec 32 := 0#32
  let v43 : BitVec 1 := Scalar.cmpi .sgt v41 c0_i32
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32 : BitVec 32 := 2#32
  let c0_i32_27 : BitVec 32 := 0#32
  let v48 : BitVec 1 := Scalar.cmpi .sgt c2_i32 c0_i32_27
  let v49 : BitVec 32 := Scalar.extui v48
  let c0_i32_28 : BitVec 32 := 0#32
  let v50 : BitVec 1 := Scalar.cmpi .slt c2_i32 c0_i32_28
  let v51 : BitVec 32 := Scalar.extui v50
  let v52 : BitVec 32 := Scalar.subi v49 v51
  let v53 : BitVec 1 := Scalar.cmpi .ne v47 v52
  let v54 : BitVec 32 := Scalar.remsi v41 c2_i32
  let c0_i32_29 : BitVec 32 := 0#32
  let v55 : BitVec 1 := Scalar.cmpi .ne v54 c0_i32_29
  let v56 : BitVec 1 := Scalar.andi v53 v55
  let v42 : BitVec 32 := Scalar.divsi v41 c2_i32
  let c1_i32_30 : BitVec 32 := 1#32
  let v57 : BitVec 32 := Scalar.subi v42 c1_i32_30
  let v58 : BitVec 32 := Scalar.select v56 v57 v42
  let c0_i32_74 : BitVec 32 := 0#32
  let c1_i32_66 : BitVec 32 := 1#32
  let v107 : BitVec 32 := Scalar.subi v0 c1_i32_66
  let c0_i32_68 : BitVec 32 := 0#32
  let v109 : BitVec 1 := Scalar.cmpi .sgt v107 c0_i32_68
  let v110 : BitVec 32 := Scalar.extui v109
  let c0_i32_69 : BitVec 32 := 0#32
  let v111 : BitVec 1 := Scalar.cmpi .slt v107 c0_i32_69
  let v112 : BitVec 32 := Scalar.extui v111
  let v113 : BitVec 32 := Scalar.subi v110 v112
  let c2_i32_67 : BitVec 32 := 2#32
  let c0_i32_70 : BitVec 32 := 0#32
  let v114 : BitVec 1 := Scalar.cmpi .sgt c2_i32_67 c0_i32_70
  let v115 : BitVec 32 := Scalar.extui v114
  let c0_i32_71 : BitVec 32 := 0#32
  let v116 : BitVec 1 := Scalar.cmpi .slt c2_i32_67 c0_i32_71
  let v117 : BitVec 32 := Scalar.extui v116
  let v118 : BitVec 32 := Scalar.subi v115 v117
  let v119 : BitVec 1 := Scalar.cmpi .ne v113 v118
  let v120 : BitVec 32 := Scalar.remsi v107 c2_i32_67
  let c0_i32_72 : BitVec 32 := 0#32
  let v121 : BitVec 1 := Scalar.cmpi .ne v120 c0_i32_72
  let v122 : BitVec 1 := Scalar.andi v119 v121
  let v108 : BitVec 32 := Scalar.divsi v107 c2_i32_67
  let c1_i32_73 : BitVec 32 := 1#32
  let v123 : BitVec 32 := Scalar.subi v108 c1_i32_73
  let v124 : BitVec 32 := Scalar.select v122 v123 v108
  let v125 : BitVec 32 := Scalar.maxsi c0_i32_74 v124
  let v126 : BitVec 32 := Scalar.minsi v58 v125
  let v134 : BitVec 32 := Scalar.subi v58 v126
  let c1_i32_79 : BitVec 32 := 1#32
  let v136 : BitVec 32 := Scalar.divsi v134 c1_i32_79
  let v137 : BitVec 32 := Scalar.muli v136 c1_i32_79
  let v138 : BitVec 32 := Scalar.addi v126 v137
  let c1_i32_81 : BitVec 32 := 1#32
  let arg13 : BitVec 32 := Scf.iv v138 c1_i32_81 k0_t4
  let v227 : BitVec 32 := Scalar.muli c2_i32_141 arg13
  let v444 : BitVec 32 := Scalar.maxsi c0_i32_285 v227
  let v445 : BitVec 32 := Scalar.minsi v2 v444
  let v446 : Index := Scalar.indexCast v445
  let c0_288 : Index := 0#32
  let c0_289 : Index := 0#32
  ![0, 0, v446.toNat, 0, 0]
def k0_off17 (i : grid0.Coords) : Fin 5 → Nat :=
  let c0_88 : Index := 0#32
  let c0_89 : Index := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c1_i32 : BitVec 32 := 1#32
  let v2 : BitVec 32 := Scalar.subi v1 c1_i32
  let c0_i32_87 : BitVec 32 := 0#32
  let c2_i32_82 : BitVec 32 := 2#32
  let c1_i32_12 : BitVec 32 := 1#32
  let v30 : BitVec 32 := Scalar.addi v2 c1_i32_12
  let c1_i32_25 : BitVec 32 := 1#32
  let v41 : BitVec 32 := Scalar.addi v30 c1_i32_25
  let c0_i32 : BitVec 32 := 0#32
  let v43 : BitVec 1 := Scalar.cmpi .sgt v41 c0_i32
  let v44 : BitVec 32 := Scalar.extui v43
  let c0_i32_26 : BitVec 32 := 0#32
  let v45 : BitVec 1 := Scalar.cmpi .slt v41 c0_i32_26
  let v46 : BitVec 32 := Scalar.extui v45
  let v47 : BitVec 32 := Scalar.subi v44 v46
  let c2_i32 : BitVec 32 := 2#32
  let c0_i32_27 : BitVec 32 := 0#32
  let v48 : BitVec 1 := Scalar.cmpi .sgt c2_i32 c0_i32_27
  let v49 : BitVec 32 := Scalar.extui v48
  let c0_i32_28 : BitVec 32 := 0#32
  let v50 : BitVec 1 := Scalar.cmpi .slt c2_i32 c0_i32_28
  let v51 : BitVec 32 := Scalar.extui v50
  let v52 : BitVec 32 := Scalar.subi v49 v51
  let v53 : BitVec 1 := Scalar.cmpi .ne v47 v52
  let v54 : BitVec 32 := Scalar.remsi v41 c2_i32
  let c0_i32_29 : BitVec 32 := 0#32
  let v55 : BitVec 1 := Scalar.cmpi .ne v54 c0_i32_29
  let v56 : BitVec 1 := Scalar.andi v53 v55
  let v42 : BitVec 32 := Scalar.divsi v41 c2_i32
  let c1_i32_30 : BitVec 32 := 1#32
  let v57 : BitVec 32 := Scalar.subi v42 c1_i32_30
  let v58 : BitVec 32 := Scalar.select v56 v57 v42
  let v141 : BitVec 32 := Scalar.muli c2_i32_82 v58
  let c1_i32_83 : BitVec 32 := 1#32
  let v142 : BitVec 32 := Scalar.subi v141 c1_i32_83
  let v147 : BitVec 32 := Scalar.maxsi c0_i32_87 v142
  let v148 : BitVec 32 := Scalar.minsi v2 v147
  let v149 : Index := Scalar.indexCast v148
  let c0_90 : Index := 0#32
  let c0_91 : Index := 0#32
  ![0, 0, v149.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x16x144x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S5x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== DiffRefIdeal.lean ====
abbrev S8x4096x2688 : Shape := ⟨3, ![8, 4096, 2688]⟩
abbrev S8x4096x512 : Shape := ⟨3, ![8, 4096, 512]⟩
abbrev S4x64 : Shape := ⟨2, ![4, 64]⟩
abbrev S128 : Shape := ⟨1, ![128]⟩
abbrev S8x4096x8x64 : Shape := ⟨4, ![8, 4096, 8, 64]⟩
abbrev S8x8x4096x64 : Shape := ⟨4, ![8, 8, 4096, 64]⟩
abbrev S8x4096x4x128 : Shape := ⟨4, ![8, 4096, 4, 128]⟩
abbrev S8x4x4096x128 : Shape := ⟨4, ![8, 4, 4096, 128]⟩
abbrev S8x4x4096x64 : Shape := ⟨4, ![8, 4, 4096, 64]⟩
abbrev S1x64 : Shape := ⟨2, ![1, 64]⟩
abbrev S64 : Shape := ⟨1, ![64]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4x4096x4096 : Shape := ⟨4, ![8, 4, 4096, 4096]⟩
abbrev S8x4x4096 : Shape := ⟨3, ![8, 4, 4096]⟩
abbrev S8x4x4096x1 : Shape := ⟨4, ![8, 4, 4096, 1]⟩
abbrev S1x1x1x128 : Shape := ⟨4, ![1, 1, 1, 128]⟩

abbrev nBuf : Space → Nat
  | .hbm => 113
  | .vmem => 0
  | .smem => 0
  | _ => 0

abbrev bufTy : (tb : Table) → Fin (tcTables nBuf tb) → BufTy
  | .hbm, ⟨0, _⟩ => ⟨S8x4096x2688, .f32⟩
  | .hbm, ⟨1, _⟩ => ⟨S8x4096x512, .f32⟩
  | .hbm, ⟨2, _⟩ => ⟨S4x64, .f32⟩
  | .hbm, ⟨3, _⟩ => ⟨S128, .f32⟩
  | .hbm, ⟨4, _⟩ => ⟨S8x4096x512, .f32⟩
  | .hbm, ⟨5, _⟩ => ⟨S8x4096x8x64, .f32⟩
  | .hbm, ⟨6, _⟩ => ⟨S8x8x4096x64, .f32⟩
  | .hbm, ⟨7, _⟩ => ⟨S8x4096x512, .f32⟩
  | .hbm, ⟨8, _⟩ => ⟨S8x4096x8x64, .f32⟩
  | .hbm, ⟨9, _⟩ => ⟨S8x8x4096x64, .f32⟩
  | .hbm, ⟨10, _⟩ => ⟨S8x4096x4x128, .f32⟩
  | .hbm, ⟨11, _⟩ => ⟨S8x4x4096x128, .f32⟩
  | .hbm, ⟨12, _⟩ => ⟨S8x4x4096x64, .f32⟩
  | .hbm, ⟨13, _⟩ => ⟨S8x4x4096x64, .f32⟩
  | .hbm, ⟨14, _⟩ => ⟨S8x4x4096x64, .f32⟩
  | .hbm, ⟨15, _⟩ => ⟨S8x4x4096x64, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1x64, .f32⟩
  | .hbm, ⟨25, _⟩ => ⟨S64, .f32⟩
  | .hbm, ⟨26, _⟩ => ⟨S1x64, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4096, .i32⟩
  | .hbm, ⟨36, _⟩ => ⟨S1x4096, .i32⟩
  | .hbm, ⟨37, _⟩ => ⟨S4096x1, .i32⟩
  | .hbm, ⟨38, _⟩ => ⟨S4096x4096, .i32⟩
  | .hbm, ⟨39, _⟩ => ⟨S4096x4096, .i32⟩
  | .hbm, ⟨40, _⟩ => ⟨S4096x4096, .i1⟩
  | .hbm, ⟨41, _⟩ => ⟨S8x4x4096x4096, .f32⟩
  | .hbm, ⟨42, _⟩ => ⟨S_, .f32⟩
  | .hbm, ⟨43, _⟩ => ⟨S8x4x4096x4096, .f32⟩
  | .hbm, ⟨44, _⟩ => ⟨S8x4x4096x4096, .f32⟩
  | .hbm, ⟨45, _⟩ => ⟨S_, .f32⟩
  | .hbm, ⟨46, _⟩ => ⟨S_, .f32⟩
  | .hbm, ⟨47, _⟩ => ⟨S8x4x4096x4096, .i1⟩
  | .hbm, ⟨48, _⟩ => ⟨S8x4x4096x4096, .f32⟩
  | .hbm, ⟨49, _⟩ => ⟨S8x4x4096x4096, .f32⟩
  | .hbm, ⟨50, _⟩ => ⟨S_, .f32⟩
  | .hbm, ⟨51, _⟩ => ⟨S8x4x4096, .f32⟩
  | .hbm, ⟨52, _⟩ => ⟨S_, .f32⟩
  | .hbm, ⟨53, _⟩ => ⟨S8x4x4096, .f32⟩
  | .hbm, ⟨54, _⟩ => ⟨S8x4x4096, .f32⟩
  | .hbm, ⟨55, _⟩ => ⟨S8x4x4096x1, .f32⟩
  | .hbm, ⟨56, _⟩ => ⟨S8x4x4096x4096, .f32⟩
  | .hbm, ⟨57, _⟩ => ⟨S8x4x4096x4096, .f32⟩
  | .hbm, ⟨58, _⟩ => ⟨S8x4x4096x4096, .f32⟩
  | .hbm, ⟨59, _⟩ => ⟨S_, .f32⟩
  | .hbm, ⟨60, _⟩ => ⟨S8x4x4096, .f32⟩
  | .hbm, ⟨61, _⟩ => ⟨S8x4x4096x1, .f32⟩
  | .hbm, ⟨62, _⟩ => ⟨S8x4x4096x4096, .f32⟩
  | .hbm, ⟨63, _⟩ => ⟨S8x4x4096x4096, .f32⟩
  | .hbm, ⟨64, _⟩ => ⟨S8x4x4096x4096, .f32⟩
  | .hbm, ⟨65, _⟩ => ⟨S_, .f32⟩
  | .hbm, ⟨66, _⟩ => ⟨S8x4x4096x4096, .f32⟩
  | .hbm, ⟨67, _⟩ => ⟨S8x4x4096x4096, .f32⟩
  | .hbm, ⟨68, _⟩ => ⟨S_, .f32⟩
  | .hbm, ⟨69, _⟩ => ⟨S_, .f32⟩
  | .hbm, ⟨70, _⟩ => ⟨S8x4x4096x4096, .i1⟩
  | .hbm, ⟨71, _⟩ => ⟨S8x4x4096x4096, .f32⟩
  | .hbm, ⟨72, _⟩ => ⟨S8x4x4096x4096, .f32⟩
  | .hbm, ⟨73, _⟩ => ⟨S_, .f32⟩
  | .hbm, ⟨74, _⟩ => ⟨S8x4x4096, .f32⟩
  | .hbm, ⟨75, _⟩ => ⟨S_, .f32⟩
  | .hbm, ⟨76, _⟩ => ⟨S8x4x4096, .f32⟩
  | .hbm, ⟨77, _⟩ => ⟨S8x4x4096, .f32⟩
  | .hbm, ⟨78, _⟩ => ⟨S8x4x4096x1, .f32⟩
  | .hbm, ⟨79, _⟩ => ⟨S8x4x4096x4096, .f32⟩
  | .hbm, ⟨80, _⟩ => ⟨S8x4x4096x4096, .f32⟩
  | .hbm, ⟨81, _⟩ => ⟨S8x4x4096x4096, .f32⟩
  | .hbm, ⟨82, _⟩ => ⟨S_, .f32⟩
  | .hbm, ⟨83, _⟩ => ⟨S8x4x4096, .f32⟩
  | .hbm, ⟨84, _⟩ => ⟨S8x4x4096x1, .f32⟩
  | .hbm, ⟨85, _⟩ => ⟨S8x4x4096x4096, .f32⟩
  | .hbm, ⟨86, _⟩ => ⟨S8x4x4096x4096, .f32⟩
  | .hbm, ⟨87, _⟩ => ⟨S8x4x4096x4096, .f32⟩
  | .hbm, ⟨88, _⟩ => ⟨S8x4x4096x4096, .f32⟩
  | .hbm, ⟨89, _⟩ => ⟨S8x4x4096x4096, .f32⟩
  | .hbm, ⟨90, _⟩ => ⟨S8x4x4096x128, .f32⟩
  | .hbm, ⟨91, _⟩ => ⟨S8x4x4096x128, .f32⟩
  | .hbm, ⟨92, _⟩ => ⟨S_, .f32⟩
  | .hbm, ⟨93, _⟩ => ⟨S8x4x4096, .f32⟩
  | .hbm, ⟨94, _⟩ => ⟨S8x4x4096x1, .f32⟩
  | .hbm, ⟨95, _⟩ => ⟨S_, .f32⟩
  | .hbm, ⟨96, _⟩ => ⟨S8x4x4096x1, .f32⟩
  | .hbm, ⟨97, _⟩ => ⟨S8x4x4096x1, .f32⟩
  | .hbm, ⟨98, _⟩ => ⟨S_, .f32⟩
  | .hbm, ⟨99, _⟩ => ⟨S8x4x4096x1, .f32⟩
  | .hbm, ⟨100, _⟩ => ⟨S8x4x4096x1, .f32⟩
  | .hbm, ⟨101, _⟩ => ⟨S8x4x4096x1, .f32⟩
  | .hbm, ⟨102, _⟩ => ⟨S8x4x4096x128, .f32⟩
  | .hbm, ⟨103, _⟩ => ⟨S8x4x4096x128, .f32⟩
  | .hbm, ⟨104, _⟩ => ⟨S1x1x1x128, .f32⟩
  | .hbm, ⟨105, _⟩ => ⟨S8x4x4096x128, .f32⟩
  | .hbm, ⟨106, _⟩ => ⟨S8x4x4096x128, .f32⟩
  | .hbm, ⟨107, _⟩ => ⟨S_, .f32⟩
  | .hbm, ⟨108, _⟩ => ⟨S8x4x4096x128, .f32⟩
  | .hbm, ⟨109, _⟩ => ⟨S8x4x4096x128, .f32⟩
  | .hbm, ⟨110, _⟩ => ⟨S8x4096x4x128, .f32⟩
  | .hbm, ⟨111, _⟩ => ⟨S8x4096x512, .f32⟩
  | .hbm, ⟨112, _⟩ => ⟨S8x4096x512, .bf16⟩
  | _, _ => ⟨S8x4096x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_cst_13 : Ref sig .tc := ⟨.hbm, 95, rfl⟩
abbrev main_v71 : Ref sig .tc := ⟨.hbm, 96, rfl⟩
abbrev main_v72 : Ref sig .tc := ⟨.hbm, 97, rfl⟩
abbrev main_cst_14 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_15 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩

abbrev nD : Nat := 1
abbrev τ : Topo := Topo.v7x

variable {F : FTy → Type} [FloatOps F]
-- ==== Ffn.lean ====
abbrev S32768x1024 : Shape := ⟨2, ![32768, 1024]⟩
abbrev S32768x256 : Shape := ⟨2, ![32768, 256]⟩
abbrev S32768x512 : Shape := ⟨2, ![32768, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512x256 : Shape := ⟨2, ![512, 256]⟩
abbrev S512x512 : Shape := ⟨2, ![512, 512]⟩
abbrev S256x1024 : Shape := ⟨2, ![256, 1024]⟩
abbrev S512 : Shape := ⟨1, ![512]⟩
abbrev S512x1 : Shape := ⟨2, ![512, 1]⟩
abbrev S1024x704 : Shape := ⟨2, ![1024, 704]⟩
abbrev S512x704 : Shape := ⟨2, ![512, 704]⟩
abbrev S704x1024 : Shape := ⟨2, ![704, 1024]⟩

abbrev nBuf : Space → Nat
  | .hbm => 18
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x512, .f32⟩
  | .hbm, ⟨3, _⟩ => ⟨S32768x256, .f32⟩
  | .hbm, ⟨4, _⟩ => ⟨S1024x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S32768x256, .bf16⟩
  | .hbm, ⟨10, _⟩ => ⟨S32768x512, .bf16⟩
  | .hbm, ⟨11, _⟩ => ⟨S32768x256, .bf16⟩
  | .hbm, ⟨12, _⟩ => ⟨S1024x1024, .bf16⟩
  | .hbm, ⟨13, _⟩ => ⟨S1x1024, .f32⟩
  | .hbm, ⟨14, _⟩ => ⟨S1024x2816, .bf16⟩
  | .hbm, ⟨15, _⟩ => ⟨S1024x2816, .bf16⟩
  | .hbm, ⟨16, _⟩ => ⟨S2816x1024, .bf16⟩
  | .hbm, ⟨17, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S1024x1024, .bf16⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S512x1024, .f32⟩
  | .local _ .vmem, ⟨14, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnRefIdeal.lean ====
abbrev S32768x1024 : Shape := ⟨2, ![32768, 1024]⟩
abbrev S32768x256 : Shape := ⟨2, ![32768, 256]⟩
abbrev S32768x512 : Shape := ⟨2, ![32768, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 42
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x512, .f32⟩
  | .hbm, ⟨3, _⟩ => ⟨S32768x256, .f32⟩
  | .hbm, ⟨4, _⟩ => ⟨S1024x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S1x1024, .f32⟩
  | .hbm, ⟨26, _⟩ => ⟨S32768x1024, .f32⟩
  | .hbm, ⟨27, _⟩ => ⟨S32768x1024, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S_, .f32⟩
  | .hbm, ⟨32, _⟩ => ⟨S32768x2816, .f32⟩
  | .hbm, ⟨33, _⟩ => ⟨S32768x2816, .f32⟩
  | .hbm, ⟨34, _⟩ => ⟨S_, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S32768x1024, .f32⟩
  | .hbm, ⟨41, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩

abbrev nD : Nat := 1
abbrev τ : Topo := Topo.v7x

variable {F : FTy → Type} [FloatOps F]
-- ==== Inp.lean ====
abbrev S32768x1024 : Shape := ⟨2, ![32768, 1024]⟩
abbrev S1024 : Shape := ⟨1, ![1024]⟩
abbrev S1024x3656 : Shape := ⟨2, ![1024, 3656]⟩
abbrev S3x64 : Shape := ⟨2, ![3, 64]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S1x64 : Shape := ⟨2, ![1, 64]⟩
abbrev S64 : Shape := ⟨1, ![64]⟩
abbrev S6x64 : Shape := ⟨2, ![6, 64]⟩
abbrev S1x6x1x64 : Shape := ⟨4, ![1, 6, 1, 64]⟩
abbrev S1x6x2x64 : Shape := ⟨4, ![1, 6, 2, 64]⟩
abbrev S6x128 : Shape := ⟨2, ![6, 128]⟩
abbrev S2x128 : Shape := ⟨2, ![2, 128]⟩
abbrev S8x128 : Shape := ⟨2, ![8, 128]⟩
abbrev S1x1024 : Shape := ⟨2, ![1, 1024]⟩
abbrev S1024x64 : Shape := ⟨2, ![1024, 64]⟩
abbrev S1024x8 : Shape := ⟨2, ![1024, 8]⟩
abbrev S1024x120 : Shape := ⟨2, ![1024, 120]⟩
abbrev S1024x3584 : Shape := ⟨2, ![1024, 3584]⟩
abbrev S1024x3840 : Shape := ⟨2, ![1024, 3840]⟩
abbrev S32768x2688 : Shape := ⟨2, ![32768, 2688]⟩
abbrev S8x8x16x128x256 : Shape := ⟨5, ![8, 8, 16, 128, 256]⟩
abbrev S8x4x16x144x256 : Shape := ⟨5, ![8, 4, 16, 144, 256]⟩
abbrev S32768x128 : Shape := ⟨2, ![32768, 128]⟩
abbrev S512x1024 : Shape := ⟨2, ![512, 1024]⟩
abbrev S512x128 : Shape := ⟨2, ![512, 128]⟩
abbrev S512x2688 : Shape := ⟨2, ![512, 2688]⟩
abbrev S1x8x2x128x256 : Shape := ⟨5, ![1, 8, 2, 128, 256]⟩
abbrev S1x4x2x144x256 : Shape := ⟨5, ![1, 4, 2, 144, 256]⟩
abbrev S512 : Shape := ⟨1, ![512]⟩
abbrev S512x1 : Shape := ⟨2, ![512, 1]⟩
abbrev S1x128 : Shape := ⟨2, ![1, 128]⟩
abbrev S128x128 : Shape := ⟨2, ![128, 128]⟩
abbrev S64x256 : Shape := ⟨2, ![64, 256]⟩
abbrev S1024x512 : Shape := ⟨2, ![1024, 512]⟩
abbrev S512x512 : Shape := ⟨2, ![512, 512]⟩
abbrev S256x128 : Shape := ⟨2, ![256, 128]⟩
abbrev S128x256 : Shape := ⟨2, ![128, 256]⟩
abbrev S1x1x1x64x256 : Shape := ⟨5, ![1, 1, 1, 64, 256]⟩
abbrev S1x1x1x128x256 : Shape := ⟨5, ![1, 1, 1, 128, 256]⟩
abbrev S16x256 : Shape := ⟨2, ![16, 256]⟩
abbrev S1x1x1x16x256 : Shape := ⟨5, ![1, 1, 1, 16, 256]⟩
abbrev S1024x256 : Shape := ⟨2, ![1024, 256]⟩
abbrev S512x256 : Shape := ⟨2, ![512, 256]⟩

abbrev nBuf : Space → Nat
  | .hbm => 72
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3656, .f32⟩
  | .hbm, ⟨3, _⟩ => ⟨S3x64, .f32⟩
  | .hbm, ⟨4, _⟩ => ⟨S3x64, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S4096, .f32⟩
  | .hbm, ⟨22, _⟩ => ⟨S4096x1, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S1x4096x1x32, .f32⟩
  | .hbm, ⟨30, _⟩ => ⟨S1x4096x4x32, .f32⟩
  | .hbm, ⟨31, _⟩ => ⟨S4096x128, .f32⟩
  | .hbm, ⟨32, _⟩ => ⟨S4096x32, .f32⟩
  | .hbm, ⟨33, _⟩ => ⟨S4096x32, .f32⟩
  | .hbm, ⟨34, _⟩ => ⟨S4096x128, .f32⟩
  | .hbm, ⟨35, _⟩ => ⟨S1x64, .f32⟩
  | .hbm, ⟨36, _⟩ => ⟨S64, .f32⟩
  | .hbm, ⟨37, _⟩ => ⟨S1x64, .f32⟩
  | .hbm, ⟨38, _⟩ => ⟨S64, .f32⟩
  | .hbm, ⟨39, _⟩ => ⟨S1x64, .f32⟩
  | .hbm, ⟨40, _⟩ => ⟨S64, .f32⟩
  | .hbm, ⟨41, _⟩ => ⟨S1x64, .f32⟩
  | .hbm, ⟨42, _⟩ => ⟨S64, .f32⟩
  | .hbm, ⟨43, _⟩ => ⟨S1x64, .f32⟩
  | .hbm, ⟨44, _⟩ => ⟨S64, .f32⟩
  | .hbm, ⟨45, _⟩ => ⟨S1x64, .f32⟩
  | .hbm, ⟨46, _⟩ => ⟨S64, .f32⟩
  | .hbm, ⟨47, _⟩ => ⟨S1x64, .f32⟩
  | .hbm, ⟨48, _⟩ => ⟨S1x64, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S1x64, .f32⟩
  | .hbm, ⟨53, _⟩ => ⟨S6x64, .f32⟩
  | .hbm, ⟨54, _⟩ => ⟨S1x6x1x64, .f32⟩
  | .hbm, ⟨55, _⟩ => ⟨S1x6x2x64, .f32⟩
  | .hbm, ⟨56, _⟩ => ⟨S6x128, .f32⟩
  | .hbm, ⟨57, _⟩ => ⟨S_, .f32⟩
  | .hbm, ⟨58, _⟩ => ⟨S2x128, .f32⟩
  | .hbm, ⟨59, _⟩ => ⟨S8x128, .f32⟩
  | .hbm, ⟨60, _⟩ => ⟨S1x1024, .f32⟩
  | .hbm, ⟨61, _⟩ => ⟨S1024x64, .f32⟩
  | .hbm, ⟨62, _⟩ => ⟨S1024x8, .f32⟩
  | .hbm, ⟨63, _⟩ => ⟨S_, .f32⟩
  | .hbm, ⟨64, _⟩ => ⟨S1024x120, .f32⟩
  | .hbm, ⟨65, _⟩ => ⟨S1024x3584, .f32⟩
  | .hbm, ⟨66, _⟩ => ⟨S1024x3840, .f32⟩
  | .hbm, ⟨67, _⟩ => ⟨S1024x3840, .bf16⟩
  | .hbm, ⟨68, _⟩ => ⟨S32768x2688, .bf16⟩
  | .hbm, ⟨69, _⟩ => ⟨S8x8x16x128x256, .bf16⟩
  | .hbm, ⟨70, _⟩ => ⟨S8x4x16x144x256, .bf16⟩
  | .hbm, ⟨71, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3840, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S8x128, .f32⟩
  | .local _ .vmem, ⟨9, _⟩ => ⟨S512x2688, .bf16⟩
  | .local _ .vmem, ⟨10, _⟩ => ⟨S512x2688, .bf16⟩
  | .local _ .vmem, ⟨11, _⟩ => ⟨S1x8x2x128x256, .bf16⟩
  | .local _ .vmem, ⟨12, _⟩ => ⟨S1x8x2x128x256, .bf16⟩
  | .local _ .vmem, ⟨13, _⟩ => ⟨S1x4x2x144x256, .bf16⟩
  | .local _ .vmem, ⟨14, _⟩ => ⟨S1x4x2x144x256, .bf16⟩
  | .local _ .vmem, ⟨15, _⟩ => ⟨S512x128, .f32⟩
  | .local _ .vmem, ⟨16, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_4 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_5 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56_0 : Ref sig .tc := ⟨.hbm, 68, rfl⟩
abbrev main_v56_1 : Ref sig .tc := ⟨.hbm, 69, rfl⟩
abbrev main_v56_2 : Ref sig .tc := ⟨.hbm, 70, rfl⟩
abbrev main_v56_3 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_8 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2688 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x2x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x2x144x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InpIdeal.lean ====
variable {F : FTy → Type} [FloatOps F] [Named F]
def κ : String → Option EReal := fun
  | "q_scale" => some (((1 / 8) * (Real.log 2)⁻¹ : ℝ) : EReal)
  | _ => none
-- ==== InpRefIdeal.lean ====
abbrev S32768x1024 : Shape := ⟨2, ![32768, 1024]⟩
abbrev S1024 : Shape := ⟨1, ![1024]⟩
abbrev S1024x3656 : Shape := ⟨2, ![1024, 3656]⟩
abbrev S3x64 : Shape := ⟨2, ![3, 64]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S32768 : Shape := ⟨1, ![32768]⟩
abbrev S32768x1 : Shape := ⟨2, ![32768, 1]⟩
abbrev S1x1024 : Shape := ⟨2, ![1, 1024]⟩
abbrev S32768x3656 : Shape := ⟨2, ![32768, 3656]⟩
abbrev S8x4096x3656 : Shape := ⟨3, ![8, 4096, 3656]⟩
abbrev S8x4096x256 : Shape := ⟨3, ![8, 4096, 256]⟩
abbrev S8x4096x512 : Shape := ⟨3, ![8, 4096, 512]⟩
abbrev S8x4096x64 : Shape := ⟨3, ![8, 4096, 64]⟩
abbrev S8x4096x8 : Shape := ⟨3, ![8, 4096, 8]⟩
abbrev S8x4096x8x64 : Shape := ⟨4, ![8, 4096, 8, 64]⟩
abbrev S8x8x4096x64 : Shape := ⟨4, ![8, 8, 4096, 64]⟩
abbrev S8x8x4096x32 : Shape := ⟨4, ![8, 8, 4096, 32]⟩
abbrev S1x1x4096x32 : Shape := ⟨4, ![1, 1, 4096, 32]⟩
abbrev S8x4096x32 : Shape := ⟨3, ![8, 4096, 32]⟩
abbrev S1x4096x32 : Shape := ⟨3, ![1, 4096, 32]⟩
abbrev S1x64 : Shape := ⟨2, ![1, 64]⟩
abbrev S64 : Shape := ⟨1, ![64]⟩
abbrev S8x4096x4x64 : Shape := ⟨4, ![8, 4096, 4, 64]⟩
abbrev S8x4x4096x64 : Shape := ⟨4, ![8, 4, 4096, 64]⟩
abbrev S8x4x4096 : Shape := ⟨3, ![8, 4, 4096]⟩
abbrev S8x4x4096x1 : Shape := ⟨4, ![8, 4, 4096, 1]⟩
abbrev S1x1x1x64 : Shape := ⟨4, ![1, 1, 1, 64]⟩
abbrev S8x4x4096x32 : Shape := ⟨4, ![8, 4, 4096, 32]⟩
abbrev S8x8x4096 : Shape := ⟨3, ![8, 8, 4096]⟩
abbrev S8x8x4096x1 : Shape := ⟨4, ![8, 8, 4096, 1]⟩
abbrev S8x4096x2688 : Shape := ⟨3, ![8, 4096, 2688]⟩
abbrev S8x16x256x4x64 : Shape := ⟨5, ![8, 16, 256, 4, 64]⟩
abbrev S8x4x16x64x256 : Shape := ⟨5, ![8, 4, 16, 64, 256]⟩
abbrev S8x8x16x64x256 : Shape := ⟨5, ![8, 8, 16, 64, 256]⟩
abbrev S8x8x16x128x256 : Shape := ⟨5, ![8, 8, 16, 128, 256]⟩
abbrev S8x16x256x4x128 : Shape := ⟨5, ![8, 16, 256, 4, 128]⟩
abbrev S8x4x16x128x256 : Shape := ⟨5, ![8, 4, 16, 128, 256]⟩
abbrev S8x4x16x16x256 : Shape := ⟨5, ![8, 4, 16, 16, 256]⟩
abbrev S8x4x16x144x256 : Shape := ⟨5, ![8, 4, 16, 144, 256]⟩
abbrev S8x4096x120 : Shape := ⟨3, ![8, 4096, 120]⟩
abbrev S8x4096x128 : Shape := ⟨3, ![8, 4096, 128]⟩
abbrev S32768x2688 : Shape := ⟨2, ![32768, 2688]⟩
abbrev S32768x128 : Shape := ⟨2, ![32768, 128]⟩

abbrev nBuf : Space → Nat
  | .hbm => 378
  | .vmem => 0
  | .smem => 0
  | _ => 0

abbrev hbmTy0_0 (i : Nat) : BufTy := match i % 128 with
  | 0 => ⟨S32768x1024, .f32⟩
  | 1 => ⟨S1024, .f32⟩
  | 2 => ⟨S1024x3656, .f32⟩
  | 3 => ⟨S3x64, .f32⟩
  | 4 => ⟨S3x64, .f32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S4096, .f32⟩
  | 22 => ⟨S4096x1, .f32⟩
  | 23 => ⟨S1x32, .f32⟩
  | 24 => ⟨S4096x32, .f32⟩
  | 25 => ⟨S4096x32, .f32⟩
  | 26 => ⟨S4096x32, .f32⟩
  | 27 => ⟨S4096x32, .f32⟩
  | 28 => ⟨S4096x32, .f32⟩
  | 29 => ⟨S32768x1024, .f32⟩
  | 30 => ⟨S_, .f32⟩
  | 31 => ⟨S32768, .f32⟩
  | 32 => ⟨S32768x1, .f32⟩
  | 33 => ⟨S_, .f32⟩
  | 34 => ⟨S32768x1, .f32⟩
  | 35 => ⟨S32768x1, .f32⟩
  | 36 => ⟨S_, .f32⟩
  | 37 => ⟨S32768x1, .f32⟩
  | 38 => ⟨S32768x1, .f32⟩
  | 39 => ⟨S32768x1, .f32⟩
  | 40 => ⟨S32768x1024, .f32⟩
  | 41 => ⟨S32768x1024, .f32⟩
  | 42 => ⟨S1x1024, .f32⟩
  | 43 => ⟨S32768x1024, .f32⟩
  | 44 => ⟨S32768x1024, .f32⟩
  | 45 => ⟨S32768x3656, .f32⟩
  | 46 => ⟨S8x4096x3656, .f32⟩
  | 47 => ⟨S8x4096x256, .f32⟩
  | 48 => ⟨S8x4096x256, .f32⟩
  | 49 => ⟨S8x4096x256, .f32⟩
  | 50 => ⟨S8x4096x512, .f32⟩
  | 51 => ⟨S8x4096x512, .f32⟩
  | 52 => ⟨S8x4096x512, .f32⟩
  | 53 => ⟨S8x4096x256, .f32⟩
  | 54 => ⟨S8x4096x256, .f32⟩
  | 55 => ⟨S8x4096x256, .f32⟩
  | 56 => ⟨S8x4096x512, .f32⟩
  | 57 => ⟨S8x4096x64, .f32⟩
  | 58 => ⟨S8x4096x8, .f32⟩
  | 59 => ⟨S_, .f32⟩
  | 60 => ⟨S_, .f32⟩
  | 61 => ⟨S_, .f32⟩
  | 62 => ⟨S_, .f32⟩
  | 63 => ⟨S8x4096x8x64, .f32⟩
  | 64 => ⟨S8x8x4096x64, .f32⟩
  | 65 => ⟨S8x8x4096x32, .f32⟩
  | 66 => ⟨S8x8x4096x32, .f32⟩
  | 67 => ⟨S1x1x4096x32, .f32⟩
  | 68 => ⟨S8x8x4096x32, .f32⟩
  | 69 => ⟨S8x8x4096x32, .f32⟩
  | 70 => ⟨S1x1x4096x32, .f32⟩
  | 71 => ⟨S8x8x4096x32, .f32⟩
  | 72 => ⟨S8x8x4096x32, .f32⟩
  | 73 => ⟨S8x8x4096x32, .f32⟩
  | 74 => ⟨S1x1x4096x32, .f32⟩
  | 75 => ⟨S8x8x4096x32, .f32⟩
  | 76 => ⟨S8x8x4096x32, .f32⟩
  | 77 => ⟨S1x1x4096x32, .f32⟩
  | 78 => ⟨S8x8x4096x32, .f32⟩
  | 79 => ⟨S8x8x4096x32, .f32⟩
  | 80 => ⟨S8x8x4096x32, .f32⟩
  | 81 => ⟨S8x8x4096x64, .f32⟩
  | 82 => ⟨S8x4096x8x64, .f32⟩
  | 83 => ⟨S8x4096x512, .f32⟩
  | 84 => ⟨S_, .f32⟩
  | 85 => ⟨S8x4096x512, .f32⟩
  | 86 => ⟨S8x4096x512, .f32⟩
  | 87 => ⟨S8x4096x32, .f32⟩
  | 88 => ⟨S8x4096x32, .f32⟩
  | 89 => ⟨S1x4096x32, .f32⟩
  | 90 => ⟨S8x4096x32, .f32⟩
  | 91 => ⟨S8x4096x32, .f32⟩
  | 92 => ⟨S1x4096x32, .f32⟩
  | 93 => ⟨S8x4096x32, .f32⟩
  | 94 => ⟨S8x4096x32, .f32⟩
  | 95 => ⟨S8x4096x32, .f32⟩
  | 96 => ⟨S1x4096x32, .f32⟩
  | 97 => ⟨S8x4096x32, .f32⟩
  | 98 => ⟨S8x4096x32, .f32⟩
  | 99 => ⟨S1x4096x32, .f32⟩
  | 100 => ⟨S8x4096x32, .f32⟩
  | 101 => ⟨S8x4096x32, .f32⟩
  | 102 => ⟨S8x4096x32, .f32⟩
  | 103 => ⟨S8x4096x64, .f32⟩
  | 104 => ⟨S1x64, .f32⟩
  | 105 => ⟨S64, .f32⟩
  | 106 => ⟨S8x4096x4x64, .f32⟩
  | 107 => ⟨S8x4x4096x64, .f32⟩
  | 108 => ⟨S8x4x4096x64, .f32⟩
  | 109 => ⟨S_, .f32⟩
  | 110 => ⟨S8x4x4096, .f32⟩
  | 111 => ⟨S8x4x4096x1, .f32⟩
  | 112 => ⟨S_, .f32⟩
  | 113 => ⟨S8x4x4096x1, .f32⟩
  | 114 => ⟨S8x4x4096x1, .f32⟩
  | 115 => ⟨S_, .f32⟩
  | 116 => ⟨S8x4x4096x1, .f32⟩
  | 117 => ⟨S8x4x4096x1, .f32⟩
  | 118 => ⟨S8x4x4096x1, .f32⟩
  | 119 => ⟨S8x4x4096x64, .f32⟩
  | 120 => ⟨S8x4x4096x64, .f32⟩
  | 121 => ⟨S1x1x1x64, .f32⟩
  | 122 => ⟨S8x4x4096x64, .f32⟩
  | 123 => ⟨S8x4x4096x64, .f32⟩
  | 124 => ⟨S8x4x4096x32, .f32⟩
  | 125 => ⟨S8x4x4096x32, .f32⟩
  | 126 => ⟨S1x1x4096x32, .f32⟩
  | 127 => ⟨S8x4x4096x32, .f32⟩
  | _ => ⟨S32768x1024, .f32⟩

abbrev hbmTy0_1 (i : Nat) : BufTy := match i % 128 with
  | 0 => ⟨S8x4x4096x32, .f32⟩
  | 1 => ⟨S1x1x4096x32, .f32⟩
  | 2 => ⟨S8x4x4096x32, .f32⟩
  | 3 => ⟨S8x4x4096x32, .f32⟩
  | 4 => ⟨S8x4x4096x32, .f32⟩
  | 5 => ⟨S1x1x4096x32, .f32⟩
  | 6 => ⟨S8x4x4096x32, .f32⟩
  | 7 => ⟨S8x4x4096x32, .f32⟩
  | 8 => ⟨S1x1x4096x32, .f32⟩
  | 9 => ⟨S8x4x4096x32, .f32⟩
  | 10 => ⟨S8x4x4096x32, .f32⟩
  | 11 => ⟨S8x4x4096x32, .f32⟩
  | 12 => ⟨S8x4x4096x64, .f32⟩
  | 13 => ⟨S8x4096x4x64, .f32⟩
  | 14 => ⟨S8x4096x256, .f32⟩
  | 15 => ⟨S_, .f32⟩
  | 16 => ⟨S8x4096x256, .f32⟩
  | 17 => ⟨S8x4096x256, .f32⟩
  | 18 => ⟨S8x4096x256, .f32⟩
  | 19 => ⟨S8x4096x256, .f32⟩
  | 20 => ⟨S1x64, .f32⟩
  | 21 => ⟨S64, .f32⟩
  | 22 => ⟨S8x4096x4x64, .f32⟩
  | 23 => ⟨S8x4x4096x64, .f32⟩
  | 24 => ⟨S8x4x4096x64, .f32⟩
  | 25 => ⟨S_, .f32⟩
  | 26 => ⟨S8x4x4096, .f32⟩
  | 27 => ⟨S8x4x4096x1, .f32⟩
  | 28 => ⟨S_, .f32⟩
  | 29 => ⟨S8x4x4096x1, .f32⟩
  | 30 => ⟨S8x4x4096x1, .f32⟩
  | 31 => ⟨S_, .f32⟩
  | 32 => ⟨S8x4x4096x1, .f32⟩
  | 33 => ⟨S8x4x4096x1, .f32⟩
  | 34 => ⟨S8x4x4096x1, .f32⟩
  | 35 => ⟨S8x4x4096x64, .f32⟩
  | 36 => ⟨S8x4x4096x64, .f32⟩
  | 37 => ⟨S1x1x1x64, .f32⟩
  | 38 => ⟨S8x4x4096x64, .f32⟩
  | 39 => ⟨S8x4x4096x64, .f32⟩
  | 40 => ⟨S8x4x4096x32, .f32⟩
  | 41 => ⟨S8x4x4096x32, .f32⟩
  | 42 => ⟨S1x1x4096x32, .f32⟩
  | 43 => ⟨S8x4x4096x32, .f32⟩
  | 44 => ⟨S8x4x4096x32, .f32⟩
  | 45 => ⟨S1x1x4096x32, .f32⟩
  | 46 => ⟨S8x4x4096x32, .f32⟩
  | 47 => ⟨S8x4x4096x32, .f32⟩
  | 48 => ⟨S8x4x4096x32, .f32⟩
  | 49 => ⟨S1x1x4096x32, .f32⟩
  | 50 => ⟨S8x4x4096x32, .f32⟩
  | 51 => ⟨S8x4x4096x32, .f32⟩
  | 52 => ⟨S1x1x4096x32, .f32⟩
  | 53 => ⟨S8x4x4096x32, .f32⟩
  | 54 => ⟨S8x4x4096x32, .f32⟩
  | 55 => ⟨S8x4x4096x32, .f32⟩
  | 56 => ⟨S8x4x4096x64, .f32⟩
  | 57 => ⟨S8x4096x4x64, .f32⟩
  | 58 => ⟨S8x4096x256, .f32⟩
  | 59 => ⟨S1x64, .f32⟩
  | 60 => ⟨S64, .f32⟩
  | 61 => ⟨S8x4096x8x64, .f32⟩
  | 62 => ⟨S8x8x4096x64, .f32⟩
  | 63 => ⟨S8x8x4096x64, .f32⟩
  | 64 => ⟨S_, .f32⟩
  | 65 => ⟨S8x8x4096, .f32⟩
  | 66 => ⟨S8x8x4096x1, .f32⟩
  | 67 => ⟨S_, .f32⟩
  | 68 => ⟨S8x8x4096x1, .f32⟩
  | 69 => ⟨S8x8x4096x1, .f32⟩
  | 70 => ⟨S_, .f32⟩
  | 71 => ⟨S8x8x4096x1, .f32⟩
  | 72 => ⟨S8x8x4096x1, .f32⟩
  | 73 => ⟨S8x8x4096x1, .f32⟩
  | 74 => ⟨S8x8x4096x64, .f32⟩
  | 75 => ⟨S8x8x4096x64, .f32⟩
  | 76 => ⟨S1x1x1x64, .f32⟩
  | 77 => ⟨S8x8x4096x64, .f32⟩
  | 78 => ⟨S8x8x4096x64, .f32⟩
  | 79 => ⟨S8x8x4096x32, .f32⟩
  | 80 => ⟨S8x8x4096x32, .f32⟩
  | 81 => ⟨S1x1x4096x32, .f32⟩
  | 82 => ⟨S8x8x4096x32, .f32⟩
  | 83 => ⟨S8x8x4096x32, .f32⟩
  | 84 => ⟨S1x1x4096x32, .f32⟩
  | 85 => ⟨S8x8x4096x32, .f32⟩
  | 86 => ⟨S8x8x4096x32, .f32⟩
  | 87 => ⟨S8x8x4096x32, .f32⟩
  | 88 => ⟨S1x1x4096x32, .f32⟩
  | 89 => ⟨S8x8x4096x32, .f32⟩
  | 90 => ⟨S8x8x4096x32, .f32⟩
  | 91 => ⟨S1x1x4096x32, .f32⟩
  | 92 => ⟨S8x8x4096x32, .f32⟩
  | 93 => ⟨S8x8x4096x32, .f32⟩
  | 94 => ⟨S8x8x4096x32, .f32⟩
  | 95 => ⟨S8x8x4096x64, .f32⟩
  | 96 => ⟨S8x4096x8x64, .f32⟩
  | 97 => ⟨S8x4096x512, .f32⟩
  | 98 => ⟨S_, .f32⟩
  | 99 => ⟨S8x4096x512, .f32⟩
  | 100 => ⟨S8x4096x512, .f32⟩
  | 101 => ⟨S8x4096x512, .f32⟩
  | 102 => ⟨S8x4096x512, .f32⟩
  | 103 => ⟨S1x64, .f32⟩
  | 104 => ⟨S64, .f32⟩
  | 105 => ⟨S8x4096x8x64, .f32⟩
  | 106 => ⟨S8x8x4096x64, .f32⟩
  | 107 => ⟨S8x8x4096x64, .f32⟩
  | 108 => ⟨S_, .f32⟩
  | 109 => ⟨S8x8x4096, .f32⟩
  | 110 => ⟨S8x8x4096x1, .f32⟩
  | 111 => ⟨S_, .f32⟩
  | 112 => ⟨S8x8x4096x1, .f32⟩
  | 113 => ⟨S8x8x4096x1, .f32⟩
  | 114 => ⟨S_, .f32⟩
  | 115 => ⟨S8x8x4096x1, .f32⟩
  | 116 => ⟨S8x8x4096x1, .f32⟩
  | 117 => ⟨S8x8x4096x1, .f32⟩
  | 118 => ⟨S8x8x4096x64, .f32⟩
  | 119 => ⟨S8x8x4096x64, .f32⟩
  | 120 => ⟨S1x1x1x64, .f32⟩
  | 121 => ⟨S8x8x4096x64, .f32⟩
  | 122 => ⟨S8x8x4096x64, .f32⟩
  | 123 => ⟨S8x8x4096x32, .f32⟩
  | 124 => ⟨S8x8x4096x32, .f32⟩
  | 125 => ⟨S1x1x4096x32, .f32⟩
  | 126 => ⟨S8x8x4096x32, .f32⟩
  | 127 => ⟨S8x8x4096x32, .f32⟩
  | _ => ⟨S32768x1024, .f32⟩

abbrev hbmTy0_2 (i : Nat) : BufTy := match i % 128 with
  | 0 => ⟨S1x1x4096x32, .f32⟩
  | 1 => ⟨S8x8x4096x32, .f32⟩
  | 2 => ⟨S8x8x4096x32, .f32⟩
  | 3 => ⟨S8x8x4096x32, .f32⟩
  | 4 => ⟨S1x1x4096x32, .f32⟩
  | 5 => ⟨S8x8x4096x32, .f32⟩
  | 6 => ⟨S8x8x4096x32, .f32⟩
  | 7 => ⟨S1x1x4096x32, .f32⟩
  | 8 => ⟨S8x8x4096x32, .f32⟩
  | 9 => ⟨S8x8x4096x32, .f32⟩
  | 10 => ⟨S8x8x4096x32, .f32⟩
  | 11 => ⟨S8x8x4096x64, .f32⟩
  | 12 => ⟨S8x4096x8x64, .f32⟩
  | 13 => ⟨S8x4096x512, .f32⟩
  | 14 => ⟨S1x64, .f32⟩
  | 15 => ⟨S64, .f32⟩
  | 16 => ⟨S8x4096x4x64, .f32⟩
  | 17 => ⟨S8x4x4096x64, .f32⟩
  | 18 => ⟨S8x4x4096x64, .f32⟩
  | 19 => ⟨S_, .f32⟩
  | 20 => ⟨S8x4x4096, .f32⟩
  | 21 => ⟨S8x4x4096x1, .f32⟩
  | 22 => ⟨S_, .f32⟩
  | 23 => ⟨S8x4x4096x1, .f32⟩
  | 24 => ⟨S8x4x4096x1, .f32⟩
  | 25 => ⟨S_, .f32⟩
  | 26 => ⟨S8x4x4096x1, .f32⟩
  | 27 => ⟨S8x4x4096x1, .f32⟩
  | 28 => ⟨S8x4x4096x1, .f32⟩
  | 29 => ⟨S8x4x4096x64, .f32⟩
  | 30 => ⟨S8x4x4096x64, .f32⟩
  | 31 => ⟨S1x1x1x64, .f32⟩
  | 32 => ⟨S8x4x4096x64, .f32⟩
  | 33 => ⟨S8x4x4096x64, .f32⟩
  | 34 => ⟨S8x4x4096x32, .f32⟩
  | 35 => ⟨S8x4x4096x32, .f32⟩
  | 36 => ⟨S1x1x4096x32, .f32⟩
  | 37 => ⟨S8x4x4096x32, .f32⟩
  | 38 => ⟨S8x4x4096x32, .f32⟩
  | 39 => ⟨S1x1x4096x32, .f32⟩
  | 40 => ⟨S8x4x4096x32, .f32⟩
  | 41 => ⟨S8x4x4096x32, .f32⟩
  | 42 => ⟨S8x4x4096x32, .f32⟩
  | 43 => ⟨S1x1x4096x32, .f32⟩
  | 44 => ⟨S8x4x4096x32, .f32⟩
  | 45 => ⟨S8x4x4096x32, .f32⟩
  | 46 => ⟨S1x1x4096x32, .f32⟩
  | 47 => ⟨S8x4x4096x32, .f32⟩
  | 48 => ⟨S8x4x4096x32, .f32⟩
  | 49 => ⟨S8x4x4096x32, .f32⟩
  | 50 => ⟨S8x4x4096x64, .f32⟩
  | 51 => ⟨S8x4096x4x64, .f32⟩
  | 52 => ⟨S8x4096x256, .f32⟩
  | 53 => ⟨S_, .f32⟩
  | 54 => ⟨S8x4096x256, .f32⟩
  | 55 => ⟨S8x4096x256, .f32⟩
  | 56 => ⟨S8x4096x256, .f32⟩
  | 57 => ⟨S8x4096x256, .f32⟩
  | 58 => ⟨S1x64, .f32⟩
  | 59 => ⟨S64, .f32⟩
  | 60 => ⟨S8x4096x4x64, .f32⟩
  | 61 => ⟨S8x4x4096x64, .f32⟩
  | 62 => ⟨S8x4x4096x64, .f32⟩
  | 63 => ⟨S_, .f32⟩
  | 64 => ⟨S8x4x4096, .f32⟩
  | 65 => ⟨S8x4x4096x1, .f32⟩
  | 66 => ⟨S_, .f32⟩
  | 67 => ⟨S8x4x4096x1, .f32⟩
  | 68 => ⟨S8x4x4096x1, .f32⟩
  | 69 => ⟨S_, .f32⟩
  | 70 => ⟨S8x4x4096x1, .f32⟩
  | 71 => ⟨S8x4x4096x1, .f32⟩
  | 72 => ⟨S8x4x4096x1, .f32⟩
  | 73 => ⟨S8x4x4096x64, .f32⟩
  | 74 => ⟨S8x4x4096x64, .f32⟩
  | 75 => ⟨S1x1x1x64, .f32⟩
  | 76 => ⟨S8x4x4096x64, .f32⟩
  | 77 => ⟨S8x4x4096x64, .f32⟩
  | 78 => ⟨S8x4x4096x32, .f32⟩
  | 79 => ⟨S8x4x4096x32, .f32⟩
  | 80 => ⟨S1x1x4096x32, .f32⟩
  | 81 => ⟨S8x4x4096x32, .f32⟩
  | 82 => ⟨S8x4x4096x32, .f32⟩
  | 83 => ⟨S1x1x4096x32, .f32⟩
  | 84 => ⟨S8x4x4096x32, .f32⟩
  | 85 => ⟨S8x4x4096x32, .f32⟩
  | 86 => ⟨S8x4x4096x32, .f32⟩
  | 87 => ⟨S1x1x4096x32, .f32⟩
  | 88 => ⟨S8x4x4096x32, .f32⟩
  | 89 => ⟨S8x4x4096x32, .f32⟩
  | 90 => ⟨S1x1x4096x32, .f32⟩
  | 91 => ⟨S8x4x4096x32, .f32⟩
  | 92 => ⟨S8x4x4096x32, .f32⟩
  | 93 => ⟨S8x4x4096x32, .f32⟩
  | 94 => ⟨S8x4x4096x64, .f32⟩
  | 95 => ⟨S8x4096x4x64, .f32⟩
  | 96 => ⟨S8x4096x256, .f32⟩
  | 97 => ⟨S8x4096x2688, .f32⟩
  | 98 => ⟨S8x16x256x4x64, .f32⟩
  | 99 => ⟨S8x4x16x64x256, .f32⟩
  | 100 => ⟨S8x16x256x4x64, .f32⟩
  | 101 => ⟨S8x4x16x64x256, .f32⟩
  | 102 => ⟨S8x8x16x64x256, .f32⟩
  | 103 => ⟨S_, .f32⟩
  | 104 => ⟨S8x8x16x64x256, .f32⟩
  | 105 => ⟨S8x8x16x128x256, .f32⟩
  | 106 => ⟨S8x16x256x4x128, .f32⟩
  | 107 => ⟨S8x4x16x128x256, .f32⟩
  | 108 => ⟨S_, .f32⟩
  | 109 => ⟨S8x4x16x16x256, .f32⟩
  | 110 => ⟨S8x4x16x144x256, .f32⟩
  | 111 => ⟨S_, .f32⟩
  | 112 => ⟨S8x4096x8, .f32⟩
  | 113 => ⟨S8x4096x8, .f32⟩
  | 114 => ⟨S_, .f32⟩
  | 115 => ⟨S8x4096x120, .f32⟩
  | 116 => ⟨S8x4096x128, .f32⟩
  | 117 => ⟨S32768x2688, .f32⟩
  | 118 => ⟨S32768x2688, .bf16⟩
  | 119 => ⟨S8x8x16x128x256, .bf16⟩
  | 120 => ⟨S8x4x16x144x256, .bf16⟩
  | 121 => ⟨S32768x128, .f32⟩
  | _ => ⟨S32768x1024, .f32⟩

abbrev hbmTy (i : Nat) : BufTy := match i / 128 with
  | 0 => hbmTy0_0 i
  | 1 => hbmTy0_1 i
  | 2 => hbmTy0_2 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_9 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_cst_10 : Ref sig .tc := ⟨.hbm, 109, rfl⟩
abbrev main_v93 : Ref sig .tc := ⟨.hbm, 110, rfl⟩
abbrev main_v94 : Ref sig .tc := ⟨.hbm, 111, rfl⟩
abbrev main_cst_11 : Ref sig .tc := ⟨.hbm, 112, rfl⟩
abbrev main_v95 : Ref sig .tc := ⟨.hbm, 113, rfl⟩
abbrev main_v96 : Ref sig .tc := ⟨.hbm, 114, rfl⟩
abbrev main_cst_12 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_cst_13 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_cst_14 : Ref sig .tc := ⟨.hbm, 153, rfl⟩
abbrev main_v133 : Ref sig .tc := ⟨.hbm, 154, rfl⟩
abbrev main_v134 : Ref sig .tc := ⟨.hbm, 155, rfl⟩
abbrev main_cst_15 : Ref sig .tc := ⟨.hbm, 156, rfl⟩
abbrev main_v135 : Ref sig .tc := ⟨.hbm, 157, rfl⟩
abbrev main_v136 : Ref sig .tc := ⟨.hbm, 158, rfl⟩
abbrev main_cst_16 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_cst_17 : Ref sig .tc := ⟨.hbm, 192, rfl⟩
abbrev main_v169 : Ref sig .tc := ⟨.hbm, 193, rfl⟩
abbrev main_v170 : Ref sig .tc := ⟨.hbm, 194, rfl⟩
abbrev main_cst_18 : Ref sig .tc := ⟨.hbm, 195, rfl⟩
abbrev main_v171 : Ref sig .tc := ⟨.hbm, 196, rfl⟩
abbrev main_v172 : Ref sig .tc := ⟨.hbm, 197, rfl⟩
abbrev main_cst_19 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩
abbrev main_v199 : Ref sig .tc := ⟨.hbm, 225, rfl⟩
abbrev main_cst_20 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_cst_21 : Ref sig .tc := ⟨.hbm, 236, rfl⟩
abbrev main_v209 : Ref sig .tc := ⟨.hbm, 237, rfl⟩
abbrev main_v210 : Ref sig .tc := ⟨.hbm, 238, rfl⟩
abbrev main_cst_22 : Ref sig .tc := ⟨.hbm, 239, rfl⟩
abbrev main_v211 : Ref sig .tc := ⟨.hbm, 240, rfl⟩
abbrev main_v212 : Ref sig .tc := ⟨.hbm, 241, rfl⟩
abbrev main_cst_23 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_v219 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_v223 : Ref sig .tc := ⟨.hbm, 253, rfl⟩
abbrev main_v224 : Ref sig .tc := ⟨.hbm, 254, rfl⟩
abbrev main_v225 : Ref sig .tc := ⟨.hbm, 255, rfl⟩
abbrev main_v226 : Ref sig .tc := ⟨.hbm, 256, rfl⟩
abbrev main_v227 : Ref sig .tc := ⟨.hbm, 257, rfl⟩
abbrev main_v228 : Ref sig .tc := ⟨.hbm, 258, rfl⟩
abbrev main_v229 : Ref sig .tc := ⟨.hbm, 259, rfl⟩
abbrev main_v230 : Ref sig .tc := ⟨.hbm, 260, rfl⟩
abbrev main_v231 : Ref sig .tc := ⟨.hbm, 261, rfl⟩
abbrev main_v232 : Ref sig .tc := ⟨.hbm, 262, rfl⟩
abbrev main_v233 : Ref sig .tc := ⟨.hbm, 263, rfl⟩
abbrev main_v234 : Ref sig .tc := ⟨.hbm, 264, rfl⟩
abbrev main_v235 : Ref sig .tc := ⟨.hbm, 265, rfl⟩
abbrev main_v236 : Ref sig .tc := ⟨.hbm, 266, rfl⟩
abbrev main_v237 : Ref sig .tc := ⟨.hbm, 267, rfl⟩
abbrev main_v238 : Ref sig .tc := ⟨.hbm, 268, rfl⟩
abbrev main_v239 : Ref sig .tc := ⟨.hbm, 269, rfl⟩
abbrev main_v240 : Ref sig .tc := ⟨.hbm, 270, rfl⟩
abbrev main_v241 : Ref sig .tc := ⟨.hbm, 271, rfl⟩
abbrev main_v242 : Ref sig .tc := ⟨.hbm, 272, rfl⟩
abbrev main_v243 : Ref sig .tc := ⟨.hbm, 273, rfl⟩
abbrev main_v244 : Ref sig .tc := ⟨.hbm, 274, rfl⟩
abbrev main_cst_24 : Ref sig .tc := ⟨.hbm, 275, rfl⟩
abbrev main_v245 : Ref sig .tc := ⟨.hbm, 276, rfl⟩
abbrev main_v246 : Ref sig .tc := ⟨.hbm, 277, rfl⟩
abbrev main_cst_25 : Ref sig .tc := ⟨.hbm, 278, rfl⟩
abbrev main_v247 : Ref sig .tc := ⟨.hbm, 279, rfl⟩
abbrev main_v248 : Ref sig .tc := ⟨.hbm, 280, rfl⟩
abbrev main_cst_26 : Ref sig .tc := ⟨.hbm, 281, rfl⟩
abbrev main_v249 : Ref sig .tc := ⟨.hbm, 282, rfl⟩
abbrev main_v250 : Ref sig .tc := ⟨.hbm, 283, rfl⟩
abbrev main_v251 : Ref sig .tc := ⟨.hbm, 284, rfl⟩
abbrev main_v252 : Ref sig .tc := ⟨.hbm, 285, rfl⟩
abbrev main_v253 : Ref sig .tc := ⟨.hbm, 286, rfl⟩
abbrev main_v254 : Ref sig .tc := ⟨.hbm, 287, rfl⟩
abbrev main_v255 : Ref sig .tc := ⟨.hbm, 288, rfl⟩
abbrev main_v256 : Ref sig .tc := ⟨.hbm, 289, rfl⟩
abbrev main_v257 : Ref sig .tc := ⟨.hbm, 290, rfl⟩
abbrev main_v258 : Ref sig .tc := ⟨.hbm, 291, rfl⟩
abbrev main_v259 : Ref sig .tc := ⟨.hbm, 292, rfl⟩
abbrev main_v260 : Ref sig .tc := ⟨.hbm, 293, rfl⟩
abbrev main_v261 : Ref sig .tc := ⟨.hbm, 294, rfl⟩
abbrev main_v262 : Ref sig .tc := ⟨.hbm, 295, rfl⟩
abbrev main_v263 : Ref sig .tc := ⟨.hbm, 296, rfl⟩
abbrev main_v264 : Ref sig .tc := ⟨.hbm, 297, rfl⟩
abbrev main_v265 : Ref sig .tc := ⟨.hbm, 298, rfl⟩
abbrev main_v266 : Ref sig .tc := ⟨.hbm, 299, rfl⟩
abbrev main_v267 : Ref sig .tc := ⟨.hbm, 300, rfl⟩
abbrev main_v268 : Ref sig .tc := ⟨.hbm, 301, rfl⟩
abbrev main_v269 : Ref sig .tc := ⟨.hbm, 302, rfl⟩
abbrev main_v270 : Ref sig .tc := ⟨.hbm, 303, rfl⟩
abbrev main_v271 : Ref sig .tc := ⟨.hbm, 304, rfl⟩
abbrev main_v272 : Ref sig .tc := ⟨.hbm, 305, rfl⟩
abbrev main_v273 : Ref sig .tc := ⟨.hbm, 306, rfl⟩
abbrev main_v274 : Ref sig .tc := ⟨.hbm, 307, rfl⟩
abbrev main_v275 : Ref sig .tc := ⟨.hbm, 308, rfl⟩
abbrev main_cst_27 : Ref sig .tc := ⟨.hbm, 309, rfl⟩
abbrev main_v276 : Ref sig .tc := ⟨.hbm, 310, rfl⟩
abbrev main_v277 : Ref sig .tc := ⟨.hbm, 311, rfl⟩
abbrev main_v278 : Ref sig .tc := ⟨.hbm, 312, rfl⟩
abbrev main_v279 : Ref sig .tc := ⟨.hbm, 313, rfl⟩
abbrev main_v280 : Ref sig .tc := ⟨.hbm, 314, rfl⟩
abbrev main_v281 : Ref sig .tc := ⟨.hbm, 315, rfl⟩
abbrev main_v282 : Ref sig .tc := ⟨.hbm, 316, rfl⟩
abbrev main_v283 : Ref sig .tc := ⟨.hbm, 317, rfl⟩
abbrev main_v284 : Ref sig .tc := ⟨.hbm, 318, rfl⟩
abbrev main_cst_28 : Ref sig .tc := ⟨.hbm, 319, rfl⟩
abbrev main_v285 : Ref sig .tc := ⟨.hbm, 320, rfl⟩
abbrev main_v286 : Ref sig .tc := ⟨.hbm, 321, rfl⟩
abbrev main_cst_29 : Ref sig .tc := ⟨.hbm, 322, rfl⟩
abbrev main_v287 : Ref sig .tc := ⟨.hbm, 323, rfl⟩
abbrev main_v288 : Ref sig .tc := ⟨.hbm, 324, rfl⟩
abbrev main_cst_30 : Ref sig .tc := ⟨.hbm, 325, rfl⟩
abbrev main_v289 : Ref sig .tc := ⟨.hbm, 326, rfl⟩
abbrev main_v290 : Ref sig .tc := ⟨.hbm, 327, rfl⟩
abbrev main_v291 : Ref sig .tc := ⟨.hbm, 328, rfl⟩
abbrev main_v292 : Ref sig .tc := ⟨.hbm, 329, rfl⟩
abbrev main_v293 : Ref sig .tc := ⟨.hbm, 330, rfl⟩
abbrev main_v294 : Ref sig .tc := ⟨.hbm, 331, rfl⟩
abbrev main_v295 : Ref sig .tc := ⟨.hbm, 332, rfl⟩
abbrev main_v296 : Ref sig .tc := ⟨.hbm, 333, rfl⟩
abbrev main_v297 : Ref sig .tc := ⟨.hbm, 334, rfl⟩
abbrev main_v298 : Ref sig .tc := ⟨.hbm, 335, rfl⟩
abbrev main_v299 : Ref sig .tc := ⟨.hbm, 336, rfl⟩
abbrev main_v300 : Ref sig .tc := ⟨.hbm, 337, rfl⟩
abbrev main_v301 : Ref sig .tc := ⟨.hbm, 338, rfl⟩
abbrev main_v302 : Ref sig .tc := ⟨.hbm, 339, rfl⟩
abbrev main_v303 : Ref sig .tc := ⟨.hbm, 340, rfl⟩
abbrev main_v304 : Ref sig .tc := ⟨.hbm, 341, rfl⟩
abbrev main_v305 : Ref sig .tc := ⟨.hbm, 342, rfl⟩
abbrev main_v306 : Ref sig .tc := ⟨.hbm, 343, rfl⟩
abbrev main_v307 : Ref sig .tc := ⟨.hbm, 344, rfl⟩
abbrev main_v308 : Ref sig .tc := ⟨.hbm, 345, rfl⟩
abbrev main_v309 : Ref sig .tc := ⟨.hbm, 346, rfl⟩
abbrev main_v310 : Ref sig .tc := ⟨.hbm, 347, rfl⟩
abbrev main_v311 : Ref sig .tc := ⟨.hbm, 348, rfl⟩
abbrev main_v312 : Ref sig .tc := ⟨.hbm, 349, rfl⟩
abbrev main_v313 : Ref sig .tc := ⟨.hbm, 350, rfl⟩
abbrev main_v314 : Ref sig .tc := ⟨.hbm, 351, rfl⟩
abbrev main_v315 : Ref sig .tc := ⟨.hbm, 352, rfl⟩
abbrev main_v316 : Ref sig .tc := ⟨.hbm, 353, rfl⟩
abbrev main_v317 : Ref sig .tc := ⟨.hbm, 354, rfl⟩
abbrev main_v318 : Ref sig .tc := ⟨.hbm, 355, rfl⟩
abbrev main_v319 : Ref sig .tc := ⟨.hbm, 356, rfl⟩
abbrev main_v320 : Ref sig .tc := ⟨.hbm, 357, rfl⟩
abbrev main_v321 : Ref sig .tc := ⟨.hbm, 358, rfl⟩
abbrev main_cst_31 : Ref sig .tc := ⟨.hbm, 359, rfl⟩
abbrev main_v322 : Ref sig .tc := ⟨.hbm, 360, rfl⟩
abbrev main_v323 : Ref sig .tc := ⟨.hbm, 361, rfl⟩
abbrev main_v324 : Ref sig .tc := ⟨.hbm, 362, rfl⟩
abbrev main_v325 : Ref sig .tc := ⟨.hbm, 363, rfl⟩
abbrev main_cst_32 : Ref sig .tc := ⟨.hbm, 364, rfl⟩
abbrev main_v326 : Ref sig .tc := ⟨.hbm, 365, rfl⟩
abbrev main_v327 : Ref sig .tc := ⟨.hbm, 366, rfl⟩
abbrev main_cst_33 : Ref sig .tc := ⟨.hbm, 367, rfl⟩
abbrev main_v328 : Ref sig .tc := ⟨.hbm, 368, rfl⟩
abbrev main_v329 : Ref sig .tc := ⟨.hbm, 369, rfl⟩
abbrev main_cst_34 : Ref sig .tc := ⟨.hbm, 370, rfl⟩
abbrev main_v330 : Ref sig .tc := ⟨.hbm, 371, rfl⟩
abbrev main_v331 : Ref sig .tc := ⟨.hbm, 372, rfl⟩
abbrev main_v332 : Ref sig .tc := ⟨.hbm, 373, rfl⟩
abbrev main_v333 : Ref sig .tc := ⟨.hbm, 374, rfl⟩
abbrev main_v334 : Ref sig .tc := ⟨.hbm, 375, rfl⟩
abbrev main_v335 : Ref sig .tc := ⟨.hbm, 376, rfl⟩
abbrev main_v336 : Ref sig .tc := ⟨.hbm, 377, rfl⟩

abbrev nD : Nat := 1
abbrev τ : Topo := Topo.v7x

variable {F : FTy → Type} [FloatOps F]
-- ==== Proof.Ffn.Pure.lean ====
/- The second part of a layer (output projection, RMS norm, gated MLP), read at an index: what the kernel's
   payloads compute on one row tile, and what the reference computes on the whole array, as sums of products. -/
module

public import proofs.«01_k».proof.Proof.Gen.FfnIdeal.Skeleton
public import proofs.«01_k».proof.Proof.Gen.FfnRefIdeal.Run
public import Idealize.ShloMosaic.Lib.Pointwise

@[expose] public section

set_option maxRecDepth 16384

noncomputable section

open Idealize.ShloMosaic Idealize.ShloMosaic.TcCoe Idealize.SL.Sem

namespace Cert.FfnRefIdeal.Pure
open Cert.FfnRefIdeal Cert.FfnRefIdeal.Gen

/-- The reference's residual stream after the output projection of the three mixed streams. -/
def RX (x : FVec Ideal S32768x1024 .f32) (a : FVec Ideal S32768x256 .f32) (b : FVec Ideal S32768x512 .f32)
    (d : FVec Ideal S32768x256 .f32) (w : FVec Ideal S1024x1024 .f32) : FVec Ideal S32768x1024 .f32 :=
  addf x (Host.dotGeneral (φ₁ := .f32) (φ₂ := .f32) dot_S32768x1024_S1024x1024_S32768x1024_1_0_0_1_n_n none
    ((concatenate S32768x1024 1 [⟨S32768x256, (a : (⟨S32768x256, .f32⟩ : BufTy).Contents (Elt Ideal))⟩,
      ⟨S32768x512, (b : (⟨S32768x512, .f32⟩ : BufTy).Contents (Elt Ideal))⟩,
      ⟨S32768x256, (d : (⟨S32768x256, .f32⟩ : BufTy).Contents (Elt Ideal))⟩]
      concatenates_S32768x256_S32768x512_S32768x256_S32768x1024_d1 : (⟨S32768x1024, .f32⟩ : BufTy).Contents (Elt Ideal))) w)

/-- The reference's normalised stream. -/
def RH (x : FVec Ideal S32768x1024 .f32) (g : FVec Ideal S1024 .f32) : FVec Ideal S32768x1024 .f32 :=
  mulf (mulf x (broadcastInDim S32768x1024 ![0, 1] bcast_S32768x1_S32768x1024_0_1
    (Host.rsqrt (addf (Host.divf (broadcastInDim S32768x1 ![0] bcast_S32768_S32768x1_0
      (Host.reduceAdd (mulf x x) (constant S_ .f32 0x00000000#32) reducesTo_S32768x1024_S32768_d1 h_S_))
      (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- The reference's gated MLP added to the residual stream. -/
def RO (x h : FVec Ideal S32768x1024 .f32) (wg wu : FVec Ideal S1024x2816 .f32) (wd : FVec Ideal S2816x1024 .f32) :
    FVec Ideal S32768x1024 .f32 :=
  addf x (Host.dotGeneral dot_S32768x2816_S2816x1024_S32768x1024_1_0_0_1_n_n none
    (mulf (mulf (Host.dotGeneral dot_S32768x1024_S1024x2816_S32768x2816_1_0_0_1_n_n none h wg)
      (Host.divf (broadcastInDim S32768x2816 ![] bcast_S_S32768x2816 (constant S_ .f32 0x3F800000#32))
        (addf (broadcastInDim S32768x2816 ![] bcast_S_S32768x2816 (constant S_ .f32 0x3F800000#32))
          (Host.exp (Host.negf (Host.dotGeneral dot_S32768x1024_S1024x2816_S32768x2816_1_0_0_1_n_n none h wg))))))
      (Host.dotGeneral dot_S32768x1024_S1024x2816_S32768x2816_1_0_0_1_n_n none h wu)) wd)

/-- The reference's result is the three stages composed. -/
theorem res_eq (m : (ℓ : Loc nD τ sig) → Buf (Elt Ideal) ℓ) (c : Dev nD) :
    Value.res_main_v21 (F := Ideal) m c =
      RO (RX (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)))
        (RH (RX (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)))
          (m ((c.tc : Thread nD τ).loc main_arg5)))
        (m ((c.tc : Thread nD τ).loc main_arg6)) (m ((c.tc : Thread nD τ).loc main_arg7)) (m ((c.tc : Thread nD τ).loc main_arg8)) := by
  rfl

/-- The hidden unit `j` of the gated MLP at row `r`: silu of the gate times the up projection. -/
def hid (h : Fin 1024 → EReal) (wg wu : FVec Ideal S1024x2816 .f32) (j : Fin 2816) : EReal :=
  (∑ k, h k * wg (ix2 k j)) * Ideal.div 1 (1 + Ideal.exp (-∑ k, h k * wg (ix2 k j))) * ∑ k, h k * wu (ix2 k j)

/-- The residual stream at an index: the output projection's sum cut at the three streams' boundaries. -/
theorem RX_at (x : FVec Ideal S32768x1024 .f32) (a : FVec Ideal S32768x256 .f32) (b : FVec Ideal S32768x512 .f32)
    (d : FVec Ideal S32768x256 .f32) (w : FVec Ideal S1024x1024 .f32) (r : Fin 32768) (n : Fin 1024) :
    RX x a b d w (ix2 r n) = x (ix2 r n) + (∑ k : Fin 256, a (ix2 r k) * w (ix2 (⟨k, by omega⟩ : Fin 1024) n))
      + (∑ k : Fin 512, b (ix2 r k) * w (ix2 (⟨256 + k, by omega⟩ : Fin 1024) n))
      + (∑ k : Fin 256, d (ix2 r k) * w (ix2 (⟨768 + k, by omega⟩ : Fin 1024) n)) := by
  pointwise [RX]
  rw [Fin.sum_univ_two_halves 256 768 rfl, Fin.sum_univ_two_halves 512 256 rfl]
  simp only [← add_assoc]
  refine congrArg₂ _ (congrArg₂ _ (congrArg₂ _ rfl ?_) ?_) ?_ <;> refine Finset.sum_congr rfl fun k _ => ?_
  · rw [dif_pos k.isLt]
  · have h1 : ¬ (256 + (k : ℕ) < 256) := by omega
    have h2 : 256 + (k : ℕ) - 256 < 512 := by omega
    rw [dif_neg h1, dif_pos h2]
    refine congrArg (· * _) (congrArg b ?_)
    idx_ext
    all_goals simp
  · have h1 : ¬ (256 + 512 + (k : ℕ) < 256) := by omega
    have h2 : ¬ (256 + 512 + (k : ℕ) - 256 < 512) := by omega
    rw [dif_neg h1, dif_neg h2]
    refine congrArg₂ (· * ·) (congrArg d ?_) (congrArg w ?_)
    all_goals idx_ext
    all_goals simp
    all_goals omega

/-- The normalised stream at an index. -/
theorem RH_at (x : FVec Ideal S32768x1024 .f32) (g : FVec Ideal S1024 .f32) (r : Fin 32768) (n : Fin 1024) :
    RH x g (ix2 r n) = x (ix2 r n) * Ideal.rsqrt (Ideal.div (∑ k : Fin 1024, x (ix2 r k) * x (ix2 r k))
      (Ideal.ofBits .f32 0x44800000#32) + Ideal.ofBits .f32 0x358637BD#32) * g (ix1 n) := by
  pointwise [RH]

/-- The gated MLP at an index, one term per hidden unit. -/
theorem RO_at (x h : FVec Ideal S32768x1024 .f32) (wg wu : FVec Ideal S1024x2816 .f32) (wd : FVec Ideal S2816x1024 .f32)
    (r : Fin 32768) (n : Fin 1024) :
    RO x h wg wu wd (ix2 r n) = x (ix2 r n) + ∑ j : Fin 2816, hid (fun k => h (ix2 r k)) wg wu j * wd (ix2 j n) := by
  pointwise [RO, hid]

/-- A sum over the hidden units, chunk by chunk in the order the kernel adds the chunks. -/
theorem sum_chunks (f : Fin 2816 → EReal) (x : EReal) :
    x + ∑ j, f j = x + (∑ j : Fin 704, f ⟨j, by omega⟩) + (∑ j : Fin 704, f ⟨704 + j, by omega⟩)
      + (∑ j : Fin 704, f ⟨1408 + j, by omega⟩) + (∑ j : Fin 704, f ⟨2112 + j, by omega⟩) := by
  rw [Fin.sum_univ_tiles 4 704 rfl f, Fin.sum_univ_four]
  simp only [← add_assoc]
  refine congrArg₂ _ (congrArg₂ _ (congrArg₂ _ (congrArg₂ _ rfl ?_) ?_) ?_) ?_ <;>
    refine Finset.sum_congr rfl fun j _ => congrArg f (Fin.ext ?_) <;> simp

end Cert.FfnRefIdeal.Pure

namespace Cert.FfnIdeal.Pure
open Cert.FfnIdeal Cert.FfnIdeal.Gen
open Cert.FfnRefIdeal.Pure (hid)

/-- The kernel's residual stream on a tile. -/
theorem pay2_at (v0 : FVec Ideal S512x1024 .f32) (v1 : FVec Ideal S512x256 .bf16) (v3 : FVec Ideal S256x1024 .bf16) (v7 : FVec Ideal S512x512 .bf16)
    (v9 : FVec Ideal S512x1024 .bf16) (v13 : FVec Ideal S512x256 .bf16) (v15 : FVec Ideal S256x1024 .bf16) (r : Fin 512) (n : Fin 1024) :
    k0_pay2 (F := Ideal) v0 v1 v3 v7 v9 v13 v15 (ix2 r n) = v0 (ix2 r n) + (∑ k : Fin 256, v1 (ix2 r k) * v3 (ix2 k n))
      + (∑ k : Fin 512, v7 (ix2 r k) * v9 (ix2 k n)) + (∑ k : Fin 256, v13 (ix2 r k) * v15 (ix2 k n)) := by
  pointwise [k0_pay2]

/-- The kernel's normalised stream on a tile, over its residual stream. -/
theorem pay3_at (v0 : FVec Ideal S512x1024 .f32) (v1 : FVec Ideal S512x256 .bf16) (v3 : FVec Ideal S256x1024 .bf16) (v7 : FVec Ideal S512x512 .bf16)
    (v9 : FVec Ideal S512x1024 .bf16) (v13 : FVec Ideal S512x256 .bf16) (v15 : FVec Ideal S256x1024 .bf16) (g : FVec Ideal S1x1024 .f32)
    (x : FVec Ideal S512x1024 .f32) (hx : k0_pay2 (F := Ideal) v0 v1 v3 v7 v9 v13 v15 = x) (r : Fin 512) (n : Fin 1024) :
    k0_pay3 (F := Ideal) v0 v1 v3 v7 v9 v13 v15 g (ix2 r n) =
      x (ix2 r n) * Ideal.rsqrt (Ideal.div (∑ k : Fin 1024, x (ix2 r k) * x (ix2 r k))
      (Ideal.ofBits .f32 0x44800000#32) + Ideal.ofBits .f32 0x358637BD#32) * g (ix2 0 n) := by
  unfold k0_pay3
  rw [hx]
  pointwise []

/-- One hidden unit of a chunk on a tile. -/
def hidk (h : Fin 1024 → EReal) (wg wu : FVec Ideal S1024x704 .bf16) (j : Fin 704) : EReal :=
  (∑ k, h k * wg (ix2 k j)) * Ideal.div 1 (1 + Ideal.exp (-∑ k, h k * wg (ix2 k j))) * ∑ k, h k * wu (ix2 k j)

/-- The kernel's accumulator after the four chunks, at an index. -/
theorem chunks_at (h : FVec Ideal S512x1024 .bf16) (wg0 wu0 wg1 wu1 wg2 wu2 wg3 wu3 : FVec Ideal S1024x704 .bf16)
    (acc : FVec Ideal S512x1024 .f32) (wd0 wd1 wd2 wd3 : FVec Ideal S704x1024 .bf16) (r : Fin 512) (n : Fin 1024) :
    k0_pay1 (F := Ideal) h wg3 wu3 (k0_pay9 h wg2 wu2 (k0_pay8 (k0_pay5 h wg1) (k0_pay6 h wu1) (k0_pay7 h wg1)
      (k0_pay4 h wg0 wu0 acc wd0) wd1) wd2) wd3 (ix2 r n) =
      acc (ix2 r n) + (∑ j, hidk (fun k => h (ix2 r k)) wg0 wu0 j * wd0 (ix2 j n))
        + (∑ j, hidk (fun k => h (ix2 r k)) wg1 wu1 j * wd1 (ix2 j n))
        + (∑ j, hidk (fun k => h (ix2 r k)) wg2 wu2 j * wd2 (ix2 j n))
        + (∑ j, hidk (fun k => h (ix2 r k)) wg3 wu3 j * wd3 (ix2 j n)) := by
  pointwise [k0_pay1, k0_pay9, k0_pay8, k0_pay7, k0_pay6, k0_pay5, k0_pay4, hidk]
  simp only [zero_sub]

end Cert.FfnIdeal.Pure
end
-- ==== Proof.Ffn.Value.lean ====
/- The result array of the second part of a layer is the reference's result. -/
module

public import proofs.«01_k».proof.Proof.Ffn.Pure
public import proofs.«01_k».proof.Proof.Gen.FfnIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.Final
open Cert.FfnIdeal Cert.FfnIdeal.Gen Cert.FfnIdeal.Pure
open Cert.FfnRefIdeal.Pure (RX RH RO hid RX_at RH_at RO_at sum_chunks)

variable (m : (ℓ : Loc nD τ sig) → Buf (Elt Ideal) ℓ)

/-- The windows' block indices at a point: the row tiles follow the point, the weights stay. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

/-- The array row that row `r` of tile `t` is. -/
def row (t : Fin cfg0.N) (r : Fin 512) : Fin 32768 := ⟨t.val * 512 + r, by have := t.isLt; have h : cfg0.N = 64 := rfl; omega⟩

/-- The residual rows of a tile are the array's rows. -/
theorem b0 (c : Dev nD) (t : Fin cfg0.N) (r : Fin 512) (n : Fin 1024) :
    iblk m c 0 t (ix2 r n) = m ((c : Thread nD τ).loc main_arg0) (ix2 (row t r) n) := by
  blk_ext! [iblk, V, idx t, row]

/-- The first mixed stream's rows of a tile. -/
theorem b1 (c : Dev nD) (t : Fin cfg0.N) (r : Fin 512) (n : Fin 256) :
    iblk m c 1 t (ix2 r n) = m ((c : Thread nD τ).loc main_arg1) (ix2 (row t r) n) := by
  blk_simp [iblk, idx t]; entry_read; pointwise []; blk_ext [idx t, row]

/-- The second mixed stream's rows of a tile. -/
theorem b2 (c : Dev nD) (t : Fin cfg0.N) (r : Fin 512) (n : Fin 512) :
    iblk m c 2 t (ix2 r n) = m ((c : Thread nD τ).loc main_arg2) (ix2 (row t r) n) := by
  blk_simp [iblk, idx t]; entry_read; pointwise []; blk_ext [idx t, row]

/-- The third mixed stream's rows of a tile. -/
theorem b3 (c : Dev nD) (t : Fin cfg0.N) (r : Fin 512) (n : Fin 256) :
    iblk m c 3 t (ix2 r n) = m ((c : Thread nD τ).loc main_arg3) (ix2 (row t r) n) := by
  blk_simp [iblk, idx t]; entry_read; pointwise []; blk_ext [idx t, row]

/-- The output projection is staged whole. -/
theorem b4 (c : Dev nD) (t : Fin cfg0.N) (k : Fin 1024) (n : Fin 1024) :
    iblk m c 4 t (ix2 k n) = m ((c : Thread nD τ).loc main_arg4) (ix2 k n) := by
  blk_simp [iblk, idx t]; entry_read; pointwise []; blk_ext [idx t]

/-- The norm's gain is staged whole, as a row. -/
theorem b5 (c : Dev nD) (t : Fin cfg0.N) (k : Fin 1) (n : Fin 1024) :
    iblk m c 5 t (ix2 k n) = m ((c : Thread nD τ).loc main_arg5) (ix1 n) := by
  blk_simp [iblk, idx t]; entry_read; pointwise []; blk_ext [idx t]

/-- The gate projection is staged whole. -/
theorem b6 (c : Dev nD) (t : Fin cfg0.N) (k : Fin 1024) (n : Fin 2816) :
    iblk m c 6 t (ix2 k n) = m ((c : Thread nD τ).loc main_arg6) (ix2 k n) := by
  blk_simp [iblk, idx t]; entry_read; pointwise []; blk_ext [idx t]

/-- The up projection is staged whole. -/
theorem b7 (c : Dev nD) (t : Fin cfg0.N) (k : Fin 1024) (n : Fin 2816) :
    iblk m c 7 t (ix2 k n) = m ((c : Thread nD τ).loc main_arg7) (ix2 k n) := by
  blk_simp [iblk, idx t]; entry_read; pointwise []; blk_ext [idx t]

/-- The down projection is staged whole. -/
theorem b8 (c : Dev nD) (t : Fin cfg0.N) (k : Fin 2816) (n : Fin 1024) :
    iblk m c 8 t (ix2 k n) = m ((c : Thread nD τ).loc main_arg8) (ix2 k n) := by
  blk_simp [iblk, idx t]; entry_read; pointwise []; blk_ext [idx t]

/-- The reference's residual stream over the argument arrays. -/
abbrev XX (c : Dev nD) : FVec Ideal Cert.FfnRefIdeal.S32768x1024 .f32 :=
  RX (m ((c : Thread nD τ).loc main_arg0)) (m ((c : Thread nD τ).loc main_arg1)) (m ((c : Thread nD τ).loc main_arg2))
    (m ((c : Thread nD τ).loc main_arg3)) (m ((c : Thread nD τ).loc main_arg4))

/-- The reference's normalised stream over the argument arrays. -/
abbrev HH (c : Dev nD) : FVec Ideal Cert.FfnRefIdeal.S32768x1024 .f32 := RH (XX m c) (m ((c : Thread nD τ).loc main_arg5))

/-- The reference's result over the argument arrays. -/
abbrev REF (c : Dev nD) : FVec Ideal Cert.FfnRefIdeal.S32768x1024 .f32 :=
  RO (XX m c) (HH m c) (m ((c : Thread nD τ).loc main_arg6)) (m ((c : Thread nD τ).loc main_arg7)) (m ((c : Thread nD τ).loc main_arg8))

/-- The body's payloads on a tile, over any blocks that are the arrays' rows and the weights' chunks. -/
theorem core (X : FVec Ideal Cert.FfnRefIdeal.S32768x1024 .f32) (G : FVec Ideal Cert.FfnRefIdeal.S1024 .f32)
    (WG WU : FVec Ideal Cert.FfnRefIdeal.S1024x2816 .f32) (WD : FVec Ideal Cert.FfnRefIdeal.S2816x1024 .f32)
    (R : Fin 32768) (r : Fin 512) (x0 : FVec Ideal S512x1024 .f32) (x1 : FVec Ideal S512x256 .bf16) (w0 : FVec Ideal S256x1024 .bf16)
    (x2 : FVec Ideal S512x512 .bf16) (w1 : FVec Ideal S512x1024 .bf16) (x3 : FVec Ideal S512x256 .bf16) (w2 : FVec Ideal S256x1024 .bf16)
    (g : FVec Ideal S1x1024 .f32) (wg0 wu0 wg1 wu1 wg2 wu2 wg3 wu3 : FVec Ideal S1024x704 .bf16) (wd0 wd1 wd2 wd3 : FVec Ideal S704x1024 .bf16)
    (hx : ∀ n : Fin 1024, k0_pay2 (F := Ideal) x0 x1 w0 x2 w1 x3 w2 (ix2 r n) = X (ix2 R n))
    (hg : ∀ n : Fin 1024, g (ix2 0 n) = G (ix1 n))
    (hg0 : ∀ (k : Fin 1024) (j : Fin 704), wg0 (ix2 k j) = WG (ix2 k (⟨j, by omega⟩ : Fin 2816)))
    (hg1 : ∀ (k : Fin 1024) (j : Fin 704), wg1 (ix2 k j) = WG (ix2 k (⟨704 + j, by omega⟩ : Fin 2816)))
    (hg2 : ∀ (k : Fin 1024) (j : Fin 704), wg2 (ix2 k j) = WG (ix2 k (⟨1408 + j, by omega⟩ : Fin 2816)))
    (hg3 : ∀ (k : Fin 1024) (j : Fin 704), wg3 (ix2 k j) = WG (ix2 k (⟨2112 + j, by omega⟩ : Fin 2816)))
    (hu0 : ∀ (k : Fin 1024) (j : Fin 704), wu0 (ix2 k j) = WU (ix2 k (⟨j, by omega⟩ : Fin 2816)))
    (hu1 : ∀ (k : Fin 1024) (j : Fin 704), wu1 (ix2 k j) = WU (ix2 k (⟨704 + j, by omega⟩ : Fin 2816)))
    (hu2 : ∀ (k : Fin 1024) (j : Fin 704), wu2 (ix2 k j) = WU (ix2 k (⟨1408 + j, by omega⟩ : Fin 2816)))
    (hu3 : ∀ (k : Fin 1024) (j : Fin 704), wu3 (ix2 k j) = WU (ix2 k (⟨2112 + j, by omega⟩ : Fin 2816)))
    (hd0 : ∀ (j : Fin 704) (n : Fin 1024), wd0 (ix2 j n) = WD (ix2 (⟨j, by omega⟩ : Fin 2816) n))
    (hd1 : ∀ (j : Fin 704) (n : Fin 1024), wd1 (ix2 j n) = WD (ix2 (⟨704 + j, by omega⟩ : Fin 2816) n))
    (hd2 : ∀ (j : Fin 704) (n : Fin 1024), wd2 (ix2 j n) = WD (ix2 (⟨1408 + j, by omega⟩ : Fin 2816) n))
    (hd3 : ∀ (j : Fin 704) (n : Fin 1024), wd3 (ix2 j n) = WD (ix2 (⟨2112 + j, by omega⟩ : Fin 2816) n)) (n : Fin 1024) :
    k0_pay1 (F := Ideal) (k0_pay3 (F := Ideal) x0 x1 w0 x2 w1 x3 w2 g) wg3 wu3 (k0_pay9 (F := Ideal) (k0_pay3 (F := Ideal) x0 x1 w0 x2 w1 x3 w2 g) wg2 wu2
      (k0_pay8 (F := Ideal) (k0_pay5 (F := Ideal) (k0_pay3 (F := Ideal) x0 x1 w0 x2 w1 x3 w2 g) wg1) (k0_pay6 (F := Ideal) (k0_pay3 (F := Ideal) x0 x1 w0 x2 w1 x3 w2 g) wu1)
        (k0_pay7 (F := Ideal) (k0_pay3 (F := Ideal) x0 x1 w0 x2 w1 x3 w2 g) wg1)
      (k0_pay4 (F := Ideal) (k0_pay3 (F := Ideal) x0 x1 w0 x2 w1 x3 w2 g) wg0 wu0 (k0_pay2 (F := Ideal) x0 x1 w0 x2 w1 x3 w2) wd0) wd1) wd2) wd3 (ix2 r n)
      = RO X (RH X G) WG WU WD (ix2 R n) := by
  have hh : ∀ n : Fin 1024, k0_pay3 (F := Ideal) x0 x1 w0 x2 w1 x3 w2 g (ix2 r n) = RH X G (ix2 R n) := fun n => by
    rw [pay3_at x0 x1 w0 x2 w1 x3 w2 g _ rfl, RH_at]
    simp only [hx, hg]
  rw [chunks_at, hx, RO_at, sum_chunks]
  simp only [hh, hidk, hid, hg0, hg1, hg2, hg3, hu0, hu1, hu2, hu3, hd0, hd1, hd2, hd3]

/-- What the body stores for row `r` of tile `t` is the reference's row. -/
theorem out_eq (c : Dev nD) (t : Fin cfg0.N) (r : Fin 512) (n : Fin 1024) :
    out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) (iblk m c 8 t) (ix2 r n)
      = REF m c (ix2 (row t r) n) := by
  frame_out
  refine core _ _ _ _ _ (row t r) r _ _ _ _ _ _ _ _ _ _ _ _ _ _ _ _ _ _ _ _ (fun n => ?_) (fun n => b5 m c t 0 n)
    ?_ ?_ ?_ ?_ ?_ ?_ ?_ ?_ ?_ ?_ ?_ ?_ n
  · rw [pay2_at, XX, RX_at]
    pointwise []
    simp only [b0, b1, b2, b3, b4, zero_add]
  all_goals intro k j; pointwise []; simp only [b6, b7, b8, zero_add]

/-- The result array after the run is the reference's result. -/
theorem final (c : Dev nD) : (dats m 0 c).arrAt 9 cfg0.N = REF m c := by
  refine (dats m 0 c).arrAt_eq_of_covers 9 _ (by decide +kernel) fun t _ y => ?_
  blk_simp
  rw [after0_9]
  obtain ⟨r, n, rfl⟩ : ∃ (r : Fin 512) (n : Fin 1024), y = ix2 r n := ⟨y 0, y 1, eq_ix2 y⟩
  refine (out_eq m c t r n).trans (congrArg (REF m c) ?_)
  blk_ext [idx t, row]

end Cert.FfnIdeal.Final
end
-- ==== Proof.Ffn.Claims.lean ====
/- The five claims about the second part of a layer. -/
module

public import proofs.«01_k».proof.Defs
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.Ffn.Value
public import Idealize.ShloMosaic.Lib.Claim

@[expose] public section

set_option maxRecDepth 16384

noncomputable section

open Idealize.ShloMosaic Idealize.SL.Sem

namespace Cert.Proof.Ffn

/-- The kernel runs without a fault and leaves its arguments and counters alone. -/
theorem frame_P : Cert.quiescent_Ffn := fun m ρ _ => Cert.Ffn.Gen.frame m ρ

/-- The same of the kernel over the extended reals. -/
theorem frame_PI : Cert.quiescent_FfnIdeal := fun m ρ _ => Cert.FfnIdeal.Gen.frame m ρ

/-- The same of the reference over the extended reals. -/
theorem frame_RI : Cert.quiescent_FfnRefIdeal := by
  intro m g _
  exact (θ_run Cert.FfnRefIdeal.defs _ _).mono (fun r h => ⟨fun c => (h c).2, sem_eq_zero_of_no_sems (by decide) r.2⟩)
    (Cert.FfnRefIdeal.Value.run m g)

/-- Reading the kernel over the extended reals changes no operation. -/
theorem preserves : Cert.preserves_Ffn_FfnIdeal := trivial

/-- The kernel and the reference leave the same array over the extended reals. -/
theorem algebraic : Cert.algebraic_FfnIdeal_FfnRefIdeal := by
  pair_intro
  · run_from Cert.FfnIdeal.Gen.run_main m g
  · run_from Cert.FfnRefIdeal.Value.run m' g'
    obtain ⟨h0, h1, h2, h3, h4, h5, h6, h7, h8⟩ := hagree c
    refine (Cert.FfnRefIdeal.Pure.res_eq m' c).trans (Eq.trans ?_ (Cert.FfnIdeal.Final.final m c).symm)
    rw [h0, h1, h2, h3, h4, h5, h6, h7, h8]

end Cert.Proof.Ffn
end
-- ==== Proof.Diff.Slots.lean ====
/- What a rectangle of a buffer holds after a list of writes, where the newest write is to the same rectangle or to one
   apart from it. -/
module

public import Idealize.ShloMosaic.Lib.Pipeline.ReadBack

@[expose] public section

noncomputable section

namespace Cert.Slots

open Idealize.ShloMosaic Idealize.ShloMosaic.View

variable {sig : RefSig} {κ : Kind} {sp : Space} {s : Shape} {e : EltTy} {Val : EltTy → Type}

/-- The rectangle of the newest write holds what was written. -/
theorem at_newest (v : View sig κ sp s e) (f : v.ty.Contents Val) (r : Rect s) (w : r.shape.Idx → Val e) (L : List (Piece Val s e)) :
    v.readAt Val r.toLoadRect (v.writes Val f (⟨r, w⟩ :: L)) = w :=
  funext fun x => read_writes_cons_emb v f r w L x

/-- A rectangle apart from the newest write holds what the earlier writes left. -/
theorem at_older (v : View sig κ sp s e) (f : v.ty.Contents Val) (r : Rect s) (w : r.shape.Idx → Val e) (L : List (Piece Val s e)) (B : LoadRect s)
    (h : LoadRect.disj r B = true) :
    v.readAt Val B (v.writes Val f (⟨r, w⟩ :: L)) = v.readAt Val B (v.writes Val f L) := by
  funext j
  exact read_writes_cons_miss v f _ L _ (LoadRect.idx_not_mem_of_disj h j)

/-- With nothing written a rectangle holds what it held. -/
theorem at_none (v : View sig κ sp s e) (f : v.ty.Contents Val) (B : LoadRect s) :
    v.readAt Val B (v.writes Val f []) = v.readAt Val B f := rfl

/-- A load from inside the rectangle of the newest write reads the part of what was written that lies there. -/
theorem cov_inside [∀ e, Nonempty (Val e)] (v : View sig κ sp s e) (r : Rect s) (w : r.shape.Idx → Val e) (L : List (Piece Val s e)) (B : LoadRect s)
    (g : B.shape.Idx → r.shape.Idx) (h : ∀ j, r.toLoadRect.idx (g j) = B.idx j) :
    v.readCov (⟨r, w⟩ :: L) B = fun j => w (g j) := by
  funext j
  refine (congrArg (v.read Val (v.writes Val v.junk (⟨r, w⟩ :: L))) (h j).symm).trans ?_
  exact congrFun (at_newest v v.junk r w L) (g j)

end Cert.Slots
end
-- ==== Proof.DiffIdeal.Step.lean ====
/- The two loops over the key tiles as steps of a state: what the loops carry and the parts of the scratch buffers that one
   trip hands to the next. Each trip is run once, and the loops' invariants say that before trip `k` the buffers hold the
   state `k` steps after the one the loop began with. -/
module

public import proofs.«01_k».proof.Proof.Gen.DiffIdeal.Loops
public import proofs.«01_k».proof.Proof.Diff.Slots
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.DiffIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.DiffIdeal.Gen

variable {F : FTy → Type} [FloatOps F]

/-- What the loops over the key tiles carry: per map the largest score of the tile in hand, the last rescaling factor and
    the running maximum. -/
abbrev Row := FVec F S1x1024 .f32 × FVec F S1x1024 .f32 × FVec F S1x1024 .f32 × FVec F S1x1024 .f32 × FVec F S1x1024 .f32 × FVec F S1x1024 .f32

/-- The state between two trips: the carried rows, and per map the accumulator, the even tile's scores and the odd tile's
    weights. -/
@[ext] structure St (F : FTy → Type) [FloatOps F] where
  row : Row (F := F)
  a0 : Vec F S1x144x1024 .f32
  a1 : Vec F S1x144x1024 .f32
  s0 : Vec F S1x1x256x1024 .f32
  s1 : Vec F S1x1x256x1024 .f32
  p0 : Vec F S1x1x256x1024 .bf16
  p1 : Vec F S1x1x256x1024 .bf16

/-- The rectangles of the scratch buffers. -/
abbrev acc0 : Rect S2x144x1024 := Rect.unit (s := S2x144x1024) ![0, 0, 0] S1x144x1024.size inb_S2x144x1024_S1x144x1024_0_0_0
abbrev acc1 : Rect S2x144x1024 := Rect.unit (s := S2x144x1024) ![1, 0, 0] S1x144x1024.size inb_S2x144x1024_S1x144x1024_1_0_0
abbrev even0 : Rect S2x2x256x1024 := Rect.unit (s := S2x2x256x1024) ![0, 0, 0, 0] S1x1x256x1024.size inb_S2x2x256x1024_S1x1x256x1024_0_0_0_0
abbrev even1 : Rect S2x2x256x1024 := Rect.unit (s := S2x2x256x1024) ![0, 1, 0, 0] S1x1x256x1024.size inb_S2x2x256x1024_S1x1x256x1024_0_1_0_0
abbrev odd0 : Rect S2x2x256x1024 := Rect.unit (s := S2x2x256x1024) ![1, 0, 0, 0] S1x1x256x1024.size inb_S2x2x256x1024_S1x1x256x1024_1_0_0_0
abbrev odd1 : Rect S2x2x256x1024 := Rect.unit (s := S2x2x256x1024) ![1, 1, 0, 0] S1x1x256x1024.size inb_S2x2x256x1024_S1x1x256x1024_1_1_0_0

/-- One trip below the diagonal: from the state before it and the two key tiles and two value tiles it loads. -/
def step1 (i : grid0.Coords) (v2 : BitVec 32) (v14 v21 : FVec F S128x1024 .bf16) (k : Fin (k0_t1_loop i).trips)
    (kA kB : Vec F S1x256x128 .bf16) (vA vB : Vec F S1x1x1x144x256 .bf16) (S : St F) : St F :=
  let j : BitVec 32 := Scalar.muli 2#32 (Scf.iv 0#32 1#32 k)
  let top0 := k0_pay4 i v2 v14 0#32 1#32 k kA
  let top1 := k0_pay7 i v2 v21 0#32 1#32 k kA
  let m0 := k0_pay8 S.row.1 S.row.2.2.2.2.1
  let m1 := k0_pay12 S.row.2.1 S.row.2.2.2.2.2
  let al0 := k0_pay10 S.row.2.2.2.2.1 m0
  let al1 := k0_pay14 S.row.2.1 S.row.2.2.2.2.2
  let b0 := k0_pay17 S.row.2.2.1 S.a0 vA S.p0
  let b1 := k0_pay20 (k0_pay18 S.row.2.2.2.1 S.a1) (k0_pay19 vA) S.p1
  let e0 := k0_pay11 v2 j m0 S.s0
  let e1 := k0_pay16 (k0_pay15 v2 S.row.2.1 S.row.2.2.2.2.2 j S.s1)
  { row := (k0_pay23 v2 v14 j kB, k0_pay26 (k0_pay24 v21 kB) (Scalar.cmpi .sle (Scalar.addi j 2#32) v2), k0_pay29 top0 m0,
      k0_pay33 top1 m1, k0_pay27 top0 m0, k0_pay31 top1 m1)
    a0 := k0_pay38 al0 b0 vB e0
    a1 := k0_pay170 (k0_pay39 al1 b1) vB e1
    s0 := k0_pay22 v14 kB
    s1 := k0_pay25 v21 kB
    p0 := k0_pay30 v2 j top0 m0 (k0_pay3 v14 kA)
    p1 := k0_pay37 (k0_pay32 top1 m1) (k0_pay34 (k0_pay6 v21 kA)) (k0_pay35 v2 j) (k0_pay36 (F := F)) }

/-- One trip from the diagonal on: as `step1`, with the two tiles of the causal bias it adds. -/
def step3 (i : grid0.Coords) (v0 v2 : BitVec 32) (v14 v21 : FVec F S128x1024 .bf16) (v126 : BitVec 32) (k : Fin (k0_t3_loop i).trips)
    (kA kB : Vec F S1x256x128 .bf16) (bA bB : Vec F S1x256x1024 .f32) (vA vB : Vec F S1x1x1x144x256 .bf16) (S : St F) : St F :=
  let j : BitVec 32 := Scalar.muli 2#32 (Scf.iv v126 1#32 k)
  let top0 := k0_pay80 i v2 v14 v126 1#32 k kA bA
  let sc1 := k0_pay81 v21 kA
  let top1 := k0_pay84 v2 (Scalar.addi j 1#32) sc1 bA
  let m0 := k0_pay85 S.row.1 S.row.2.2.2.2.1
  let al0 := k0_pay87 S.row.1 S.row.2.2.2.2.1
  let m1 := k0_pay89 S.row.2.1 S.row.2.2.2.2.2
  let al1 := k0_pay92 S.row.2.2.2.2.2 m1 (k0_pay90 (F := F))
  let b0 := k0_pay95 (k0_pay94 S.row.2.2.1 S.a0 vA S.p0)
  let b1 := k0_pay96 S.row.2.2.2.1 S.a1 vA S.p1
  let e0 := k0_pay88 v2 S.row.1 S.row.2.2.2.2.1 j S.s0
  let e1 := k0_pay93 v2 j m1 (k0_pay90 (F := F)) S.s1
  let sc2 := k0_pay97 v14 kB
  { row := (k0_pay100 v2 (Scalar.addi j 2#32) sc2 bB, k0_pay103 v2 v21 (Scalar.addi j 2#32) kB bB, k0_pay106 top0 m0,
      k0_pay110 top1 m1, k0_pay104 top0 m0, k0_pay108 top1 m1)
    a0 := k0_pay113 al0 b0 vB e0
    a1 := k0_pay172 (k0_pay114 al1 b1) (k0_pay115 vB) e1
    s0 := k0_pay99 sc2 bB
    s1 := k0_pay102 v21 kB bB
    p0 := k0_pay107 v2 j top0 m0 1#32 (k0_pay79 v14 kA bA)
    p1 := k0_pay112 (k0_pay111 v2 j top1 m1 1#32 (k0_pay83 sc1 bA)) }

variable (𝒱 : Variants) (c : Dev nD) (bd : Option 𝒱.V) (i : grid0.Coords)
  (arg3 : Memref sig .tc .vmem S4x64 .f32) (harg3 : arg3.IsWhole) (arg4 : Memref sig .tc .vmem S1x1024x128 .bf16) (harg4 : arg4.IsWhole)
  (arg5 : Memref sig .tc .vmem S1x4096x128 .bf16) (harg5 : arg5.IsWhole) (arg6 : Memref sig .tc .vmem S1x1x16x144x256 .bf16) (harg6 : arg6.IsWhole)
  (arg7 : Memref sig .tc .vmem S1x128 .f32) (harg7 : arg7.IsWhole) (arg8 : Memref sig .tc .vmem S5x256x1024 .f32) (harg8 : arg8.IsWhole)
  (arg9 : Memref sig .tc .vmem S1x1024x128 .bf16) (harg9 : arg9.IsWhole) (arg10 : Memref sig .tc .vmem S2x144x1024 .f32) (harg10 : arg10.IsWhole)
  (arg11 : Memref sig .tc .vmem S2x2x256x1024 .f32) (harg11 : arg11.IsWhole) (arg12 : Memref sig .tc .vmem S2x2x256x1024 .bf16) (harg12 : arg12.IsWhole)
  (v0 v2 : BitVec 32) (v14 v21 : FVec F S128x1024 .bf16) (v31 v32 : FVec F S1x1024 .f32) (v58 : BitVec 32) (v82 : FVec F S1x1024 .f32)
  (v97 : FVec F S256x1024 .f32) (v126 : BitVec 32)
  (X_arg5 : BufTy.Contents (Elt F) arg5.view.ty) (X_arg6 : BufTy.Contents (Elt F) arg6.view.ty) (X_arg8 : BufTy.Contents (Elt F) arg8.view.ty)

/-- The state that the carried rows and the scratch buffers' contents make up. -/
def stOf (row : Row (F := F)) (f10 : BufTy.Contents (Elt F) arg10.view.ty) (f11 : BufTy.Contents (Elt F) arg11.view.ty)
    (f12 : BufTy.Contents (Elt F) arg12.view.ty) : St F where
  row := row
  a0 := arg10.view.readAt (Elt F) acc0.toLoadRect f10
  a1 := arg10.view.readAt (Elt F) acc1.toLoadRect f10
  s0 := arg11.view.readAt (Elt F) even0.toLoadRect f11
  s1 := arg11.view.readAt (Elt F) even1.toLoadRect f11
  p0 := arg12.view.readAt (Elt F) odd0.toLoadRect f12
  p1 := arg12.view.readAt (Elt F) odd1.toLoadRect f12

/-- Trip `k` below the diagonal, with the tiles read off their buffers. -/
def trip1 (l5 : ∀ B : LoadRect S1x4096x128, B.shape.Idx → Elt F .bf16) (l6 : ∀ B : LoadRect S1x1x16x144x256, B.shape.Idx → Elt F .bf16)
    (k : Fin (k0_t1_loop i).trips) (S : St F) : St F :=
  step1 i v2 v14 v21 k
    (l5 (Rect.unit (s := S1x4096x128) (k0_off3 i k 1#32) S1x256x128.size (k0_off3_inb i k 0)).toLoadRect)
    (l5 (Rect.unit (s := S1x4096x128) (k0_off3 i k 2#32) S1x256x128.size (k0_off3_inb i k 1)).toLoadRect)
    (l6 (Rect.unit (s := S1x1x16x144x256) (k0_off4 i k) S1x1x1x144x256.size (k0_off4_inb i k)).toLoadRect)
    (l6 (Rect.unit (s := S1x1x16x144x256) (k0_off5 i k) S1x1x1x144x256.size (k0_off5_inb i k)).toLoadRect) S

/-- The state after `k` trips below the diagonal. -/
def run1 (l5 : ∀ B : LoadRect S1x4096x128, B.shape.Idx → Elt F .bf16) (l6 : ∀ B : LoadRect S1x1x16x144x256, B.shape.Idx → Elt F .bf16) (S : St F) : ℕ → St F
  | 0 => S
  | k + 1 => if h : k < (k0_t1_loop i).trips then trip1 i v2 v14 v21 l5 l6 ⟨k, h⟩ (run1 l5 l6 S k) else run1 l5 l6 S k

/-- One more trip below the diagonal. -/
theorem run1_succ (l5 : ∀ B : LoadRect S1x4096x128, B.shape.Idx → Elt F .bf16) (l6 : ∀ B : LoadRect S1x1x16x144x256, B.shape.Idx → Elt F .bf16) (S : St F) (k : Fin (k0_t1_loop i).trips) :
    run1 i v2 v14 v21 l5 l6 S (k.val + 1) = trip1 i v2 v14 v21 l5 l6 k (run1 i v2 v14 v21 l5 l6 S k) := by
  show (if h : k.val < (k0_t1_loop i).trips then _ else _) = _
  rw [dif_pos k.isLt]

/-- One trip below the diagonal takes the state that the buffers make up one step on. -/
theorem trip1_steps (E : Set ℕ) (k : Fin (k0_t1_loop i).trips) (acc : Row (F := F)) (f_arg10 : BufTy.Contents (Elt F) arg10.view.ty)
    (f_arg11 : BufTy.Contents (Elt F) arg11.view.ty) (f_arg12 : BufTy.Contents (Elt F) arg12.view.ty) :
    iprop((arg5.view.loc (c : Thread nD τ) ↦[arg5.view.set]{fullShare} X_arg5) ∗ (arg6.view.loc (c : Thread nD τ) ↦[arg6.view.set]{fullShare} X_arg6)
      ∗ (arg10.view.loc (c : Thread nD τ) ↦[arg10.view.set]{fullShare} f_arg10) ∗ (arg11.view.loc (c : Thread nD τ) ↦[arg11.view.set]{fullShare} f_arg11)
      ∗ (arg12.view.loc (c : Thread nD τ) ↦[arg12.view.set]{fullShare} f_arg12))
      ⊢ (wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 v0 v2 v14 v21 v31 v32 v58 v82 v97 k acc)
          (fun yld => iprop((arg5.view.loc (c : Thread nD τ) ↦[arg5.view.set]{fullShare} X_arg5) ∗ (arg6.view.loc (c : Thread nD τ) ↦[arg6.view.set]{fullShare} X_arg6)
            ∗ (∃ g10 g11 g12, (arg10.view.loc (c : Thread nD τ) ↦[arg10.view.set]{fullShare} g10) ∗ (arg11.view.loc (c : Thread nD τ) ↦[arg11.view.set]{fullShare} g11)
            ∗ (arg12.view.loc (c : Thread nD τ) ↦[arg12.view.set]{fullShare} g12)
            ∗ ⌜stOf arg10 arg11 arg12 yld g10 g11 g12 = trip1 i v2 v14 v21 (fun B => arg5.view.readAt (Elt F) B X_arg5) (fun B => arg6.view.readAt (Elt F) B X_arg6) k (stOf arg10 arg11 arg12 acc f_arg10 f_arg11 f_arg12)⌝))) : sProp (MT nD τ sig Unit (Elt F) ℕ (UR sig nD τ) ℕ)) := by
  unfold k0_t1_body
  iintro ⟨HR_arg5, HR_arg6, HW_arg10, HW_arg11, HW_arg12⟩
  sl_exec
  sl_step
  isplitl [HR_arg5]; · iexact HR_arg5
  isplitl [HR_arg6]; · iexact HR_arg6
  iexists _, _, _
  isplitl [HW_arg10]; · iexact HW_arg10
  isplitl [HW_arg11]; · iexact HW_arg11
  isplitl [HW_arg12]; · iexact HW_arg12
  ipureintro
  sl_unfold_run_names
  apply St.ext
  all_goals
    simp (disch := decide) only [stOf, Slots.at_newest, Slots.at_older, Slots.at_none, View.readCov_cons_toLoadRect, View.readCov_skip]
    rfl

/-- The loop below the diagonal: before trip `k` the buffers make up the state `k` steps after the one it began with. -/
@[sl_loop, instance_reducible] def loop1 (E : Set ℕ) (G10 : BufTy.Contents (Elt F) arg10.view.ty) (G11 : BufTy.Contents (Elt F) arg11.view.ty)
    (G12 : BufTy.Contents (Elt F) arg12.view.ty) (init : Row (F := F)) :
    LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg12 harg12 v0 v2 v14 v21 v31 v32 v58 v82 v97 init where
  inv k acc := iprop((arg5.view.loc (c : Thread nD τ) ↦[arg5.view.set]{fullShare} X_arg5) ∗ (arg6.view.loc (c : Thread nD τ) ↦[arg6.view.set]{fullShare} X_arg6)
    ∗ (∃ f10 f11 f12, (arg10.view.loc (c : Thread nD τ) ↦[arg10.view.set]{fullShare} f10) ∗ (arg11.view.loc (c : Thread nD τ) ↦[arg11.view.set]{fullShare} f11)
      ∗ (arg12.view.loc (c : Thread nD τ) ↦[arg12.view.set]{fullShare} f12) ∗ ⌜stOf arg10 arg11 arg12 acc f10 f11 f12 = run1 i v2 v14 v21 (fun B => arg5.view.readAt (Elt F) B X_arg5) (fun B => arg6.view.readAt (Elt F) B X_arg6) (stOf arg10 arg11 arg12 init G10 G11 G12) k⌝))
  step k acc := by
    iintro ⟨HR_arg5, HR_arg6, ⟨%f10, %f11, %f12, HW_arg10, HW_arg11, HW_arg12, %h⟩⟩
    iapply (wp_wand_r Idealize.ShloMosaic.frame (wpE (defs₀ (F := F)) 𝒱 (c : Thread nD τ) bd) E)
    isplitl [HR_arg5 HR_arg6 HW_arg10 HW_arg11 HW_arg12]
    · iapply (trip1_steps (F := F) 𝒱 c bd i arg3 harg3 arg4 harg4 arg5 harg5 arg6 harg6 arg7 harg7 arg8 harg8 arg9 harg9 arg10 harg10 arg11 harg11 arg12 harg12 v0 v2 v14 v21 v31 v32 v58 v82 v97 X_arg5 X_arg6 E k acc f10 f11 f12)
      isplitl [HR_arg5]; · iexact HR_arg5
      isplitl [HR_arg6]; · iexact HR_arg6
      isplitl [HW_arg10]; · iexact HW_arg10
      isplitl [HW_arg11]; · iexact HW_arg11
      iexact HW_arg12
    · iintro %yld ⟨HR_arg5, HR_arg6, ⟨%g10, %g11, %g12, HW_arg10, HW_arg11, HW_arg12, %h'⟩⟩
      isplitl [HR_arg5]; · iexact HR_arg5
      isplitl [HR_arg6]; · iexact HR_arg6
      iexists g10, g11, g12
      isplitl [HW_arg10]; · iexact HW_arg10
      isplitl [HW_arg11]; · iexact HW_arg11
      isplitl [HW_arg12]; · iexact HW_arg12
      ipureintro
      rw [h', h, run1_succ]

/-- Trip `k` from the diagonal on, with the tiles read off their buffers. -/
def trip3 (l5 : ∀ B : LoadRect S1x4096x128, B.shape.Idx → Elt F .bf16) (l6 : ∀ B : LoadRect S1x1x16x144x256, B.shape.Idx → Elt F .bf16) (l8 : ∀ B : LoadRect S5x256x1024, B.shape.Idx → Elt F .f32)
    (k : Fin (k0_t3_loop i).trips) (S : St F) : St F :=
  step3 i v0 v2 v14 v21 v126 k
    (l5 (Rect.unit (s := S1x4096x128) (k0_off9 i k 1#32) S1x256x128.size (k0_off9_inb i k 0)).toLoadRect)
    (l5 (Rect.unit (s := S1x4096x128) (k0_off9 i k 2#32) S1x256x128.size (k0_off9_inb i k 1)).toLoadRect)
    (l8 (Rect.unit (s := S5x256x1024) (k0_off10 i k 1#32) S1x256x1024.size (k0_off10_inb i k 0)).toLoadRect)
    (l8 (Rect.unit (s := S5x256x1024) (k0_off10 i k 2#32) S1x256x1024.size (k0_off10_inb i k 1)).toLoadRect)
    (l6 (Rect.unit (s := S1x1x16x144x256) (k0_off11 i k) S1x1x1x144x256.size (k0_off11_inb i k)).toLoadRect)
    (l6 (Rect.unit (s := S1x1x16x144x256) (k0_off12 i k) S1x1x1x144x256.size (k0_off12_inb i k)).toLoadRect) S

/-- The state after `k` trips from the diagonal on. -/
def run3 (l5 : ∀ B : LoadRect S1x4096x128, B.shape.Idx → Elt F .bf16) (l6 : ∀ B : LoadRect S1x1x16x144x256, B.shape.Idx → Elt F .bf16) (l8 : ∀ B : LoadRect S5x256x1024, B.shape.Idx → Elt F .f32) (S : St F) : ℕ → St F
  | 0 => S
  | k + 1 => if h : k < (k0_t3_loop i).trips then trip3 i v0 v2 v14 v21 v126 l5 l6 l8 ⟨k, h⟩ (run3 l5 l6 l8 S k) else run3 l5 l6 l8 S k

/-- One more trip from the diagonal on. -/
theorem run3_succ (l5 : ∀ B : LoadRect S1x4096x128, B.shape.Idx → Elt F .bf16) (l6 : ∀ B : LoadRect S1x1x16x144x256, B.shape.Idx → Elt F .bf16) (l8 : ∀ B : LoadRect S5x256x1024, B.shape.Idx → Elt F .f32) (S : St F) (k : Fin (k0_t3_loop i).trips) :
    run3 i v0 v2 v14 v21 v126 l5 l6 l8 S (k.val + 1) = trip3 i v0 v2 v14 v21 v126 l5 l6 l8 k (run3 i v0 v2 v14 v21 v126 l5 l6 l8 S k) := by
  show (if h : k.val < (k0_t3_loop i).trips then _ else _) = _
  rw [dif_pos k.isLt]

/-- One trip from the diagonal on takes the state that the buffers make up one step on. -/
theorem trip3_steps (E : Set ℕ) (k : Fin (k0_t3_loop i).trips) (acc : Row (F := F)) (f_arg10 : BufTy.Contents (Elt F) arg10.view.ty)
    (f_arg11 : BufTy.Contents (Elt F) arg11.view.ty) (f_arg12 : BufTy.Contents (Elt F) arg12.view.ty) :
    iprop((arg5.view.loc (c : Thread nD τ) ↦[arg5.view.set]{fullShare} X_arg5) ∗ (arg6.view.loc (c : Thread nD τ) ↦[arg6.view.set]{fullShare} X_arg6) ∗ (arg8.view.loc (c : Thread nD τ) ↦[arg8.view.set]{fullShare} X_arg8)
      ∗ (arg10.view.loc (c : Thread nD τ) ↦[arg10.view.set]{fullShare} f_arg10) ∗ (arg11.view.loc (c : Thread nD τ) ↦[arg11.view.set]{fullShare} f_arg11)
      ∗ (arg12.view.loc (c : Thread nD τ) ↦[arg12.view.set]{fullShare} f_arg12))
      ⊢ (wp frame (wpE (defs₀ (F := F)) 𝒱 (c : Thread nD τ) bd) E (k0_t3_body (F := F) i arg3 harg3 arg4 harg4 arg5 harg5 arg6 harg6 arg7 harg7 arg8 harg8 arg9 harg9 arg10 harg10 arg11 harg11 arg12 harg12 v0 v2 v14 v21 v31 v32 v58 v82 v97 v126 k acc)
          (fun yld => iprop((arg5.view.loc (c : Thread nD τ) ↦[arg5.view.set]{fullShare} X_arg5) ∗ (arg6.view.loc (c : Thread nD τ) ↦[arg6.view.set]{fullShare} X_arg6) ∗ (arg8.view.loc (c : Thread nD τ) ↦[arg8.view.set]{fullShare} X_arg8)
            ∗ (∃ g10 g11 g12, (arg10.view.loc (c : Thread nD τ) ↦[arg10.view.set]{fullShare} g10) ∗ (arg11.view.loc (c : Thread nD τ) ↦[arg11.view.set]{fullShare} g11)
            ∗ (arg12.view.loc (c : Thread nD τ) ↦[arg12.view.set]{fullShare} g12)
            ∗ ⌜stOf arg10 arg11 arg12 yld g10 g11 g12 = trip3 i v0 v2 v14 v21 v126 (fun B => arg5.view.readAt (Elt F) B X_arg5) (fun B => arg6.view.readAt (Elt F) B X_arg6) (fun B => arg8.view.readAt (Elt F) B X_arg8) k (stOf arg10 arg11 arg12 acc f_arg10 f_arg11 f_arg12)⌝))) : sProp (MT nD τ sig Unit (Elt F) ℕ (UR sig nD τ) ℕ)) := by
  unfold k0_t3_body
  iintro ⟨HR_arg5, HR_arg6, HR_arg8, HW_arg10, HW_arg11, HW_arg12⟩
  sl_exec
  sl_step
  isplitl [HR_arg5]; · iexact HR_arg5
  isplitl [HR_arg6]; · iexact HR_arg6
  isplitl [HR_arg8]; · iexact HR_arg8
  iexists _, _, _
  isplitl [HW_arg10]; · iexact HW_arg10
  isplitl [HW_arg11]; · iexact HW_arg11
  isplitl [HW_arg12]; · iexact HW_arg12
  ipureintro
  sl_unfold_run_names
  apply St.ext
  all_goals
    simp (disch := decide) only [stOf, Slots.at_newest, Slots.at_older, Slots.at_none, View.readCov_cons_toLoadRect, View.readCov_skip]
    rfl

/-- The loop from the diagonal on: before trip `k` the buffers make up the state `k` steps after the one it began with. -/
@[sl_loop, instance_reducible] def loop3 (E : Set ℕ) (G10 : BufTy.Contents (Elt F) arg10.view.ty) (G11 : BufTy.Contents (Elt F) arg11.view.ty)
    (G12 : BufTy.Contents (Elt F) arg12.view.ty) (init : Row (F := F)) :
    LoopInvTy_k0_t3 (F := F) Unit ℕ (UR sig nD τ) ℕ 𝒱 c bd E i arg3 harg3 arg4 harg4 arg5 harg5 arg6 harg6 arg7 harg7 arg8 harg8 arg9 harg9 arg10 harg10 arg11 harg11 arg12 harg12 v0 v2 v14 v21 v31 v32 v58 v82 v97 v126 init where
  inv k acc := iprop((arg5.view.loc (c : Thread nD τ) ↦[arg5.view.set]{fullShare} X_arg5) ∗ (arg6.view.loc (c : Thread nD τ) ↦[arg6.view.set]{fullShare} X_arg6) ∗ (arg8.view.loc (c : Thread nD τ) ↦[arg8.view.set]{fullShare} X_arg8)
    ∗ (∃ f10 f11 f12, (arg10.view.loc (c : Thread nD τ) ↦[arg10.view.set]{fullShare} f10) ∗ (arg11.view.loc (c : Thread nD τ) ↦[arg11.view.set]{fullShare} f11)
      ∗ (arg12.view.loc (c : Thread nD τ) ↦[arg12.view.set]{fullShare} f12) ∗ ⌜stOf arg10 arg11 arg12 acc f10 f11 f12 = run3 i v0 v2 v14 v21 v126 (fun B => arg5.view.readAt (Elt F) B X_arg5) (fun B => arg6.view.readAt (Elt F) B X_arg6) (fun B => arg8.view.readAt (Elt F) B X_arg8) (stOf arg10 arg11 arg12 init G10 G11 G12) k⌝))
  step k acc := by
    iintro ⟨HR_arg5, HR_arg6, HR_arg8, ⟨%f10, %f11, %f12, HW_arg10, HW_arg11, HW_arg12, %h⟩⟩
    iapply (wp_wand_r Idealize.ShloMosaic.frame (wpE (defs₀ (F := F)) 𝒱 (c : Thread nD τ) bd) E)
    isplitl [HR_arg5 HR_arg6 HR_arg8 HW_arg10 HW_arg11 HW_arg12]
    · iapply (trip3_steps (F := F) 𝒱 c bd i arg3 harg3 arg4 harg4 arg5 harg5 arg6 harg6 arg7 harg7 arg8 harg8 arg9 harg9 arg10 harg10 arg11 harg11 arg12 harg12 v0 v2 v14 v21 v31 v32 v58 v82 v97 v126 X_arg5 X_arg6 X_arg8 E k acc f10 f11 f12)
      isplitl [HR_arg5]; · iexact HR_arg5
      isplitl [HR_arg6]; · iexact HR_arg6
      isplitl [HR_arg8]; · iexact HR_arg8
      isplitl [HW_arg10]; · iexact HW_arg10
      isplitl [HW_arg11]; · iexact HW_arg11
      iexact HW_arg12
    · iintro %yld ⟨HR_arg5, HR_arg6, HR_arg8, ⟨%g10, %g11, %g12, HW_arg10, HW_arg11, HW_arg12, %h'⟩⟩
      isplitl [HR_arg5]; · iexact HR_arg5
      isplitl [HR_arg6]; · iexact HR_arg6
      isplitl [HR_arg8]; · iexact HR_arg8
      iexists g10, g11, g12
      isplitl [HW_arg10]; · iexact HW_arg10
      isplitl [HW_arg11]; · iexact HW_arg11
      isplitl [HW_arg12]; · iexact HW_arg12
      ipureintro
      rw [h', h, run3_succ]

end Cert.DiffIdeal.Body
end
-- ==== Proof.DiffIdeal.Out.lean ====
/- The kernel's body on the state of `Step.lean`: the loops of no trips, and what the body leaves in the
   result's block. -/
module

public import proofs.«01_k».proof.Proof.DiffIdeal.Step

@[expose] public section

set_option maxRecDepth 16384
set_option maxHeartbeats 4000000

noncomputable section

namespace Cert.DiffIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.DiffIdeal.Gen

/-- The loop for two plain trips at a time has none left over. -/
theorem trips2 : ∀ i : grid0.Coords, (k0_t2_loop i).trips = 0 := by decide +kernel

/-- Nor has the one for two diagonal trips at a time. -/
theorem trips4 : ∀ i : grid0.Coords, (k0_t4_loop i).trips = 0 := by decide +kernel

variable {F : FTy → Type} [FloatOps F]

/-- A loop of no trips hands on what it was given. -/
@[sl_loop, instance_reducible] def loop2 (𝒱 : Variants) (c : Dev nD) (bd : Option 𝒱.V) (E : Set ℕ) (i : grid0.Coords)
    (arg3 : Memref sig .tc .vmem S4x64 .f32) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x1x16x144x256 .bf16) (harg6 : arg6.IsWhole) (arg7 : Memref sig .tc .vmem S1x128 .f32) (harg7 : arg7.IsWhole) (arg8 : Memref sig .tc .vmem S5x256x1024 .f32) (harg8 : arg8.IsWhole) (arg9 : Memref sig .tc .vmem S1x1024x128 .bf16) (harg9 : arg9.IsWhole) (arg10 : Memref sig .tc .vmem S2x144x1024 .f32) (harg10 : arg10.IsWhole) (arg11 : Memref sig .tc .vmem S2x2x256x1024 .f32) (harg11 : arg11.IsWhole) (arg12 : Memref sig .tc .vmem S2x2x256x1024 .bf16) (harg12 : arg12.IsWhole)
    (v0 v2 : BitVec 32) (v14 v21 : FVec F S128x1024 .bf16) (v31 v32 : FVec F S1x1024 .f32) (v58 : BitVec 32) (v82 : FVec F S1x1024 .f32) (v97 : FVec F S256x1024 .f32) (v131 : BitVec 32)
    (X_arg5 : BufTy.Contents (Elt F) arg5.view.ty) (X_arg6 : BufTy.Contents (Elt F) arg6.view.ty) (G10 : BufTy.Contents (Elt F) arg10.view.ty) (G11 : BufTy.Contents (Elt F) arg11.view.ty) (G12 : BufTy.Contents (Elt F) arg12.view.ty) (init : Row (F := F)) :
    LoopInvTy_k0_t2 (F := F) Unit ℕ (UR sig nD τ) ℕ 𝒱 c bd E i arg3 harg3 arg4 harg4 arg5 harg5 arg6 harg6 arg7 harg7 arg8 harg8 arg9 harg9 arg10 harg10 arg11 harg11 arg12 harg12 v0 v2 v14 v21 v31 v32 v58 v82 v97 v131 init where
  inv _ acc := iprop((arg5.view.loc (c : Thread nD τ) ↦[arg5.view.set]{fullShare} X_arg5) ∗ (arg6.view.loc (c : Thread nD τ) ↦[arg6.view.set]{fullShare} X_arg6)
    ∗ (∃ f10 f11 f12, (arg10.view.loc (c : Thread nD τ) ↦[arg10.view.set]{fullShare} f10) ∗ (arg11.view.loc (c : Thread nD τ) ↦[arg11.view.set]{fullShare} f11)
      ∗ (arg12.view.loc (c : Thread nD τ) ↦[arg12.view.set]{fullShare} f12) ∗ ⌜stOf arg10 arg11 arg12 acc f10 f11 f12 = stOf arg10 arg11 arg12 init G10 G11 G12⌝))
  step k acc := absurd (k.isLt.trans_eq (show Scf.trips (k0_t2_loop i).lb (k0_t2_loop i).ub (k0_t2_loop i).st = 0 from trips2 i)) (Nat.not_lt_zero _)

/-- A loop of no trips hands on what it was given. -/
@[sl_loop, instance_reducible] def loop4 (𝒱 : Variants) (c : Dev nD) (bd : Option 𝒱.V) (E : Set ℕ) (i : grid0.Coords)
    (arg3 : Memref sig .tc .vmem S4x64 .f32) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x1x16x144x256 .bf16) (harg6 : arg6.IsWhole) (arg7 : Memref sig .tc .vmem S1x128 .f32) (harg7 : arg7.IsWhole) (arg8 : Memref sig .tc .vmem S5x256x1024 .f32) (harg8 : arg8.IsWhole) (arg9 : Memref sig .tc .vmem S1x1024x128 .bf16) (harg9 : arg9.IsWhole) (arg10 : Memref sig .tc .vmem S2x144x1024 .f32) (harg10 : arg10.IsWhole) (arg11 : Memref sig .tc .vmem S2x2x256x1024 .f32) (harg11 : arg11.IsWhole) (arg12 : Memref sig .tc .vmem S2x2x256x1024 .bf16) (harg12 : arg12.IsWhole)
    (v0 v2 : BitVec 32) (v14 v21 : FVec F S128x1024 .bf16) (v58 v138 : BitVec 32) (v139_0 v139_1 v139_2 v139_3 v139_4 v139_5 : FVec F S1x1024 .f32) (c1 : BitVec 32)
    (X_arg5 : BufTy.Contents (Elt F) arg5.view.ty) (X_arg6 : BufTy.Contents (Elt F) arg6.view.ty) (X_arg8 : BufTy.Contents (Elt F) arg8.view.ty) (G10 : BufTy.Contents (Elt F) arg10.view.ty) (G11 : BufTy.Contents (Elt F) arg11.view.ty) (G12 : BufTy.Contents (Elt F) arg12.view.ty) (init : Row (F := F)) :
    LoopInvTy_k0_t4 (F := F) Unit ℕ (UR sig nD τ) ℕ 𝒱 c bd E i arg3 harg3 arg4 harg4 arg5 harg5 arg6 harg6 arg7 harg7 arg8 harg8 arg9 harg9 arg10 harg10 arg11 harg11 arg12 harg12 v0 v2 v14 v21 v58 v138 v139_0 v139_1 v139_2 v139_3 v139_4 v139_5 c1 init where
  inv _ acc := iprop((arg5.view.loc (c : Thread nD τ) ↦[arg5.view.set]{fullShare} X_arg5) ∗ (arg6.view.loc (c : Thread nD τ) ↦[arg6.view.set]{fullShare} X_arg6) ∗ (arg8.view.loc (c : Thread nD τ) ↦[arg8.view.set]{fullShare} X_arg8)
    ∗ (∃ f10 f11 f12, (arg10.view.loc (c : Thread nD τ) ↦[arg10.view.set]{fullShare} f10) ∗ (arg11.view.loc (c : Thread nD τ) ↦[arg11.view.set]{fullShare} f11)
      ∗ (arg12.view.loc (c : Thread nD τ) ↦[arg12.view.set]{fullShare} f12) ∗ ⌜stOf arg10 arg11 arg12 acc f10 f11 f12 = stOf arg10 arg11 arg12 init G10 G11 G12⌝))
  step k acc := absurd (k.isLt.trans_eq (show Scf.trips (k0_t4_loop i).lb (k0_t4_loop i).ub (k0_t4_loop i).st = 0 from trips4 i)) (Nat.not_lt_zero _)

/-- A load of an array's contents. -/
abbrev rd {s : Shape} {α : Type} (x : s.Idx → α) (B : LoadRect s) : B.shape.Idx → α := fun y => x (B.idx y)

/-- The first key tile of the query tile, and the last. -/
def firstTile (i : grid0.Coords) : BitVec 32 := Scalar.muli (BitVec.ofNat 32 (i 2).val) 4#32
def lastTile (i : grid0.Coords) : BitVec 32 := Scalar.subi (Scalar.addi (firstTile i) 4#32) 1#32

section
variable (i : grid0.Coords) (x0 : Vec F S4x64 .f32) (x1 : Vec F S1x1024x128 .bf16) (x2 : Vec F S1x4096x128 .bf16) (x3 : Vec F S1x1x16x144x256 .bf16)
  (x4 : Vec F S1x128 .f32) (x5 : Vec F S5x256x1024 .f32)

/-- The queries of the two maps. -/
def query0 : FVec F S128x1024 .bf16 := k0_pay155 (rd x1 (Rect.unit (s := S1x1024x128) ![0, 0, 0] S1x1024x128.size inb_S1x1024x128_S1x1024x128_0_0_0).toLoadRect)
def query1 : FVec F S128x1024 .bf16 := k0_pay156 (rd x1 (Rect.unit (s := S1x1024x128) ![0, 0, 0] S1x1024x128.size inb_S1x1024x128_S1x1024x128_0_0_0).toLoadRect)

/-- The first key tile and its bias. -/
def key0 : Vec F S1x256x128 .bf16 := rd x2 (Rect.unit (s := S1x4096x128) (k0_off1 i) S1x256x128.size (k0_off1_inb i)).toLoadRect
def bias0 : Vec F S1x256x1024 .f32 := rd x5 (Rect.unit (s := S5x256x1024) (k0_off2 i) S1x256x1024.size (k0_off2_inb i)).toLoadRect

/-- The state the loops begin with: nothing summed, and the first tile's scores. -/
def start : St F where
  row := (k0_pay166 (lastTile i) (k0_pay163 (query0 x1) (key0 i x2)) (bias0 i x5),
    k0_pay169 (lastTile i) (k0_pay167 (query1 x1) (key0 i x2) (bias0 i x5)), k0_pay160 (F := F), k0_pay160 (F := F), k0_pay159 (F := F), k0_pay159 (F := F))
  a0 := k0_pay157 (F := F)
  a1 := k0_pay158 (F := F)
  s0 := k0_pay165 (k0_pay163 (query0 x1) (key0 i x2)) (bias0 i x5)
  s1 := k0_pay168 (k0_pay167 (query1 x1) (key0 i x2) (bias0 i x5))
  p0 := k0_pay161 (Scalar.ofBits .bf16 0x0000#16)
  p1 := k0_pay162 (F := F)

/-- The state when the loops are done. -/
def finish : St F :=
  run3 i (firstTile i) (lastTile i) (query0 x1) (query1 x1) (k0_t3_loop i).lb (rd x2) (rd x3) (rd x5)
    (run1 i (lastTile i) (query0 x1) (query1 x1) (rd x2) (rd x3) (start i x1 x2 x5) (k0_t1_loop i).trips) (k0_t3_loop i).trips

/-- The last value tile. -/
def valueLast : Vec F S1x1x1x144x256 .bf16 := rd x3 (Rect.unit (s := S1x1x16x144x256) (k0_off17 i) S1x1x1x144x256.size (k0_off17_inb i)).toLoadRect

/-- The accumulators with the last odd tile's products added. -/
def total0 : Vec F S1x144x1024 .f32 :=
  k0_pay174 (finish i x1 x2 x3 x5).row.2.2.1 (finish i x1 x2 x3 x5).a0 (valueLast i x3) (finish i x1 x2 x3 x5).p0
def total1 : Vec F S1x144x1024 .f32 :=
  k0_pay177 (k0_pay175 (finish i x1 x2 x3 x5).row.2.2.2.1 (finish i x1 x2 x3 x5).a1) (k0_pay176 (valueLast i x3)) (finish i x1 x2 x3 x5).p1

/-- An accumulator's rows of values, and its row of sums. -/
abbrev valueRows : Rect S1x144x1024 := Rect.unit (s := S1x144x1024) ![0, 0, 0] S1x128x1024.size (by decide)
abbrev sumRow : Rect S1x144x1024 := Rect.unit (s := S1x144x1024) ![0, 128, 0] S1x1x1024.size (by decide)

/-- The block of the result. -/
def outBlk : Vec F S1x1024x128 .bf16 :=
  k0_pay1 (k0_pay178 (rd x0 (Rect.unit (s := S4x64) ![0, 0] S4x64.size inb_S4x64_S4x64_0_0).toLoadRect)
      (rd (total0 i x1 x2 x3 x5) valueRows.toLoadRect) (rd (total0 i x1 x2 x3 x5) sumRow.toLoadRect)
      (rd (total1 i x1 x2 x3 x5) valueRows.toLoadRect) (rd (total1 i x1 x2 x3 x5) sumRow.toLoadRect))
    (rd x4 (Rect.unit (s := S1x128) ![0, 0] S1x128.size inb_S1x128_S1x128_0_0).toLoadRect)

end

end Cert.DiffIdeal.Body
end
-- ==== Proof.DiffIdeal.Body.lean ====
/- The kernel's body on the state of `Step.lean`: what it leaves in the result's block, the body's triple, the proof data and the
   run of the whole program. -/
module

public import proofs.«01_k».proof.Proof.DiffIdeal.Out
public import proofs.«01_k».proof.Proof.Gen.DiffIdeal.Frame
public import Idealize.ShloMosaic.Lib.WholeRead
public import Idealize.ShloMosaic.Lib.VecWindow

@[expose] public section

set_option maxRecDepth 16384
set_option maxHeartbeats 4000000

noncomputable section

namespace Cert.DiffIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.DiffIdeal.Gen

variable {F : FTy → Type} [FloatOps F]

/-- The body's triple: the inputs as they were, the result's block at `outBlk`, the scratch buffers at anything. -/
theorem bodyRun (c : Dev nD) (i : grid0.Coords) (arg3 : Memref sig .tc .vmem S4x64 .f32) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x1x16x144x256 .bf16) (harg6 : arg6.IsWhole) (arg7 : Memref sig .tc .vmem S1x128 .f32) (harg7 : arg7.IsWhole) (arg8 : Memref sig .tc .vmem S5x256x1024 .f32) (harg8 : arg8.IsWhole) (arg9 : Memref sig .tc .vmem S1x1024x128 .bf16) (harg9 : arg9.IsWhole) (arg10 : Memref sig .tc .vmem S2x144x1024 .f32) (harg10 : arg10.IsWhole) (arg11 : Memref sig .tc .vmem S2x2x256x1024 .f32) (harg11 : arg11.IsWhole) (arg12 : Memref sig .tc .vmem S2x2x256x1024 .bf16) (harg12 : arg12.IsWhole)
    (x0 : Vec F S4x64 .f32) (x1 : Vec F S1x1024x128 .bf16) (x2 : Vec F S1x4096x128 .bf16) (x3 : Vec F S1x1x16x144x256 .bf16) (x4 : Vec F S1x128 .f32) (x5 : Vec F S5x256x1024 .f32) (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outBlk i x0 x1 x2 x3 x4 x5) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_diff i arg3 harg3 arg4 harg4 arg5 harg5 arg6 harg6 arg7 harg7 arg8 harg8 arg9 harg9 arg10 harg10 arg11 harg11 arg12 harg12) K := by
  have e5 : (fun B => arg5.view.readAt (Elt F) B (harg5.unread x2)) = rd x2 := by funext B y; exact Memref.IsWhole.readAt_unread harg5 _ _ _
  have e6 : (fun B => arg6.view.readAt (Elt F) B (harg6.unread x3)) = rd x3 := by funext B y; exact Memref.IsWhole.readAt_unread harg6 _ _ _
  have e8 : (fun B => arg8.view.readAt (Elt F) B (harg8.unread x5)) = rd x5 := by funext B y; exact Memref.IsWhole.readAt_unread harg8 _ _ _
  have e3 : ∀ B, arg3.view.readAt (Elt F) B (harg3.unread x0) = rd x0 B := by intro B; funext y; exact Memref.IsWhole.readAt_unread harg3 _ _ _
  have e4 : ∀ B, arg4.view.readAt (Elt F) B (harg4.unread x1) = rd x1 B := by intro B; funext y; exact Memref.IsWhole.readAt_unread harg4 _ _ _
  have e7 : ∀ B, arg7.view.readAt (Elt F) B (harg7.unread x4) = rd x4 B := by intro B; funext y; exact Memref.IsWhole.readAt_unread harg7 _ _ _
  have e5' : ∀ B, arg5.view.readAt (Elt F) B (harg5.unread x2) = rd x2 B := congrFun e5
  have e6' : ∀ B, arg6.view.readAt (Elt F) B (harg6.unread x3) = rd x3 B := congrFun e6
  have e8' : ∀ B, arg8.view.readAt (Elt F) B (harg8.unread x5) = rd x5 B := congrFun e8
  simp only [cc0_diff_eq_skeleton]; unfold cc0_diff_skel
  simp only [k0_part27_eq_skeleton, k0_part28_eq_skeleton, k0_part29_eq_skeleton, k0_part30_eq_skeleton, k0_part31_eq_skeleton, k0_part32_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  sl_exec
  sl_step
  iapply Hk
  isplitl [H0]; · iexists _; isplitr; swap; iexact H0; ipureintro; exact harg3.read_unread _
  isplitl [H1]; · iexists _; isplitr; swap; iexact H1; ipureintro; exact harg4.read_unread _
  isplitl [H2]; · iexists _; isplitr; swap; iexact H2; ipureintro; exact harg5.read_unread _
  isplitl [H3]; · iexists _; isplitr; swap; iexact H3; ipureintro; exact harg6.read_unread _
  isplitl [H4]; · iexists _; isplitr; swap; iexact H4; ipureintro; exact harg7.read_unread _
  isplitl [H5]; · iexists _; isplitr; swap; iexact H5; ipureintro; exact harg8.read_unread _
  isplitl [H6]
  · iexists _; isplitr; swap; · iexact H6
    ipureintro
    rename_i r1 r2 r3 r4
    have hfin : stOf arg10 arg11 arg12 r4 f10L9 f11L10 f12L11 = finish i x1 x2 x3 x5 := by
      refine hL25.trans (hL18.trans ?_)
      rw [e5, e6, e8]
      refine congrArg (fun S => run3 i (firstTile i) (lastTile i) (query0 x1) (query1 x1) (k0_t3_loop i).lb (rd x2) (rd x3) (rd x5) S (k0_t3_loop i).trips)
        (hL11.trans (hL5.trans ?_))
      rw [e5, e6]
      refine congrArg (fun S => run1 i (lastTile i) (query0 x1) (query1 x1) (rd x2) (rd x3) S (k0_t1_loop i).trips) ?_
      sl_unfold_run_names
      unfold stOf start
      simp (disch := decide) only [Slots.at_newest, Slots.at_older, Slots.at_none, View.readCov_cons_toLoadRect, View.readCov_skip]
      rfl
    have g0 : ∀ j, (Rect.unit (s := S2x144x1024) ![0, 0, 0] S1x144x1024.size inb_S2x144x1024_S1x144x1024_0_0_0).toLoadRect.idx (valueRows.toLoadRect.idx j)
        = (Rect.unit (s := S2x144x1024) ![0, 0, 0] S1x128x1024.size inb_S2x144x1024_S1x128x1024_0_0_0).toLoadRect.idx j := by
      intro j; have hj : (j 0 : ℕ) < 1 := (j 0).isLt
      funext a; fin_cases a <;> apply Fin.ext <;> simp [LoadRect.idx, Rect.toLoadRect, Rect.unit, valueRows, sumRow] <;> omega
    have g1 : ∀ j, (Rect.unit (s := S2x144x1024) ![1, 0, 0] S1x144x1024.size inb_S2x144x1024_S1x144x1024_1_0_0).toLoadRect.idx (valueRows.toLoadRect.idx j)
        = (Rect.unit (s := S2x144x1024) ![1, 0, 0] S1x128x1024.size inb_S2x144x1024_S1x128x1024_1_0_0).toLoadRect.idx j := by
      intro j; have hj : (j 0 : ℕ) < 1 := (j 0).isLt
      funext a; fin_cases a <;> apply Fin.ext <;> simp [LoadRect.idx, Rect.toLoadRect, Rect.unit, valueRows, sumRow] <;> omega
    have g2 : ∀ j, (Rect.unit (s := S2x144x1024) ![0, 0, 0] S1x144x1024.size inb_S2x144x1024_S1x144x1024_0_0_0).toLoadRect.idx (sumRow.toLoadRect.idx j)
        = (Rect.unit (s := S2x144x1024) ![0, 128, 0] S1x1x1024.size inb_S2x144x1024_S1x1x1024_0_128_0).toLoadRect.idx j := by
      intro j; have hj : (j 0 : ℕ) < 1 := (j 0).isLt
      funext a; fin_cases a <;> apply Fin.ext <;> simp [LoadRect.idx, Rect.toLoadRect, Rect.unit, valueRows, sumRow] <;> omega
    have g3 : ∀ j, (Rect.unit (s := S2x144x1024) ![1, 0, 0] S1x144x1024.size inb_S2x144x1024_S1x144x1024_1_0_0).toLoadRect.idx (sumRow.toLoadRect.idx j)
        = (Rect.unit (s := S2x144x1024) ![1, 128, 0] S1x1x1024.size inb_S2x144x1024_S1x1x1024_1_128_0).toLoadRect.idx j := by
      intro j; have hj : (j 0 : ℕ) < 1 := (j 0).isLt
      funext a; fin_cases a <;> apply Fin.ext <;> simp [LoadRect.idx, Rect.toLoadRect, Rect.unit, valueRows, sumRow] <;> omega
    have h0 := congrArg St.a0 hfin
    have h1 := congrArg St.a1 hfin
    have k0 := congrArg St.p0 hfin
    have k1 := congrArg St.p1 hfin
    have w0 := congrArg (fun S => S.row.2.2.1) hfin
    have w1 := congrArg (fun S => S.row.2.2.2.1) hfin
    unfold stOf at h0 h1 k0 k1 w0 w1
    dsimp only at h0 h1 k0 k1 w0 w1
    clear hL25 hL18 hL11 hL5 hfin
    refine (View.read_writes_full arg9.view f6 _ _ _).trans ?_
    sl_unfold_run_names
    simp (disch := decide) only [View.readCov_skip]
    rw [Slots.cov_inside (h := g0), Slots.cov_inside (h := g2), Slots.cov_inside (h := g1), Slots.cov_inside (h := g3)]
    unfold outBlk total0 total1
    rw [← h0, ← h1, ← k0, ← k1, ← w0, ← w1]
    rfl
  isplitl [H7]; · iexists _, _; isplitr; swap; · iexact H7
                  ipureintro; rfl
  isplitl [H8]; · iexists _, _; isplitr; swap; · iexact H8
                  ipureintro; rfl
  iexists _, _; isplitr; swap; · iexact H9
  ipureintro; rfl

end Cert.DiffIdeal.Body
end
-- ==== Proof.DiffIdeal.Run.lean ====
/- The kernel's run: its pipeline's proof data, with `outBlk` for what each point leaves, and what the whole program
   ends with. -/
module

public import proofs.«01_k».proof.Proof.DiffIdeal.Body
public import Idealize.ShloMosaic.Lib.Claim

@[expose] public section

set_option maxRecDepth 16384

noncomputable section

namespace Cert.DiffIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DiffIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in the result's block at a grid point. -/
def leaves (c : Dev nD) (t : Fin cfg0.N) : Vec F S1x1024x128 .bf16 :=
  outBlk (grid0.coords t) (iblk m c 0 t) (iblk m c 1 t) (iblk m c 2 t) (iblk m c 3 t) (iblk m c 4 t) (iblk m c 5 t)

/-- The proof data: every input keeps its block, the result gets `leaves`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => leaves m c t
  Φ _ := Pipeline.ΦA spec0 c
  q w := Pipeline.shareOf spec0 w
  owed _ := 0

/-- The arrays are the ones the host operations leave. -/
theorem A_eq (c : Dev nD) (w : Fin cfg0.W) : (dats m 0 c).A w = V m c (Pipeline.arrRef spec0 w) := by
  dsimp only [dats]

/-! What each window's buffer holds after the body, and before it. -/

/-- What window 0 holds after a step. -/
theorem after0_0 (c : Dev nD) (t : Fin cfg0.N) : (dats m 0 c).after 0 t = iblk m c 0 t := by dsimp only [dats]
/-- What window 1 holds after a step. -/
theorem after0_1 (c : Dev nD) (t : Fin cfg0.N) : (dats m 0 c).after 1 t = iblk m c 1 t := by dsimp only [dats]
/-- What window 2 holds after a step. -/
theorem after0_2 (c : Dev nD) (t : Fin cfg0.N) : (dats m 0 c).after 2 t = iblk m c 2 t := by dsimp only [dats]
/-- What window 3 holds after a step. -/
theorem after0_3 (c : Dev nD) (t : Fin cfg0.N) : (dats m 0 c).after 3 t = iblk m c 3 t := by dsimp only [dats]
/-- What window 4 holds after a step. -/
theorem after0_4 (c : Dev nD) (t : Fin cfg0.N) : (dats m 0 c).after 4 t = iblk m c 4 t := by dsimp only [dats]
/-- What window 5 holds after a step. -/
theorem after0_5 (c : Dev nD) (t : Fin cfg0.N) : (dats m 0 c).after 5 t = iblk m c 5 t := by dsimp only [dats]
/-- What window 6 holds after a step. -/
theorem after0_6 (c : Dev nD) (t : Fin cfg0.N) : (dats m 0 c).after 6 t = leaves m c t := by dsimp only [dats]
/-- What window 0 holds before a step. -/
theorem before0_0 (c : Dev nD) (t : Fin cfg0.N) (d) : (dats m 0 c).before 0 t d = iblk m c 0 t :=
  before0_0_of m (dats m 0 c) (A_eq m c 0) (after0_0 m c) t d
/-- What window 1 holds before a step. -/
theorem before0_1 (c : Dev nD) (t : Fin cfg0.N) (d) : (dats m 0 c).before 1 t d = iblk m c 1 t :=
  before0_1_of m (dats m 0 c) (A_eq m c 1) (after0_1 m c) t d
/-- What window 2 holds before a step. -/
theorem before0_2 (c : Dev nD) (t : Fin cfg0.N) (d) : (dats m 0 c).before 2 t d = iblk m c 2 t :=
  before0_2_of m (dats m 0 c) (A_eq m c 2) (after0_2 m c) t d
/-- What window 3 holds before a step. -/
theorem before0_3 (c : Dev nD) (t : Fin cfg0.N) (d) : (dats m 0 c).before 3 t d = iblk m c 3 t :=
  before0_3_of m (dats m 0 c) (A_eq m c 3) (after0_3 m c) t d
/-- What window 4 holds before a step. -/
theorem before0_4 (c : Dev nD) (t : Fin cfg0.N) (d) : (dats m 0 c).before 4 t d = iblk m c 4 t :=
  before0_4_of m (dats m 0 c) (A_eq m c 4) (after0_4 m c) t d
/-- What window 5 holds before a step. -/
theorem before0_5 (c : Dev nD) (t : Fin cfg0.N) (d) : (dats m 0 c).before 5 t d = iblk m c 5 t :=
  before0_5_of m (dats m 0 c) (A_eq m c 5) (after0_5 m c) t d

/-- The scratch buffers and the generator register, as the body takes them. -/
theorem scratch_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d)) ∗ (∃ r, prngReg c r)) := by
  unfold Pipeline.ΦA
  rw [scopedRest0_eq]
  simp only [owns_whole]
  try rfl

/-- What the body is called with, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 800000 in
/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl, scratch_eq,
    show (dats m 0 c).owesAt () t.succ = (dats m 0 c).owesAt () t.castSucc from rfl,
    after0_0, after0_1, after0_2, after0_3, after0_4, after0_5, after0_6]
  unfold leaves
  iintro ⟨⟨⟨S0, S1, S2⟩, HG⟩, Ho, ⟨%d0, H0⟩, ⟨%d1, H1⟩, ⟨%d2, H2⟩, ⟨%d3, H3⟩, ⟨%d4, H4⟩, ⟨%d5, H5⟩, ⟨%d6, H6⟩⟩
  iapply (bodyRun c (grid0.coords t) _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  iintro ⟨H0, H1, H2, H3, H4, H5, H6, S0, S1, S2⟩
  isplitl [S0 S1 S2 HG]
  · isplitl [S0 S1 S2]
    · isplitl [S0]; · iexact S0
      isplitl [S1]; · iexact S1
      iexact S2
    iexact HG
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's entry in the table of bodies is the body. -/
theorem defs₀_row (t : Fin cfg0.N) :
    defs₀ (F := F) .tc cfg0.body (cfg0.bodyArgs t (cfg0.slots t)) = bodyAt0 t := by
  unfold defs₀; rw [Defs.onTc_tc]

/-- The body does at every point what the proof data say. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program ends, with the arrays the proof data compute and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.DiffIdeal.Body
end
-- ==== Proof.Diff.Math.lean ====
/- Softmax attention computed tile by tile with a running maximum, over the extended reals: the running quotient of
   the weighted values is the plain softmax average, whatever maximum is taken off the exponents. -/
module

public import Idealize.ShloMosaic.Lib.Pointwise

@[expose] public section

noncomputable section

open Idealize.ShloMosaic

namespace Cert.TileSoftmax

/-- A maximum to take off the exponents: the running one, or zero while nothing has been seen. -/
def safe (m : EReal) : EReal := if m = ⊥ then 0 else m

/-- The largest score of one tile. -/
def top (f : Fin 256 → EReal) : EReal := Finset.univ.fold max ⊥ f

/-- The running maximum after `j` tiles. -/
def mx (sc : ℕ → Fin 256 → EReal) : ℕ → EReal
  | 0 => ⊥
  | j + 1 => max (mx sc j) (top (sc j))

/-- The factor by which tile `j` rescales what was summed before it. -/
def al (sc : ℕ → Fin 256 → EReal) (j : ℕ) : EReal := Ideal.exp2 (mx sc j - safe (mx sc (j + 1)))

/-- The weight of key `t` of tile `j`, at the maximum known after that tile. -/
def pr (sc : ℕ → Fin 256 → EReal) (j : ℕ) (t : Fin 256) : EReal := Ideal.exp2 (sc j t - safe (mx sc (j + 1)))

/-- The running weighted sum of the values after `j` tiles. -/
def acc (sc v : ℕ → Fin 256 → EReal) : ℕ → EReal
  | 0 => 0
  | j + 1 => al sc j * acc sc v j + ∑ t, v j t * pr sc j t

/-- The running fold is the supremum. -/
theorem top_eq_sup (f : Fin 256 → EReal) : top f = Finset.univ.sup f := rfl

/-- Every entry lies below the largest one. -/
theorem le_top' (f : Fin 256 → EReal) (t : Fin 256) : f t ≤ top f := by
  rw [top_eq_sup]; exact Finset.le_sup (Finset.mem_univ t)

/-- The largest of finitely many entries that are not infinite is not infinite. -/
theorem top_ne_top (f : Fin 256 → EReal) (h : ∀ t, f t ≠ ⊤) : top f ≠ ⊤ := by
  rw [top_eq_sup]
  refine ne_of_lt ((Finset.sup_lt_iff (by simp)).mpr fun t _ => lt_top_iff_ne_top.mpr (h t))

/-- The power of two of a difference of reals. -/
theorem exp2_sub (a b : ℝ) : Ideal.exp2 ((a : EReal) - (b : EReal)) = (((2 : ℝ) ^ (a - b) : ℝ) : EReal) := by
  rw [← EReal.coe_sub]; rfl

/-- A masked score weighs nothing. -/
theorem exp2_bot_sub (b : ℝ) : Ideal.exp2 ((⊥ : EReal) - (b : EReal)) = 0 := by
  rw [EReal.bot_sub]; rfl

/-- A finite sum of reals, read as an extended real. -/
theorem coe_sum {ι : Type} (s : Finset ι) (f : ι → ℝ) : ∑ i ∈ s, ((f i : ℝ) : EReal) = ((∑ i ∈ s, f i : ℝ) : EReal) := by
  classical
  induction s using Finset.induction with
  | empty => simp
  | insert a s ha ih => rw [Finset.sum_insert ha, Finset.sum_insert ha, ih, EReal.coe_add]

/-- The weight of key `k` for a query that sees the keys up to `q`, at the shift `μ`. -/
def wt (s : ℕ → ℝ) (q : ℕ) (μ : ℝ) (k : ℕ) : ℝ := if k ≤ q then (2 : ℝ) ^ (s k - μ) else 0

/-- After `n ≥ 1` tiles the running maximum is a real number and the running sum is the weighted sum of the values of
    the keys seen, at that number. -/
theorem acc_eq (s : ℕ → ℝ) (q N : ℕ) (sc : ℕ → Fin 256 → EReal)
    (hsc : ∀ j < N, ∀ t : Fin 256, sc j t = if 256 * j + t.val ≤ q then ((s (256 * j + t.val) : ℝ) : EReal) else ⊥) :
    ∀ n, n + 1 ≤ N → ∃ μ : ℝ, mx sc (n + 1) = (μ : EReal) ∧ ∀ (v : ℕ → Fin 256 → EReal) (w : ℕ → ℝ),
      (∀ j < N, ∀ t : Fin 256, v j t = ((w (256 * j + t.val) : ℝ) : EReal)) →
      acc sc v (n + 1) = ((∑ k ∈ Finset.range (256 * (n + 1)), w k * wt s q μ k : ℝ) : EReal) := by
  have hne : ∀ j < N, ∀ t, sc j t ≠ ⊤ := by
    intro j hj t; rw [hsc j hj t]; split
    · exact EReal.coe_ne_top _
    · exact bot_ne_top
  -- the weights of one tile at a real maximum
  have hpr : ∀ j < N, ∀ μ : ℝ, mx sc (j + 1) = (μ : EReal) → ∀ t : Fin 256,
      pr sc j t = ((wt s q μ (256 * j + t.val) : ℝ) : EReal) := by
    intro j hj μ hμ t
    unfold pr
    rw [hμ, safe, if_neg (EReal.coe_ne_bot μ), hsc j hj t]
    unfold wt
    split
    · exact exp2_sub _ _
    · rw [exp2_bot_sub]; rfl
  have htile : ∀ j < N, ∀ μ : ℝ, mx sc (j + 1) = (μ : EReal) → ∀ (v : ℕ → Fin 256 → EReal) (w : ℕ → ℝ),
      (∀ j < N, ∀ t : Fin 256, v j t = ((w (256 * j + t.val) : ℝ) : EReal)) →
      ∑ t, v j t * pr sc j t
        = ((∑ x ∈ Finset.range 256, w (256 * j + x) * wt s q μ (256 * j + x) : ℝ) : EReal) := by
    intro j hj μ hμ v w hv
    rw [Finset.sum_range (fun x => w (256 * j + x) * wt s q μ (256 * j + x)), ← coe_sum]
    refine Finset.sum_congr rfl fun t _ => ?_
    rw [hv j hj t, hpr j hj μ hμ t, ← EReal.coe_mul]
  intro n
  induction n with
  | zero =>
    intro hN
    have h0 : mx sc (0 + 1) = top (sc 0) := by simp [mx]
    have hb : top (sc 0) ≠ ⊥ := by
      intro h
      have := le_top' (sc 0) 0
      rw [h, le_bot_iff, hsc 0 (by omega) 0] at this
      simp at this
    refine ⟨(top (sc 0)).toReal, ?_, fun v w hv => ?_⟩
    · rw [h0, EReal.coe_toReal (top_ne_top _ (hne 0 (by omega))) hb]
    · have hm : mx sc (0 + 1) = (((top (sc 0)).toReal : ℝ) : EReal) := by
        rw [h0, EReal.coe_toReal (top_ne_top _ (hne 0 (by omega))) hb]
      have e : acc sc v (0 + 1) = al sc 0 * 0 + ∑ t, v 0 t * pr sc 0 t := rfl
      rw [e, mul_zero, zero_add, htile 0 (by omega) _ hm v w hv]
      simp
  | succ n ih =>
    intro hN
    obtain ⟨μ, hμ, hacc⟩ := ih (by omega)
    have ht : top (sc (n + 1)) ≠ ⊤ := top_ne_top _ (hne (n + 1) (by omega))
    have hmx : mx sc (n + 1 + 1) = max (μ : EReal) (top (sc (n + 1))) := by rw [mx, hμ]
    have hb : mx sc (n + 1 + 1) ≠ ⊥ := by
      rw [hmx]; exact ne_of_gt (lt_of_lt_of_le (EReal.bot_lt_coe μ) (le_max_left _ _))
    have htt : mx sc (n + 1 + 1) ≠ ⊤ := by
      rw [hmx]; exact ne_of_lt (max_lt (EReal.coe_lt_top μ) (lt_top_iff_ne_top.mpr ht))
    have hm : mx sc (n + 1 + 1) = (((mx sc (n + 1 + 1)).toReal : ℝ) : EReal) := (EReal.coe_toReal htt hb).symm
    generalize (mx sc (n + 1 + 1)).toReal = ν at hm
    refine ⟨ν, hm, fun v w hv => ?_⟩
    have e : acc sc v (n + 1 + 1) = al sc (n + 1) * acc sc v (n + 1) + ∑ t, v (n + 1) t * pr sc (n + 1) t := rfl
    have ha : al sc (n + 1) = (((2 : ℝ) ^ (μ - ν) : ℝ) : EReal) := by
      unfold al; rw [hm, hμ, safe, if_neg (EReal.coe_ne_bot ν), exp2_sub]
    rw [e, ha, hacc v w hv, htile (n + 1) (by omega) _ hm v w hv, ← EReal.coe_mul, ← EReal.coe_add]
    congr 1
    rw [show 256 * (n + 1 + 1) = 256 * (n + 1) + 256 from by ring, Finset.sum_range_add, Finset.mul_sum]
    congr 1
    refine Finset.sum_congr rfl fun k _ => ?_
    unfold wt
    split
    · rw [show s k - ν = (μ - ν) + (s k - μ) from by ring, Real.rpow_add (by norm_num)]; ring
    · simp

/-- The plain softmax average of the values `w` of the keys up to `q`, at the scores `a`. -/
def avg (a w : ℕ → ℝ) (q : ℕ) : ℝ :=
  (∑ k ∈ Finset.range (q + 1), w k * Real.exp (a k)) / ∑ k ∈ Finset.range (q + 1), Real.exp (a k)

/-- The sum of weights is positive. -/
theorem exp_sum_pos (a : ℕ → ℝ) (q : ℕ) : 0 < ∑ k ∈ Finset.range (q + 1), Real.exp (a k) :=
  Finset.sum_pos (fun _ _ => Real.exp_pos _) ⟨0, by simp⟩

/-- A sum over all keys of a masked term is the sum over the keys kept. -/
theorem sum_masked (f : ℕ → ℝ) (q n : ℕ) (h : q < n) :
    ∑ k ∈ Finset.range n, (if k ≤ q then f k else 0) = ∑ k ∈ Finset.range (q + 1), f k := by
  rw [← Finset.sum_filter]
  refine Finset.sum_congr ?_ fun _ _ => rfl
  ext k; simp; omega

/-- The weighted sum at the shift `μ`, in exponentials to the base `e`. -/
theorem sum_wt (a s w : ℕ → ℝ) (q n : ℕ) (μ : ℝ) (h : q < n) (hs : ∀ k, s k * Real.log 2 = a k) :
    ∑ k ∈ Finset.range n, w k * wt s q μ k
      = (2 : ℝ) ^ (-μ) * ∑ k ∈ Finset.range (q + 1), w k * Real.exp (a k) := by
  rw [← sum_masked _ q n h, Finset.mul_sum]
  refine Finset.sum_congr rfl fun k _ => ?_
  unfold wt
  split
  · rw [sub_eq_add_neg, Real.rpow_add (by norm_num), Real.rpow_def_of_pos (by norm_num : (0 : ℝ) < 2) (s k), mul_comm (Real.log 2),
      hs k]; ring
  · simp

/-- The quotient of two running sums, the second of the value one, is the plain softmax average. -/
theorem div_acc (a s w u : ℕ → ℝ) (q N : ℕ) (hq : q < 256 * N) (hs : ∀ k, s k * Real.log 2 = a k) (sc v o : ℕ → Fin 256 → EReal)
    (hsc : ∀ j < N, ∀ t : Fin 256, sc j t = if 256 * j + t.val ≤ q then ((s (256 * j + t.val) : ℝ) : EReal) else ⊥)
    (hv : ∀ j < N, ∀ t : Fin 256, v j t = ((w (256 * j + t.val) : ℝ) : EReal))
    (ho : ∀ j < N, ∀ t : Fin 256, o j t = 1) :
    Ideal.div (acc sc v N) (acc sc o N) = ((avg a w q : ℝ) : EReal) := by
  obtain ⟨n, rfl⟩ : ∃ n, N = n + 1 := ⟨N - 1, by omega⟩
  obtain ⟨μ, -, h⟩ := acc_eq s q (n + 1) sc hsc n le_rfl
  rw [h v w hv, h o (fun _ => 1) (fun j hj t => by rw [ho j hj t]; rfl), sum_wt a s w q _ μ hq hs,
    sum_wt a s (fun _ => 1) q _ μ hq hs]
  simp only [one_mul]
  have hp := exp_sum_pos a q
  have h2 : (0 : ℝ) < (2 : ℝ) ^ (-μ) := Real.rpow_pos_of_pos (by norm_num) _
  have hd : (2 : ℝ) ^ (-μ) * ∑ k ∈ Finset.range (q + 1), Real.exp (a k) ≠ 0 := (mul_pos h2 hp).ne'
  unfold Ideal.div
  rw [if_neg (by exact_mod_cast hd), ← EReal.coe_inv, ← EReal.coe_mul]
  congr 1
  unfold avg
  field_simp

end Cert.TileSoftmax
end
-- ==== Proof.DiffIdeal.Column.lean ====
/- One column of the loops over the key tiles: what a trip does to the numbers that belong to one query and one map. -/
module

public import proofs.«01_k».proof.Proof.DiffIdeal.Out
public import proofs.«01_k».proof.Proof.Diff.Math
public import Idealize.ShloMosaic.Lib.Pipeline.ValueKit

@[expose] public section

set_option maxRecDepth 16384
set_option maxHeartbeats 4000000

noncomputable section

namespace Cert.DiffIdeal.Body

open Idealize.ShloMosaic Idealize.ShloMosaic.TcCoe
open Cert.DiffIdeal.Gen
open Cert.TileSoftmax (safe top)

/-- The numbers of one query and one map between two trips: the largest score of the tile in hand, the last rescaling
    factor, the running maximum, the accumulator's column, the even tile's scores and the odd tile's weights. -/
@[ext] structure Col where
  top : EReal
  al : EReal
  mx : EReal
  a : Fin 144 → EReal
  s : Fin 256 → EReal
  p : Fin 256 → EReal

/-- The column of query `n` in the state of the first map, and of the second. -/
def col0 (S : St Ideal) (n : Fin 1024) : Col where
  top := S.row.1 (ix2 0 n)
  al := S.row.2.2.1 (ix2 0 n)
  mx := S.row.2.2.2.2.1 (ix2 0 n)
  a r := S.a0 (ix3 0 r n)
  s t := S.s0 (ix4 0 0 t n)
  p t := S.p0 (ix4 0 0 t n)
def col1 (S : St Ideal) (n : Fin 1024) : Col where
  top := S.row.2.1 (ix2 0 n)
  al := S.row.2.2.2.1 (ix2 0 n)
  mx := S.row.2.2.2.2.2 (ix2 0 n)
  a r := S.a1 (ix3 0 r n)
  s t := S.s1 (ix4 0 0 t n)
  p t := S.p1 (ix4 0 0 t n)

/-- The maximum after the even tile. -/
def Col.m0 (C : Col) : EReal := max C.mx C.top

/-- One trip on a column: `t1`, `s1` the odd tile's largest score and scores, `t2`, `s2` those of the next even tile, `vA` and
    `vB` the value tiles before and at the even tile. -/
def Col.next (C : Col) (s1 : Fin 256 → EReal) (vA vB : Fin 144 → Fin 256 → EReal) (t2 : EReal) (s2 : Fin 256 → EReal) : Col where
  top := t2
  al := Ideal.exp2 (C.m0 - safe (max C.m0 (TileSoftmax.top s1)))
  mx := max C.m0 (TileSoftmax.top s1)
  a r := Ideal.exp2 (C.mx - safe C.m0) * (C.al * C.a r + ∑ t, vA r t * C.p t) + ∑ t, vB r t * Ideal.exp2 (C.s t - safe C.m0)
  s := s2
  p t := Ideal.exp2 (s1 t - safe (max C.m0 (TileSoftmax.top s1)))

/-- The scores of a key tile for query `n`. -/
def dots (q : FVec Ideal S128x1024 .bf16) (k : Vec Ideal S1x256x128 .bf16) (n : Fin 1024) (t : Fin 256) : EReal :=
  ∑ d : Fin 128, k (ix3 0 t d) * q (ix2 d n)

/-- The rows of a value tile. -/
def vals (v : Vec Ideal S1x1x1x144x256 .bf16) (r : Fin 144) (t : Fin 256) : EReal := v (ix5 0 0 0 r t)

/-- The word of the mask is minus infinity. -/
theorem bits_bot : Ideal.ofBits .f32 0xFF800000#32 = (⊥ : EReal) := by
  simp [Ideal.ofBits, Ideal.ieee]

/-- A kept entry. -/
theorem kept {α : Type} (a b : α) : Scalar.select 1#1 a b = a := rfl

/-- The fold that starts at minus infinity is the running fold. -/
theorem bot_fold (f : Fin 256 → EReal) : Finset.univ.fold max ⊥ f = TileSoftmax.top f := rfl

/-- The scores of a key tile with its tile of the causal bias added. -/
def biased (s : Fin 256 → EReal) (b : Vec Ideal S1x256x1024 .f32) (n : Fin 1024) (t : Fin 256) : EReal := s t + b (ix3 0 t n)

section
variable (i : grid0.Coords) (v0 v2 : BitVec 32) (v14 v21 : FVec Ideal S128x1024 .bf16)
    (kA kB : Vec Ideal S1x256x128 .bf16) (bA bB : Vec Ideal S1x256x1024 .f32) (vA vB : Vec Ideal S1x1x1x144x256 .bf16) (S : St Ideal)

section
variable (k : Fin (k0_t1_loop i).trips)
    (h0 : Scalar.cmpi .sle (Scalar.muli 2#32 (Scf.iv 0#32 1#32 k)) v2 = 1#1)
    (h1 : Scalar.cmpi .sle (Scalar.addi (Scalar.muli 2#32 (Scf.iv 0#32 1#32 k)) 1#32) v2 = 1#1)
    (h2 : Scalar.cmpi .sle (Scalar.addi (Scalar.muli 2#32 (Scf.iv 0#32 1#32 k)) 2#32) v2 = 1#1)
include h0 h1 h2

/-- A trip below the diagonal on a column of the first map. -/
theorem step1_col0 (n : Fin 1024) : col0 (step1 i v2 v14 v21 k kA kB vA vB S) n
    = (col0 S n).next (dots v14 kA n) (vals vA) (vals vB) (TileSoftmax.top (dots v14 kB n)) (dots v14 kB n) := by
  refine Col.ext ?_ ?_ ?_ (funext fun r => ?_) (funext fun t => ?_) (funext fun t => ?_)
  all_goals
    simp only [col0, Col.next, Col.m0, biased]
    pointwise [step1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay170]
    try simp only [h0, h1, h2, kept, bits_bot]
    rfl

/-- A trip below the diagonal on a column of the second map. -/
theorem step1_col1 (n : Fin 1024) : col1 (step1 i v2 v14 v21 k kA kB vA vB S) n
    = (col1 S n).next (dots v21 kA n) (vals vA) (vals vB) (TileSoftmax.top (dots v21 kB n)) (dots v21 kB n) := by
  refine Col.ext ?_ ?_ ?_ (funext fun r => ?_) (funext fun t => ?_) (funext fun t => ?_)
  all_goals
    simp only [col1, Col.next, Col.m0, biased]
    pointwise [step1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay170]
    try simp only [h0, h1, h2, kept, bits_bot]
    rfl

end

section
variable (v126 : BitVec 32) (k : Fin (k0_t3_loop i).trips)
    (h0 : Scalar.cmpi .sle (Scalar.muli 2#32 (Scf.iv v126 1#32 k)) v2 = 1#1)
    (h1 : Scalar.cmpi .sle (Scalar.addi (Scalar.muli 2#32 (Scf.iv v126 1#32 k)) 1#32) v2 = 1#1)
include h0 h1

/-- A trip from the diagonal on on a column of the first map. -/
theorem step3_col0 (n : Fin 1024) : col0 (step3 i v0 v2 v14 v21 v126 k kA kB bA bB vA vB S) n
    = (col0 S n).next (biased (dots v14 kA n) bA n) (vals vA) (vals vB) (Scalar.select (Scalar.cmpi .sle (Scalar.addi (Scalar.muli 2#32 (Scf.iv v126 1#32 k)) 2#32) v2) (TileSoftmax.top (biased (dots v14 kB n) bB n)) ⊥) (biased (dots v14 kB n) bB n) := by
  refine Col.ext ?_ ?_ ?_ (funext fun r => ?_) (funext fun t => ?_) (funext fun t => ?_)
  all_goals
    simp only [col0, Col.next, Col.m0, biased]
    pointwise [step3, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay172]
    try simp only [h0, h1, kept, bits_bot]
    rfl

/-- A trip from the diagonal on on a column of the second map. -/
theorem step3_col1 (n : Fin 1024) : col1 (step3 i v0 v2 v14 v21 v126 k kA kB bA bB vA vB S) n
    = (col1 S n).next (biased (dots v21 kA n) bA n) (vals vA) (vals vB) (Scalar.select (Scalar.cmpi .sle (Scalar.addi (Scalar.muli 2#32 (Scf.iv v126 1#32 k)) 2#32) v2) (TileSoftmax.top (biased (dots v21 kB n) bB n)) ⊥) (biased (dots v21 kB n) bB n) := by
  refine Col.ext ?_ ?_ ?_ (funext fun r => ?_) (funext fun t => ?_) (funext fun t => ?_)
  all_goals
    simp only [col1, Col.next, Col.m0, biased]
    pointwise [step3, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay172]
    try simp only [h0, h1, kept, bits_bot]
    rfl

end

end

/-- What the last value tile adds to a column. -/
def Col.last (C : Col) (v : Fin 144 → Fin 256 → EReal) (r : Fin 144) : EReal := C.al * C.a r + ∑ t, v r t * C.p t

section
variable (i : grid0.Coords) (x0 : Vec Ideal S4x64 .f32) (x1 : Vec Ideal S1x1024x128 .bf16) (x2 : Vec Ideal S1x4096x128 .bf16) (x3 : Vec Ideal S1x1x16x144x256 .bf16)
  (x4 : Vec Ideal S1x128 .f32) (x5 : Vec Ideal S5x256x1024 .f32)

/-- The first accumulator at the end. -/
theorem total0_at (r : Fin 144) (n : Fin 1024) :
    total0 (F := Ideal) i x1 x2 x3 x5 (ix3 0 r n) = (col0 (finish i x1 x2 x3 x5) n).last (vals (valueLast i x3)) r := by
  simp only [col0, Col.last]
  unfold total0
  generalize finish i x1 x2 x3 x5 = S
  generalize valueLast i x3 = v
  pointwise [k0_pay174]
  rfl

/-- The second accumulator at the end. -/
theorem total1_at (r : Fin 144) (n : Fin 1024) :
    total1 (F := Ideal) i x1 x2 x3 x5 (ix3 0 r n) = (col1 (finish i x1 x2 x3 x5) n).last (vals (valueLast i x3)) r := by
  simp only [col1, Col.last]
  unfold total1
  generalize finish i x1 x2 x3 x5 = S
  generalize valueLast i x3 = v
  pointwise [k0_pay175, k0_pay176, k0_pay177]
  rfl

/-- A column before the first trip: the first tile's scores, nothing summed. -/
def Col.first (s : Fin 256 → EReal) : Col where
  top := TileSoftmax.top s
  al := 1
  mx := ⊥
  a _ := 0
  s := s
  p _ := 0

variable (h : Scalar.cmpi .sge (lastTile i) 0#32 = 1#1)
include h

/-- The first map's columns before the first trip. -/
theorem start_col0 (n : Fin 1024) : col0 (start (F := Ideal) i x1 x2 x5) n
    = Col.first (biased (dots (query0 x1) (key0 i x2) n) (bias0 i x5) n) := by
  unfold start
  generalize query0 x1 = q0
  generalize query1 x1 = q1
  generalize key0 i x2 = k
  generalize bias0 i x5 = b
  refine Col.ext ?_ ?_ ?_ (funext fun r => ?_) (funext fun t => ?_) (funext fun t => ?_)
  all_goals
    simp only [col0, Col.first, biased]
    pointwise [k0_pay157, k0_pay158, k0_pay159, k0_pay160, k0_pay161, k0_pay162, k0_pay163, k0_pay164, k0_pay165, k0_pay166, k0_pay167, k0_pay168, k0_pay169]
    try simp only [h, kept, bits_bot]
    try rfl

/-- The second map's columns before the first trip. -/
theorem start_col1 (n : Fin 1024) : col1 (start (F := Ideal) i x1 x2 x5) n
    = Col.first (biased (dots (query1 x1) (key0 i x2) n) (bias0 i x5) n) := by
  unfold start
  generalize query0 x1 = q0
  generalize query1 x1 = q1
  generalize key0 i x2 = k
  generalize bias0 i x5 = b
  refine Col.ext ?_ ?_ ?_ (funext fun r => ?_) (funext fun t => ?_) (funext fun t => ?_)
  all_goals
    simp only [col1, Col.first, biased]
    pointwise [k0_pay157, k0_pay158, k0_pay159, k0_pay160, k0_pay161, k0_pay162, k0_pay163, k0_pay164, k0_pay165, k0_pay166, k0_pay167, k0_pay168, k0_pay169]
    try simp only [h, kept, bits_bot]
    try rfl

end

end Cert.DiffIdeal.Body
end
-- ==== Proof.DiffIdeal.Running.lean ====
/- The loops over the key tiles hold the running softmax of each query and map. -/
module

public import proofs.«01_k».proof.Proof.DiffIdeal.Column

@[expose] public section

set_option maxRecDepth 16384
set_option maxHeartbeats 4000000

noncomputable section

namespace Cert.DiffIdeal.Body

open Idealize.ShloMosaic Idealize.ShloMosaic.TcCoe
open Cert.DiffIdeal.Gen
open Cert.TileSoftmax (safe top mx al pr acc)

/-- The trips before the diagonal, by the query tile. -/
def plain (i : grid0.Coords) : ℕ := 2 * (i 2).val - 1

/-- The first loop's trips: how many, that no tile of a trip is past the last, and which tiles it loads. -/
theorem trips1 : ∀ i : grid0.Coords, (k0_t1_loop i).trips = plain i := by decide +kernel

/-- The trips of the plain loop stay below the last tile. -/
theorem tiles1 : ∀ i : grid0.Coords, ∀ k : Fin (k0_t1_loop i).trips,
    (Scalar.cmpi .sle (Scalar.muli 2#32 (Scf.iv 0#32 1#32 k)) (lastTile i) = 1#1
    ∧ Scalar.cmpi .sle (Scalar.addi (Scalar.muli 2#32 (Scf.iv 0#32 1#32 k)) 1#32) (lastTile i) = 1#1
    ∧ Scalar.cmpi .sle (Scalar.addi (Scalar.muli 2#32 (Scf.iv 0#32 1#32 k)) 2#32) (lastTile i) = 1#1)
    ∧ (k0_off3 i k 1#32 = ![0, 256 * (2 * k.val + 1), 0] ∧ k0_off3 i k 2#32 = ![0, 256 * (2 * k.val + 2), 0]
    ∧ k0_off4 i k = ![0, 0, 2 * k.val - 1, 0, 0] ∧ k0_off5 i k = ![0, 0, 2 * k.val, 0, 0]) := by decide +kernel

/-- The second loop's trips. -/
theorem trips3 : ∀ i : grid0.Coords, (k0_t3_loop i).trips = 2 * ((i 2).val + 1) - plain i := by decide +kernel

/-- The trips of the masked loop stay below the last tile. -/
theorem tiles3 : ∀ i : grid0.Coords, ∀ k : Fin (k0_t3_loop i).trips,
    (Scalar.cmpi .sle (Scalar.muli 2#32 (Scf.iv (k0_t3_loop i).lb 1#32 k)) (lastTile i) = 1#1
    ∧ Scalar.cmpi .sle (Scalar.addi (Scalar.muli 2#32 (Scf.iv (k0_t3_loop i).lb 1#32 k)) 1#32) (lastTile i) = 1#1)
    ∧ (k0_off9 i k 1#32 = ![0, 256 * (2 * (plain i + k.val) + 1), 0]
    ∧ k0_off10 i k 1#32 = ![2 * (plain i + k.val) + 1 + 1 - 4 * (i 2).val, 0, 0]
    ∧ k0_off11 i k = ![0, 0, 2 * (plain i + k.val) - 1, 0, 0] ∧ k0_off12 i k = ![0, 0, 2 * (plain i + k.val), 0, 0])
    ∧ (2 * (plain i + k.val) + 2 < 4 * ((i 2).val + 1) →
      Scalar.cmpi .sle (Scalar.addi (Scalar.muli 2#32 (Scf.iv (k0_t3_loop i).lb 1#32 k)) 2#32) (lastTile i) = 1#1
      ∧ k0_off9 i k 2#32 = ![0, 256 * (2 * (plain i + k.val) + 2), 0]
      ∧ k0_off10 i k 2#32 = ![2 * (plain i + k.val) + 2 + 1 - 4 * (i 2).val, 0, 0]) := by decide +kernel

/-- The first tile, and the last value tile. -/
theorem tiles0 : ∀ i : grid0.Coords, Scalar.cmpi .sge (lastTile i) 0#32 = 1#1 ∧ k0_off1 i = ![0, 256 * 0, 0]
    ∧ k0_off2 i = ![0 + 1 - 4 * (i 2).val, 0, 0] ∧ k0_off17 i = ![0, 0, 4 * ((i 2).val + 1) - 1, 0, 0] := by decide +kernel

/-- The plain trips are at most all trips. -/
theorem plain_le (i : grid0.Coords) : plain i ≤ 2 * ((i 2).val + 1) := by unfold plain; omega

/-- Key `k` of the batch's keys, and value tile `j`'s row `r`. -/
def keyAt (x2 : Vec Ideal S1x4096x128 .bf16) (k : ℕ) (d : Fin 128) : EReal := if h : k < 4096 then x2 (ix3 0 ⟨k, h⟩ d) else 0
def valAt (x3 : Vec Ideal S1x1x16x144x256 .bf16) (r : Fin 144) (j : ℕ) (t : Fin 256) : EReal :=
  if h : j < 16 then x3 (ix5 0 0 ⟨j, h⟩ r t) else 0

/-- The score of key `k` for query `n`, and the masked scores of tile `j`. -/
def raw (q : FVec Ideal S128x1024 .bf16) (x2 : Vec Ideal S1x4096x128 .bf16) (n : Fin 1024) (k : ℕ) : EReal :=
  ∑ d : Fin 128, keyAt x2 k d * q (ix2 d n)
def score (q : FVec Ideal S128x1024 .bf16) (x2 : Vec Ideal S1x4096x128 .bf16) (i : grid0.Coords) (n : Fin 1024) (j : ℕ) (t : Fin 256) : EReal :=
  if 256 * j + t.val ≤ 1024 * (i 2).val + n.val then raw q x2 n (256 * j + t.val) else ⊥

/-- A key tile read off the keys. -/
theorem rd_key (x2 : Vec Ideal S1x4096x128 .bf16) (o : Fin 3 → ℕ) (hi : ∀ a, o a + S1x256x128.size a ≤ S1x4096x128.size a) (j : ℕ)
    (h : o = ![0, 256 * j, 0]) (t : Fin 256) (d : Fin 128) :
    rd x2 (Rect.unit (s := S1x4096x128) o S1x256x128.size hi).toLoadRect (ix3 0 t d) = keyAt x2 (256 * j + t.val) d := by
  subst h
  have hj : 256 * j + 256 ≤ 4096 := hi 1
  unfold keyAt
  rw [dif_pos (by have := t.isLt; omega)]
  refine congrArg x2 ?_
  idx_ext

/-- A value tile read off the values. -/
theorem rd_val (x3 : Vec Ideal S1x1x16x144x256 .bf16) (o : Fin 5 → ℕ) (hi : ∀ a, o a + S1x1x1x144x256.size a ≤ S1x1x16x144x256.size a) (j : ℕ)
    (h : o = ![0, 0, j, 0, 0]) :
    vals (rd x3 (Rect.unit (s := S1x1x16x144x256) o S1x1x1x144x256.size hi).toLoadRect) = fun r => valAt x3 r j := by
  subst h
  funext r t
  have hj : j + 1 ≤ 16 := hi 2
  unfold valAt vals
  rw [dif_pos (by omega)]
  refine congrArg x3 ?_
  idx_ext

/-- A tile of the causal bias read off the five. -/
theorem rd_bias (x5 : Vec Ideal S5x256x1024 .f32) (o : Fin 3 → ℕ) (hi : ∀ a, o a + S1x256x1024.size a ≤ S5x256x1024.size a) (j : ℕ)
    (h : o = ![j, 0, 0]) (hj : j < 5) (t : Fin 256) (n : Fin 1024) :
    rd x5 (Rect.unit (s := S5x256x1024) o S1x256x1024.size hi).toLoadRect (ix3 0 t n) = x5 (ix3 ⟨j, hj⟩ t n) := by
  subst h
  refine congrArg x5 ?_
  idx_ext

/-- The causal bias: tile 0 keeps everything, tile `r + 1` the keys at or before the query when the key tile begins `r` tiles
    after the query tile. -/
def Causal (x5 : Vec Ideal S5x256x1024 .f32) : Prop :=
  ∀ (r : Fin 5) (t : Fin 256) (n : Fin 1024), x5 (ix3 r t n) = if r.val = 0 ∨ t.val + 256 * (r.val - 1) ≤ n.val then 0 else ⊥

section
variable (q : FVec Ideal S128x1024 .bf16) (x2 : Vec Ideal S1x4096x128 .bf16) (x5 : Vec Ideal S5x256x1024 .f32) (i : grid0.Coords)

/-- A tile before the diagonal: every score is kept. -/
theorem tile_plain (o : Fin 3 → ℕ) (hi : ∀ a, o a + S1x256x128.size a ≤ S1x4096x128.size a) (j : ℕ) (h : o = ![0, 256 * j, 0])
    (hj : j + 1 ≤ 4 * (i 2).val) (n : Fin 1024) :
    dots q (rd x2 (Rect.unit (s := S1x4096x128) o S1x256x128.size hi).toLoadRect) n = score q x2 i n j := by
  funext t
  unfold dots score raw
  rw [if_pos (by have := t.isLt; omega)]
  exact Finset.sum_congr rfl fun d _ => by rw [rd_key x2 o hi j h t d]

/-- A tile with its bias: the scores up to the query are kept. -/
theorem tile_biased (hb : Causal x5) (o : Fin 3 → ℕ) (hi : ∀ a, o a + S1x256x128.size a ≤ S1x4096x128.size a) (p : Fin 3 → ℕ)
    (hp : ∀ a, p a + S1x256x1024.size a ≤ S5x256x1024.size a) (j : ℕ) (h : o = ![0, 256 * j, 0])
    (h' : p = ![j + 1 - 4 * (i 2).val, 0, 0]) (hj : j < 4 * ((i 2).val + 1)) (n : Fin 1024) :
    biased (dots q (rd x2 (Rect.unit (s := S1x4096x128) o S1x256x128.size hi).toLoadRect) n)
      (rd x5 (Rect.unit (s := S5x256x1024) p S1x256x1024.size hp).toLoadRect) n = score q x2 i n j := by
  funext t
  unfold biased
  rw [rd_bias x5 p hp _ h' (by omega) t n, hb]
  have hd : dots q (rd x2 (Rect.unit (s := S1x4096x128) o S1x256x128.size hi).toLoadRect) n t = raw q x2 n (256 * j + t.val) :=
    Finset.sum_congr rfl fun d _ => by rw [rd_key x2 o hi j h t d]
  rw [hd]
  unfold score
  have ht := t.isLt
  by_cases hc : 256 * j + t.val ≤ 1024 * (i 2).val + n.val
  · rw [if_pos hc, if_pos (by show j + 1 - 4 * (i 2).val = 0 ∨ t.val + 256 * (j + 1 - 4 * (i 2).val - 1) ≤ n.val; omega), add_zero]
  · rw [if_neg hc, if_neg (by show ¬ (j + 1 - 4 * (i 2).val = 0 ∨ t.val + 256 * (j + 1 - 4 * (i 2).val - 1) ≤ n.val); omega), EReal.add_bot]

end

/-- Before trip `k` a column is the running softmax of the tiles before tile `2 k`; its accumulator lacks the last odd tile. -/
def Summed (sc : ℕ → Fin 256 → EReal) (v : Fin 144 → ℕ → Fin 256 → EReal) (k : ℕ) (C : Col) : Prop :=
  C.mx = mx sc (2 * k) ∧ ∀ r, C.last (fun r => v r (2 * k - 1)) r = acc sc (v r) (2 * k)

/-- And it has the next tile's scores in hand. -/
def Ready (sc : ℕ → Fin 256 → EReal) (k : ℕ) (C : Col) : Prop := C.top = top (sc (2 * k)) ∧ C.s = sc (2 * k)

/-- The first column. -/
theorem first_summed (sc : ℕ → Fin 256 → EReal) (v : Fin 144 → ℕ → Fin 256 → EReal) :
    Summed sc v 0 (Col.first (sc 0)) ∧ Ready sc 0 (Col.first (sc 0)) := by
  refine ⟨⟨rfl, fun r => ?_⟩, rfl, rfl⟩
  simp [Col.last, Col.first, acc]

/-- One trip takes the running softmax two tiles on. -/
theorem next_summed (sc : ℕ → Fin 256 → EReal) (v : Fin 144 → ℕ → Fin 256 → EReal) (k : ℕ) (C : Col) (h : Summed sc v k C) (h' : Ready sc k C)
    (t2 : EReal) (s2 : Fin 256 → EReal) :
    Summed sc v (k + 1) (C.next (sc (2 * k + 1)) (fun r => v r (2 * k - 1)) (fun r => v r (2 * k)) t2 s2) := by
  obtain ⟨hm, ha⟩ := h
  obtain ⟨ht, hs⟩ := h'
  have h0 : C.m0 = mx sc (2 * k + 1) := by unfold Col.m0; rw [hm, ht]; rfl
  refine ⟨?_, fun r => ?_⟩
  · show max C.m0 (top (sc (2 * k + 1))) = mx sc (2 * k + 2)
    rw [h0]; rfl
  · have h1 : (C.next (sc (2 * k + 1)) (fun r => v r (2 * k - 1)) (fun r => v r (2 * k)) t2 s2).a r = acc sc (v r) (2 * k + 1) := by
      show Ideal.exp2 (C.mx - safe C.m0) * C.last (fun r => v r (2 * k - 1)) r + ∑ t, v r (2 * k) t * Ideal.exp2 (C.s t - safe C.m0) = _
      rw [ha r, h0, hm, hs]; rfl
    unfold Col.last
    rw [h1]
    show Ideal.exp2 (C.m0 - safe (max C.m0 (top (sc (2 * k + 1))))) * acc sc (v r) (2 * k + 1)
      + ∑ t, v r (2 * k + 1) t * Ideal.exp2 (sc (2 * k + 1) t - safe (max C.m0 (top (sc (2 * k + 1))))) = acc sc (v r) (2 * k + 2)
    rw [h0]; rfl

section
variable (i : grid0.Coords) (x1 : Vec Ideal S1x1024x128 .bf16) (x2 : Vec Ideal S1x4096x128 .bf16) (x3 : Vec Ideal S1x1x16x144x256 .bf16)
  (x5 : Vec Ideal S5x256x1024 .f32) (hb : Causal x5)
include hb

/-- The first map before the first trip. -/
theorem start_summed0 (n : Fin 1024) :
    Summed (score (query0 x1) x2 i n) (valAt x3) 0 (col0 (start (F := Ideal) i x1 x2 x5) n)
    ∧ Ready (score (query0 x1) x2 i n) 0 (col0 (start (F := Ideal) i x1 x2 x5) n) := by
  obtain ⟨h, h1, h2, -⟩ := tiles0 i
  rw [start_col0 i x1 x2 x5 h n]
  have := tile_biased (query0 x1) x2 x5 i hb (k0_off1 i) (k0_off1_inb i) (k0_off2 i) (k0_off2_inb i) 0 h1 h2 (by omega) n
  unfold key0 bias0
  rw [this]
  exact first_summed _ _

/-- The first map before trip `k` below the diagonal. -/
theorem run1_summed0 (n : Fin 1024) : ∀ k, k ≤ (k0_t1_loop i).trips →
    Summed (score (query0 x1) x2 i n) (valAt x3) k
      (col0 (run1 (F := Ideal) i (lastTile i) (query0 x1) (query1 x1) (rd x2) (rd x3) (start i x1 x2 x5) k) n)
    ∧ Ready (score (query0 x1) x2 i n) k
      (col0 (run1 (F := Ideal) i (lastTile i) (query0 x1) (query1 x1) (rd x2) (rd x3) (start i x1 x2 x5) k) n)
  | 0, _ => start_summed0 i x1 x2 x3 x5 hb n
  | k + 1, hk => by
    obtain ⟨hs, hr⟩ := run1_summed0 n k (by omega)
    rw [run1_succ i (lastTile i) (query0 x1) (query1 x1) (rd x2) (rd x3) (start i x1 x2 x5) ⟨k, by omega⟩]
    generalize run1 (F := Ideal) i (lastTile i) (query0 x1) (query1 x1) (rd x2) (rd x3) (start i x1 x2 x5) k = S at *
    obtain ⟨⟨h0, h1, h2⟩, h3, h3', h4, h5⟩ := tiles1 i ⟨k, by omega⟩
    have ht := trips1 i
    unfold plain at ht
    unfold trip1
    rw [step1_col0 i (lastTile i) _ _ _ _ _ _ _ _ h0 h1 h2 n, rd_val x3 _ _ _ h4, rd_val x3 _ _ _ h5,
      tile_plain (query0 x1) x2 i _ _ _ h3 (by show 2 * k + 1 + 1 ≤ _; omega) n, tile_plain (query0 x1) x2 i _ _ _ h3' (by show 2 * k + 2 + 1 ≤ _; omega) n]
    exact ⟨next_summed _ _ k _ hs hr _ _, rfl, rfl⟩

/-- The first map before trip `k` from the diagonal on. -/
theorem run3_summed0 (n : Fin 1024) : ∀ k, k ≤ (k0_t3_loop i).trips →
    Summed (score (query0 x1) x2 i n) (valAt x3) (plain i + k)
      (col0 (run3 (F := Ideal) i (firstTile i) (lastTile i) (query0 x1) (query1 x1) (k0_t3_loop i).lb (rd x2) (rd x3) (rd x5)
        (run1 i (lastTile i) (query0 x1) (query1 x1) (rd x2) (rd x3) (start i x1 x2 x5) (k0_t1_loop i).trips) k) n)
    ∧ (2 * (plain i + k) < 4 * ((i 2).val + 1) → Ready (score (query0 x1) x2 i n) (plain i + k)
      (col0 (run3 (F := Ideal) i (firstTile i) (lastTile i) (query0 x1) (query1 x1) (k0_t3_loop i).lb (rd x2) (rd x3) (rd x5)
        (run1 i (lastTile i) (query0 x1) (query1 x1) (rd x2) (rd x3) (start i x1 x2 x5) (k0_t1_loop i).trips) k) n))
  | 0, _ => by
    obtain ⟨hs, hr⟩ := run1_summed0 i x1 x2 x3 x5 hb n (k0_t1_loop i).trips le_rfl
    rw [trips1 i] at hs hr
    exact ⟨by rw [trips1 i]; exact hs, fun _ => by rw [trips1 i]; exact hr⟩
  | k + 1, hk => by
    obtain ⟨hs, hr⟩ := run3_summed0 n k (by omega)
    rw [run3_succ i (firstTile i) (lastTile i) (query0 x1) (query1 x1) (k0_t3_loop i).lb (rd x2) (rd x3) (rd x5) _ ⟨k, by omega⟩]
    generalize run3 (F := Ideal) i (firstTile i) (lastTile i) (query0 x1) (query1 x1) (k0_t3_loop i).lb (rd x2) (rd x3) (rd x5)
        (run1 i (lastTile i) (query0 x1) (query1 x1) (rd x2) (rd x3) (start i x1 x2 x5) (k0_t1_loop i).trips) k = S at *
    obtain ⟨⟨h0, h1⟩, ⟨h3, h3', h4, h5⟩, h6⟩ := tiles3 i ⟨k, by omega⟩
    have ht := trips3 i
    have hp := plain_le i
    have hr' := hr (by omega)
    unfold trip3
    rw [step3_col0 i (firstTile i) (lastTile i) _ _ _ _ _ _ _ _ _ _ _ h0 h1 n, rd_val x3 _ _ _ h4, rd_val x3 _ _ _ h5,
      tile_biased (query0 x1) x2 x5 i hb _ _ _ _ _ h3 h3' (by show 2 * (plain i + k) + 1 < _; omega) n]
    refine ⟨next_summed _ _ (plain i + k) _ hs hr' _ _, fun hl => ?_⟩
    obtain ⟨h7, h8, h9⟩ := h6 (by show 2 * (plain i + k) + 2 < _; omega)
    rw [tile_biased (query0 x1) x2 x5 i hb _ _ _ _ _ h8 h9 (by show 2 * (plain i + k) + 2 < _; omega) n, h7]
    exact ⟨rfl, rfl⟩

/-- The first accumulator at the end: the softmax's sums over all the tiles. -/
theorem total0_eq (r : Fin 144) (n : Fin 1024) :
    total0 (F := Ideal) i x1 x2 x3 x5 (ix3 0 r n) = acc (score (query0 x1) x2 i n) (valAt x3 r) (4 * ((i 2).val + 1)) := by
  obtain ⟨-, -, -, h⟩ := tiles0 i
  rw [total0_at]
  unfold valueLast
  rw [rd_val x3 _ _ _ h]
  have hs := (run3_summed0 i x1 x2 x3 x5 hb n (k0_t3_loop i).trips le_rfl).1.2 r
  have ht := trips3 i
  have hp := plain_le i
  have he : 2 * (plain i + (k0_t3_loop i).trips) = 4 * ((i 2).val + 1) := by omega
  rw [he] at hs
  exact hs

/-- The second map before the first trip. -/
theorem start_summed1 (n : Fin 1024) :
    Summed (score (query1 x1) x2 i n) (valAt x3) 0 (col1 (start (F := Ideal) i x1 x2 x5) n)
    ∧ Ready (score (query1 x1) x2 i n) 0 (col1 (start (F := Ideal) i x1 x2 x5) n) := by
  obtain ⟨h, h1, h2, -⟩ := tiles0 i
  rw [start_col1 i x1 x2 x5 h n]
  have := tile_biased (query1 x1) x2 x5 i hb (k0_off1 i) (k0_off1_inb i) (k0_off2 i) (k0_off2_inb i) 0 h1 h2 (by omega) n
  unfold key0 bias0
  rw [this]
  exact first_summed _ _

/-- The second map before trip `k` below the diagonal. -/
theorem run1_summed1 (n : Fin 1024) : ∀ k, k ≤ (k0_t1_loop i).trips →
    Summed (score (query1 x1) x2 i n) (valAt x3) k
      (col1 (run1 (F := Ideal) i (lastTile i) (query0 x1) (query1 x1) (rd x2) (rd x3) (start i x1 x2 x5) k) n)
    ∧ Ready (score (query1 x1) x2 i n) k
      (col1 (run1 (F := Ideal) i (lastTile i) (query0 x1) (query1 x1) (rd x2) (rd x3) (start i x1 x2 x5) k) n)
  | 0, _ => start_summed1 i x1 x2 x3 x5 hb n
  | k + 1, hk => by
    obtain ⟨hs, hr⟩ := run1_summed1 n k (by omega)
    rw [run1_succ i (lastTile i) (query0 x1) (query1 x1) (rd x2) (rd x3) (start i x1 x2 x5) ⟨k, by omega⟩]
    generalize run1 (F := Ideal) i (lastTile i) (query0 x1) (query1 x1) (rd x2) (rd x3) (start i x1 x2 x5) k = S at *
    obtain ⟨⟨h0, h1, h2⟩, h3, h3', h4, h5⟩ := tiles1 i ⟨k, by omega⟩
    have ht := trips1 i
    unfold plain at ht
    unfold trip1
    rw [step1_col1 i (lastTile i) _ _ _ _ _ _ _ _ h0 h1 h2 n, rd_val x3 _ _ _ h4, rd_val x3 _ _ _ h5,
      tile_plain (query1 x1) x2 i _ _ _ h3 (by show 2 * k + 1 + 1 ≤ _; omega) n, tile_plain (query1 x1) x2 i _ _ _ h3' (by show 2 * k + 2 + 1 ≤ _; omega) n]
    exact ⟨next_summed _ _ k _ hs hr _ _, rfl, rfl⟩

/-- The second map before trip `k` from the diagonal on. -/
theorem run3_summed1 (n : Fin 1024) : ∀ k, k ≤ (k0_t3_loop i).trips →
    Summed (score (query1 x1) x2 i n) (valAt x3) (plain i + k)
      (col1 (run3 (F := Ideal) i (firstTile i) (lastTile i) (query0 x1) (query1 x1) (k0_t3_loop i).lb (rd x2) (rd x3) (rd x5)
        (run1 i (lastTile i) (query0 x1) (query1 x1) (rd x2) (rd x3) (start i x1 x2 x5) (k0_t1_loop i).trips) k) n)
    ∧ (2 * (plain i + k) < 4 * ((i 2).val + 1) → Ready (score (query1 x1) x2 i n) (plain i + k)
      (col1 (run3 (F := Ideal) i (firstTile i) (lastTile i) (query0 x1) (query1 x1) (k0_t3_loop i).lb (rd x2) (rd x3) (rd x5)
        (run1 i (lastTile i) (query0 x1) (query1 x1) (rd x2) (rd x3) (start i x1 x2 x5) (k0_t1_loop i).trips) k) n))
  | 0, _ => by
    obtain ⟨hs, hr⟩ := run1_summed1 i x1 x2 x3 x5 hb n (k0_t1_loop i).trips le_rfl
    rw [trips1 i] at hs hr
    exact ⟨by rw [trips1 i]; exact hs, fun _ => by rw [trips1 i]; exact hr⟩
  | k + 1, hk => by
    obtain ⟨hs, hr⟩ := run3_summed1 n k (by omega)
    rw [run3_succ i (firstTile i) (lastTile i) (query0 x1) (query1 x1) (k0_t3_loop i).lb (rd x2) (rd x3) (rd x5) _ ⟨k, by omega⟩]
    generalize run3 (F := Ideal) i (firstTile i) (lastTile i) (query0 x1) (query1 x1) (k0_t3_loop i).lb (rd x2) (rd x3) (rd x5)
        (run1 i (lastTile i) (query0 x1) (query1 x1) (rd x2) (rd x3) (start i x1 x2 x5) (k0_t1_loop i).trips) k = S at *
    obtain ⟨⟨h0, h1⟩, ⟨h3, h3', h4, h5⟩, h6⟩ := tiles3 i ⟨k, by omega⟩
    have ht := trips3 i
    have hp := plain_le i
    have hr' := hr (by omega)
    unfold trip3
    rw [step3_col1 i (firstTile i) (lastTile i) _ _ _ _ _ _ _ _ _ _ _ h0 h1 n, rd_val x3 _ _ _ h4, rd_val x3 _ _ _ h5,
      tile_biased (query1 x1) x2 x5 i hb _ _ _ _ _ h3 h3' (by show 2 * (plain i + k) + 1 < _; omega) n]
    refine ⟨next_summed _ _ (plain i + k) _ hs hr' _ _, fun hl => ?_⟩
    obtain ⟨h7, h8, h9⟩ := h6 (by show 2 * (plain i + k) + 2 < _; omega)
    rw [tile_biased (query1 x1) x2 x5 i hb _ _ _ _ _ h8 h9 (by show 2 * (plain i + k) + 2 < _; omega) n, h7]
    exact ⟨rfl, rfl⟩

/-- The second accumulator at the end: the softmax's sums over all the tiles. -/
theorem total1_eq (r : Fin 144) (n : Fin 1024) :
    total1 (F := Ideal) i x1 x2 x3 x5 (ix3 0 r n) = acc (score (query1 x1) x2 i n) (valAt x3 r) (4 * ((i 2).val + 1)) := by
  obtain ⟨-, -, -, h⟩ := tiles0 i
  rw [total1_at]
  unfold valueLast
  rw [rd_val x3 _ _ _ h]
  have hs := (run3_summed1 i x1 x2 x3 x5 hb n (k0_t3_loop i).trips le_rfl).1.2 r
  have ht := trips3 i
  have hp := plain_le i
  have he : 2 * (plain i + (k0_t3_loop i).trips) = 4 * ((i 2).val + 1) := by omega
  rw [he] at hs
  exact hs

end

end Cert.DiffIdeal.Body
end
-- ==== Proof.DiffIdeal.Blocks.lean ====
/- The blocks a grid point is given, read from the program's arguments. -/
module

public import proofs.«01_k».proof.Proof.DiffIdeal.Running
public import proofs.«01_k».proof.Proof.DiffIdeal.Run
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)

namespace Cert.DiffIdeal.Body
open Cert.DiffIdeal Cert.DiffIdeal.Gen

/-- The windows' block indices at a point, by its batch entry, its head and its query tile. -/
theorem idx : ∀ t : Fin cfg0.N, win0_0.index t = ![0, 0]
    ∧ win0_1.index t = ![(grid0.coords t 0).val, (grid0.coords t 2).val, 4 + (grid0.coords t 1).val]
    ∧ win0_2.index t = ![(grid0.coords t 0).val, 0, 8 + (grid0.coords t 1).val]
    ∧ win0_3.index t = ![(grid0.coords t 0).val, (grid0.coords t 1).val, 0, 0, 0]
    ∧ win0_4.index t = ![0, 0] ∧ win0_5.index t = ![0, 0, 0]
    ∧ win0_6.index t = ![(grid0.coords t 0).val, (grid0.coords t 2).val, (grid0.coords t 1).val] :=
  (by decide +kernel : ∀ t : Fin grid0.N, _)

/-- A point's batch entry, head, and query tile. -/
def bOf (t : Fin cfg0.N) : Fin 8 := grid0.coords t 0
def hOf (t : Fin cfg0.N) : Fin 4 := grid0.coords t 1
def qOf (t : Fin cfg0.N) : Fin 4 := grid0.coords t 2

/-- The queries scaled, between what stands before and after them. -/
def scaled (p : FVec Ideal S8x4096x2688 .f32) : FVec Ideal S8x4096x2688 .bf16 :=
  truncf .bf16 (concatenate S8x4096x2688 2 [⟨S8x4096x512, extractStridedSlice S8x4096x512 ![0, 0, 0] p slices_S8x4096x2688_S8x4096x512_0_0_0⟩,
    ⟨S8x4096x512, mulf (extractStridedSlice S8x4096x512 ![0, 0, 512] p slices_S8x4096x2688_S8x4096x512_0_0_512)
      (broadcastInDim S8x4096x512 ![] bcast_S_S8x4096x512 (Host.divf (constant S_ .f32 0x3E000000#32) (Host.log (constant S_ .f32 0x40000000#32))))⟩,
    ⟨S8x4096x1664, extractStridedSlice S8x4096x1664 ![0, 0, 1024] p slices_S8x4096x2688_S8x4096x1664_0_0_1024⟩]
    concatenates_S8x4096x512_S8x4096x512_S8x4096x1664_S8x4096x2688_d2) bitsLt_bf16_f32

/-- The values by tiles, with sixteen rows of ones below. -/
def tiled (v : FVec Ideal S8x4096x512 .f32) : FVec Ideal S8x4x16x144x256 .bf16 :=
  concatenate S8x4x16x144x256 3 [⟨S8x4x16x128x256, truncf .bf16 (transpose S8x4x16x128x256 [0, 3, 1, 4, 2]
    (shapeCast S8x16x256x4x128 v shapeCasts_S8x4096x512_S8x16x256x4x128) transposes_S8x16x256x4x128_S8x4x16x128x256_0_3_1_4_2) bitsLt_bf16_f32⟩,
    ⟨S8x4x16x16x256, broadcastInDim S8x4x16x16x256 ![] bcast_S_S8x4x16x16x256 (constant S_ .bf16 0x3F80#16)⟩]
    concatenates_S8x4x16x128x256_S8x4x16x16x256_S8x4x16x144x256_d3

/-- One tile of the causal bias, its keys beginning `w` after the queries. -/
def biasTile (w : BitVec 32) : FVec Ideal S256x1024 .f32 :=
  select (cmpi .sle (addi (iotaInDim S256x1024 32 0) (broadcastInDim S256x1024 ![] bcast_S_S256x1024 (constantI S_ 32 w))) (iotaInDim S256x1024 32 1))
    (broadcastInDim S256x1024 ![] bcast_S_S256x1024 (constant S_ .f32 0x00000000#32))
    (broadcastInDim S256x1024 ![] bcast_S_S256x1024 (constant S_ .f32 0xFF800000#32))

/-- The five tiles of the causal bias. -/
def biases : FVec Ideal S5x256x1024 .f32 :=
  concatenate S5x256x1024 0 [
    ⟨S1x256x1024, broadcastInDim S1x256x1024 ![1, 2] bcast_S256x1024_S1x256x1024_1_2 (broadcastInDim S256x1024 ![] bcast_S_S256x1024 (constant S_ .f32 0x00000000#32))⟩,
    ⟨S1x256x1024, broadcastInDim S1x256x1024 ![1, 2] bcast_S256x1024_S1x256x1024_1_2 (biasTile 0#32)⟩,
    ⟨S1x256x1024, broadcastInDim S1x256x1024 ![1, 2] bcast_S256x1024_S1x256x1024_1_2 (biasTile 256#32)⟩,
    ⟨S1x256x1024, broadcastInDim S1x256x1024 ![1, 2] bcast_S256x1024_S1x256x1024_1_2 (biasTile 512#32)⟩,
    ⟨S1x256x1024, broadcastInDim S1x256x1024 ![1, 2] bcast_S256x1024_S1x256x1024_1_2 (biasTile 768#32)⟩]
    concatenates_S1x256x1024_S1x256x1024_S1x256x1024_S1x256x1024_S1x256x1024_S5x256x1024_d0

variable (m : (ℓ : Loc nD τ sig) → Buf (Elt Ideal) ℓ) (c : Dev nD) (t : Fin cfg0.N)

/-- The arguments. -/
abbrev argP : FVec Ideal S8x4096x2688 .f32 := m ((c.tc : Thread nD τ).loc main_arg0)
abbrev argV : FVec Ideal S8x4096x512 .f32 := m ((c.tc : Thread nD τ).loc main_arg1)
abbrev argL : FVec Ideal S4x64 .f32 := m ((c.tc : Thread nD τ).loc main_arg2)
abbrev argG : FVec Ideal S128 .f32 := m ((c.tc : Thread nD τ).loc main_arg3)

/-- What the host hands to the region. -/
theorem entry_scaled : V m c main_v8 = scaled (argP m c) := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  after_results
  rfl
/-- The fourth operand is the values cut in tiles, with rows of ones below. -/
theorem entry_tiled : V m c main_v13 = tiled (argV m c) := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  after_results
  rfl
/-- The fifth operand is the gain as one row. -/
theorem entry_gain : V m c main_v14 = (broadcastInDim S1x128 ![1] bcast_S128_S1x128_1 (argG m c) : FVec Ideal S1x128 .f32) := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  after_results
/-- The sixth operand is the table of causal biases. -/
theorem entry_biases : V m c main_v43 = biases := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  after_results
  rfl

/-- The query scale. -/
def qscale : EReal := Ideal.div (Ideal.ofBits .f32 0x3E000000#32) (Ideal.log (Ideal.ofBits .f32 0x40000000#32))

/-- The scaled queries, read. -/
theorem scaled_query (p : FVec Ideal S8x4096x2688 .f32) (b : Fin 8) (s : Fin 4096) (n : Fin 2688) (h : 512 ≤ n.val) (h' : n.val < 1024) :
    scaled p (ix3 b s n) = p (ix3 b s n) * qscale := by
  pointwise [scaled]
  rw [dif_neg (by omega), dif_pos (by omega)]
  refine congrArg₂ (· * ·) (congrArg (fun x => p (ix3 b s x)) (Fin.ext ?_)) rfl
  show 512 + (n.val - 512) = n.val
  omega

/-- The keys, read. -/
theorem scaled_key (p : FVec Ideal S8x4096x2688 .f32) (b : Fin 8) (s : Fin 4096) (n : Fin 2688) (h : 1024 ≤ n.val) :
    scaled p (ix3 b s n) = p (ix3 b s n) := by
  pointwise [scaled]
  rw [dif_neg (by omega), dif_neg (by omega)]
  refine congrArg (fun x => p (ix3 b s x)) (Fin.ext ?_)
  show 1024 + (n.val - 512 - 512) = n.val
  omega

/-- The values of a tile, read. -/
theorem tiled_at (v : FVec Ideal S8x4096x512 .f32) (b : Fin 8) (h : Fin 4) (j : Fin 16) (r : Fin 144) (k : Fin 256) :
    tiled v (ix5 b h j r k) = if hr : r.val < 128 then v (ix3 b (⟨256 * j.val + k.val, by omega⟩ : Fin 4096)
      (⟨128 * h.val + r.val, by omega⟩ : Fin 512)) else 1 := by
  pointwise [tiled]
  by_cases hr : r.val < 128
  · rw [dif_pos hr, dif_pos hr]
    refine congrArg₂ (fun x y => v (ix3 b x y)) (Fin.ext ?_) (Fin.ext ?_)
    · show j.val * 256 + k.val = 256 * j.val + k.val
      omega
    · show h.val * 128 + r.val = 128 * h.val + r.val
      omega
  · rw [dif_neg hr, dif_neg hr]

/-- A comparison of two small words. -/
theorem word_le (a b w : ℕ) (ha : a < 256) (hw : w < 1024) (hb : b < 1024) :
    IntOp.cmpi .sle (IntOp.addi (BitVec.ofNat 32 a) (BitVec.ofNat 32 w)) (BitVec.ofNat 32 b) = if a + w ≤ b then 1#1 else 0#1 := by
  have h : ∀ n : ℕ, n < 4096 → (BitVec.ofNat 32 n).toInt = (n : ℤ) := fun n hn => by
    rw [BitVec.toInt_eq_toNat_cond, BitVec.toNat_ofNat, Nat.mod_eq_of_lt (by omega), if_pos (by omega)]
  have e : IntOp.addi (BitVec.ofNat 32 a) (BitVec.ofNat 32 w) = BitVec.ofNat 32 (a + w) := by
    rw [BitVec.ofNat_add]; rfl
  rw [e]
  simp only [IntOp.cmpi, BitVec.sle, h _ (show a + w < 4096 by omega), h b (by omega)]
  by_cases hab : a + w ≤ b
  · rw [if_pos hab, decide_eq_true (by exact_mod_cast hab)]; rfl
  · rw [if_neg hab, decide_eq_false (by exact_mod_cast hab)]; rfl

/-- A tile of the bias, read. -/
theorem biasTile_at (w : ℕ) (hw : w < 1024) (r : Fin 256) (k : Fin 1024) :
    biasTile (BitVec.ofNat 32 w) (ix2 r k) = if r.val + w ≤ k.val then (0 : EReal) else ⊥ := by
  pointwise [biasTile]
  rw [word_le r.val k.val w r.isLt hw k.isLt, bits_bot]
  by_cases h : r.val + w ≤ k.val
  · rw [if_pos h, if_pos h]; rfl
  · rw [if_neg h, if_neg h]; rfl

/-- The five tiles, read. -/
theorem biases_at : Causal biases := by
  intro j r k
  pointwise [biases]
  have tile : ∀ n : ℕ, n < 4 → biasTile (BitVec.ofNat 32 (256 * n)) (ix2 r k)
      = if n + 1 = 0 ∨ r.val + 256 * (n + 1 - 1) ≤ k.val then (0 : EReal) else ⊥ := fun n hn =>
    (biasTile_at (256 * n) (by omega) r k).trans (if_congr (by omega) rfl rfl)
  obtain ⟨j, hj⟩ := j
  rcases (by omega : j = 0 ∨ j = 1 ∨ j = 2 ∨ j = 3 ∨ j = 4) with rfl | rfl | rfl | rfl | rfl
  · exact (if_pos (Or.inl rfl)).symm
  · exact tile 0 (by omega)
  · exact tile 1 (by omega)
  · exact tile 2 (by omega)
  · exact tile 3 (by omega)

/-- The block of the weight vectors is all of them. -/
theorem blk0 (r : Fin 4) (d : Fin 64) : iblk m c 0 t (ix2 r d) = argL m c (ix2 r d) := by
  blk_ext! [iblk, V, idx t]

/-- The block of the gain is the gain. -/
theorem blk4 (r : Fin 1) (d : Fin 128) : iblk m c 4 t (ix2 r d) = argG m c (ix1 d) := by
  refine (show iblk m c 4 t (ix2 r d) = V m c main_v14 (ix2 r d) by blk_ext [iblk, idx t]).trans ?_
  rw [entry_gain]; pointwise []

/-- The block of queries is the rows of this step, in the columns of its head. -/
theorem blk1 (r : Fin 1024) (d : Fin 128) : iblk m c 1 t (ix3 0 r d) = argP m c (ix3 (bOf t)
    (⟨1024 * (qOf t).val + r.val, by omega⟩ : Fin 4096) (⟨512 + 128 * (hOf t).val + d.val, by omega⟩ : Fin 2688)) * qscale := by
  refine Eq.trans ?_ (scaled_query (argP m c) _ _ _ (by show 512 ≤ 512 + 128 * (hOf t).val + d.val; omega)
    (by show 512 + 128 * (hOf t).val + d.val < 1024; omega))
  rw [← entry_scaled]
  blk_ext [iblk, idx t, bOf, hOf, qOf]

/-- The block of keys is all rows, in the columns of its head. -/
theorem blk2 (r : Fin 4096) (d : Fin 128) : iblk m c 2 t (ix3 0 r d) = argP m c (ix3 (bOf t)
    r (⟨1024 + 128 * (hOf t).val + d.val, by omega⟩ : Fin 2688)) := by
  refine Eq.trans ?_ (scaled_key (argP m c) _ _ _ (by show 1024 ≤ 1024 + 128 * (hOf t).val + d.val; omega))
  rw [← entry_scaled]
  blk_ext [iblk, idx t, bOf, hOf, qOf]

/-- The block of values is the tiles of its head, with the rows of ones. -/
theorem blk3 (j : Fin 16) (r : Fin 144) (k : Fin 256) : iblk m c 3 t (ix5 0 0 j r k) = if hr : r.val < 128 then argV m c (ix3 (bOf t)
    (⟨256 * j.val + k.val, by omega⟩ : Fin 4096) (⟨128 * (hOf t).val + r.val, by omega⟩ : Fin 512)) else 1 := by
  refine Eq.trans ?_ (tiled_at (argV m c) _ _ _ _ _)
  rw [← entry_tiled]
  blk_ext [iblk, idx t, bOf, hOf, qOf]

/-- The block of biases is all of them. -/
theorem blk5 (j : Fin 5) (r : Fin 256) (k : Fin 1024) : iblk m c 5 t (ix3 j r k) = biases (ix3 j r k) := by
  rw [← entry_biases m c]
  blk_ext [iblk, idx t]

/-- The bias block is causal. -/
theorem causal : Causal (iblk m c 5 t) := fun r s n => (blk5 m c t r s n).trans (biases_at r s n)

end Cert.DiffIdeal.Body
end
-- ==== Proof.DiffIdeal.Reads.lean ====
/- What the kernel does before and after its loops, read at an index. -/
module

public import proofs.«01_k».proof.Proof.DiffIdeal.Running

@[expose] public section

set_option maxRecDepth 16384
set_option maxHeartbeats 4000000

noncomputable section

open Idealize.ShloMosaic Idealize.ShloMosaic.TcCoe Idealize.SL.Sem

namespace Cert.DiffIdeal.Body
open Cert.DiffIdeal Cert.DiffIdeal.Gen

/-- A load of the whole of a buffer is the buffer. -/
theorem whole1 (x : Vec Ideal S1x1024x128 .bf16) : rd x (Rect.unit (s := S1x1024x128) ![0, 0, 0] S1x1024x128.size inb_S1x1024x128_S1x1024x128_0_0_0).toLoadRect = x := by
  funext i
  refine congrArg x ?_
  idx_ext
/-- Reading the whole block of weight vectors. -/
theorem whole0 (x : Vec Ideal S4x64 .f32) : rd x (Rect.unit (s := S4x64) ![0, 0] S4x64.size inb_S4x64_S4x64_0_0).toLoadRect = x := by
  funext i
  refine congrArg x ?_
  idx_ext
/-- Reading the whole gain. -/
theorem whole4 (x : Vec Ideal S1x128 .f32) : rd x (Rect.unit (s := S1x128) ![0, 0] S1x128.size inb_S1x128_S1x128_0_0).toLoadRect = x := by
  funext i
  refine congrArg x ?_
  idx_ext

/-- Lane numbers compared with the middle. -/
theorem lane_lt (d : ℕ) (h : d < 128) : IntOp.cmpi .slt (BitVec.ofNat 32 d) 64#32 = if d < 64 then 1#1 else 0#1 := by
  revert d; decide +kernel
/-- The comparison of a lane number with 64. -/
theorem lane_ge (d : ℕ) (h : d < 128) : IntOp.cmpi .sge (BitVec.ofNat 32 d) 64#32 = if 64 ≤ d then 1#1 else 0#1 := by
  revert d; decide +kernel

/-- The first map's query keeps the lower lanes. -/
theorem query0_at (x1 : Vec Ideal S1x1024x128 .bf16) (d : Fin 128) (n : Fin 1024) :
    query0 x1 (ix2 d n) = if d.val < 64 then x1 (ix3 0 n d) else (0 : EReal) := by
  unfold query0
  rw [whole1]
  pointwise [k0_pay155, k0_pay154]
  rw [lane_lt d.val d.isLt]
  by_cases h : d.val < 64
  · rw [if_pos h, if_pos h]; rfl
  · rw [if_neg h, if_neg h]; rfl

/-- The second map's query keeps the upper lanes. -/
theorem query1_at (x1 : Vec Ideal S1x1024x128 .bf16) (d : Fin 128) (n : Fin 1024) :
    query1 x1 (ix2 d n) = if 64 ≤ d.val then x1 (ix3 0 n d) else (0 : EReal) := by
  unfold query1
  rw [whole1]
  pointwise [k0_pay156, k0_pay154]
  rw [lane_ge d.val d.isLt]
  by_cases h : 64 ≤ d.val
  · rw [if_pos h, if_pos h]; rfl
  · rw [if_neg h, if_neg h]; rfl

/-- The first 128 rows of an accumulator. -/
theorem rows_at (x : Vec Ideal S1x144x1024 .f32) (r : Fin 128) (n : Fin 1024) :
    rd x valueRows.toLoadRect (ix3 0 r n) = x (ix3 0 (⟨r.val, by omega⟩ : Fin 144) n) := by
  refine congrArg x ?_
  idx_ext
/-- Row 128 of an accumulator. -/
theorem sum_at (x : Vec Ideal S1x144x1024 .f32) (n : Fin 1024) :
    rd x sumRow.toLoadRect (ix3 0 0 n) = x (ix3 0 (⟨128, by omega⟩ : Fin 144) n) := by
  refine congrArg x ?_
  idx_ext

/-- The difference of the two weighted means, at one entry. -/
theorem pay178_at (l : Vec Ideal S4x64 .f32) (r0 : Vec Ideal S1x128x1024 .f32) (s0 : Vec Ideal S1x1x1024 .f32) (r1 : Vec Ideal S1x128x1024 .f32)
    (s1 : Vec Ideal S1x1x1024 .f32) (n : Fin 1024) (d : Fin 128) :
    k0_pay178 (F := Ideal) l r0 s0 r1 s1 (ix2 n d) = Ideal.div (r0 (ix3 0 d n)) (s0 (ix3 0 0 n))
      - (Ideal.exp (∑ k : Fin 64, l (ix2 0 k) * l (ix2 1 k)) - Ideal.exp (∑ k : Fin 64, l (ix2 2 k) * l (ix2 3 k)) + Ideal.ofBits .f32 0x3E4CCCCD#32)
        * Ideal.div (r1 (ix3 0 d n)) (s1 (ix3 0 0 n)) := by
  pointwise [k0_pay178]

/-- The normed and scaled output, at one entry. -/
theorem pay1_at (x : FVec Ideal S1024x128 .f32) (g : Vec Ideal S1x128 .f32) (n : Fin 1024) (d : Fin 128) :
    k0_pay1 (F := Ideal) x g (ix3 0 n d) = x (ix2 n d) * Ideal.rsqrt (Ideal.div (∑ k : Fin 128, x (ix2 n k) * x (ix2 n k))
      (Ideal.ofBits .f32 0x43000000#32) + Ideal.ofBits .f32 0x358637BD#32) * g (ix2 0 d) * Ideal.ofBits .f32 0x3F4CCCCD#32 := by
  pointwise [k0_pay1]

end Cert.DiffIdeal.Body
end
-- ==== Proof.DiffIdeal.Reference.lean ====
/- The reference of the difference of two softmax attentions, read at an index. -/
module

public import proofs.«01_k».proof.Proof.Gen.DiffRefIdeal.Run
public import Idealize.ShloMosaic.Lib.Pointwise

@[expose] public section

set_option maxRecDepth 16384
set_option maxHeartbeats 4000000

noncomputable section

open Idealize.ShloMosaic Idealize.ShloMosaic.TcCoe Idealize.SL.Sem

namespace Cert.DiffRefIdeal.Pure
open Cert.DiffRefIdeal Cert.DiffRefIdeal.Gen

/-- The queries and the keys, one head at a time. -/
def QH (p : FVec Ideal S8x4096x2688 .f32) : FVec Ideal S8x8x4096x64 .f32 :=
  transpose S8x8x4096x64 [0, 2, 1, 3] (shapeCast S8x4096x8x64 (extractStridedSlice S8x4096x512 ![0, 0, 512] p
    slices_S8x4096x2688_S8x4096x512_0_0_512) shapeCasts_S8x4096x512_S8x4096x8x64) transposes_S8x4096x8x64_S8x8x4096x64_0_2_1_3
def KH (p : FVec Ideal S8x4096x2688 .f32) : FVec Ideal S8x8x4096x64 .f32 :=
  transpose S8x8x4096x64 [0, 2, 1, 3] (shapeCast S8x4096x8x64 (extractStridedSlice S8x4096x512 ![0, 0, 1024] p
    slices_S8x4096x2688_S8x4096x512_0_0_1024) shapeCasts_S8x4096x512_S8x4096x8x64) transposes_S8x4096x8x64_S8x8x4096x64_0_2_1_3

/-- The values, one head at a time. -/
def VH (v : FVec Ideal S8x4096x512 .f32) : FVec Ideal S8x4x4096x128 .f32 :=
  transpose S8x4x4096x128 [0, 2, 1, 3] (shapeCast S8x4096x4x128 v shapeCasts_S8x4096x512_S8x4096x4x128) transposes_S8x4096x4x128_S8x4x4096x128_0_2_1_3

/-- The even heads and the odd ones. -/
def EV (x : FVec Ideal S8x8x4096x64 .f32) : FVec Ideal S8x4x4096x64 .f32 :=
  Host.slice S8x4x4096x64 ![0, 0, 0, 0] ![1, 2, 1, 1] x slicesBy_S8x8x4096x64_S8x4x4096x64_0s1_0s2_0s1_0s1
def OD (x : FVec Ideal S8x8x4096x64 .f32) : FVec Ideal S8x4x4096x64 .f32 :=
  Host.slice S8x4x4096x64 ![0, 1, 0, 0] ![1, 2, 1, 1] x slicesBy_S8x8x4096x64_S8x4x4096x64_0s1_1s2_0s1_0s1

/-- The causal mask. -/
def MASK : IVec S8x4x4096x4096 1 :=
  broadcastInDim S8x4x4096x4096 ![2, 3] bcast_S4096x4096_S8x4x4096x4096_2_3 (cmpi .sle
    (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0))))

/-- The masked scores. -/
def SC (q k : FVec Ideal S8x4x4096x64 .f32) : FVec Ideal S8x4x4096x4096 .f32 :=
  select MASK (mulf (Host.dotGeneral dot_S8x4x4096x64_S8x4x4096x64_S8x4x4096x4096_3_3_2_2_01_01 none q k)
    (broadcastInDim S8x4x4096x4096 ![] bcast_S_S8x4x4096x4096 (constant S_ .f32 0x3E000000#32)))
    (broadcastInDim S8x4x4096x4096 ![] bcast_S_S8x4x4096x4096 (id (constant S_ .f32 0xFF800000#32)))

/-- The largest score of each query. -/
def MX (s : FVec Ideal S8x4x4096x4096 .f32) : FVec Ideal S8x4x4096 .f32 :=
  Host.reduce FloatOps.maximumf s (constant S_ .f32 0xFF800000#32) reducesTo_S8x4x4096x4096_S8x4x4096_d3 h_S_

/-- The exponentials of the scores above a number of their query. -/
def EX (s : FVec Ideal S8x4x4096x4096 .f32) (x : FVec Ideal S8x4x4096 .f32) : FVec Ideal S8x4x4096x4096 .f32 :=
  Host.exp (subf s (broadcastInDim S8x4x4096x4096 ![0, 1, 2, 3] bcast_S8x4x4096x1_S8x4x4096x4096_0_1_2_3
    (broadcastInDim S8x4x4096x1 ![0, 1, 2] bcast_S8x4x4096_S8x4x4096x1_0_1_2
      (maximumf (broadcastInDim S8x4x4096 ![] bcast_S_S8x4x4096 (constant S_ .f32 0xFF800000#32)) x))))

/-- The softmax's weights. -/
def PR (e : FVec Ideal S8x4x4096x4096 .f32) : FVec Ideal S8x4x4096x4096 .f32 :=
  Host.divf e (broadcastInDim S8x4x4096x4096 ![0, 1, 2, 3] bcast_S8x4x4096x1_S8x4x4096x4096_0_1_2_3
    (broadcastInDim S8x4x4096x1 ![0, 1, 2] bcast_S8x4x4096_S8x4x4096x1_0_1_2
      (Host.reduceAdd e (constant S_ .f32 0x00000000#32) reducesTo_S8x4x4096x4096_S8x4x4096_d3 h_S_)))

/-- The weight of the second map. -/
def LAM (l : FVec Ideal S4x64 .f32) : FVec Ideal S_ .f32 :=
  addf (subf
    (Host.exp (Host.reduceAdd (mulf (shapeCast S64 (extractStridedSlice S1x64 ![0, 0] l slices_S4x64_S1x64_0_0) shapeCasts_S1x64_S64)
      (shapeCast S64 (extractStridedSlice S1x64 ![1, 0] l slices_S4x64_S1x64_1_0) shapeCasts_S1x64_S64)) (constant S_ .f32 0x00000000#32) reducesTo_S64_S_d0 h_S_))
    (Host.exp (Host.reduceAdd (mulf (shapeCast S64 (extractStridedSlice S1x64 ![2, 0] l slices_S4x64_S1x64_2_0) shapeCasts_S1x64_S64)
      (shapeCast S64 (extractStridedSlice S1x64 ![3, 0] l slices_S4x64_S1x64_3_0) shapeCasts_S1x64_S64)) (constant S_ .f32 0x00000000#32) reducesTo_S64_S_d0 h_S_)))
    (constant S_ .f32 0x3E4CCCCD#32)

/-- The values mixed by the difference of the two maps. -/
def AV (l : FVec Ideal S_ .f32) (p1 p2 : FVec Ideal S8x4x4096x4096 .f32) (v : FVec Ideal S8x4x4096x128 .f32) : FVec Ideal S8x4x4096x128 .f32 :=
  Host.dotGeneral dot_S8x4x4096x4096_S8x4x4096x128_S8x4x4096x128_3_2_2_3_01_01 none
    (subf p1 (mulf (broadcastInDim S8x4x4096x4096 ![] bcast_S_S8x4x4096x4096 l) p2)) v

/-- The normalised heads. -/
def RN (x : FVec Ideal S8x4x4096x128 .f32) (g : FVec Ideal S128 .f32) : FVec Ideal S8x4x4096x128 .f32 :=
  mulf (mulf (mulf x (broadcastInDim S8x4x4096x128 ![0, 1, 2, 3] bcast_S8x4x4096x1_S8x4x4096x128_0_1_2_3
    (Host.rsqrt (addf (Host.divf (broadcastInDim S8x4x4096x1 ![0, 1, 2] bcast_S8x4x4096_S8x4x4096x1_0_1_2
      (Host.reduceAdd (mulf x x) (constant S_ .f32 0x00000000#32) reducesTo_S8x4x4096x128_S8x4x4096_d3 h_S_))
      (broadcastInDim S8x4x4096x1 ![] bcast_S_S8x4x4096x1 (constant S_ .f32 0x43000000#32)))
      (broadcastInDim S8x4x4096x1 ![] bcast_S_S8x4x4096x1 (constant S_ .f32 0x358637BD#32))))))
    (broadcastInDim S8x4x4096x128 ![0, 1, 2, 3] bcast_S1x1x1x128_S8x4x4096x128_0_1_2_3 (broadcastInDim S1x1x1x128 ![3] bcast_S128_S1x1x1x128_3 g)))
    (broadcastInDim S8x4x4096x128 ![] bcast_S_S8x4x4096x128 (constant S_ .f32 0x3F4CCCCD#32))

/-- The heads side by side. -/
def OUT (x : FVec Ideal S8x4x4096x128 .f32) : FVec Ideal S8x4096x512 .bf16 :=
  truncf .bf16 (shapeCast S8x4096x512 (transpose S8x4096x4x128 [0, 2, 1, 3] x transposes_S8x4x4096x128_S8x4096x4x128_0_2_1_3)
    shapeCasts_S8x4096x4x128_S8x4096x512) bitsLt_bf16_f32

/-- The reference's result over its arguments. -/
def REF (p : FVec Ideal S8x4096x2688 .f32) (v : FVec Ideal S8x4096x512 .f32) (l : FVec Ideal S4x64 .f32) (g : FVec Ideal S128 .f32) :
    FVec Ideal S8x4096x512 .bf16 :=
  OUT (RN (AV (LAM l) (PR (EX (SC (EV (QH p)) (EV (KH p))) (MX (SC (EV (QH p)) (EV (KH p))))))
    (PR (EX (SC (OD (QH p)) (OD (KH p))) (MX (SC (OD (QH p)) (OD (KH p)))))) (VH v)) g)

/-- The reference's result is the stages composed. -/
theorem res_eq (m : (ℓ : Loc nD τ sig) → Buf (Elt Ideal) ℓ) (c : Dev nD) :
    Value.res_main_v85 (F := Ideal) m c = REF (m ((c.tc : Thread nD τ).loc main_arg0)) (m ((c.tc : Thread nD τ).loc main_arg1))
      (m ((c.tc : Thread nD τ).loc main_arg2)) (m ((c.tc : Thread nD τ).loc main_arg3)) := by
  rfl

/-- The mask keeps the keys at or before the query. -/
theorem mask_word (a b : ℕ) (ha : a < 4096) (hb : b < 4096) :
    IntOp.cmpi .sle (BitVec.ofNat 32 a) (BitVec.ofNat 32 b) = if a ≤ b then 1#1 else 0#1 := by
  have h : ∀ n : ℕ, n < 4096 → (BitVec.ofNat 32 n).toInt = (n : ℤ) := fun n hn => by
    rw [BitVec.toInt_eq_toNat_cond, BitVec.toNat_ofNat, Nat.mod_eq_of_lt (by omega), if_pos (by omega)]
  simp only [IntOp.cmpi, BitVec.sle, h a ha, h b hb]
  by_cases hab : a ≤ b
  · simp [hab]
  · simp [hab]

/-- The word which stands for minus infinity. -/
theorem bits_bot : Ideal.ofBits .f32 0xFF800000#32 = (⊥ : EReal) := by
  simp [Ideal.ofBits, Ideal.ieee]

/-- The mask at a query and a key. -/
theorem MASK_at (b : Fin 8) (h : Fin 4) (q k : Fin 4096) : MASK (ix4 b h q k) = if k.val ≤ q.val then 1#1 else 0#1 := by
  pointwise [MASK]
  exact mask_word k.val q.val k.isLt q.isLt

/-- The even heads of the queries. -/
theorem EV_QH_at (p : FVec Ideal S8x4096x2688 .f32) (b : Fin 8) (h : Fin 4) (s : Fin 4096) (d : Fin 64) :
    EV (QH p) (ix4 b h s d) = p (ix3 b s (⟨512 + 128 * h.val + d.val, by omega⟩ : Fin 2688)) := by
  pointwise [EV, QH]
  exact congrArg (fun x => p (ix3 b s x)) (Fin.ext (show 512 + (2 * h.val * 64 + d.val) = 512 + 128 * h.val + d.val by omega))

/-- The odd heads of the queries. -/
theorem OD_QH_at (p : FVec Ideal S8x4096x2688 .f32) (b : Fin 8) (h : Fin 4) (s : Fin 4096) (d : Fin 64) :
    OD (QH p) (ix4 b h s d) = p (ix3 b s (⟨512 + 128 * h.val + 64 + d.val, by omega⟩ : Fin 2688)) := by
  pointwise [OD, QH]
  exact congrArg (fun x => p (ix3 b s x)) (Fin.ext (show 512 + ((1 + 2 * h.val) * 64 + d.val) = 512 + 128 * h.val + 64 + d.val by omega))

/-- The even heads of the keys. -/
theorem EV_KH_at (p : FVec Ideal S8x4096x2688 .f32) (b : Fin 8) (h : Fin 4) (s : Fin 4096) (d : Fin 64) :
    EV (KH p) (ix4 b h s d) = p (ix3 b s (⟨1024 + 128 * h.val + d.val, by omega⟩ : Fin 2688)) := by
  pointwise [EV, KH]
  exact congrArg (fun x => p (ix3 b s x)) (Fin.ext (show 1024 + (2 * h.val * 64 + d.val) = 1024 + 128 * h.val + d.val by omega))

/-- The odd heads of the keys. -/
theorem OD_KH_at (p : FVec Ideal S8x4096x2688 .f32) (b : Fin 8) (h : Fin 4) (s : Fin 4096) (d : Fin 64) :
    OD (KH p) (ix4 b h s d) = p (ix3 b s (⟨1024 + 128 * h.val + 64 + d.val, by omega⟩ : Fin 2688)) := by
  pointwise [OD, KH]
  exact congrArg (fun x => p (ix3 b s x)) (Fin.ext (show 1024 + ((1 + 2 * h.val) * 64 + d.val) = 1024 + 128 * h.val + 64 + d.val by omega))

/-- The values of a head. -/
theorem VH_at (v : FVec Ideal S8x4096x512 .f32) (b : Fin 8) (h : Fin 4) (s : Fin 4096) (d : Fin 128) :
    VH v (ix4 b h s d) = v (ix3 b s (⟨128 * h.val + d.val, by omega⟩ : Fin 512)) := by
  pointwise [VH]
  exact congrArg (fun x => v (ix3 b s x)) (Fin.ext (show h.val * 128 + d.val = 128 * h.val + d.val by omega))

/-- A masked score. -/
theorem SC_at (q k : FVec Ideal S8x4x4096x64 .f32) (b : Fin 8) (h : Fin 4) (s t : Fin 4096) :
    SC q k (ix4 b h s t) = if t.val ≤ s.val then (∑ d : Fin 64, q (ix4 b h s d) * k (ix4 b h t d)) * Ideal.ofBits .f32 0x3E000000#32 else ⊥ := by
  pointwise [SC]
  rw [MASK_at]
  by_cases hst : t.val ≤ s.val
  · rw [if_pos hst, if_pos hst]; rfl
  · rw [if_neg hst, if_neg hst]; exact bits_bot

/-- An exponential. -/
theorem EX_at (s : FVec Ideal S8x4x4096x4096 .f32) (x : FVec Ideal S8x4x4096 .f32) (b : Fin 8) (h : Fin 4) (q k : Fin 4096) :
    EX s x (ix4 b h q k) = Ideal.exp (s (ix4 b h q k) - x (ix3 b h q)) := by
  pointwise [EX]
  rw [bits_bot]
  exact congrArg (fun z => Ideal.exp (s (ix4 b h q k) - z)) (max_eq_right bot_le)

/-- The largest score, read. -/
theorem MX_at (s : FVec Ideal S8x4x4096x4096 .f32) (b : Fin 8) (h : Fin 4) (q : Fin 4096) :
    MX s (ix3 b h q) = Finset.univ.fold max (Ideal.ofBits .f32 0xFF800000#32) fun j : Fin 4096 => s (ix4 b h q j) := by
  pointwise [MX]

/-- A weight of the softmax. -/
theorem PR_at (e : FVec Ideal S8x4x4096x4096 .f32) (b : Fin 8) (h : Fin 4) (q k : Fin 4096) :
    PR e (ix4 b h q k) = Ideal.div (e (ix4 b h q k)) (∑ j : Fin 4096, e (ix4 b h q j)) := by
  pointwise [PR]

/-- The weight of the second map, read. -/
theorem LAM_at (l : FVec Ideal S4x64 .f32) :
    LAM l ix0 = Ideal.exp (∑ d : Fin 64, l (ix2 0 d) * l (ix2 1 d)) - Ideal.exp (∑ d : Fin 64, l (ix2 2 d) * l (ix2 3 d))
      + Ideal.ofBits .f32 0x3E4CCCCD#32 := by
  pointwise [LAM]

/-- The mixed values. -/
theorem AV_at (l : FVec Ideal S_ .f32) (p1 p2 : FVec Ideal S8x4x4096x4096 .f32) (v : FVec Ideal S8x4x4096x128 .f32)
    (b : Fin 8) (h : Fin 4) (q : Fin 4096) (d : Fin 128) :
    AV l p1 p2 v (ix4 b h q d) = ∑ k : Fin 4096, (p1 (ix4 b h q k) - l ix0 * p2 (ix4 b h q k)) * v (ix4 b h k d) := by
  pointwise [AV]

/-- The normalised heads, read. -/
theorem RN_at (x : FVec Ideal S8x4x4096x128 .f32) (g : FVec Ideal S128 .f32) (b : Fin 8) (h : Fin 4) (q : Fin 4096) (d : Fin 128) :
    RN x g (ix4 b h q d) = x (ix4 b h q d) * Ideal.rsqrt (Ideal.div (∑ k : Fin 128, x (ix4 b h q k) * x (ix4 b h q k))
      (Ideal.ofBits .f32 0x43000000#32) + Ideal.ofBits .f32 0x358637BD#32) * g (ix1 d) * Ideal.ofBits .f32 0x3F4CCCCD#32 := by
  pointwise [RN]

/-- The heads side by side, read. -/
theorem OUT_at (x : FVec Ideal S8x4x4096x128 .f32) (b : Fin 8) (h : Fin 4) (q : Fin 4096) (d : Fin 128) :
    OUT x (ix3 b q (⟨128 * h.val + d.val, by omega⟩ : Fin 512)) = x (ix4 b h q d) := by
  pointwise [OUT]

end Cert.DiffRefIdeal.Pure
end
-- ==== Proof.Diff.Mean.lean ====
/- The reference's softmax over real scores, and the difference of two of its averages. -/
module

public import proofs.«01_k».proof.Proof.Diff.Math

@[expose] public section

noncomputable section

namespace Cert.TileSoftmax

open Idealize.ShloMosaic

/-- Real scores up to the query, minus infinity past it. -/
def masked (a : ℕ → ℝ) (q : ℕ) (k : Fin 4096) : EReal := if k.val ≤ q then ((a k.val : ℝ) : EReal) else ⊥

/-- The largest of them is a real number. -/
theorem masked_max (a : ℕ → ℝ) (q : ℕ) : ∃ μ : ℝ, (Finset.univ.fold max ⊥ fun k => masked a q k) = (μ : EReal) := by
  have h1 : (Finset.univ.fold max ⊥ fun k => masked a q k) < ⊤ := by
    rw [Finset.fold_max_lt]
    refine ⟨bot_lt_top, fun k _ => ?_⟩
    unfold masked
    split
    · exact EReal.coe_lt_top _
    · exact bot_lt_top
  have h2 : ⊥ < (Finset.univ.fold max ⊥ fun k => masked a q k) := by
    rw [Finset.lt_fold_max]
    refine Or.inr ⟨0, Finset.mem_univ _, ?_⟩
    unfold masked
    rw [if_pos (show (0 : Fin 4096).val ≤ q from Nat.zero_le _)]
    exact EReal.bot_lt_coe _
  exact ⟨_, (EReal.coe_toReal h1.ne h2.ne').symm⟩

/-- An exponential of a masked score above a real number. -/
theorem exp_masked (a : ℕ → ℝ) (q : ℕ) (μ : ℝ) (k : Fin 4096) :
    Ideal.exp (masked a q k - (μ : EReal)) = (((if k.val ≤ q then Real.exp (a k.val - μ) else 0 : ℝ)) : EReal) := by
  unfold masked
  split
  · rw [← EReal.coe_sub]; rfl
  · rw [EReal.bot_sub]; rfl

/-- The softmax's weight of a key. -/
def prob (a : ℕ → ℝ) (q k : ℕ) : ℝ := if k ≤ q then Real.exp (a k) / ∑ j ∈ Finset.range (q + 1), Real.exp (a j) else 0

/-- The reference's softmax of masked scores gives that weight. -/
theorem softmax_eq (a : ℕ → ℝ) (q : ℕ) (hq : q < 4096) (k : Fin 4096) :
    Ideal.div (Ideal.exp (masked a q k - Finset.univ.fold max ⊥ fun j => masked a q j))
      (∑ j : Fin 4096, Ideal.exp (masked a q j - Finset.univ.fold max ⊥ fun j => masked a q j)) = ((prob a q k.val : ℝ) : EReal) := by
  obtain ⟨μ, hμ⟩ := masked_max a q
  rw [hμ]
  simp only [exp_masked]
  rw [coe_sum, Fin.sum_univ_eq_sum_range (fun j => if j ≤ q then Real.exp (a j - μ) else 0) 4096, sum_masked _ q 4096 hq]
  have hZ : ∑ j ∈ Finset.range (q + 1), Real.exp (a j - μ) = (∑ j ∈ Finset.range (q + 1), Real.exp (a j)) * Real.exp (-μ) := by
    rw [Finset.sum_mul]
    exact Finset.sum_congr rfl fun j _ => by rw [← Real.exp_add, sub_eq_add_neg]
  have hE := exp_sum_pos a q
  have he := Real.exp_pos (-μ)
  rw [hZ, Ideal.div_coe (by positivity), ← EReal.coe_mul]
  congr 1
  unfold prob
  split
  · rw [sub_eq_add_neg, Real.exp_add]
    field_simp
  · simp

/-- The averages by the two softmaxes' weights. -/
theorem sum_prob (a w : ℕ → ℝ) (q : ℕ) (hq : q < 4096) : ∑ k : Fin 4096, prob a q k.val * w k.val = avg a w q := by
  rw [Fin.sum_univ_eq_sum_range (fun k => prob a q k * w k) 4096]
  have h : ∀ k, prob a q k * w k = if k ≤ q then (w k * Real.exp (a k)) / ∑ j ∈ Finset.range (q + 1), Real.exp (a j) else 0 := fun k => by
    unfold prob
    split
    · ring
    · simp
  simp only [h]
  rw [sum_masked _ q 4096 hq, ← Finset.sum_div]
  rfl

/-- The values averaged by the difference of the weights. -/
theorem sum_diff (a a' w : ℕ → ℝ) (l : ℝ) (q : ℕ) (hq : q < 4096) :
    (∑ k : Fin 4096, (((prob a q k.val : ℝ) : EReal) - (l : EReal) * ((prob a' q k.val : ℝ) : EReal)) * ((w k.val : ℝ) : EReal))
      = (avg a w q : EReal) - (l : EReal) * (avg a' w q : EReal) := by
  simp only [← EReal.coe_mul, ← EReal.coe_sub]
  rw [coe_sum]
  congr 1
  rw [← sum_prob a w q hq, ← sum_prob a' w q hq, Finset.mul_sum, ← Finset.sum_sub_distrib]
  exact Finset.sum_congr rfl fun k _ => by ring

/-- A product sum over the lanes of which only the first half count. -/
theorem sum_low (f g : Fin 128 → EReal) : ∑ d : Fin 128, f d * (if d.val < 64 then g d else 0)
    = ∑ d : Fin 64, f ⟨d.val, by omega⟩ * g ⟨d.val, by omega⟩ := by
  rw [show (∑ d : Fin 128, f d * (if d.val < 64 then g d else 0)) = ∑ d : Fin (64 + 64), f d * (if d.val < 64 then g d else 0) from rfl,
    Fin.sum_univ_add]
  rw [show (∑ i : Fin 64, f (Fin.natAdd 64 i) * (if (Fin.natAdd 64 i : Fin (64 + 64)).val < 64 then g (Fin.natAdd 64 i) else 0)) = 0 from
    Finset.sum_eq_zero fun i _ => by rw [if_neg (by rw [Fin.val_natAdd]; omega), mul_zero], add_zero]
  exact Finset.sum_congr rfl fun i _ => by rw [if_pos (by rw [Fin.val_castAdd]; exact i.isLt)]; rfl

/-- A product sum over the lanes of which only the second half count. -/
theorem sum_high (f g : Fin 128 → EReal) : ∑ d : Fin 128, f d * (if 64 ≤ d.val then g d else 0)
    = ∑ d : Fin 64, f ⟨64 + d.val, by omega⟩ * g ⟨64 + d.val, by omega⟩ := by
  rw [show (∑ d : Fin 128, f d * (if 64 ≤ d.val then g d else 0)) = ∑ d : Fin (64 + 64), f d * (if 64 ≤ d.val then g d else 0) from rfl,
    Fin.sum_univ_add]
  rw [show (∑ i : Fin 64, f (Fin.castAdd 64 i) * (if 64 ≤ (Fin.castAdd 64 i : Fin (64 + 64)).val then g (Fin.castAdd 64 i) else 0)) = 0 from
    Finset.sum_eq_zero fun i _ => by rw [if_neg (by rw [Fin.val_castAdd]; have := i.isLt; omega), mul_zero], zero_add]
  exact Finset.sum_congr rfl fun i _ => by rw [if_pos (by rw [Fin.val_natAdd]; omega)]; rfl

/-- A product sum of numbers, one factor scaled. -/
theorem sum_scaled (x y : Fin 64 → ℝ) (r : ℝ) :
    (∑ d : Fin 64, ((x d : ℝ) : EReal) * (((y d : ℝ) : EReal) * (r : EReal))) = (((∑ d : Fin 64, y d * x d) * r : ℝ) : EReal) := by
  simp only [← EReal.coe_mul]
  rw [coe_sum, Finset.sum_mul]
  congr 1
  exact Finset.sum_congr rfl fun d _ => by ring

/-- A product sum of numbers. -/
theorem sum_plain (x y : Fin 64 → ℝ) (r : ℝ) :
    (∑ d : Fin 64, ((x d : ℝ) : EReal) * ((y d : ℝ) : EReal)) * (r : EReal) = (((∑ d : Fin 64, x d * y d) * r : ℝ) : EReal) := by
  simp only [← EReal.coe_mul]
  rw [coe_sum, ← EReal.coe_mul]

end Cert.TileSoftmax
end
-- ==== Proof.DiffIdeal.Final.lean ====
/- The kernel's result array is the reference's result. -/
module

public import proofs.«01_k».proof.Proof.DiffIdeal.Blocks
public import proofs.«01_k».proof.Proof.DiffIdeal.Reads
public import proofs.«01_k».proof.Proof.DiffIdeal.Reference
public import proofs.«01_k».proof.Proof.Diff.Mean
public import Idealize.ShloMosaic.Lib.Pipeline.ValueKit
public import Idealize.ShloMosaic.Lib.Claim

@[expose] public section

set_option maxRecDepth 16384
set_option maxHeartbeats 1000000

noncomputable section

open Idealize.ShloMosaic Idealize.ShloMosaic.TcCoe Idealize.SL.Sem
open Idealize.ShloMosaic.Pipeline (Dat)

namespace Cert.DiffIdeal.Final
open Cert.DiffIdeal Cert.DiffIdeal.Gen Cert.DiffIdeal.Body
open Cert.TileSoftmax (acc avg prob masked div_acc softmax_eq sum_diff sum_low sum_high sum_scaled sum_plain coe_sum)
open Cert.DiffRefIdeal.Pure (QH KH VH EV OD SC EX MX PR LAM AV RN OUT REF EV_QH_at OD_QH_at EV_KH_at OD_KH_at VH_at SC_at EX_at MX_at PR_at LAM_at
  AV_at RN_at OUT_at)

/-- The constants. -/
theorem bits_eighth : Ideal.ofBits .f32 0x3E000000#32 = ((1 / 8 : ℝ) : EReal) := by
  simp [Ideal.ofBits, Ideal.ieee, -EReal.coe_mul]; norm_num
/-- The pattern of two. -/
theorem bits_two : Ideal.ofBits .f32 0x40000000#32 = ((2 : ℝ) : EReal) := by
  simp [Ideal.ofBits, Ideal.ieee, -EReal.coe_mul]; norm_num
/-- The pattern of the starting weight is a real number. -/
theorem bits_fifth : ∃ r : ℝ, Ideal.ofBits .f32 0x3E4CCCCD#32 = (r : EReal) := by
  refine ⟨13421773 / 67108864, ?_⟩
  simp [Ideal.ofBits, Ideal.ieee, -EReal.coe_mul]; norm_num

/-- The logarithm of two is positive. -/
theorem log_two_pos : 0 < Real.log 2 := Real.log_pos (by norm_num)

/-- The factor on the queries is an eighth over the logarithm of two. -/
theorem qscale_eq : qscale = ((1 / 8 / Real.log 2 : ℝ) : EReal) := by
  unfold qscale
  rw [bits_eighth, bits_two]
  have h : Ideal.log ((2 : ℝ) : EReal) = ((Real.log 2 : ℝ) : EReal) := if_neg (by norm_num)
  rw [h, Ideal.div_coe log_two_pos.ne', ← EReal.coe_mul]
  congr 1
  ring

/-- The arguments are finite numbers where the result depends on each. -/
structure Finite (p : FVec Ideal S8x4096x2688 .f32) (v : FVec Ideal S8x4096x512 .f32) (l : FVec Ideal S4x64 .f32) : Prop where
  qk : ∀ (b : Fin 8) (s : Fin 4096) (n : Fin 2688), 512 ≤ n.val → n.val < 1536 → p (ix3 b s n) = (((p (ix3 b s n)).toReal : ℝ) : EReal)
  v : ∀ (b : Fin 8) (s : Fin 4096) (n : Fin 512), v (ix3 b s n) = (((v (ix3 b s n)).toReal : ℝ) : EReal)
  l : ∀ (r : Fin 4) (d : Fin 64), l (ix2 r d) = (((l (ix2 r d)).toReal : ℝ) : EReal)

/-- The product of a query and a key of a head's first map, and of its second. -/
def dot0 (p : FVec Ideal S8x4096x2688 .f32) (b : Fin 8) (h : Fin 4) (s : Fin 4096) (k : ℕ) : ℝ :=
  if hk : k < 4096 then ∑ d : Fin 64, (p (ix3 b s (⟨512 + 128 * h.val + d.val, by omega⟩ : Fin 2688))).toReal
    * (p (ix3 b ⟨k, hk⟩ (⟨1024 + 128 * h.val + d.val, by omega⟩ : Fin 2688))).toReal else 0
def dot1 (p : FVec Ideal S8x4096x2688 .f32) (b : Fin 8) (h : Fin 4) (s : Fin 4096) (k : ℕ) : ℝ :=
  if hk : k < 4096 then ∑ d : Fin 64, (p (ix3 b s (⟨512 + 128 * h.val + 64 + d.val, by omega⟩ : Fin 2688))).toReal
    * (p (ix3 b ⟨k, hk⟩ (⟨1024 + 128 * h.val + 64 + d.val, by omega⟩ : Fin 2688))).toReal else 0

/-- A value. -/
def val (v : FVec Ideal S8x4096x512 .f32) (b : Fin 8) (h : Fin 4) (d : Fin 128) (k : ℕ) : ℝ :=
  if hk : k < 4096 then (v (ix3 b ⟨k, hk⟩ (⟨128 * h.val + d.val, by omega⟩ : Fin 512))).toReal else 0

/-- The weight of the second map. -/
def lam (l : FVec Ideal S4x64 .f32) : EReal :=
  Ideal.exp (∑ k : Fin 64, l (ix2 0 k) * l (ix2 1 k)) - Ideal.exp (∑ k : Fin 64, l (ix2 2 k) * l (ix2 3 k)) + Ideal.ofBits .f32 0x3E4CCCCD#32

/-- The mixed values, as real numbers. -/
def mixed (p : FVec Ideal S8x4096x2688 .f32) (v : FVec Ideal S8x4096x512 .f32) (l : FVec Ideal S4x64 .f32) (b : Fin 8) (h : Fin 4)
    (q : Fin 4096) (d : Fin 128) : EReal :=
  ((avg (fun k => dot0 p b h q k * (1 / 8)) (val v b h d) q.val : ℝ) : EReal)
    - lam l * ((avg (fun k => dot1 p b h q k * (1 / 8)) (val v b h d) q.val : ℝ) : EReal)

section
variable {p : FVec Ideal S8x4096x2688 .f32} {v : FVec Ideal S8x4096x512 .f32} {l : FVec Ideal S4x64 .f32} (H : Finite p v l)
include H

/-- The weight is a real number. -/
theorem lam_real : ∃ r : ℝ, lam l = (r : EReal) := by
  have hs : ∀ a b : Fin 4, ∃ r : ℝ, Ideal.exp (∑ k : Fin 64, l (ix2 a k) * l (ix2 b k)) = (r : EReal) := fun a b => by
    rw [show (∑ k : Fin 64, l (ix2 a k) * l (ix2 b k)) = ((∑ k : Fin 64, (l (ix2 a k)).toReal * (l (ix2 b k)).toReal : ℝ) : EReal) from by
      rw [← coe_sum]
      exact Finset.sum_congr rfl fun k _ => by rw [EReal.coe_mul, ← H.l, ← H.l]]
    exact ⟨_, rfl⟩
  obtain ⟨x, hx⟩ := hs 0 1
  obtain ⟨y, hy⟩ := hs 2 3
  obtain ⟨z, hz⟩ := bits_fifth
  exact ⟨x - y + z, by unfold lam; rw [hx, hy, hz, EReal.coe_add, EReal.coe_sub]⟩

/-! The reference. -/

/-- The scores of the first map. -/
theorem ref_score0 (b : Fin 8) (h : Fin 4) (q k : Fin 4096) :
    SC (EV (QH p)) (EV (KH p)) (ix4 b h q k) = masked (fun k => dot0 p b h q k * (1 / 8)) q.val k := by
  rw [SC_at]
  unfold masked
  refine if_congr Iff.rfl ?_ rfl
  show _ = ((dot0 p b h q k.val * (1 / 8) : ℝ) : EReal)
  rw [bits_eighth]
  unfold dot0
  rw [dif_pos k.isLt, ← sum_plain]
  refine congrArg (· * ((1 / 8 : ℝ) : EReal)) (Finset.sum_congr rfl fun d _ => ?_)
  rw [EV_QH_at, EV_KH_at]
  exact congrArg₂ (· * ·) (H.qk _ _ _ (by show 512 ≤ 512 + 128 * h.val + d.val; omega) (by show 512 + 128 * h.val + d.val < 1536; omega))
    (H.qk _ _ _ (by show 512 ≤ 1024 + 128 * h.val + d.val; omega) (by show 1024 + 128 * h.val + d.val < 1536; omega))

/-- The weights of the first map. -/
theorem ref_prob0 (b : Fin 8) (h : Fin 4) (q k : Fin 4096) :
    PR (EX (SC (EV (QH p)) (EV (KH p))) (MX (SC (EV (QH p)) (EV (KH p))))) (ix4 b h q k)
      = ((prob (fun k => dot0 p b h q k * (1 / 8)) q.val k.val : ℝ) : EReal) := by
  rw [PR_at]
  simp only [EX_at, MX_at, ref_score0 H, Cert.DiffRefIdeal.Pure.bits_bot]
  exact softmax_eq _ q.val q.isLt k

/-- The scores of the second map. -/
theorem ref_score1 (b : Fin 8) (h : Fin 4) (q k : Fin 4096) :
    SC (OD (QH p)) (OD (KH p)) (ix4 b h q k) = masked (fun k => dot1 p b h q k * (1 / 8)) q.val k := by
  rw [SC_at]
  unfold masked
  refine if_congr Iff.rfl ?_ rfl
  show _ = ((dot1 p b h q k.val * (1 / 8) : ℝ) : EReal)
  rw [bits_eighth]
  unfold dot1
  rw [dif_pos k.isLt, ← sum_plain]
  refine congrArg (· * ((1 / 8 : ℝ) : EReal)) (Finset.sum_congr rfl fun d _ => ?_)
  rw [OD_QH_at, OD_KH_at]
  exact congrArg₂ (· * ·) (H.qk _ _ _ (by show 512 ≤ 512 + 128 * h.val + 64 + d.val; omega) (by show 512 + 128 * h.val + 64 + d.val < 1536; omega))
    (H.qk _ _ _ (by show 512 ≤ 1024 + 128 * h.val + 64 + d.val; omega) (by show 1024 + 128 * h.val + 64 + d.val < 1536; omega))

/-- The weights of the second map. -/
theorem ref_prob1 (b : Fin 8) (h : Fin 4) (q k : Fin 4096) :
    PR (EX (SC (OD (QH p)) (OD (KH p))) (MX (SC (OD (QH p)) (OD (KH p))))) (ix4 b h q k)
      = ((prob (fun k => dot1 p b h q k * (1 / 8)) q.val k.val : ℝ) : EReal) := by
  rw [PR_at]
  simp only [EX_at, MX_at, ref_score1 H, Cert.DiffRefIdeal.Pure.bits_bot]
  exact softmax_eq _ q.val q.isLt k

/-- The reference's mixed values. -/
theorem ref_mixed (b : Fin 8) (h : Fin 4) (q : Fin 4096) (d : Fin 128) :
    AV (LAM l) (PR (EX (SC (EV (QH p)) (EV (KH p))) (MX (SC (EV (QH p)) (EV (KH p))))))
      (PR (EX (SC (OD (QH p)) (OD (KH p))) (MX (SC (OD (QH p)) (OD (KH p)))))) (VH v) (ix4 b h q d) = mixed p v l b h q d := by
  obtain ⟨r, hr⟩ := lam_real H
  rw [AV_at]
  have hL : LAM l ix0 = (r : EReal) := (LAM_at l).trans hr
  have hV : ∀ k : Fin 4096, VH v (ix4 b h k d) = ((val v b h d k.val : ℝ) : EReal) := fun k => by
    rw [VH_at, H.v]; unfold val; rw [dif_pos k.isLt]
  simp only [hL, hV, ref_prob0 H, ref_prob1 H]
  rw [sum_diff _ _ _ r q.val q.isLt]
  unfold mixed
  rw [hr]

/-! The kernel. -/

variable (b : Fin 8) (h : Fin 4) (i : grid0.Coords) (x1 : Vec Ideal S1x1024x128 .bf16) (x2 : Vec Ideal S1x4096x128 .bf16)
  (x3 : Vec Ideal S1x1x16x144x256 .bf16) (x5 : Vec Ideal S5x256x1024 .f32)
  (h1 : ∀ (n : Fin 1024) (d : Fin 128), x1 (ix3 0 n d) = p (ix3 b (⟨1024 * (i 2).val + n.val, by have : (i 2).val < 4 := (i 2).isLt; omega⟩ : Fin 4096)
    (⟨512 + 128 * h.val + d.val, by omega⟩ : Fin 2688)) * qscale)
  (h2 : ∀ (k : Fin 4096) (d : Fin 128), x2 (ix3 0 k d) = p (ix3 b k (⟨1024 + 128 * h.val + d.val, by omega⟩ : Fin 2688)))
  (h3 : ∀ (j : Fin 16) (r : Fin 144) (k : Fin 256), x3 (ix5 0 0 j r k) = if hr : r.val < 128 then v (ix3 b
    (⟨256 * j.val + k.val, by omega⟩ : Fin 4096) (⟨128 * h.val + r.val, by omega⟩ : Fin 512)) else 1)
  (h5 : Causal x5)

omit H in
/-- The value rows of the tiles. -/
theorem vals_eq (H : Finite p v l) (h3 : ∀ (j : Fin 16) (r : Fin 144) (k : Fin 256), x3 (ix5 0 0 j r k) = if hr : r.val < 128 then v (ix3 b
    (⟨256 * j.val + k.val, by omega⟩ : Fin 4096) (⟨128 * h.val + r.val, by omega⟩ : Fin 512)) else 1)
    (d : Fin 128) (j : ℕ) (hj : j < 16) (t : Fin 256) :
    valAt x3 (⟨d.val, by omega⟩ : Fin 144) j t = ((val v b h d (256 * j + t.val) : ℝ) : EReal) := by
  unfold valAt val
  rw [dif_pos hj, dif_pos (by have := t.isLt; omega), h3, dif_pos d.isLt]
  exact H.v _ _ _

omit H in
/-- The rows of ones. -/
theorem ones_eq (h3 : ∀ (j : Fin 16) (r : Fin 144) (k : Fin 256), x3 (ix5 0 0 j r k) = if hr : r.val < 128 then v (ix3 b
    (⟨256 * j.val + k.val, by omega⟩ : Fin 4096) (⟨128 * h.val + r.val, by omega⟩ : Fin 512)) else 1) (j : ℕ) (hj : j < 16) (t : Fin 256) :
    valAt x3 (⟨128, by omega⟩ : Fin 144) j t = 1 := by
  unfold valAt
  rw [dif_pos hj, h3, dif_neg (show ¬ (128 < 128) by omega)]

omit H in
/-- The scores of the first map. -/
theorem raw0 (H : Finite p v l) (h1 : ∀ (n : Fin 1024) (d : Fin 128), x1 (ix3 0 n d) = p (ix3 b (⟨1024 * (i 2).val + n.val, by have : (i 2).val < 4 := (i 2).isLt; omega⟩ : Fin 4096)
    (⟨512 + 128 * h.val + d.val, by omega⟩ : Fin 2688)) * qscale)
    (h2 : ∀ (k : Fin 4096) (d : Fin 128), x2 (ix3 0 k d) = p (ix3 b k (⟨1024 + 128 * h.val + d.val, by omega⟩ : Fin 2688)))
    (n : Fin 1024) (k : ℕ) (hk : k < 4096) : raw (query0 x1) x2 n k
      = ((dot0 p b h (⟨1024 * (i 2).val + n.val, by have : (i 2).val < 4 := (i 2).isLt; omega⟩ : Fin 4096) k * (1 / 8 / Real.log 2) : ℝ) : EReal) := by
  unfold raw dot0
  simp only [query0_at]
  rw [sum_low (fun d => keyAt x2 k d) fun d => x1 (ix3 0 n d), dif_pos hk, ← sum_scaled]
  refine Finset.sum_congr rfl fun d _ => ?_
  rw [h1, qscale_eq]
  unfold keyAt
  rw [dif_pos hk, h2]
  refine congrArg₂ (fun x y => x * (y * ((1 / 8 / Real.log 2 : ℝ) : EReal))) ?_ ?_
  · refine Eq.trans (congrArg (fun x => p (ix3 b (⟨k, hk⟩ : Fin 4096) x)) (Fin.ext ?_))
      (H.qk b ⟨k, hk⟩ (⟨1024 + 128 * h.val + d.val, by omega⟩ : Fin 2688) (by show 512 ≤ 1024 + 128 * h.val + d.val; omega)
        (by show 1024 + 128 * h.val + d.val < 1536; omega))
    show 1024 + 128 * h.val + (d.val) = 1024 + 128 * h.val + d.val
    omega
  · refine Eq.trans (congrArg (fun x => p (ix3 b _ x)) (Fin.ext ?_))
      (H.qk b _ (⟨512 + 128 * h.val + d.val, by omega⟩ : Fin 2688) (by show 512 ≤ 512 + 128 * h.val + d.val; omega)
        (by show 512 + 128 * h.val + d.val < 1536; omega))
    show 512 + 128 * h.val + (d.val) = 512 + 128 * h.val + d.val
    omega

omit H in
/-- The quotient of the first map's value sums and weight sum is the softmax average. -/
theorem quot0 (H : Finite p v l) (h1 : ∀ (n : Fin 1024) (d : Fin 128), x1 (ix3 0 n d) = p (ix3 b (⟨1024 * (i 2).val + n.val, by have : (i 2).val < 4 := (i 2).isLt; omega⟩ : Fin 4096)
    (⟨512 + 128 * h.val + d.val, by omega⟩ : Fin 2688)) * qscale)
    (h2 : ∀ (k : Fin 4096) (d : Fin 128), x2 (ix3 0 k d) = p (ix3 b k (⟨1024 + 128 * h.val + d.val, by omega⟩ : Fin 2688)))
    (h3 : ∀ (j : Fin 16) (r : Fin 144) (k : Fin 256), x3 (ix5 0 0 j r k) = if hr : r.val < 128 then v (ix3 b
    (⟨256 * j.val + k.val, by omega⟩ : Fin 4096) (⟨128 * h.val + r.val, by omega⟩ : Fin 512)) else 1)
    (h5 : Causal x5) (n : Fin 1024) (d : Fin 128) :
    Ideal.div (total0 (F := Ideal) i x1 x2 x3 x5 (ix3 0 (⟨d.val, by omega⟩ : Fin 144) n)) (total0 (F := Ideal) i x1 x2 x3 x5 (ix3 0 (⟨128, by omega⟩ : Fin 144) n))
      = ((avg (fun k => dot0 p b h (⟨1024 * (i 2).val + n.val, by have : (i 2).val < 4 := (i 2).isLt; omega⟩ : Fin 4096) k * (1 / 8)) (val v b h d)
        (1024 * (i 2).val + n.val) : ℝ) : EReal) := by
  have hi : (i 2).val < 4 := (i 2).isLt
  rw [total0_eq i x1 x2 x3 x5 h5, total0_eq i x1 x2 x3 x5 h5]
  refine div_acc _ (fun k => dot0 p b h (⟨1024 * (i 2).val + n.val, by omega⟩ : Fin 4096) k * (1 / 8 / Real.log 2)) _ (fun _ => 0) _ _
    (by have := n.isLt; omega) (fun k => ?_) _ _ _ (fun j hj t => ?_) (fun j hj t => vals_eq b h x3 H h3 d j (by omega) t)
    (fun j hj t => ones_eq b h x3 h3 j (by omega) t)
  · have := log_two_pos
    field_simp
  · unfold score
    refine if_congr Iff.rfl ?_ rfl
    exact raw0 b h i x1 x2 H h1 h2 n _ (by have := t.isLt; omega)

omit H in
/-- The scores of the second map. -/
theorem raw1 (H : Finite p v l) (h1 : ∀ (n : Fin 1024) (d : Fin 128), x1 (ix3 0 n d) = p (ix3 b (⟨1024 * (i 2).val + n.val, by have : (i 2).val < 4 := (i 2).isLt; omega⟩ : Fin 4096)
    (⟨512 + 128 * h.val + d.val, by omega⟩ : Fin 2688)) * qscale)
    (h2 : ∀ (k : Fin 4096) (d : Fin 128), x2 (ix3 0 k d) = p (ix3 b k (⟨1024 + 128 * h.val + d.val, by omega⟩ : Fin 2688)))
    (n : Fin 1024) (k : ℕ) (hk : k < 4096) : raw (query1 x1) x2 n k
      = ((dot1 p b h (⟨1024 * (i 2).val + n.val, by have : (i 2).val < 4 := (i 2).isLt; omega⟩ : Fin 4096) k * (1 / 8 / Real.log 2) : ℝ) : EReal) := by
  unfold raw dot1
  simp only [query1_at]
  rw [sum_high (fun d => keyAt x2 k d) fun d => x1 (ix3 0 n d), dif_pos hk, ← sum_scaled]
  refine Finset.sum_congr rfl fun d _ => ?_
  rw [h1, qscale_eq]
  unfold keyAt
  rw [dif_pos hk, h2]
  refine congrArg₂ (fun x y => x * (y * ((1 / 8 / Real.log 2 : ℝ) : EReal))) ?_ ?_
  · refine Eq.trans (congrArg (fun x => p (ix3 b (⟨k, hk⟩ : Fin 4096) x)) (Fin.ext ?_))
      (H.qk b ⟨k, hk⟩ (⟨1024 + 128 * h.val + 64 + d.val, by omega⟩ : Fin 2688) (by show 512 ≤ 1024 + 128 * h.val + 64 + d.val; omega)
        (by show 1024 + 128 * h.val + 64 + d.val < 1536; omega))
    show 1024 + 128 * h.val + (64 + d.val) = 1024 + 128 * h.val + 64 + d.val
    omega
  · refine Eq.trans (congrArg (fun x => p (ix3 b _ x)) (Fin.ext ?_))
      (H.qk b _ (⟨512 + 128 * h.val + 64 + d.val, by omega⟩ : Fin 2688) (by show 512 ≤ 512 + 128 * h.val + 64 + d.val; omega)
        (by show 512 + 128 * h.val + 64 + d.val < 1536; omega))
    show 512 + 128 * h.val + (64 + d.val) = 512 + 128 * h.val + 64 + d.val
    omega

omit H in
/-- The quotient of the second map's value sums and weight sum is the softmax average. -/
theorem quot1 (H : Finite p v l) (h1 : ∀ (n : Fin 1024) (d : Fin 128), x1 (ix3 0 n d) = p (ix3 b (⟨1024 * (i 2).val + n.val, by have : (i 2).val < 4 := (i 2).isLt; omega⟩ : Fin 4096)
    (⟨512 + 128 * h.val + d.val, by omega⟩ : Fin 2688)) * qscale)
    (h2 : ∀ (k : Fin 4096) (d : Fin 128), x2 (ix3 0 k d) = p (ix3 b k (⟨1024 + 128 * h.val + d.val, by omega⟩ : Fin 2688)))
    (h3 : ∀ (j : Fin 16) (r : Fin 144) (k : Fin 256), x3 (ix5 0 0 j r k) = if hr : r.val < 128 then v (ix3 b
    (⟨256 * j.val + k.val, by omega⟩ : Fin 4096) (⟨128 * h.val + r.val, by omega⟩ : Fin 512)) else 1)
    (h5 : Causal x5) (n : Fin 1024) (d : Fin 128) :
    Ideal.div (total1 (F := Ideal) i x1 x2 x3 x5 (ix3 0 (⟨d.val, by omega⟩ : Fin 144) n)) (total1 (F := Ideal) i x1 x2 x3 x5 (ix3 0 (⟨128, by omega⟩ : Fin 144) n))
      = ((avg (fun k => dot1 p b h (⟨1024 * (i 2).val + n.val, by have : (i 2).val < 4 := (i 2).isLt; omega⟩ : Fin 4096) k * (1 / 8)) (val v b h d)
        (1024 * (i 2).val + n.val) : ℝ) : EReal) := by
  have hi : (i 2).val < 4 := (i 2).isLt
  rw [total1_eq i x1 x2 x3 x5 h5, total1_eq i x1 x2 x3 x5 h5]
  refine div_acc _ (fun k => dot1 p b h (⟨1024 * (i 2).val + n.val, by omega⟩ : Fin 4096) k * (1 / 8 / Real.log 2)) _ (fun _ => 0) _ _
    (by have := n.isLt; omega) (fun k => ?_) _ _ _ (fun j hj t => ?_) (fun j hj t => vals_eq b h x3 H h3 d j (by omega) t)
    (fun j hj t => ones_eq b h x3 h3 j (by omega) t)
  · have := log_two_pos
    field_simp
  · unfold score
    refine if_congr Iff.rfl ?_ rfl
    exact raw1 b h i x1 x2 H h1 h2 n _ (by have := t.isLt; omega)

end

variable (m : (ℓ : Loc nD τ sig) → Buf (Elt Ideal) ℓ) (c : Dev nD) (t : Fin cfg0.N)

/-- The array row of a query. -/
def row (n : Fin 1024) : Fin 4096 := ⟨1024 * (qOf t).val + n.val, by omega⟩

/-- The block a point leaves is the reference's. -/
theorem leaves_eq (H : Finite (argP m c) (argV m c) (argL m c)) (n : Fin 1024) (d : Fin 128) :
    leaves m c t (ix3 0 n d) = REF (argP m c) (argV m c) (argL m c) (argG m c) (ix3 (bOf t) (row t n)
      (⟨128 * (hOf t).val + d.val, by omega⟩ : Fin 512)) := by
  have hX : ∀ d : Fin 128, k0_pay178 (F := Ideal) (iblk m c 0 t)
      (rd (total0 (grid0.coords t) (iblk m c 1 t) (iblk m c 2 t) (iblk m c 3 t) (iblk m c 5 t)) valueRows.toLoadRect)
      (rd (total0 (grid0.coords t) (iblk m c 1 t) (iblk m c 2 t) (iblk m c 3 t) (iblk m c 5 t)) sumRow.toLoadRect)
      (rd (total1 (grid0.coords t) (iblk m c 1 t) (iblk m c 2 t) (iblk m c 3 t) (iblk m c 5 t)) valueRows.toLoadRect)
      (rd (total1 (grid0.coords t) (iblk m c 1 t) (iblk m c 2 t) (iblk m c 3 t) (iblk m c 5 t)) sumRow.toLoadRect) (ix2 n d)
      = mixed (argP m c) (argV m c) (argL m c) (bOf t) (hOf t) (row t n) d := fun d => by
    rw [pay178_at, rows_at, sum_at, rows_at, sum_at,
      quot0 (bOf t) (hOf t) (grid0.coords t) (iblk m c 1 t) (iblk m c 2 t) (iblk m c 3 t) (iblk m c 5 t) H (blk1 m c t) (blk2 m c t) (blk3 m c t) (causal m c t) n d,
      quot1 (bOf t) (hOf t) (grid0.coords t) (iblk m c 1 t) (iblk m c 2 t) (iblk m c 3 t) (iblk m c 5 t) H (blk1 m c t) (blk2 m c t) (blk3 m c t) (causal m c t) n d]
    simp only [blk0]
    rfl
  unfold leaves outBlk
  rw [whole0, whole4, pay1_at]
  simp only [hX]
  unfold REF
  rw [OUT_at, RN_at]
  simp only [ref_mixed H]
  rw [blk4]

/-- The result array after the run is the reference's result. -/
theorem final (H : Finite (argP m c) (argV m c) (argL m c)) :
    (dats m 0 c).arrAt 6 cfg0.N = REF (argP m c) (argV m c) (argL m c) (argG m c) := by
  refine (dats m 0 c).arrAt_eq_of_covers 6 _ (by decide +kernel) fun t _ y => ?_
  blk_simp
  rw [after0_6]
  obtain ⟨n, d, rfl⟩ : ∃ (n : Fin 1024) (d : Fin 128), y = ix3 0 n d := ⟨y 1, y 2, by rw [eq_ix3 y]; congr 1; exact Subsingleton.elim (α := Fin 1) _ _⟩
  refine (leaves_eq m c t H n d).trans (congrArg (REF (argP m c) (argV m c) (argL m c) (argG m c)) ?_)
  blk_ext [idx t, row, bOf, hOf, qOf]

end Cert.DiffIdeal.Final
end
-- ==== Proof.DiffIdeal.Claims.lean ====
/- The claims about the difference of two softmax attentions. -/
module

public import proofs.«01_k».proof.Defs
public import proofs.«01_k».proof.Proof.Diff.Run
public import proofs.«01_k».proof.Proof.DiffIdeal.Run
public import proofs.«01_k».proof.Proof.DiffIdeal.Final
public import proofs.«01_k».proof.Proof.Gen.DiffRefIdeal.Run
public import Idealize.ShloMosaic.Lib.Claim

@[expose] public section

set_option maxRecDepth 16384

noncomputable section

open Idealize.ShloMosaic Idealize.SL.Sem

namespace Cert.Proof.Diff

/-- The precondition's shapes fit. -/
theorem pre_facts : Cert.Pre_finite_inputs.Facts where
  slices_S8x4096x2688_S8x4096x1024_0_0_512 := by decide
  bcast_S_S8x4096x1024 := by decide
  bcast_S_S8x4096x512 := by decide
  bcast_S_S4x64 := by decide

/-- The kernel runs without a fault and leaves its arguments and counters alone. -/
theorem frame_P : Cert.quiescent_Diff := fun m ρ _ => Cert.Diff.Body.frame m ρ

/-- The same of the kernel over the extended reals. -/
theorem frame_PI : Cert.quiescent_DiffIdeal := fun m ρ _ => Cert.DiffIdeal.Body.frame m ρ

/-- The same of the kernel over the extended reals where the precondition holds. -/
theorem frame_PI_pre : Cert.quiescent_DiffIdeal_pre_finite_inputs (hPre_finite_inputs := pre_facts) :=
  fun m ρ _ => Cert.DiffIdeal.Body.frame m ρ

/-- The same of the reference over the extended reals. -/
theorem frame_RI : Cert.quiescent_DiffRefIdeal := by
  intro m g _
  exact (θ_run Cert.DiffRefIdeal.defs _ _).mono (fun r h => ⟨fun c => (h c).2, sem_eq_zero_of_no_sems (by decide) r.2⟩)
    (Cert.DiffRefIdeal.Value.run m g)

/-- The same of the reference over the extended reals where the precondition holds. -/
theorem frame_RI_pre : Cert.quiescent_DiffRefIdeal_pre_finite_inputs (hPre_finite_inputs := pre_facts) := by
  intro m g _
  exact (θ_run Cert.DiffRefIdeal.defs _ _).mono (fun r h => ⟨fun c => (h c).2, sem_eq_zero_of_no_sems (by decide) r.2⟩)
    (Cert.DiffRefIdeal.Value.run m g)

/-- Reading the kernel over the extended reals changes no operation. -/
theorem preserves : Cert.preserves_Diff_DiffIdeal := trivial

/-- A number whose magnitude lies below infinity is finite. -/
theorem finite_of_bit (x : Ideal .f32)
    (h : BitVec.ofBool (decide ((FloatOps.absf x : EReal) < Ideal.ofBits .f32 2139095040#32)) = 1#1) :
    (x : EReal) = ((EReal.toReal x : ℝ) : EReal) := by
  have ht : Ideal.ofBits .f32 2139095040#32 = (⊤ : EReal) := by simp [Ideal.ofBits, Ideal.ieee]
  rw [ht] at h
  have hlt : (FloatOps.absf x : EReal) < ⊤ := by
    by_contra hn
    rw [decide_eq_false hn] at h
    exact absurd h (by decide)
  refine (EReal.coe_toReal ?_ ?_).symm
  · rintro rfl
    exact absurd hlt (lt_irrefl _)
  · rintro rfl
    exact absurd hlt (lt_irrefl _)

section
local instance : Cert.Pre_finite_inputs.Facts := pre_facts
open Cert.Pre_finite_inputs.Facts

/-- The precondition gives finite arguments. -/
theorem finite_args (m : (ℓ : Loc Cert.DiffIdeal.nD Cert.DiffIdeal.τ Cert.DiffIdeal.sig) → Buf (Elt Ideal) ℓ)
    (h : Cert.Pre_DiffIdeal_finite_inputs m) (c : Dev Cert.DiffIdeal.nD) :
    Cert.DiffIdeal.Final.Finite (Cert.DiffIdeal.Body.argP m c) (Cert.DiffIdeal.Body.argV m c) (Cert.DiffIdeal.Body.argL m c) := by
  obtain ⟨h0, h1, h2⟩ := h c
  refine ⟨fun b s n hn hn' => ?_, fun b s n => ?_, fun r d => ?_⟩
  · have := congrFun h0 (ix3 b s (⟨n.val - 512, by omega⟩ : Fin 1024))
    revert this
    dsimp only [Cert.Pre_finite_inputs.fn]
    pointwise []
    intro this
    have e : (⟨512 + (n.val - 512), by omega⟩ : Fin 2688) = n := Fin.ext (by show 512 + (n.val - 512) = n.val; omega)
    rw [e] at this
    exact finite_of_bit _ this
  · have := congrFun h1 (ix3 b s n)
    revert this
    dsimp only [Cert.Pre_finite_inputs.fn]
    pointwise []
    exact finite_of_bit _
  · have := congrFun h2 (ix2 r d)
    revert this
    dsimp only [Cert.Pre_finite_inputs.fn]
    pointwise []
    exact finite_of_bit _
end

/-- The kernel and the reference leave the same array over the extended reals, for finite arguments. -/
theorem algebraic : Cert.algebraic_DiffIdeal_DiffRefIdeal_pre_finite_inputs (hPre_finite_inputs := pre_facts) := by
  pair_intro
  · run_from Cert.DiffIdeal.Body.run_main m g
    · exact Cert.DiffIdeal.Gen.V_main_arg0 m c
    · exact Cert.DiffIdeal.Gen.V_main_arg1 m c
    · exact Cert.DiffIdeal.Gen.V_main_arg3 m c
  · run_from Cert.DiffRefIdeal.Value.run m' g'
    obtain ⟨h0, h1, h2, h3⟩ := hagree c
    refine (Cert.DiffRefIdeal.Pure.res_eq m' c).trans (Eq.trans ?_ (Cert.DiffIdeal.Final.final m c (finite_args m hpre c)).symm)
    rw [h0, h1, h2, h3]

end Cert.Proof.Diff
end
-- ==== Proof.Inp.Spec.lean ====
/- One row of a head: its norm and its rotary embedding. -/
module

public import Idealize.ShloMosaic.Lib.Pointwise

@[expose] public section

noncomputable section

open Idealize.ShloMosaic

namespace Cert.HeadRow

/-- The rotary embedding of one head's row. -/
def rot (f : Fin 64 → EReal) (c s : Fin 32 → EReal) (j : Fin 64) : EReal :=
  if hj : j.val < 32 then f j * c ⟨j.val, hj⟩ - f ⟨j.val + 32, by omega⟩ * s ⟨j.val, hj⟩
  else f ⟨j.val - 32, by omega⟩ * s ⟨j.val - 32, by omega⟩ + f j * c ⟨j.val - 32, by omega⟩

/-- The norm of one head's row, times the gain. -/
def nrm (f g : Fin 64 → EReal) (j : Fin 64) : EReal :=
  f j * Ideal.rsqrt (Ideal.div (∑ k : Fin 64, f k * f k) (Ideal.ofBits .f32 0x42800000#32) + Ideal.ofBits .f32 0x358637BD#32) * g j

end Cert.HeadRow
end
-- ==== Proof.Inp.Stages.lean ====
/- The reference of the input projection, read at an index. -/
module

public import proofs.«01_k».proof.Proof.Gen.InpRefIdeal.Run
public import proofs.«01_k».proof.Proof.Inp.Spec
public import Idealize.ShloMosaic.Lib.Pointwise

@[expose] public section

set_option maxRecDepth 16384
set_option maxHeartbeats 4000000

noncomputable section

open Idealize.ShloMosaic Idealize.ShloMosaic.TcCoe Idealize.SL.Sem

namespace Cert.InpRefIdeal.Pure
open Cert.InpRefIdeal Cert.InpRefIdeal.Gen
open Cert.HeadRow (rot nrm)

/-- The angles of the rotary embedding. -/
def ANG : FVec Ideal S4096x32 .f32 :=
  mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))))

/-- The cosines of the angles. -/
def CS : FVec Ideal S4096x32 .f32 := Host.cos ANG
/-- The sines of the angles. -/
def SN : FVec Ideal S4096x32 .f32 := Host.sin ANG

/-- The normed input. -/
def HN (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

/-- The projection, as batches of sequences. -/
def PJ (h : FVec Ideal S32768x1024 .f32) (w : FVec Ideal S1024x3656 .f32) : FVec Ideal S8x4096x3656 .f32 :=
  shapeCast S8x4096x3656 (Host.dotGeneral dot_S32768x1024_S1024x3656_S32768x3656_1_0_0_1_n_n none h w) shapeCasts_S32768x3656_S8x4096x3656

/-- The number one over the logarithm of two. -/
def LG : FVec Ideal S_ .f32 := Host.divf (constant S_ .f32 0x3F800000#32) (Host.log (constant S_ .f32 0x40000000#32))

/-- One gain row of three. -/
def GA0 (g : FVec Ideal S3x64 .f32) : FVec Ideal S64 .f32 := shapeCast S64 (extractStridedSlice S1x64 ![0, 0] g slices_S3x64_S1x64_0_0) shapeCasts_S1x64_S64
def GA1 (g : FVec Ideal S3x64 .f32) : FVec Ideal S64 .f32 := shapeCast S64 (extractStridedSlice S1x64 ![1, 0] g slices_S3x64_S1x64_1_0) shapeCasts_S1x64_S64
def GA2 (g : FVec Ideal S3x64 .f32) : FVec Ideal S64 .f32 := shapeCast S64 (extractStridedSlice S1x64 ![2, 0] g slices_S3x64_S1x64_2_0) shapeCasts_S1x64_S64

/-- The rows of the projection and their columns. -/
theorem PJ_at (h : FVec Ideal S32768x1024 .f32) (w : FVec Ideal S1024x3656 .f32) (b : Fin 8) (q : Fin 4096) (n : Fin 3656) :
    PJ h w (ix3 b q n) = ∑ k : Fin 1024, h (ix2 (⟨4096 * b.val + q.val, by omega⟩ : Fin 32768) k) * w (ix2 k n) := by
  pointwise [PJ]
  rw [show (⟨b.val * 4096 + q.val, by omega⟩ : Fin 32768) = ⟨4096 * b.val + q.val, by omega⟩ from Fin.ext (by show b.val * 4096 + q.val = 4096 * b.val + q.val; omega)]

/-- The normed input, read. -/
theorem HN_at (x : FVec Ideal S32768x1024 .f32) (g : FVec Ideal S1024 .f32) (r : Fin 32768) (k : Fin 1024) :
    HN x g (ix2 r k) = x (ix2 r k) * Ideal.rsqrt (Ideal.div (∑ n : Fin 1024, x (ix2 r n) * x (ix2 r n)) (Ideal.ofBits .f32 0x44800000#32)
      + Ideal.ofBits .f32 0x358637BD#32) * g (ix1 k) := by
  pointwise [HN]

theorem GA0_at (g : FVec Ideal S3x64 .f32) (d : Fin 64) : GA0 g (ix1 d) = g (ix2 0 d) := by
  pointwise [GA0]
theorem GA1_at (g : FVec Ideal S3x64 .f32) (d : Fin 64) : GA1 g (ix1 d) = g (ix2 1 d) := by
  pointwise [GA1]
theorem GA2_at (g : FVec Ideal S3x64 .f32) (d : Fin 64) : GA2 g (ix1 d) = g (ix2 2 d) := by
  pointwise [GA2]

/-- The 4 heads of a part of the projection. -/
def SPL4 (t : FVec Ideal S8x4096x256 .f32) : FVec Ideal S8x4x4096x64 .f32 :=
  transpose S8x4x4096x64 [0, 2, 1, 3] (shapeCast S8x4096x4x64 t shapeCasts_S8x4096x256_S8x4096x4x64) transposes_S8x4096x4x64_S8x4x4096x64_0_2_1_3

/-- Their norm. -/
def NRM4 (x : FVec Ideal S8x4x4096x64 .f32) (g : FVec Ideal S64 .f32) : FVec Ideal S8x4x4096x64 .f32 :=
  mulf (mulf x (broadcastInDim S8x4x4096x64 ![0, 1, 2, 3] bcast_S8x4x4096x1_S8x4x4096x64_0_1_2_3
    (Host.rsqrt (addf (Host.divf (broadcastInDim S8x4x4096x1 ![0, 1, 2] bcast_S8x4x4096_S8x4x4096x1_0_1_2
      (Host.reduceAdd (mulf x x) (constant S_ .f32 0x00000000#32) reducesTo_S8x4x4096x64_S8x4x4096_d3 h_S_))
      (broadcastInDim S8x4x4096x1 ![] bcast_S_S8x4x4096x1 (constant S_ .f32 0x42800000#32)))
      (broadcastInDim S8x4x4096x1 ![] bcast_S_S8x4x4096x1 (constant S_ .f32 0x358637BD#32))))))
    (broadcastInDim S8x4x4096x64 ![0, 1, 2, 3] bcast_S1x1x1x64_S8x4x4096x64_0_1_2_3 (broadcastInDim S1x1x1x64 ![3] bcast_S64_S1x1x1x64_3 g))

/-- The lower and the upper lanes. -/
def LO4 (x : FVec Ideal S8x4x4096x64 .f32) : FVec Ideal S8x4x4096x32 .f32 := extractStridedSlice S8x4x4096x32 ![0, 0, 0, 0] x slices_S8x4x4096x64_S8x4x4096x32_0_0_0_0
def UP4 (x : FVec Ideal S8x4x4096x64 .f32) : FVec Ideal S8x4x4096x32 .f32 := extractStridedSlice S8x4x4096x32 ![0, 0, 0, 32] x slices_S8x4x4096x64_S8x4x4096x32_0_0_0_32

/-- Their rotary embedding. -/
def RP4 (x : FVec Ideal S8x4x4096x64 .f32) : FVec Ideal S8x4x4096x64 .f32 :=
  concatenate S8x4x4096x64 3 [⟨S8x4x4096x32, subf (mulf (LO4 x) (broadcastInDim S8x4x4096x32 ![0, 1, 2, 3] bcast_S1x1x4096x32_S8x4x4096x32_0_1_2_3 (broadcastInDim S1x1x4096x32 ![2, 3] bcast_S4096x32_S1x1x4096x32_2_3 CS))) (mulf (UP4 x) (broadcastInDim S8x4x4096x32 ![0, 1, 2, 3] bcast_S1x1x4096x32_S8x4x4096x32_0_1_2_3 (broadcastInDim S1x1x4096x32 ![2, 3] bcast_S4096x32_S1x1x4096x32_2_3 SN)))⟩,
    ⟨S8x4x4096x32, addf (mulf (LO4 x) (broadcastInDim S8x4x4096x32 ![0, 1, 2, 3] bcast_S1x1x4096x32_S8x4x4096x32_0_1_2_3 (broadcastInDim S1x1x4096x32 ![2, 3] bcast_S4096x32_S1x1x4096x32_2_3 SN))) (mulf (UP4 x) (broadcastInDim S8x4x4096x32 ![0, 1, 2, 3] bcast_S1x1x4096x32_S8x4x4096x32_0_1_2_3 (broadcastInDim S1x1x4096x32 ![2, 3] bcast_S4096x32_S1x1x4096x32_2_3 CS)))⟩] concatenates_S8x4x4096x32_S8x4x4096x32_S8x4x4096x64_d3

/-- The heads side by side. -/
def MG4 (x : FVec Ideal S8x4x4096x64 .f32) : FVec Ideal S8x4096x256 .f32 :=
  shapeCast S8x4096x256 (transpose S8x4096x4x64 [0, 2, 1, 3] x transposes_S8x4x4096x64_S8x4096x4x64_0_2_1_3) shapeCasts_S8x4096x4x64_S8x4096x256

/-- The factor on the queries. -/
def SCL4 (x : FVec Ideal S8x4096x256 .f32) : FVec Ideal S8x4096x256 .f32 :=
  mulf (mulf x (broadcastInDim S8x4096x256 ![] bcast_S_S8x4096x256 (constant S_ .f32 0x3E000000#32))) (broadcastInDim S8x4096x256 ![] bcast_S_S8x4096x256 LG)

theorem SPL4_at (t : FVec Ideal S8x4096x256 .f32) (b : Fin 8) (h : Fin 4) (q : Fin 4096) (d : Fin 64) :
    SPL4 t (ix4 b h q d) = t (ix3 b q (⟨64 * h.val + d.val, by omega⟩ : Fin 256)) := by
  pointwise [SPL4]
  exact congrArg (fun x => t (ix3 b q x)) (Fin.ext (show h.val * 64 + d.val = 64 * h.val + d.val by omega))

theorem NRM4_at (x : FVec Ideal S8x4x4096x64 .f32) (g : FVec Ideal S64 .f32) (b : Fin 8) (h : Fin 4) (q : Fin 4096) (d : Fin 64) :
    NRM4 x g (ix4 b h q d) = nrm (fun k => x (ix4 b h q k)) (fun k => g (ix1 k)) d := by
  unfold nrm
  pointwise [NRM4]

theorem RP4_at (x : FVec Ideal S8x4x4096x64 .f32) (b : Fin 8) (h : Fin 4) (q : Fin 4096) (d : Fin 64) :
    RP4 x (ix4 b h q d) = rot (fun k => x (ix4 b h q k)) (fun k => CS (ix2 q k)) (fun k => SN (ix2 q k)) d := by
  unfold rot
  by_cases hd : d.val < 32
  · rw [dif_pos hd]
    pointwise [RP4, LO4, UP4]
    rw [dif_pos hd]
    exact congrArg (fun y => x (ix4 b h q d) * CS (ix2 q ⟨d.val, hd⟩) - x (ix4 b h q y) * SN (ix2 q ⟨d.val, hd⟩)) (Fin.ext (by show 32 + d.val = d.val + 32; omega))
  · rw [dif_neg hd]
    pointwise [RP4, LO4, UP4]
    rw [dif_neg hd]
    exact congrArg (fun y => x (ix4 b h q ⟨d.val - 32, by omega⟩) * SN (ix2 q ⟨d.val - 32, by omega⟩) + x (ix4 b h q y) * CS (ix2 q ⟨d.val - 32, by omega⟩)) (Fin.ext (by show 32 + (d.val - 32) = d.val; omega))

theorem MG4_at (x : FVec Ideal S8x4x4096x64 .f32) (b : Fin 8) (h : Fin 4) (q : Fin 4096) (d : Fin 64) :
    MG4 x (ix3 b q (⟨64 * h.val + d.val, by omega⟩ : Fin 256)) = x (ix4 b h q d) := by
  pointwise [MG4]

/-- The 8 heads of a part of the projection. -/
def SPL8 (t : FVec Ideal S8x4096x512 .f32) : FVec Ideal S8x8x4096x64 .f32 :=
  transpose S8x8x4096x64 [0, 2, 1, 3] (shapeCast S8x4096x8x64 t shapeCasts_S8x4096x512_S8x4096x8x64) transposes_S8x4096x8x64_S8x8x4096x64_0_2_1_3

/-- Their norm. -/
def NRM8 (x : FVec Ideal S8x8x4096x64 .f32) (g : FVec Ideal S64 .f32) : FVec Ideal S8x8x4096x64 .f32 :=
  mulf (mulf x (broadcastInDim S8x8x4096x64 ![0, 1, 2, 3] bcast_S8x8x4096x1_S8x8x4096x64_0_1_2_3
    (Host.rsqrt (addf (Host.divf (broadcastInDim S8x8x4096x1 ![0, 1, 2] bcast_S8x8x4096_S8x8x4096x1_0_1_2
      (Host.reduceAdd (mulf x x) (constant S_ .f32 0x00000000#32) reducesTo_S8x8x4096x64_S8x8x4096_d3 h_S_))
      (broadcastInDim S8x8x4096x1 ![] bcast_S_S8x8x4096x1 (constant S_ .f32 0x42800000#32)))
      (broadcastInDim S8x8x4096x1 ![] bcast_S_S8x8x4096x1 (constant S_ .f32 0x358637BD#32))))))
    (broadcastInDim S8x8x4096x64 ![0, 1, 2, 3] bcast_S1x1x1x64_S8x8x4096x64_0_1_2_3 (broadcastInDim S1x1x1x64 ![3] bcast_S64_S1x1x1x64_3 g))

/-- The lower and the upper lanes. -/
def LO8 (x : FVec Ideal S8x8x4096x64 .f32) : FVec Ideal S8x8x4096x32 .f32 := extractStridedSlice S8x8x4096x32 ![0, 0, 0, 0] x slices_S8x8x4096x64_S8x8x4096x32_0_0_0_0
def UP8 (x : FVec Ideal S8x8x4096x64 .f32) : FVec Ideal S8x8x4096x32 .f32 := extractStridedSlice S8x8x4096x32 ![0, 0, 0, 32] x slices_S8x8x4096x64_S8x8x4096x32_0_0_0_32

/-- Their rotary embedding. -/
def RP8 (x : FVec Ideal S8x8x4096x64 .f32) : FVec Ideal S8x8x4096x64 .f32 :=
  concatenate S8x8x4096x64 3 [⟨S8x8x4096x32, subf (mulf (LO8 x) (broadcastInDim S8x8x4096x32 ![0, 1, 2, 3] bcast_S1x1x4096x32_S8x8x4096x32_0_1_2_3 (broadcastInDim S1x1x4096x32 ![2, 3] bcast_S4096x32_S1x1x4096x32_2_3 CS))) (mulf (UP8 x) (broadcastInDim S8x8x4096x32 ![0, 1, 2, 3] bcast_S1x1x4096x32_S8x8x4096x32_0_1_2_3 (broadcastInDim S1x1x4096x32 ![2, 3] bcast_S4096x32_S1x1x4096x32_2_3 SN)))⟩,
    ⟨S8x8x4096x32, addf (mulf (LO8 x) (broadcastInDim S8x8x4096x32 ![0, 1, 2, 3] bcast_S1x1x4096x32_S8x8x4096x32_0_1_2_3 (broadcastInDim S1x1x4096x32 ![2, 3] bcast_S4096x32_S1x1x4096x32_2_3 SN))) (mulf (UP8 x) (broadcastInDim S8x8x4096x32 ![0, 1, 2, 3] bcast_S1x1x4096x32_S8x8x4096x32_0_1_2_3 (broadcastInDim S1x1x4096x32 ![2, 3] bcast_S4096x32_S1x1x4096x32_2_3 CS)))⟩] concatenates_S8x8x4096x32_S8x8x4096x32_S8x8x4096x64_d3

/-- The heads side by side. -/
def MG8 (x : FVec Ideal S8x8x4096x64 .f32) : FVec Ideal S8x4096x512 .f32 :=
  shapeCast S8x4096x512 (transpose S8x4096x8x64 [0, 2, 1, 3] x transposes_S8x8x4096x64_S8x4096x8x64_0_2_1_3) shapeCasts_S8x4096x8x64_S8x4096x512

/-- The factor on the queries. -/
def SCL8 (x : FVec Ideal S8x4096x512 .f32) : FVec Ideal S8x4096x512 .f32 :=
  mulf (mulf x (broadcastInDim S8x4096x512 ![] bcast_S_S8x4096x512 (constant S_ .f32 0x3E000000#32))) (broadcastInDim S8x4096x512 ![] bcast_S_S8x4096x512 LG)

theorem SPL8_at (t : FVec Ideal S8x4096x512 .f32) (b : Fin 8) (h : Fin 8) (q : Fin 4096) (d : Fin 64) :
    SPL8 t (ix4 b h q d) = t (ix3 b q (⟨64 * h.val + d.val, by omega⟩ : Fin 512)) := by
  pointwise [SPL8]
  exact congrArg (fun x => t (ix3 b q x)) (Fin.ext (show h.val * 64 + d.val = 64 * h.val + d.val by omega))

theorem NRM8_at (x : FVec Ideal S8x8x4096x64 .f32) (g : FVec Ideal S64 .f32) (b : Fin 8) (h : Fin 8) (q : Fin 4096) (d : Fin 64) :
    NRM8 x g (ix4 b h q d) = nrm (fun k => x (ix4 b h q k)) (fun k => g (ix1 k)) d := by
  unfold nrm
  pointwise [NRM8]

theorem RP8_at (x : FVec Ideal S8x8x4096x64 .f32) (b : Fin 8) (h : Fin 8) (q : Fin 4096) (d : Fin 64) :
    RP8 x (ix4 b h q d) = rot (fun k => x (ix4 b h q k)) (fun k => CS (ix2 q k)) (fun k => SN (ix2 q k)) d := by
  unfold rot
  by_cases hd : d.val < 32
  · rw [dif_pos hd]
    pointwise [RP8, LO8, UP8]
    rw [dif_pos hd]
    exact congrArg (fun y => x (ix4 b h q d) * CS (ix2 q ⟨d.val, hd⟩) - x (ix4 b h q y) * SN (ix2 q ⟨d.val, hd⟩)) (Fin.ext (by show 32 + d.val = d.val + 32; omega))
  · rw [dif_neg hd]
    pointwise [RP8, LO8, UP8]
    rw [dif_neg hd]
    exact congrArg (fun y => x (ix4 b h q ⟨d.val - 32, by omega⟩) * SN (ix2 q ⟨d.val - 32, by omega⟩) + x (ix4 b h q y) * CS (ix2 q ⟨d.val - 32, by omega⟩)) (Fin.ext (by show 32 + (d.val - 32) = d.val; omega))

theorem MG8_at (x : FVec Ideal S8x8x4096x64 .f32) (b : Fin 8) (h : Fin 8) (q : Fin 4096) (d : Fin 64) :
    MG8 x (ix3 b q (⟨64 * h.val + d.val, by omega⟩ : Fin 512)) = x (ix4 b h q d) := by
  pointwise [MG8]

/-- The rotary embedding of the index key. -/
def RPK (x : FVec Ideal S8x4096x64 .f32) : FVec Ideal S8x4096x64 .f32 :=
  concatenate S8x4096x64 2 [⟨S8x4096x32, subf (mulf (extractStridedSlice S8x4096x32 ![0, 0, 0] x slices_S8x4096x64_S8x4096x32_0_0_0) (broadcastInDim S8x4096x32 ![0, 1, 2] bcast_S1x4096x32_S8x4096x32_0_1_2 (broadcastInDim S1x4096x32 ![1, 2] bcast_S4096x32_S1x4096x32_1_2 CS))) (mulf (extractStridedSlice S8x4096x32 ![0, 0, 32] x slices_S8x4096x64_S8x4096x32_0_0_32) (broadcastInDim S8x4096x32 ![0, 1, 2] bcast_S1x4096x32_S8x4096x32_0_1_2 (broadcastInDim S1x4096x32 ![1, 2] bcast_S4096x32_S1x4096x32_1_2 SN)))⟩,
    ⟨S8x4096x32, addf (mulf (extractStridedSlice S8x4096x32 ![0, 0, 0] x slices_S8x4096x64_S8x4096x32_0_0_0) (broadcastInDim S8x4096x32 ![0, 1, 2] bcast_S1x4096x32_S8x4096x32_0_1_2 (broadcastInDim S1x4096x32 ![1, 2] bcast_S4096x32_S1x4096x32_1_2 SN))) (mulf (extractStridedSlice S8x4096x32 ![0, 0, 32] x slices_S8x4096x64_S8x4096x32_0_0_32) (broadcastInDim S8x4096x32 ![0, 1, 2] bcast_S1x4096x32_S8x4096x32_0_1_2 (broadcastInDim S1x4096x32 ![1, 2] bcast_S4096x32_S1x4096x32_1_2 CS)))⟩] concatenates_S8x4096x32_S8x4096x32_S8x4096x64_d2

theorem RPK_at (x : FVec Ideal S8x4096x64 .f32) (b : Fin 8) (q : Fin 4096) (d : Fin 64) :
    RPK x (ix3 b q d) = rot (fun k => x (ix3 b q k)) (fun k => CS (ix2 q k)) (fun k => SN (ix2 q k)) d := by
  unfold rot
  by_cases hd : d.val < 32
  · rw [dif_pos hd]
    pointwise [RPK]
    rw [dif_pos hd]
    exact congrArg (fun y => x (ix3 b q d) * CS (ix2 q ⟨d.val, hd⟩) - x (ix3 b q y) * SN (ix2 q ⟨d.val, hd⟩)) (Fin.ext (by show 32 + d.val = d.val + 32; omega))
  · rw [dif_neg hd]
    pointwise [RPK]
    rw [dif_neg hd]
    exact congrArg (fun y => x (ix3 b q ⟨d.val - 32, by omega⟩) * SN (ix2 q ⟨d.val - 32, by omega⟩) + x (ix3 b q y) * CS (ix2 q ⟨d.val - 32, by omega⟩)) (Fin.ext (by show 32 + (d.val - 32) = d.val; omega))

/-- The columns of the projection from 0 on. -/
def MQ (y : FVec Ideal S8x4096x3656 .f32) : FVec Ideal S8x4096x256 .f32 := extractStridedSlice S8x4096x256 ![0, 0, 0] y slices_S8x4096x3656_S8x4096x256_0_0_0
theorem MQ_at (y : FVec Ideal S8x4096x3656 .f32) (b : Fin 8) (q : Fin 4096) (n : Fin 256) : MQ y (ix3 b q n) = y (ix3 b q (⟨0 + n.val, by omega⟩ : Fin 3656)) := by
  pointwise [MQ]

/-- The columns of the projection from 256 on. -/
def MK (y : FVec Ideal S8x4096x3656 .f32) : FVec Ideal S8x4096x256 .f32 := extractStridedSlice S8x4096x256 ![0, 0, 256] y slices_S8x4096x3656_S8x4096x256_0_0_256
theorem MK_at (y : FVec Ideal S8x4096x3656 .f32) (b : Fin 8) (q : Fin 4096) (n : Fin 256) : MK y (ix3 b q n) = y (ix3 b q (⟨256 + n.val, by omega⟩ : Fin 3656)) := by
  pointwise [MK]

/-- The columns of the projection from 512 on. -/
def MV (y : FVec Ideal S8x4096x3656 .f32) : FVec Ideal S8x4096x256 .f32 := extractStridedSlice S8x4096x256 ![0, 0, 512] y slices_S8x4096x3656_S8x4096x256_0_0_512
theorem MV_at (y : FVec Ideal S8x4096x3656 .f32) (b : Fin 8) (q : Fin 4096) (n : Fin 256) : MV y (ix3 b q n) = y (ix3 b q (⟨512 + n.val, by omega⟩ : Fin 3656)) := by
  pointwise [MV]

/-- The columns of the projection from 768 on. -/
def DQ (y : FVec Ideal S8x4096x3656 .f32) : FVec Ideal S8x4096x512 .f32 := extractStridedSlice S8x4096x512 ![0, 0, 768] y slices_S8x4096x3656_S8x4096x512_0_0_768
theorem DQ_at (y : FVec Ideal S8x4096x3656 .f32) (b : Fin 8) (q : Fin 4096) (n : Fin 512) : DQ y (ix3 b q n) = y (ix3 b q (⟨768 + n.val, by omega⟩ : Fin 3656)) := by
  pointwise [DQ]

/-- The columns of the projection from 1280 on. -/
def DK (y : FVec Ideal S8x4096x3656 .f32) : FVec Ideal S8x4096x512 .f32 := extractStridedSlice S8x4096x512 ![0, 0, 1280] y slices_S8x4096x3656_S8x4096x512_0_0_1280
theorem DK_at (y : FVec Ideal S8x4096x3656 .f32) (b : Fin 8) (q : Fin 4096) (n : Fin 512) : DK y (ix3 b q n) = y (ix3 b q (⟨1280 + n.val, by omega⟩ : Fin 3656)) := by
  pointwise [DK]

/-- The columns of the projection from 1792 on. -/
def DV (y : FVec Ideal S8x4096x3656 .f32) : FVec Ideal S8x4096x512 .f32 := extractStridedSlice S8x4096x512 ![0, 0, 1792] y slices_S8x4096x3656_S8x4096x512_0_0_1792
theorem DV_at (y : FVec Ideal S8x4096x3656 .f32) (b : Fin 8) (q : Fin 4096) (n : Fin 512) : DV y (ix3 b q n) = y (ix3 b q (⟨1792 + n.val, by omega⟩ : Fin 3656)) := by
  pointwise [DV]

/-- The columns of the projection from 2304 on. -/
def SQ (y : FVec Ideal S8x4096x3656 .f32) : FVec Ideal S8x4096x256 .f32 := extractStridedSlice S8x4096x256 ![0, 0, 2304] y slices_S8x4096x3656_S8x4096x256_0_0_2304
theorem SQ_at (y : FVec Ideal S8x4096x3656 .f32) (b : Fin 8) (q : Fin 4096) (n : Fin 256) : SQ y (ix3 b q n) = y (ix3 b q (⟨2304 + n.val, by omega⟩ : Fin 3656)) := by
  pointwise [SQ]

/-- The columns of the projection from 2560 on. -/
def SK (y : FVec Ideal S8x4096x3656 .f32) : FVec Ideal S8x4096x256 .f32 := extractStridedSlice S8x4096x256 ![0, 0, 2560] y slices_S8x4096x3656_S8x4096x256_0_0_2560
theorem SK_at (y : FVec Ideal S8x4096x3656 .f32) (b : Fin 8) (q : Fin 4096) (n : Fin 256) : SK y (ix3 b q n) = y (ix3 b q (⟨2560 + n.val, by omega⟩ : Fin 3656)) := by
  pointwise [SK]

/-- The columns of the projection from 2816 on. -/
def SV (y : FVec Ideal S8x4096x3656 .f32) : FVec Ideal S8x4096x256 .f32 := extractStridedSlice S8x4096x256 ![0, 0, 2816] y slices_S8x4096x3656_S8x4096x256_0_0_2816
theorem SV_at (y : FVec Ideal S8x4096x3656 .f32) (b : Fin 8) (q : Fin 4096) (n : Fin 256) : SV y (ix3 b q n) = y (ix3 b q (⟨2816 + n.val, by omega⟩ : Fin 3656)) := by
  pointwise [SV]

/-- The columns of the projection from 3072 on. -/
def IQ (y : FVec Ideal S8x4096x3656 .f32) : FVec Ideal S8x4096x512 .f32 := extractStridedSlice S8x4096x512 ![0, 0, 3072] y slices_S8x4096x3656_S8x4096x512_0_0_3072
theorem IQ_at (y : FVec Ideal S8x4096x3656 .f32) (b : Fin 8) (q : Fin 4096) (n : Fin 512) : IQ y (ix3 b q n) = y (ix3 b q (⟨3072 + n.val, by omega⟩ : Fin 3656)) := by
  pointwise [IQ]

/-- The columns of the projection from 3584 on. -/
def IK (y : FVec Ideal S8x4096x3656 .f32) : FVec Ideal S8x4096x64 .f32 := extractStridedSlice S8x4096x64 ![0, 0, 3584] y slices_S8x4096x3656_S8x4096x64_0_0_3584
theorem IK_at (y : FVec Ideal S8x4096x3656 .f32) (b : Fin 8) (q : Fin 4096) (n : Fin 64) : IK y (ix3 b q n) = y (ix3 b q (⟨3584 + n.val, by omega⟩ : Fin 3656)) := by
  pointwise [IK]

/-- The columns of the projection from 3648 on. -/
def IW (y : FVec Ideal S8x4096x3656 .f32) : FVec Ideal S8x4096x8 .f32 := extractStridedSlice S8x4096x8 ![0, 0, 3648] y slices_S8x4096x3656_S8x4096x8_0_0_3648
theorem IW_at (y : FVec Ideal S8x4096x3656 .f32) (b : Fin 8) (q : Fin 4096) (n : Fin 8) : IW y (ix3 b q n) = y (ix3 b q (⟨3648 + n.val, by omega⟩ : Fin 3656)) := by
  pointwise [IW]

end Cert.InpRefIdeal.Pure
end
-- ==== Proof.Inp.Reference.lean ====
/- The reference of the input projection, read at an index. -/
module

public import proofs.«01_k».proof.Proof.Inp.Stages
public import proofs.«01_k».proof.Proof.Inp.Spec
public import Idealize.ShloMosaic.Lib.Pointwise

@[expose] public section

set_option maxRecDepth 16384
set_option maxHeartbeats 4000000

noncomputable section

open Idealize.ShloMosaic Idealize.ShloMosaic.TcCoe Idealize.SL.Sem

namespace Cert.InpRefIdeal.Pure
open Cert.InpRefIdeal Cert.InpRefIdeal.Gen
open Cert.HeadRow (rot nrm)

/-- The nine parts side by side. -/
def CAT (a0 : FVec Ideal S8x4096x256 .f32) (a1 : FVec Ideal S8x4096x256 .f32) (a2 : FVec Ideal S8x4096x512 .f32) (a3 : FVec Ideal S8x4096x512 .f32) (a4 : FVec Ideal S8x4096x256 .f32) (a5 : FVec Ideal S8x4096x256 .f32) (a6 : FVec Ideal S8x4096x512 .f32) (a7 : FVec Ideal S8x4096x64 .f32) (a8 : FVec Ideal S8x4096x64 .f32) : FVec Ideal S8x4096x2688 .f32 :=
  concatenate S8x4096x2688 2 [⟨S8x4096x256, a0⟩, ⟨S8x4096x256, a1⟩, ⟨S8x4096x512, a2⟩, ⟨S8x4096x512, a3⟩, ⟨S8x4096x256, a4⟩, ⟨S8x4096x256, a5⟩, ⟨S8x4096x512, a6⟩, ⟨S8x4096x64, a7⟩, ⟨S8x4096x64, a8⟩]
    concatenates_S8x4096x256_S8x4096x256_S8x4096x512_S8x4096x512_S8x4096x256_S8x4096x256_S8x4096x512_S8x4096x64_S8x4096x64_S8x4096x2688_d2

/-- Part 0 of the nine, read. -/
theorem CAT0 (a0 : FVec Ideal S8x4096x256 .f32) (a1 : FVec Ideal S8x4096x256 .f32) (a2 : FVec Ideal S8x4096x512 .f32) (a3 : FVec Ideal S8x4096x512 .f32) (a4 : FVec Ideal S8x4096x256 .f32) (a5 : FVec Ideal S8x4096x256 .f32) (a6 : FVec Ideal S8x4096x512 .f32) (a7 : FVec Ideal S8x4096x64 .f32) (a8 : FVec Ideal S8x4096x64 .f32) (b : Fin 8) (q : Fin 4096) (n : Fin 256) :
    CAT a0 a1 a2 a3 a4 a5 a6 a7 a8 (ix3 b q (⟨n.val, by omega⟩ : Fin 2688)) = a0 (ix3 b q n) := by
  pointwise [CAT]

/-- Part 1 of the nine, read. -/
theorem CAT1 (a0 : FVec Ideal S8x4096x256 .f32) (a1 : FVec Ideal S8x4096x256 .f32) (a2 : FVec Ideal S8x4096x512 .f32) (a3 : FVec Ideal S8x4096x512 .f32) (a4 : FVec Ideal S8x4096x256 .f32) (a5 : FVec Ideal S8x4096x256 .f32) (a6 : FVec Ideal S8x4096x512 .f32) (a7 : FVec Ideal S8x4096x64 .f32) (a8 : FVec Ideal S8x4096x64 .f32) (b : Fin 8) (q : Fin 4096) (n : Fin 256) :
    CAT a0 a1 a2 a3 a4 a5 a6 a7 a8 (ix3 b q (⟨256 + n.val, by omega⟩ : Fin 2688)) = a1 (ix3 b q n) := by
  pointwise [CAT]

/-- Part 2 of the nine, read. -/
theorem CAT2 (a0 : FVec Ideal S8x4096x256 .f32) (a1 : FVec Ideal S8x4096x256 .f32) (a2 : FVec Ideal S8x4096x512 .f32) (a3 : FVec Ideal S8x4096x512 .f32) (a4 : FVec Ideal S8x4096x256 .f32) (a5 : FVec Ideal S8x4096x256 .f32) (a6 : FVec Ideal S8x4096x512 .f32) (a7 : FVec Ideal S8x4096x64 .f32) (a8 : FVec Ideal S8x4096x64 .f32) (b : Fin 8) (q : Fin 4096) (n : Fin 512) :
    CAT a0 a1 a2 a3 a4 a5 a6 a7 a8 (ix3 b q (⟨512 + n.val, by omega⟩ : Fin 2688)) = a2 (ix3 b q n) := by
  pointwise [CAT]
  rw [dif_neg (by omega), dif_neg (by omega), dif_pos (by omega)]
  exact congrArg (fun z => a2 (ix3 b q z)) (Fin.ext (by show 512 + n.val - 256 - 256 = n.val; omega))

/-- Part 3 of the nine, read. -/
theorem CAT3 (a0 : FVec Ideal S8x4096x256 .f32) (a1 : FVec Ideal S8x4096x256 .f32) (a2 : FVec Ideal S8x4096x512 .f32) (a3 : FVec Ideal S8x4096x512 .f32) (a4 : FVec Ideal S8x4096x256 .f32) (a5 : FVec Ideal S8x4096x256 .f32) (a6 : FVec Ideal S8x4096x512 .f32) (a7 : FVec Ideal S8x4096x64 .f32) (a8 : FVec Ideal S8x4096x64 .f32) (b : Fin 8) (q : Fin 4096) (n : Fin 512) :
    CAT a0 a1 a2 a3 a4 a5 a6 a7 a8 (ix3 b q (⟨1024 + n.val, by omega⟩ : Fin 2688)) = a3 (ix3 b q n) := by
  pointwise [CAT]
  rw [dif_neg (by omega), dif_neg (by omega), dif_neg (by omega), dif_pos (by omega)]
  exact congrArg (fun z => a3 (ix3 b q z)) (Fin.ext (by show 1024 + n.val - 256 - 256 - 512 = n.val; omega))

/-- Part 4 of the nine, read. -/
theorem CAT4 (a0 : FVec Ideal S8x4096x256 .f32) (a1 : FVec Ideal S8x4096x256 .f32) (a2 : FVec Ideal S8x4096x512 .f32) (a3 : FVec Ideal S8x4096x512 .f32) (a4 : FVec Ideal S8x4096x256 .f32) (a5 : FVec Ideal S8x4096x256 .f32) (a6 : FVec Ideal S8x4096x512 .f32) (a7 : FVec Ideal S8x4096x64 .f32) (a8 : FVec Ideal S8x4096x64 .f32) (b : Fin 8) (q : Fin 4096) (n : Fin 256) :
    CAT a0 a1 a2 a3 a4 a5 a6 a7 a8 (ix3 b q (⟨1536 + n.val, by omega⟩ : Fin 2688)) = a4 (ix3 b q n) := by
  pointwise [CAT]
  rw [dif_neg (by omega), dif_neg (by omega), dif_neg (by omega), dif_neg (by omega), dif_pos (by omega)]
  exact congrArg (fun z => a4 (ix3 b q z)) (Fin.ext (by show 1536 + n.val - 256 - 256 - 512 - 512 = n.val; omega))

/-- Part 5 of the nine, read. -/
theorem CAT5 (a0 : FVec Ideal S8x4096x256 .f32) (a1 : FVec Ideal S8x4096x256 .f32) (a2 : FVec Ideal S8x4096x512 .f32) (a3 : FVec Ideal S8x4096x512 .f32) (a4 : FVec Ideal S8x4096x256 .f32) (a5 : FVec Ideal S8x4096x256 .f32) (a6 : FVec Ideal S8x4096x512 .f32) (a7 : FVec Ideal S8x4096x64 .f32) (a8 : FVec Ideal S8x4096x64 .f32) (b : Fin 8) (q : Fin 4096) (n : Fin 256) :
    CAT a0 a1 a2 a3 a4 a5 a6 a7 a8 (ix3 b q (⟨1792 + n.val, by omega⟩ : Fin 2688)) = a5 (ix3 b q n) := by
  pointwise [CAT]
  rw [dif_neg (by omega), dif_neg (by omega), dif_neg (by omega), dif_neg (by omega), dif_neg (by omega), dif_pos (by omega)]
  exact congrArg (fun z => a5 (ix3 b q z)) (Fin.ext (by show 1792 + n.val - 256 - 256 - 512 - 512 - 256 = n.val; omega))

/-- Part 6 of the nine, read. -/
theorem CAT6 (a0 : FVec Ideal S8x4096x256 .f32) (a1 : FVec Ideal S8x4096x256 .f32) (a2 : FVec Ideal S8x4096x512 .f32) (a3 : FVec Ideal S8x4096x512 .f32) (a4 : FVec Ideal S8x4096x256 .f32) (a5 : FVec Ideal S8x4096x256 .f32) (a6 : FVec Ideal S8x4096x512 .f32) (a7 : FVec Ideal S8x4096x64 .f32) (a8 : FVec Ideal S8x4096x64 .f32) (b : Fin 8) (q : Fin 4096) (n : Fin 512) :
    CAT a0 a1 a2 a3 a4 a5 a6 a7 a8 (ix3 b q (⟨2048 + n.val, by omega⟩ : Fin 2688)) = a6 (ix3 b q n) := by
  pointwise [CAT]
  rw [dif_neg (by omega), dif_neg (by omega), dif_neg (by omega), dif_neg (by omega), dif_neg (by omega), dif_neg (by omega), dif_pos (by omega)]
  exact congrArg (fun z => a6 (ix3 b q z)) (Fin.ext (by show 2048 + n.val - 256 - 256 - 512 - 512 - 256 - 256 = n.val; omega))

/-- Part 7 of the nine, read. -/
theorem CAT7 (a0 : FVec Ideal S8x4096x256 .f32) (a1 : FVec Ideal S8x4096x256 .f32) (a2 : FVec Ideal S8x4096x512 .f32) (a3 : FVec Ideal S8x4096x512 .f32) (a4 : FVec Ideal S8x4096x256 .f32) (a5 : FVec Ideal S8x4096x256 .f32) (a6 : FVec Ideal S8x4096x512 .f32) (a7 : FVec Ideal S8x4096x64 .f32) (a8 : FVec Ideal S8x4096x64 .f32) (b : Fin 8) (q : Fin 4096) (n : Fin 64) :
    CAT a0 a1 a2 a3 a4 a5 a6 a7 a8 (ix3 b q (⟨2560 + n.val, by omega⟩ : Fin 2688)) = a7 (ix3 b q n) := by
  pointwise [CAT]
  rw [dif_neg (by omega), dif_neg (by omega), dif_neg (by omega), dif_neg (by omega), dif_neg (by omega), dif_neg (by omega), dif_neg (by omega), dif_pos (by omega)]
  exact congrArg (fun z => a7 (ix3 b q z)) (Fin.ext (by show 2560 + n.val - 256 - 256 - 512 - 512 - 256 - 256 - 512 = n.val; omega))

/-- Part 8 of the nine, read. -/
theorem CAT8 (a0 : FVec Ideal S8x4096x256 .f32) (a1 : FVec Ideal S8x4096x256 .f32) (a2 : FVec Ideal S8x4096x512 .f32) (a3 : FVec Ideal S8x4096x512 .f32) (a4 : FVec Ideal S8x4096x256 .f32) (a5 : FVec Ideal S8x4096x256 .f32) (a6 : FVec Ideal S8x4096x512 .f32) (a7 : FVec Ideal S8x4096x64 .f32) (a8 : FVec Ideal S8x4096x64 .f32) (b : Fin 8) (q : Fin 4096) (n : Fin 64) :
    CAT a0 a1 a2 a3 a4 a5 a6 a7 a8 (ix3 b q (⟨2624 + n.val, by omega⟩ : Fin 2688)) = a8 (ix3 b q n) := by
  pointwise [CAT]
  rw [dif_neg (by omega), dif_neg (by omega), dif_neg (by omega), dif_neg (by omega), dif_neg (by omega), dif_neg (by omega), dif_neg (by omega), dif_neg (by omega)]
  exact congrArg (fun z => a8 (ix3 b q z)) (Fin.ext (by show 2624 + n.val - 256 - 256 - 512 - 512 - 256 - 256 - 512 - 64 = n.val; omega))

/-- The queries and the keys of the three attentions and of the index, side by side. -/
def PP (y : FVec Ideal S8x4096x3656 .f32) (qg kg : FVec Ideal S3x64 .f32) : FVec Ideal S32768x2688 .bf16 :=
  truncf .bf16 (shapeCast S32768x2688 (CAT (SCL4 (MG4 (RP4 (NRM4 (SPL4 (MQ y)) (GA0 qg))))) (MG4 (RP4 (NRM4 (SPL4 (MK y)) (GA0 kg))))
    (SCL8 (MG8 (RP8 (NRM8 (SPL8 (DQ y)) (GA1 qg))))) (MG8 (RP8 (NRM8 (SPL8 (DK y)) (GA1 kg))))
    (SCL4 (MG4 (RP4 (NRM4 (SPL4 (SQ y)) (GA2 qg))))) (MG4 (RP4 (NRM4 (SPL4 (SK y)) (GA2 kg))))
    (mulf (MG8 (RP8 (SPL8 (IQ y)))) (broadcastInDim S8x4096x512 ![] bcast_S_S8x4096x512 (constant S_ .f32 0x3E000000#32)))
    (RPK (IK y)) (RPK (IK y))) shapeCasts_S8x4096x2688_S32768x2688) bitsLt_bf16_f32

/-- The rows of all sequences, read. -/
theorem flat_at (A : FVec Ideal S8x4096x2688 .f32) (b : Fin 8) (q : Fin 4096) (n : Fin 2688) :
    (truncf .bf16 (shapeCast S32768x2688 A shapeCasts_S8x4096x2688_S32768x2688) bitsLt_bf16_f32 : FVec Ideal S32768x2688 .bf16) (ix2 (⟨4096 * b.val + q.val, by omega⟩ : Fin 32768) n)
      = A (ix3 b q n) := by
  pointwise []

/-- The values of the two attentions of four heads, by tiles, with rows of ones. -/
def VT (y : FVec Ideal S8x4096x3656 .f32) : FVec Ideal S8x8x16x128x256 .bf16 :=
  truncf .bf16 (concatenate S8x8x16x128x256 3 [⟨S8x8x16x64x256, (concatenate S8x8x16x64x256 1 [⟨S8x4x16x64x256, (transpose S8x4x16x64x256 [0, 3, 1, 4, 2] (shapeCast S8x16x256x4x64 (MV y) shapeCasts_S8x4096x256_S8x16x256x4x64) transposes_S8x16x256x4x64_S8x4x16x64x256_0_3_1_4_2)⟩, ⟨S8x4x16x64x256, (transpose S8x4x16x64x256 [0, 3, 1, 4, 2] (shapeCast S8x16x256x4x64 (SV y) shapeCasts_S8x4096x256_S8x16x256x4x64) transposes_S8x16x256x4x64_S8x4x16x64x256_0_3_1_4_2)⟩] concatenates_S8x4x16x64x256_S8x4x16x64x256_S8x8x16x64x256_d1)⟩, ⟨S8x8x16x64x256, (broadcastInDim S8x8x16x64x256 ![] bcast_S_S8x8x16x64x256 (constant S_ .f32 0x3F800000#32))⟩] concatenates_S8x8x16x64x256_S8x8x16x64x256_S8x8x16x128x256_d3) bitsLt_bf16_f32

/-- The values of the difference attention, by tiles, with rows of ones. -/
def VD (y : FVec Ideal S8x4096x3656 .f32) : FVec Ideal S8x4x16x144x256 .bf16 :=
  truncf .bf16 (concatenate S8x4x16x144x256 3 [⟨S8x4x16x128x256, (transpose S8x4x16x128x256 [0, 3, 1, 4, 2] (shapeCast S8x16x256x4x128 (DV y) shapeCasts_S8x4096x512_S8x16x256x4x128) transposes_S8x16x256x4x128_S8x4x16x128x256_0_3_1_4_2)⟩, ⟨S8x4x16x16x256, (broadcastInDim S8x4x16x16x256 ![] bcast_S_S8x4x16x16x256 (constant S_ .f32 0x3F800000#32))⟩] concatenates_S8x4x16x128x256_S8x4x16x16x256_S8x4x16x144x256_d3) bitsLt_bf16_f32

/-- The weights of the index heads, with columns of zeros. -/
def WI (y : FVec Ideal S8x4096x3656 .f32) : FVec Ideal S32768x128 .f32 :=
  shapeCast S32768x128 (concatenate S8x4096x128 2 [⟨S8x4096x8, (mulf (IW y) (broadcastInDim S8x4096x8 ![] bcast_S_S8x4096x8 (constant S_ .f32 0x3EB504F3#32)))⟩, ⟨S8x4096x120, (broadcastInDim S8x4096x120 ![] bcast_S_S8x4096x120 (constant S_ .f32 0x00000000#32))⟩] concatenates_S8x4096x8_S8x4096x120_S8x4096x128_d2) shapeCasts_S8x4096x128_S32768x128

/-- One entry of a projected head. -/
def hd (y : FVec Ideal S8x4096x3656 .f32) (b : Fin 8) (q : Fin 4096) (o : ℕ) (ho : o ≤ 3592) (k : Fin 64) : EReal :=
  y (ix3 b q (⟨o + k.val, by omega⟩ : Fin 3656))

/-- The factor of the queries. -/
def qs (x : EReal) : EReal := x * Ideal.ofBits .f32 0x3E000000#32 * Ideal.div 1 (Ideal.log (Ideal.ofBits .f32 0x40000000#32))

/-- The scaled queries, read. -/
theorem SCL4_at (A : FVec Ideal S8x4096x256 .f32) (b : Fin 8) (q : Fin 4096) (n : Fin 256) :
    SCL4 A (ix3 b q n) = A (ix3 b q n) * Ideal.ofBits .f32 0x3E000000#32 * Ideal.div 1 (Ideal.log (Ideal.ofBits .f32 0x40000000#32)) := by
  pointwise [SCL4, LG]

/-- The scaled queries, read. -/
theorem SCL8_at (A : FVec Ideal S8x4096x512 .f32) (b : Fin 8) (q : Fin 4096) (n : Fin 512) :
    SCL8 A (ix3 b q n) = A (ix3 b q n) * Ideal.ofBits .f32 0x3E000000#32 * Ideal.div 1 (Ideal.log (Ideal.ofBits .f32 0x40000000#32)) := by
  pointwise [SCL8, LG]

/-- A head of the part MQ, read. -/
theorem PMQ (y : FVec Ideal S8x4096x3656 .f32) (qg kg : FVec Ideal S3x64 .f32) (b : Fin 8) (q : Fin 4096) (h : Fin 4) (d : Fin 64) :
    PP y qg kg (ix2 (⟨4096 * b.val + q.val, by omega⟩ : Fin 32768) (⟨64 * h.val + d.val, by omega⟩ : Fin 2688)) = qs (rot (nrm (hd y b q (64 * h.val) (by omega)) (fun k => qg (ix2 0 k))) (fun k => CS (ix2 q k)) (fun k => SN (ix2 q k)) d) := by
  refine (flat_at _ b q _).trans ?_
  refine (CAT0 _ _ _ _ _ _ _ _ _ b q (⟨64 * h.val + d.val, by omega⟩ : Fin 256)).trans ?_
  unfold qs; refine (SCL4_at _ b q _).trans ?_; refine congrArg (fun x : EReal => x * Ideal.ofBits .f32 0x3E000000#32 * Ideal.div 1 (Ideal.log (Ideal.ofBits .f32 0x40000000#32))) ?_
  rw [MG4_at, RP4_at]
  simp only [NRM4_at, SPL4_at, MQ_at, GA0_at]
  exact congrArg (fun f : Fin 64 → EReal => rot (nrm f (fun k => qg (ix2 0 k))) (fun k => CS (ix2 q k)) (fun k => SN (ix2 q k)) d)
    (funext fun k => congrArg (fun z => y (ix3 b q z)) (Fin.ext (Nat.zero_add _)))

/-- A head of the part MK, read. -/
theorem PMK (y : FVec Ideal S8x4096x3656 .f32) (qg kg : FVec Ideal S3x64 .f32) (b : Fin 8) (q : Fin 4096) (h : Fin 4) (d : Fin 64) :
    PP y qg kg (ix2 (⟨4096 * b.val + q.val, by omega⟩ : Fin 32768) (⟨256 + (64 * h.val + d.val), by omega⟩ : Fin 2688)) = rot (nrm (hd y b q (256 + 64 * h.val) (by omega)) (fun k => kg (ix2 0 k))) (fun k => CS (ix2 q k)) (fun k => SN (ix2 q k)) d := by
  refine (flat_at _ b q _).trans ?_
  refine (CAT1 _ _ _ _ _ _ _ _ _ b q (⟨64 * h.val + d.val, by omega⟩ : Fin 256)).trans ?_
  skip
  rw [MG4_at, RP4_at]
  simp only [NRM4_at, SPL4_at, MK_at, GA0_at]
  exact congrArg (fun f : Fin 64 → EReal => rot (nrm f (fun k => kg (ix2 0 k))) (fun k => CS (ix2 q k)) (fun k => SN (ix2 q k)) d)
    (funext fun k => congrArg (fun z => y (ix3 b q z)) (Fin.ext ((Nat.add_assoc _ _ _).symm)))

/-- A head of the part DQ, read. -/
theorem PDQ (y : FVec Ideal S8x4096x3656 .f32) (qg kg : FVec Ideal S3x64 .f32) (b : Fin 8) (q : Fin 4096) (h : Fin 8) (d : Fin 64) :
    PP y qg kg (ix2 (⟨4096 * b.val + q.val, by omega⟩ : Fin 32768) (⟨512 + (64 * h.val + d.val), by omega⟩ : Fin 2688)) = qs (rot (nrm (hd y b q (768 + 64 * h.val) (by omega)) (fun k => qg (ix2 1 k))) (fun k => CS (ix2 q k)) (fun k => SN (ix2 q k)) d) := by
  refine (flat_at _ b q _).trans ?_
  refine (CAT2 _ _ _ _ _ _ _ _ _ b q (⟨64 * h.val + d.val, by omega⟩ : Fin 512)).trans ?_
  unfold qs; refine (SCL8_at _ b q _).trans ?_; refine congrArg (fun x : EReal => x * Ideal.ofBits .f32 0x3E000000#32 * Ideal.div 1 (Ideal.log (Ideal.ofBits .f32 0x40000000#32))) ?_
  rw [MG8_at, RP8_at]
  simp only [NRM8_at, SPL8_at, DQ_at, GA1_at]
  exact congrArg (fun f : Fin 64 → EReal => rot (nrm f (fun k => qg (ix2 1 k))) (fun k => CS (ix2 q k)) (fun k => SN (ix2 q k)) d)
    (funext fun k => congrArg (fun z => y (ix3 b q z)) (Fin.ext ((Nat.add_assoc _ _ _).symm)))

/-- A head of the part DK, read. -/
theorem PDK (y : FVec Ideal S8x4096x3656 .f32) (qg kg : FVec Ideal S3x64 .f32) (b : Fin 8) (q : Fin 4096) (h : Fin 8) (d : Fin 64) :
    PP y qg kg (ix2 (⟨4096 * b.val + q.val, by omega⟩ : Fin 32768) (⟨1024 + (64 * h.val + d.val), by omega⟩ : Fin 2688)) = rot (nrm (hd y b q (1280 + 64 * h.val) (by omega)) (fun k => kg (ix2 1 k))) (fun k => CS (ix2 q k)) (fun k => SN (ix2 q k)) d := by
  refine (flat_at _ b q _).trans ?_
  refine (CAT3 _ _ _ _ _ _ _ _ _ b q (⟨64 * h.val + d.val, by omega⟩ : Fin 512)).trans ?_
  skip
  rw [MG8_at, RP8_at]
  simp only [NRM8_at, SPL8_at, DK_at, GA1_at]
  exact congrArg (fun f : Fin 64 → EReal => rot (nrm f (fun k => kg (ix2 1 k))) (fun k => CS (ix2 q k)) (fun k => SN (ix2 q k)) d)
    (funext fun k => congrArg (fun z => y (ix3 b q z)) (Fin.ext ((Nat.add_assoc _ _ _).symm)))

/-- A head of the part SQ, read. -/
theorem PSQ (y : FVec Ideal S8x4096x3656 .f32) (qg kg : FVec Ideal S3x64 .f32) (b : Fin 8) (q : Fin 4096) (h : Fin 4) (d : Fin 64) :
    PP y qg kg (ix2 (⟨4096 * b.val + q.val, by omega⟩ : Fin 32768) (⟨1536 + (64 * h.val + d.val), by omega⟩ : Fin 2688)) = qs (rot (nrm (hd y b q (2304 + 64 * h.val) (by omega)) (fun k => qg (ix2 2 k))) (fun k => CS (ix2 q k)) (fun k => SN (ix2 q k)) d) := by
  refine (flat_at _ b q _).trans ?_
  refine (CAT4 _ _ _ _ _ _ _ _ _ b q (⟨64 * h.val + d.val, by omega⟩ : Fin 256)).trans ?_
  unfold qs; refine (SCL4_at _ b q _).trans ?_; refine congrArg (fun x : EReal => x * Ideal.ofBits .f32 0x3E000000#32 * Ideal.div 1 (Ideal.log (Ideal.ofBits .f32 0x40000000#32))) ?_
  rw [MG4_at, RP4_at]
  simp only [NRM4_at, SPL4_at, SQ_at, GA2_at]
  exact congrArg (fun f : Fin 64 → EReal => rot (nrm f (fun k => qg (ix2 2 k))) (fun k => CS (ix2 q k)) (fun k => SN (ix2 q k)) d)
    (funext fun k => congrArg (fun z => y (ix3 b q z)) (Fin.ext ((Nat.add_assoc _ _ _).symm)))

/-- A head of the part SK, read. -/
theorem PSK (y : FVec Ideal S8x4096x3656 .f32) (qg kg : FVec Ideal S3x64 .f32) (b : Fin 8) (q : Fin 4096) (h : Fin 4) (d : Fin 64) :
    PP y qg kg (ix2 (⟨4096 * b.val + q.val, by omega⟩ : Fin 32768) (⟨1792 + (64 * h.val + d.val), by omega⟩ : Fin 2688)) = rot (nrm (hd y b q (2560 + 64 * h.val) (by omega)) (fun k => kg (ix2 2 k))) (fun k => CS (ix2 q k)) (fun k => SN (ix2 q k)) d := by
  refine (flat_at _ b q _).trans ?_
  refine (CAT5 _ _ _ _ _ _ _ _ _ b q (⟨64 * h.val + d.val, by omega⟩ : Fin 256)).trans ?_
  skip
  rw [MG4_at, RP4_at]
  simp only [NRM4_at, SPL4_at, SK_at, GA2_at]
  exact congrArg (fun f : Fin 64 → EReal => rot (nrm f (fun k => kg (ix2 2 k))) (fun k => CS (ix2 q k)) (fun k => SN (ix2 q k)) d)
    (funext fun k => congrArg (fun z => y (ix3 b q z)) (Fin.ext ((Nat.add_assoc _ _ _).symm)))

/-- A head of the index's queries, read. -/
theorem PIQ (y : FVec Ideal S8x4096x3656 .f32) (qg kg : FVec Ideal S3x64 .f32) (b : Fin 8) (q : Fin 4096) (h : Fin 8) (d : Fin 64) :
    PP y qg kg (ix2 (⟨4096 * b.val + q.val, by omega⟩ : Fin 32768) (⟨2048 + (64 * h.val + d.val), by omega⟩ : Fin 2688))
      = rot (hd y b q (3072 + 64 * h.val) (by omega)) (fun k => CS (ix2 q k)) (fun k => SN (ix2 q k)) d * Ideal.ofBits .f32 0x3E000000#32 := by
  refine (flat_at _ b q _).trans ?_
  refine (CAT6 _ _ _ _ _ _ _ _ _ b q (⟨64 * h.val + d.val, by omega⟩ : Fin 512)).trans ?_
  refine Eq.trans (b := (MG8 (RP8 (SPL8 (IQ y)))) (ix3 b q (⟨64 * h.val + d.val, by omega⟩ : Fin 512)) * Ideal.ofBits .f32 0x3E000000#32) rfl ?_
  refine congrArg (fun x : EReal => x * Ideal.ofBits .f32 0x3E000000#32) ?_
  rw [MG8_at, RP8_at]
  simp only [SPL8_at, IQ_at]
  exact congrArg (fun f : Fin 64 → EReal => rot f (fun k => CS (ix2 q k)) (fun k => SN (ix2 q k)) d)
    (funext fun k => congrArg (fun z => y (ix3 b q z)) (Fin.ext (Nat.add_assoc _ _ _).symm))

/-- The index's keys, read. -/
theorem PIK7 (y : FVec Ideal S8x4096x3656 .f32) (qg kg : FVec Ideal S3x64 .f32) (b : Fin 8) (q : Fin 4096) (d : Fin 64) :
    PP y qg kg (ix2 (⟨4096 * b.val + q.val, by omega⟩ : Fin 32768) (⟨2560 + d.val, by omega⟩ : Fin 2688))
      = rot (hd y b q 3584 (by omega)) (fun k => CS (ix2 q k)) (fun k => SN (ix2 q k)) d := by
  refine (flat_at _ b q _).trans ?_
  refine (CAT7 _ _ _ _ _ _ _ _ _ b q d).trans ?_
  rw [RPK_at]
  simp only [IK_at]
  rfl

/-- The index's keys, read. -/
theorem PIK8 (y : FVec Ideal S8x4096x3656 .f32) (qg kg : FVec Ideal S3x64 .f32) (b : Fin 8) (q : Fin 4096) (d : Fin 64) :
    PP y qg kg (ix2 (⟨4096 * b.val + q.val, by omega⟩ : Fin 32768) (⟨2624 + d.val, by omega⟩ : Fin 2688))
      = rot (hd y b q 3584 (by omega)) (fun k => CS (ix2 q k)) (fun k => SN (ix2 q k)) d := by
  refine (flat_at _ b q _).trans ?_
  refine (CAT8 _ _ _ _ _ _ _ _ _ b q d).trans ?_
  rw [RPK_at]
  simp only [IK_at]
  rfl

/-- The values of the first four heads and the last four. -/
theorem VT_at (y : FVec Ideal S8x4096x3656 .f32) (b : Fin 8) (h : Fin 8) (j : Fin 16) (r : Fin 128) (k : Fin 256) :
    VT y (ix5 b h j r k) = if hr : r.val < 64 then (if hh : h.val < 4 then y (ix3 b (⟨256 * j.val + k.val, by omega⟩ : Fin 4096) (⟨512 + 64 * h.val + r.val, by omega⟩ : Fin 3656))
      else y (ix3 b (⟨256 * j.val + k.val, by omega⟩ : Fin 4096) (⟨2816 + 64 * (h.val - 4) + r.val, by omega⟩ : Fin 3656))) else 1 := by
  pointwise [VT, MV, SV]
  have ej : (⟨j.val * 256 + k.val, by omega⟩ : Fin 4096) = ⟨256 * j.val + k.val, by omega⟩ := Fin.ext (by show j.val * 256 + k.val = 256 * j.val + k.val; omega)
  simp only [ej]
  by_cases hr : r.val < 64
  · rw [dif_pos hr, dif_pos hr]
    by_cases hh : h.val < 4
    · rw [dif_pos hh, dif_pos hh]
      exact congrArg (fun z => y (ix3 b (⟨256 * j.val + k.val, by omega⟩ : Fin 4096) z)) (Fin.ext (by show 512 + (h.val * 64 + r.val) = 512 + 64 * h.val + r.val; omega))
    · rw [dif_neg hh, dif_neg hh]
      exact congrArg (fun z => y (ix3 b (⟨256 * j.val + k.val, by omega⟩ : Fin 4096) z)) (Fin.ext (by show 2816 + ((h.val - 4) * 64 + r.val) = 2816 + 64 * (h.val - 4) + r.val; omega))
  · rw [dif_neg hr, dif_neg hr]

/-- The values of the difference attention, read. -/
theorem VD_at (y : FVec Ideal S8x4096x3656 .f32) (b : Fin 8) (h : Fin 4) (j : Fin 16) (r : Fin 144) (k : Fin 256) :
    VD y (ix5 b h j r k) = if hr : r.val < 128 then y (ix3 b (⟨256 * j.val + k.val, by omega⟩ : Fin 4096) (⟨1792 + 128 * h.val + r.val, by omega⟩ : Fin 3656))
      else 1 := by
  pointwise [VD, DV]
  have ej : (⟨j.val * 256 + k.val, by omega⟩ : Fin 4096) = ⟨256 * j.val + k.val, by omega⟩ := Fin.ext (by show j.val * 256 + k.val = 256 * j.val + k.val; omega)
  simp only [ej]
  by_cases hr : r.val < 128
  · rw [dif_pos hr, dif_pos hr]
    exact congrArg (fun z => y (ix3 b (⟨256 * j.val + k.val, by omega⟩ : Fin 4096) z)) (Fin.ext (by show 1792 + (h.val * 128 + r.val) = 1792 + 128 * h.val + r.val; omega))
  · rw [dif_neg hr, dif_neg hr]

/-- The weights of the index heads, read. -/
theorem WI_at (y : FVec Ideal S8x4096x3656 .f32) (b : Fin 8) (q : Fin 4096) (d : Fin 128) :
    WI y (ix2 (⟨4096 * b.val + q.val, by omega⟩ : Fin 32768) d) = if hr : d.val < 8 then y (ix3 b q (⟨3648 + d.val, by omega⟩ : Fin 3656)) * Ideal.ofBits .f32 0x3EB504F3#32
      else 0 := by
  pointwise [WI, IW]

end Cert.InpRefIdeal.Pure
end
-- ==== Proof.Inp.Results.lean ====
/- The reference of the input projection, read at an index. -/
module

public import proofs.«01_k».proof.Proof.Gen.InpRefIdeal.Run
public import proofs.«01_k».proof.Proof.Inp.Reference
public import proofs.«01_k».proof.Proof.Inp.Spec
public import Idealize.ShloMosaic.Lib.Pointwise

@[expose] public section

set_option maxRecDepth 16384
set_option maxHeartbeats 4000000

noncomputable section

open Idealize.ShloMosaic Idealize.ShloMosaic.TcCoe Idealize.SL.Sem

namespace Cert.InpRefIdeal.Pure
open Cert.InpRefIdeal Cert.InpRefIdeal.Gen
open Cert.HeadRow (rot nrm)

open Cert.InpRefIdeal.Value in
/-- The projection is the stages composed. -/
theorem y_eq (V : Valuation τ sig (Elt Ideal)) : res_main_v33 (F := Ideal) V = PJ (HN (V (Proc.devRef .tc main_arg0)) (V (Proc.devRef .tc main_arg1))) (V (Proc.devRef .tc main_arg2)) := rfl

open Cert.InpRefIdeal.Value in
/-- The packed queries and keys are the stages composed. -/
theorem p_eq (V : Valuation τ sig (Elt Ideal)) :
    truncf .bf16 (shapeCast S32768x2688 (res_main_v316 (F := Ideal) V) shapeCasts_S8x4096x2688_S32768x2688) bitsLt_bf16_f32
      = PP (res_main_v33 (F := Ideal) V) (V (Proc.devRef .tc main_arg3)) (V (Proc.devRef .tc main_arg4)) := rfl

end Cert.InpRefIdeal.Pure
end
-- ==== Proof.Inp.Finite.lean ====
/- Finiteness of the projected entries where the gains and the weights are finite. -/
module

public import proofs.«01_k».proof.Proof.Inp.Stages
public import proofs.«01_k».proof.Proof.Diff.Mean
public import Idealize.ShloMosaic.Lib.Pointwise

@[expose] public section

set_option maxRecDepth 16384
set_option maxHeartbeats 1000000

noncomputable section

open Idealize.ShloMosaic Idealize.ShloMosaic.TcCoe

namespace Cert.InpRefIdeal.Pure
open Cert.InpRefIdeal Cert.InpRefIdeal.Gen

/-- A square is no less than zero. -/
theorem sq_nonneg_ext (x : EReal) : 0 ≤ x * x := by
  induction x with
  | bot => simp
  | top => simp
  | coe r => exact_mod_cast mul_self_nonneg r

/-- A sum of finitely many real numbers is real. -/
theorem sum_real {n : ℕ} (f : Fin n → EReal) (h : ∀ k, ∃ v : ℝ, f k = (v : EReal)) : ∃ v : ℝ, (∑ k, f k) = (v : EReal) := by
  choose g hg using h
  refine ⟨∑ k, g k, ?_⟩
  rw [Finset.sum_congr rfl fun k _ => hg k]
  exact Cert.TileSoftmax.coe_sum _ _

/-- The divisor of the mean. -/
theorem bits_1024 : Ideal.ofBits .f32 0x44800000#32 = ((1024 : ℝ) : EReal) := by
  simp [Ideal.ofBits, Ideal.ieee, -EReal.coe_mul]; norm_num

/-- The number added under the root is positive and finite. -/
theorem bits_eps : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- A normed entry is finite whatever the row is: an infinite entry makes the root infinite. -/
theorem normed_real (x : Fin 1024 → EReal) (k : Fin 1024) :
    ∃ v : ℝ, x k * Ideal.rsqrt (Ideal.div (∑ n : Fin 1024, x n * x n) (Ideal.ofBits .f32 0x44800000#32) + Ideal.ofBits .f32 0x358637BD#32) = (v : EReal) := by
  obtain ⟨e, he, hE⟩ := bits_eps
  rw [hE, bits_1024]
  by_cases hx : ∀ n, ∃ v : ℝ, x n = (v : EReal)
  · choose g hg using hx
    have hs : (∑ n : Fin 1024, x n * x n) = ((∑ n : Fin 1024, g n * g n : ℝ) : EReal) := by
      rw [← Cert.TileSoftmax.coe_sum]
      exact Finset.sum_congr rfl fun n _ => by rw [hg n, EReal.coe_mul]
    rw [hs, Ideal.div_coe (by norm_num : (1024 : ℝ) ≠ 0), ← EReal.coe_mul, ← EReal.coe_add, hg k]
    have hp : 0 < (∑ n : Fin 1024, g n * g n) * (1 / 1024 : ℝ) + e :=
      add_pos_of_nonneg_of_pos (mul_nonneg (Finset.sum_nonneg fun n _ => mul_self_nonneg _) (by norm_num)) he
    have hr : Ideal.rsqrt (((∑ n : Fin 1024, g n * g n) * (1 / 1024 : ℝ) + e : ℝ) : EReal) = (((Real.sqrt ((∑ n : Fin 1024, g n * g n) * (1 / 1024 : ℝ) + e))⁻¹ : ℝ) : EReal) :=
      by rw [Ideal.rsqrt_coe, if_neg (not_lt.2 hp.le), if_neg hp.ne']
    exact ⟨_, by rw [hr, ← EReal.coe_mul]⟩
  · obtain ⟨n, hn⟩ := not_forall.1 hx
    have hsq : x n * x n = ⊤ := by
      induction h : x n with
      | bot => simp
      | top => simp
      | coe r => exact absurd ⟨r, h⟩ hn
    have hs : (∑ n : Fin 1024, x n * x n) = ⊤ := by
      refine top_le_iff.1 (hsq ▸ ?_)
      exact Finset.single_le_sum (f := fun n => x n * x n) (fun i _ => sq_nonneg_ext (x i)) (Finset.mem_univ n)
    refine ⟨0, ?_⟩
    rw [hs, Ideal.div_coe (by norm_num : (1024 : ℝ) ≠ 0), EReal.top_mul_coe_of_pos (by norm_num), EReal.top_add_coe]
    exact mul_zero _

/-- A projected entry is finite where the gains and its column of weights are. -/
theorem entry_real (x : FVec Ideal S32768x1024 .f32) (g : FVec Ideal S1024 .f32) (w : FVec Ideal S1024x3656 .f32)
    (hg : ∀ k : Fin 1024, ∃ v : ℝ, g (ix1 k) = (v : EReal)) (n : Fin 3656) (hw : ∀ k : Fin 1024, ∃ v : ℝ, w (ix2 k n) = (v : EReal))
    (b : Fin 8) (q : Fin 4096) : ∃ v : ℝ, PJ (HN x g) w (ix3 b q n) = (v : EReal) := by
  rw [PJ_at]
  refine sum_real _ fun k => ?_
  obtain ⟨u, hu⟩ := normed_real (fun k => x (ix2 (⟨4096 * b.val + q.val, by omega⟩ : Fin 32768) k)) k
  obtain ⟨v, hv⟩ := hg k
  obtain ⟨z, hz⟩ := hw k
  rw [HN_at, hz, hv]
  exact ⟨u * v * z, by rw [EReal.coe_mul, EReal.coe_mul, ← hu]⟩

end Cert.InpRefIdeal.Pure
end
-- ==== Proof.Inp.Slab.lean ====
/- One slab of the input projection, two heads wide, read at an index. -/
module

public import proofs.«01_k».proof.Proof.Gen.InpIdeal.Skeleton
public import proofs.«01_k».proof.Proof.Inp.Spec
public import proofs.«01_k».proof.Proof.Diff.Mean
public import Idealize.ShloMosaic.Lib.Pointwise

@[expose] public section

set_option maxRecDepth 16384
set_option maxHeartbeats 4000000

noncomputable section

open Idealize.ShloMosaic Idealize.ShloMosaic.TcCoe Idealize.SL.Sem

namespace Cert.InpIdeal.Slab
open Cert.InpIdeal Cert.InpIdeal.Gen
open Cert.HeadRow (rot nrm)

/-- The matrix which adds up the lanes of a head. -/
def ONES : FVec Ideal S128x128 .bf16 := k0_pay6 (F := Ideal) k0_pay4 k0_pay5 1#32

/-- The norm of a slab's heads, times the gains. -/
def NR (y : FVec Ideal S512x128 .f32) (g : FVec Ideal S1x128 .f32) : FVec Ideal S512x128 .f32 :=
  mulf (mulf y (rsqrt (addf (mulf (addf
    (matmul dot_S512x128_S128x128_S512x128_1_0_0_1_n_n none (truncf .bf16 (mulf y y) bitsLt_bf16_f32) ONES (constant S512x128 .f32 0x00000000#32))
    (matmul dot_S512x128_S128x128_S512x128_1_0_0_1_n_n none (truncf .bf16 (subf (mulf y y) (extf .f32 (truncf .bf16 (mulf y y) bitsLt_bf16_f32) bitsLt_bf16_f32)) bitsLt_bf16_f32) ONES (constant S512x128 .f32 0x00000000#32)))
    (broadcast S512x128 (Scalar.ofBits .f32 0x3C800000#32))) (broadcast S512x128 (Scalar.ofBits .f32 0x358637BD#32)))))
    (broadcastTo S512x128 g broadcasts_S1x128_S512x128)

/-- The rotary embedding of a slab's heads. -/
def RT (y c s : FVec Ideal S512x128 .f32) : FVec Ideal S512x128 .f32 :=
  addf (mulf y c) (mulf (select (broadcastTo S512x128 (shapeCast S1x128 k0_pay3 shapeCasts_S1x128_S1x128) broadcasts_S1x128_S512x128)
    (dynamicRotate 1 96#32 none y rotates_S512x128_d1) (dynamicRotate 1 32#32 none y rotates_S512x128_d1)) s)

/-- The lane numbers below the middle of their head. -/
theorem mask_word (n : ℕ) (hn : n < 128) : IntOp.cmpi .slt (BitVec.ofNat 32 n &&& 63#32) 32#32 = if n % 64 < 32 then 1#1 else 0#1 := by
  revert n; decide +kernel

/-- The rounded-down quotient of a lane number by 64, as computed in signed words. -/
def quot (n : ℕ) : BitVec 32 :=
  Scalar.select (IntOp.andi (IntOp.cmpi .ne (IntOp.subi (BitVec.setWidth 32 (IntOp.cmpi .sgt (BitVec.ofNat 32 n) 0#32)) (BitVec.setWidth 32 (IntOp.cmpi .slt (BitVec.ofNat 32 n) 0#32)))
    (Scalar.subi (Scalar.extui (Scalar.cmpi .sgt 64#32 0#32)) (Scalar.extui (Scalar.cmpi .slt 64#32 0#32))))
    (IntOp.cmpi .ne (IntOp.remsi .vector (BitVec.ofNat 32 n) 64#32) 0#32)) (IntOp.subi (IntOp.divsi .vector (BitVec.ofNat 32 n) 64#32) 1#32) (IntOp.divsi .vector (BitVec.ofNat 32 n) 64#32)

/-- It is the quotient. -/
theorem quot_eq (n : ℕ) (hn : n < 128) : quot n = BitVec.ofNat 32 (n / 64) := by
  revert n; decide +kernel

/-- The matrix holds a one where the two lanes are of one head. -/
theorem ONES_at (k l : Fin 128) : ONES (ix2 k l) = if k.val / 64 = l.val / 64 then (1 : EReal) else 0 := by
  unfold ONES
  pointwise [k0_pay6, k0_pay4, k0_pay5]
  show Scalar.select (IntOp.cmpi .eq (quot k.val) (quot l.val)) (1 : EReal) 0 = _
  rw [quot_eq _ k.isLt, quot_eq _ l.isLt]
  have hc : ∀ a b : Fin 2, IntOp.cmpi .eq (BitVec.ofNat 32 a.val) (BitVec.ofNat 32 b.val) = if a.val = b.val then 1#1 else 0#1 := by decide
  rw [hc ⟨k.val / 64, by omega⟩ ⟨l.val / 64, by omega⟩]
  by_cases h : k.val / 64 = l.val / 64
  · rw [if_pos h, if_pos h]; rfl
  · rw [if_neg h, if_neg h]; rfl

/-- A sum against a column of the matrix is the sum over the head's lanes. -/
theorem sum_head (f : Fin 128 → EReal) (h : Fin 2) (d : Fin 64) :
    ∑ k : Fin 128, f k * ONES (ix2 k (⟨64 * h.val + d.val, by omega⟩ : Fin 128)) = ∑ k : Fin 64, f ⟨64 * h.val + k.val, by omega⟩ := by
  rw [Fin.sum_univ_tiles 2 64 rfl, Finset.sum_eq_single h]
  · refine Finset.sum_congr rfl fun k _ => ?_
    rw [ONES_at, if_pos (by show (h.val * 64 + k.val) / 64 = (64 * h.val + d.val) / 64; omega), mul_one]
    exact congrArg f (Fin.ext (by show h.val * 64 + k.val = 64 * h.val + k.val; omega))
  · intro j _ hj
    refine Finset.sum_eq_zero fun k _ => ?_
    rw [ONES_at, if_neg (by show ¬ (j.val * 64 + k.val) / 64 = (64 * h.val + d.val) / 64; intro e; exact hj (Fin.ext (by omega))), mul_zero]
  · exact fun h' => absurd (Finset.mem_univ _) h'

/-- The rotary embedding of a slab's heads, read, where the tables hold the cosines and the signed sines. -/
theorem RT_at (y c s : FVec Ideal S512x128 .f32) (C S : Fin 32 → EReal) (r : Fin 512) (h : Fin 2) (d : Fin 64)
    (hc : c (ix2 r (⟨64 * h.val + d.val, by omega⟩ : Fin 128)) = C ⟨d.val % 32, by omega⟩)
    (hs : s (ix2 r (⟨64 * h.val + d.val, by omega⟩ : Fin 128)) = if d.val < 32 then - S ⟨d.val % 32, by omega⟩ else S ⟨d.val % 32, by omega⟩) :
    RT y c s (ix2 r (⟨64 * h.val + d.val, by omega⟩ : Fin 128)) = rot (fun k => y (ix2 r (⟨64 * h.val + k.val, by omega⟩ : Fin 128))) C S d := by
  unfold rot
  pointwise [RT, k0_pay3]
  rw [hc, hs, show IntOp.cmpi .slt (IntOp.andi (BitVec.ofNat 32 (64 * h.val + d.val)) 63#32) 32#32 = if (64 * h.val + d.val) % 64 < 32 then 1#1 else 0#1 from
    mask_word _ (by omega)]
  by_cases hd : d.val < 32
  · rw [if_pos hd, dif_pos hd, if_pos (by omega)]
    show y _ * _ + y _ * _ = _
    rw [mul_neg, ← sub_eq_add_neg]
    have e : (⟨d.val % 32, by omega⟩ : Fin 32) = ⟨d.val, hd⟩ := Fin.ext (Nat.mod_eq_of_lt hd)
    rw [e]
    exact congrArg (fun i => y (ix2 r (⟨64 * h.val + d.val, by omega⟩ : Fin 128)) * C ⟨d.val, hd⟩ - y (ix2 r i) * S ⟨d.val, hd⟩)
      (Fin.ext (by show (64 * h.val + d.val + 128 - 96) % 128 = 64 * h.val + (d.val + 32); omega))
  · rw [if_neg hd, dif_neg hd, if_neg (by omega)]
    show y _ * _ + y _ * _ = _
    have e : (⟨d.val % 32, by omega⟩ : Fin 32) = ⟨d.val - 32, by omega⟩ := Fin.ext (by show d.val % 32 = d.val - 32; omega)
    rw [e, add_comm]
    exact congrArg (fun i => y (ix2 r i) * S ⟨d.val - 32, by omega⟩ + y (ix2 r (⟨64 * h.val + d.val, by omega⟩ : Fin 128)) * C ⟨d.val - 32, by omega⟩)
      (Fin.ext (by show (64 * h.val + d.val + 128 - 32) % 128 = 64 * h.val + (d.val - 32); omega))

/-- The norm of a slab's heads, read, where the slab's row is finite. -/
theorem NR_at (y : FVec Ideal S512x128 .f32) (g : FVec Ideal S1x128 .f32) (r : Fin 512) (h : Fin 2) (d : Fin 64)
    (hy : ∀ l : Fin 128, ∃ v : ℝ, y (ix2 r l) = (v : EReal)) :
    NR y g (ix2 r (⟨64 * h.val + d.val, by omega⟩ : Fin 128))
      = nrm (fun k => y (ix2 r (⟨64 * h.val + k.val, by omega⟩ : Fin 128))) (fun k => g (ix2 0 (⟨64 * h.val + k.val, by omega⟩ : Fin 128))) d := by
  unfold nrm
  pointwise [NR]
  rw [sum_head (fun x => y (ix2 r x) * y (ix2 r x)) h d, sum_head (fun x => y (ix2 r x) * y (ix2 r x) - y (ix2 r x) * y (ix2 r x)) h d]
  choose v hv using hy
  have hz : ∑ k : Fin 64, (y (ix2 r (⟨64 * h.val + k.val, by omega⟩ : Fin 128)) * y (ix2 r (⟨64 * h.val + k.val, by omega⟩ : Fin 128))
      - y (ix2 r (⟨64 * h.val + k.val, by omega⟩ : Fin 128)) * y (ix2 r (⟨64 * h.val + k.val, by omega⟩ : Fin 128))) = (0 : EReal) :=
    Finset.sum_eq_zero fun k _ => by rw [hv, ← EReal.coe_mul, ← EReal.coe_sub, sub_self]; rfl
  have b64 : Ideal.ofBits .f32 0x42800000#32 = ((64 : ℝ) : EReal) := by
    simp [Ideal.ofBits, Ideal.ieee, -EReal.coe_mul]; norm_num
  have bi : Ideal.ofBits .f32 1015021568#32 = ((1 / 64 : ℝ) : EReal) := by
    simp [Ideal.ofBits, Ideal.ieee, -EReal.coe_mul]; norm_num
  refine congrArg (fun z => y (ix2 r (⟨64 * h.val + d.val, by omega⟩ : Fin 128)) * Ideal.rsqrt (z + Ideal.ofBits .f32 0x358637BD#32) * g (ix2 0 (⟨64 * h.val + d.val, by omega⟩ : Fin 128))) ?_
  refine (congrArg₂ (fun a b : EReal => (_ + a) * b) hz bi).trans ?_
  rw [add_zero, b64]
  simp only [hv]
  rw [show (∑ k : Fin 64, ((v ⟨64 * h.val + k.val, by omega⟩ : ℝ) : EReal) * ((v ⟨64 * h.val + k.val, by omega⟩ : ℝ) : EReal))
    = ((∑ k : Fin 64, v ⟨64 * h.val + k.val, by omega⟩ * v ⟨64 * h.val + k.val, by omega⟩ : ℝ) : EReal) from by
      rw [← Cert.TileSoftmax.coe_sum]; exact Finset.sum_congr rfl fun k _ => (EReal.coe_mul _ _).symm]
  rw [Ideal.div_coe (by norm_num), ← EReal.coe_mul]

end Cert.InpIdeal.Slab
end
-- ==== Proof.Inp.Blocks.lean ====
/- The blocks that the input projection reads at a point, by the argument arrays. -/
module

public import proofs.«01_k».proof.Proof.Inp.Stages
public import proofs.«01_k».proof.Proof.Gen.InpIdeal.Value
public import Idealize.ShloMosaic.Lib.Pipeline.ValueKit
public import Idealize.ShloMosaic.Lib.Claim

@[expose] public section

set_option maxRecDepth 16384
set_option maxHeartbeats 4000000

noncomputable section

open Idealize.ShloMosaic Idealize.ShloMosaic.TcCoe Idealize.SL.Sem
open Idealize.ShloMosaic.Pipeline (Dat)

namespace Cert.InpIdeal.Final
open Cert.InpIdeal Cert.InpIdeal.Gen
open Cert.InpRefIdeal.Pure (CS SN GA0 GA1 GA2)

variable (m : (ℓ : Loc nD τ sig) → Buf (Elt Ideal) ℓ)

/-- The windows' block indices at a point. -/
theorem idx : ∀ t : Fin cfg0.N, win0_0.index t = ![t.val, 0] ∧ win0_1.index t = ![0, 0] ∧ win0_2.index t = ![0, 0]
    ∧ win0_3.index t = ![t.val % 8, 0] ∧ win0_4.index t = ![t.val % 8, 0] ∧ win0_5.index t = ![0, 0] ∧ win0_6.index t = ![t.val, 0]
    ∧ win0_7.index t = ![t.val / 8, 0, t.val % 8, 0, 0] ∧ win0_8.index t = ![t.val / 8, 0, t.val % 8, 0, 0] ∧ win0_9.index t = ![t.val, 0] :=
  (by decide +kernel : ∀ t : Fin grid0.N, _)

/-- The batch of a point. -/
def bat (t : Fin cfg0.N) : Fin 8 := ⟨t.val / 8, by have := t.isLt; have h : cfg0.N = 64 := rfl; omega⟩
/-- The sequence position of row `r` of a point's tile. -/
def pos (t : Fin cfg0.N) (r : Fin 512) : Fin 4096 := ⟨t.val % 8 * 512 + r.val, by omega⟩
/-- The array row of row `r` of a point's tile. -/
def row (t : Fin cfg0.N) (r : Fin 512) : Fin 32768 := ⟨4096 * (bat t).val + (pos t r).val, by omega⟩

/-- The row, as a tile's row. -/
theorem row_val (t : Fin cfg0.N) (r : Fin 512) : (row t r).val = t.val * 512 + r.val := by
  show 4096 * (t.val / 8) + (t.val % 8 * 512 + r.val) = _; omega

/-- The rows of a tile. -/
theorem b0 (c : Dev nD) (t : Fin cfg0.N) (r : Fin 512) (n : Fin 1024) :
    iblk m c 0 t (ix2 r n) = m ((c : Thread nD τ).loc main_arg0) (ix2 (row t r) n) := by
  blk_ext! [iblk, V, idx t, row_val]

/-- The norm's gain. -/
theorem b1 (c : Dev nD) (t : Fin cfg0.N) (n : Fin 1024) :
    iblk m c 1 t (ix2 0 n) = m ((c : Thread nD τ).loc main_arg1) (ix1 n) := by
  blk_simp [iblk, idx t]; entry_read; pointwise []; blk_ext [idx t]

/-- The cosines, four times side by side. -/
def ctab : FVec Ideal S4096x128 .f32 :=
  shapeCast S4096x128 (broadcastInDim S1x4096x4x32 ![0, 1, 2, 3] bcast_S1x4096x1x32_S1x4096x4x32_0_1_2_3 (shapeCast S1x4096x1x32 CS shapeCasts_S4096x32_S1x4096x1x32)) shapeCasts_S1x4096x4x32_S4096x128

/-- The sines, with signs, four times side by side. -/
def stab : FVec Ideal S4096x128 .f32 :=
  concatenate S4096x128 1 [⟨S4096x32, (Host.negf (F := Ideal) SN : FVec Ideal S4096x32 .f32)⟩, ⟨S4096x32, SN⟩, ⟨S4096x32, (Host.negf (F := Ideal) SN : FVec Ideal S4096x32 .f32)⟩, ⟨S4096x32, SN⟩] concatenates_S4096x32_S4096x32_S4096x32_S4096x32_S4096x128_d1

/-- One row of gains. -/
def grow (g : FVec Ideal S64 .f32) : FVec Ideal S1x64 .f32 := broadcastInDim S1x64 ![1] bcast_S64_S1x64_1 g

/-- The gains of the heads, row by row. -/
def gsix (qg kg : FVec Ideal S3x64 .f32) : FVec Ideal S6x64 .f32 :=
  concatenate S6x64 0 [⟨S1x64, grow (GA0 qg)⟩, ⟨S1x64, grow (GA0 kg)⟩, ⟨S1x64, grow (GA1 qg)⟩, ⟨S1x64, grow (GA1 kg)⟩, ⟨S1x64, grow (GA2 qg)⟩, ⟨S1x64, grow (GA2 kg)⟩] concatenates_S1x64_S1x64_S1x64_S1x64_S1x64_S1x64_S6x64_d0

/-- The gains of the heads, each row twice, and two rows of ones. -/
def gtab (qg kg : FVec Ideal S3x64 .f32) : FVec Ideal S8x128 .f32 :=
  concatenate S8x128 0 [⟨S6x128, (shapeCast S6x128 (broadcastInDim S1x6x2x64 ![0, 1, 2, 3] bcast_S1x6x1x64_S1x6x2x64_0_1_2_3 (shapeCast S1x6x1x64 (gsix qg kg) shapeCasts_S6x64_S1x6x1x64)) shapeCasts_S1x6x2x64_S6x128 : FVec Ideal S6x128 .f32)⟩,
    ⟨S2x128, (broadcastInDim S2x128 ![] bcast_S_S2x128 (constant (F := Ideal) S_ .f32 0x3F800000#32) : FVec Ideal S2x128 .f32)⟩] concatenates_S6x128_S2x128_S8x128_d0

/-- The weights, with the index's key columns twice and columns of zeros. -/
def wtab (w : FVec Ideal S1024x3656 .f32) : FVec Ideal S1024x3840 .bf16 :=
  truncf .bf16 (concatenate S1024x3840 1 [⟨S1024x3584, extractStridedSlice S1024x3584 ![0, 0] w slices_S1024x3656_S1024x3584_0_0⟩, ⟨S1024x64, extractStridedSlice S1024x64 ![0, 3584] w slices_S1024x3656_S1024x64_0_3584⟩,
    ⟨S1024x64, extractStridedSlice S1024x64 ![0, 3584] w slices_S1024x3656_S1024x64_0_3584⟩, ⟨S1024x8, extractStridedSlice S1024x8 ![0, 3648] w slices_S1024x3656_S1024x8_0_3648⟩,
    ⟨S1024x120, (broadcastInDim S1024x120 ![] bcast_S_S1024x120 (constant (F := Ideal) S_ .f32 0x00000000#32) : FVec Ideal S1024x120 .f32)⟩] concatenates_S1024x3584_S1024x64_S1024x64_S1024x8_S1024x120_S1024x3840_d1) bitsLt_bf16_f32

/-- The cosines, read. -/
theorem ctab_at (q : Fin 4096) (l : Fin 128) : ctab (ix2 q l) = CS (ix2 q (⟨l.val % 32, by omega⟩ : Fin 32)) := by
  pointwise [ctab]

/-- The sines, read. -/
theorem stab_at (q : Fin 4096) (l : Fin 128) :
    stab (ix2 q l) = if l.val % 64 < 32 then - SN (ix2 q (⟨l.val % 32, by omega⟩ : Fin 32)) else SN (ix2 q (⟨l.val % 32, by omega⟩ : Fin 32)) := by
  pointwise [stab]
  by_cases h0 : l.val < 32
  · refine (dif_pos h0).trans (Eq.trans ?_ (if_pos (by omega)).symm)
    exact congrArg (fun z => - SN (ix2 q z)) (Fin.ext (by show l.val = l.val % 32; omega))
  by_cases h1 : l.val - 32 < 32
  · refine (dif_neg h0).trans ((dif_pos h1).trans (Eq.trans ?_ (if_neg (by omega)).symm))
    exact congrArg (fun z => SN (ix2 q z)) (Fin.ext (by show l.val - 32 = l.val % 32; omega))
  by_cases h2 : l.val - 32 - 32 < 32
  · refine (dif_neg h0).trans ((dif_neg h1).trans ((dif_pos h2).trans (Eq.trans ?_ (if_pos (by omega)).symm)))
    exact congrArg (fun z => - SN (ix2 q z)) (Fin.ext (by show l.val - 32 - 32 = l.val % 32; omega))
  · refine (dif_neg h0).trans ((dif_neg h1).trans ((dif_neg h2).trans (Eq.trans ?_ (if_neg (by omega)).symm)))
    exact congrArg (fun z => SN (ix2 q z)) (Fin.ext (by show l.val - 32 - 32 - 32 = l.val % 32; omega))

/-- A row of gains, read. -/
theorem grow_at (g : FVec Ideal S64 .f32) (k : Fin 64) : grow g (ix2 0 k) = g (ix1 k) := by pointwise [grow]

/-- The gains, read. -/
theorem gtab_at (qg kg : FVec Ideal S3x64 .f32) (i : Fin 6) (l : Fin 128) :
    gtab qg kg (ix2 (⟨i.val, by omega⟩ : Fin 8) l) = gsix qg kg (ix2 i (⟨l.val % 64, by omega⟩ : Fin 64)) := by
  pointwise [gtab]

/-- The six rows, read. -/
theorem gsix_at (qg kg : FVec Ideal S3x64 .f32) (k : Fin 64) :
    gsix qg kg (ix2 0 k) = qg (ix2 0 k) ∧ gsix qg kg (ix2 1 k) = kg (ix2 0 k) ∧ gsix qg kg (ix2 2 k) = qg (ix2 1 k)
      ∧ gsix qg kg (ix2 3 k) = kg (ix2 1 k) ∧ gsix qg kg (ix2 4 k) = qg (ix2 2 k) ∧ gsix qg kg (ix2 5 k) = kg (ix2 2 k) := by
  refine ⟨?_, ?_, ?_, ?_, ?_, ?_⟩ <;> pointwise [gsix, grow, GA0, GA1, GA2]

/-- The packed weights, read: the columns kept in place, the index's keys again, the index's weights and zeros. -/
theorem wtab_lo (w : FVec Ideal S1024x3656 .f32) (k : Fin 1024) (n : Fin 3840) (hn : n.val < 3648) :
    wtab w (ix2 k n) = w (ix2 k (⟨n.val, by omega⟩ : Fin 3656)) := by
  pointwise [wtab]
  by_cases h0 : n.val < 3584
  · rw [dif_pos h0]
  · rw [dif_neg h0, dif_pos (by omega)]
    exact congrArg (fun z => w (ix2 k z)) (Fin.ext (by show 3584 + (n.val - 3584) = n.val; omega))

/-- The index's keys again, and the index's weights. -/
theorem wtab_hi (w : FVec Ideal S1024x3656 .f32) (k : Fin 1024) (n : Fin 3840) (h1 : 3648 ≤ n.val) (h2 : n.val < 3720) :
    wtab w (ix2 k n) = w (ix2 k (⟨n.val - 64, by omega⟩ : Fin 3656)) := by
  pointwise [wtab]
  rw [dif_neg (by omega), dif_neg (by omega)]
  by_cases h0 : n.val - 3584 - 64 < 64
  · rw [dif_pos h0]
    exact congrArg (fun z => w (ix2 k z)) (Fin.ext (by show 3584 + (n.val - 3584 - 64) = n.val - 64; omega))
  · rw [dif_neg h0, dif_pos (by omega)]
    exact congrArg (fun z => w (ix2 k z)) (Fin.ext (by show 3648 + (n.val - 3584 - 64 - 64) = n.val - 64; omega))

/-- The columns of zeros. -/
theorem wtab_zero (w : FVec Ideal S1024x3656 .f32) (k : Fin 1024) (n : Fin 3840) (h2 : 3720 ≤ n.val) :
    wtab w (ix2 k n) = (0 : EReal) := by
  pointwise [wtab]
  rw [dif_neg (by omega), dif_neg (by omega), dif_neg (by omega), dif_neg (by omega)]

/-- The fourth operand. -/
theorem entry_cos (c : Dev nD) : V m c main_v21 = ctab := by
  unfold V
  simp only [hostOps0, List.flatten_cons, List.flatten_nil, List.append_nil, List.cons_append, List.nil_append]
  after_results
  rfl

/-- The fifth operand. -/
theorem entry_sin (c : Dev nD) : V m c main_v24 = stab := by
  unfold V
  simp only [hostOps0, List.flatten_cons, List.flatten_nil, List.append_nil, List.cons_append, List.nil_append]
  after_results
  rfl

/-- The sixth operand. -/
theorem entry_gains (c : Dev nD) : V m c main_v48 = gtab (m ((c.tc : Thread nD τ).loc main_arg3)) (m ((c.tc : Thread nD τ).loc main_arg4)) := by
  unfold V
  simp only [hostOps0, List.flatten_cons, List.flatten_nil, List.append_nil, List.cons_append, List.nil_append]
  after_results
  rfl

/-- The third operand. -/
theorem entry_weights (c : Dev nD) : V m c main_v55 = wtab (m ((c.tc : Thread nD τ).loc main_arg2)) := by
  unfold V
  simp only [hostOps0, List.flatten_cons, List.flatten_nil, List.append_nil, List.cons_append, List.nil_append]
  after_results
  rfl

/-- The packed weights stay. -/
theorem b2 (c : Dev nD) (t : Fin cfg0.N) (k : Fin 1024) (n : Fin 3840) :
    iblk m c 2 t (ix2 k n) = wtab (m ((c.tc : Thread nD τ).loc main_arg2)) (ix2 k n) := by
  rw [← entry_weights]; blk_ext! [iblk, idx t]

/-- The cosines follow the position. -/
theorem b3 (c : Dev nD) (t : Fin cfg0.N) (r : Fin 512) (l : Fin 128) :
    iblk m c 3 t (ix2 r l) = ctab (ix2 (pos t r) l) := by
  rw [← entry_cos m c]; blk_ext! [iblk, idx t, pos]

/-- The sines follow the position. -/
theorem b4 (c : Dev nD) (t : Fin cfg0.N) (r : Fin 512) (l : Fin 128) :
    iblk m c 4 t (ix2 r l) = stab (ix2 (pos t r) l) := by
  rw [← entry_sin m c]; blk_ext! [iblk, idx t, pos]

/-- The gains stay. -/
theorem b5 (c : Dev nD) (t : Fin cfg0.N) (r : Fin 8) (l : Fin 128) :
    iblk m c 5 t (ix2 r l) = gtab (m ((c.tc : Thread nD τ).loc main_arg3)) (m ((c.tc : Thread nD τ).loc main_arg4)) (ix2 r l) := by
  rw [← entry_gains]; blk_ext! [iblk, idx t]

end Cert.InpIdeal.Final
end
-- ==== Proof.Inp.Rows.lean ====
/- The rows of the input projection's tiles: the projected entries, their heads, and the factor on the queries. -/
module

public import proofs.«01_k».proof.Proof.Inp.Slab
public import proofs.«01_k».proof.Proof.Inp.Blocks
public import proofs.«01_k».proof.Proof.Inp.Reference
public import proofs.«01_k».proof.Proof.DiffIdeal.Final

@[expose] public section

set_option maxRecDepth 16384
set_option maxHeartbeats 4000000

noncomputable section

open Idealize.ShloMosaic Idealize.ShloMosaic.TcCoe Idealize.SL.Sem
open Idealize.ShloMosaic.Pipeline (Dat)

namespace Cert.InpIdeal.Final
open Cert.InpIdeal Cert.InpIdeal.Gen Cert.InpIdeal.Slab
open Cert.HeadRow (rot nrm)
open Cert.InpRefIdeal.Pure (CS SN GA0 GA1 GA2 HN HN_at PJ PJ_at PP VT VD WI hd qs PMQ PMK PDQ PDK PSQ PSK PIQ PIK7 PIK8 VT_at VD_at WI_at)

variable (m : (ℓ : Loc nD τ sig) → Buf (Elt Ideal) ℓ)

/-- The argument arrays. -/
abbrev A0 (c : Dev nD) : FVec Ideal Cert.InpRefIdeal.S32768x1024 .f32 := m ((c.tc : Thread nD τ).loc main_arg0)
abbrev A1 (c : Dev nD) : FVec Ideal Cert.InpRefIdeal.S1024 .f32 := m ((c.tc : Thread nD τ).loc main_arg1)
abbrev A2 (c : Dev nD) : FVec Ideal Cert.InpRefIdeal.S1024x3656 .f32 := m ((c.tc : Thread nD τ).loc main_arg2)
abbrev A3 (c : Dev nD) : FVec Ideal Cert.InpRefIdeal.S3x64 .f32 := m ((c.tc : Thread nD τ).loc main_arg3)
abbrev A4 (c : Dev nD) : FVec Ideal Cert.InpRefIdeal.S3x64 .f32 := m ((c.tc : Thread nD τ).loc main_arg4)

/-- The reference's projection over the argument arrays. -/
abbrev YY (c : Dev nD) : FVec Ideal Cert.InpRefIdeal.S8x4096x3656 .f32 := PJ (HN (A0 m c) (A1 m c)) (A2 m c)

/-- The normed rows of a tile. -/
theorem normed_at (c : Dev nD) (t : Fin cfg0.N) (r : Fin 512) (n : Fin 1024) :
    k0_pay2 (F := Ideal) (iblk m c 0 t) (iblk m c 1 t) (ix2 r n) = HN (A0 m c) (A1 m c) (ix2 (row t r) n) := by
  rw [HN_at]
  pointwise [k0_pay2]
  simp only [b0, b1]

/-- An entry of a tile's projection, in the columns kept in place. -/
theorem entry_lo (c : Dev nD) (t : Fin cfg0.N) (r : Fin 512) (n : Fin 3840) (hn : n.val < 3648) :
    (∑ x : Fin 1024, k0_pay2 (F := Ideal) (iblk m c 0 t) (iblk m c 1 t) (ix2 r x) * iblk m c 2 t (ix2 x n) : EReal)
      = YY m c (ix3 (bat t) (pos t r) (⟨n.val, by omega⟩ : Fin 3656)) := by
  rw [YY, PJ_at]
  refine Finset.sum_congr rfl fun x _ => ?_
  rw [normed_at, b2, wtab_lo _ _ _ hn]
  rfl

/-- An entry of a tile's projection, in the columns after them. -/
theorem entry_hi (c : Dev nD) (t : Fin cfg0.N) (r : Fin 512) (n : Fin 3840) (h1 : 3648 ≤ n.val) (h2 : n.val < 3720) :
    (∑ x : Fin 1024, k0_pay2 (F := Ideal) (iblk m c 0 t) (iblk m c 1 t) (ix2 r x) * iblk m c 2 t (ix2 x n) : EReal)
      = YY m c (ix3 (bat t) (pos t r) (⟨n.val - 64, by omega⟩ : Fin 3656)) := by
  rw [YY, PJ_at]
  refine Finset.sum_congr rfl fun x _ => ?_
  rw [normed_at, b2, wtab_hi _ _ _ h1 h2]
  rfl

/-- An entry of a tile's projection, in the columns of zeros. -/
theorem entry_zero (c : Dev nD) (t : Fin cfg0.N) (r : Fin 512) (n : Fin 3840) (h2 : 3720 ≤ n.val) :
    (∑ x : Fin 1024, k0_pay2 (F := Ideal) (iblk m c 0 t) (iblk m c 1 t) (ix2 r x) * iblk m c 2 t (ix2 x n) : EReal) = 0 := by
  refine Finset.sum_eq_zero fun x _ => ?_
  rw [b2, wtab_zero _ _ _ h2, mul_zero]

/-- A lane of a slab is a lane of one of its two heads. -/
theorem lane (x : S512x128.Idx) : ∃ (r : Fin 512) (h : Fin 2) (d : Fin 64), x = ix2 r (⟨64 * h.val + d.val, by omega⟩ : Fin 128) := by
  obtain ⟨r, l, rfl⟩ : ∃ (r : Fin 512) (l : Fin 128), x = ix2 r l := ⟨x 0, x 1, eq_ix2 x⟩
  refine ⟨r, ⟨l.val / 64, by omega⟩, ⟨l.val % 64, by omega⟩, congrArg (ix2 r) (Fin.ext ?_)⟩
  show l.val = 64 * (l.val / 64) + l.val % 64
  omega

/-- The factor on the queries as the kernel names it. -/
theorem qs_named (x : EReal) : x * Named.named (F := Ideal) Cert.InpIdeal.κ "q_scale" (φ := .f32) 0x3E38AA3B#32 = qs x := by
  unfold qs
  rw [show Named.named (F := Ideal) Cert.InpIdeal.κ "q_scale" (φ := .f32) 0x3E38AA3B#32 = (((1 / 8) * (Real.log 2)⁻¹ : ℝ) : EReal) from
    IdealRules.named_const.ideal_named_scalar _ _ _ _ rfl]
  rw [Cert.DiffIdeal.Final.bits_eighth, Cert.DiffIdeal.Final.bits_two]
  have h : Ideal.log ((2 : ℝ) : EReal) = ((Real.log 2 : ℝ) : EReal) := if_neg (by norm_num)
  rw [h, show (1 : EReal) = ((1 : ℝ) : EReal) from rfl, Ideal.div_coe Cert.DiffIdeal.Final.log_two_pos.ne', mul_assoc, ← EReal.coe_mul, ← EReal.coe_mul]
  congr 2
  ring

/-- The rotary embedding of a slab whose lanes are the projection's columns from `o` on. -/
theorem RTT (c : Dev nD) (t : Fin cfg0.N) (r : Fin 512) (h : Fin 2) (d : Fin 64) (Y : FVec Ideal S512x128 .f32) (f : Fin 64 → EReal)
    (hY : ∀ k : Fin 64, Y (ix2 r (⟨64 * h.val + k.val, by omega⟩ : Fin 128)) = f k) :
    RT Y (k0_pay7 (F := Ideal) (iblk m c 3 t)) (k0_pay8 (F := Ideal) (iblk m c 4 t)) (ix2 r (⟨64 * h.val + d.val, by omega⟩ : Fin 128))
      = rot f (fun k => CS (ix2 (pos t r) k)) (fun k => SN (ix2 (pos t r) k)) d := by
  rw [RT_at Y _ _ (fun k => CS (ix2 (pos t r) k)) (fun k => SN (ix2 (pos t r) k)) r h d]
  · exact congrArg (fun f => rot f (fun k => CS (ix2 (pos t r) k)) (fun k => SN (ix2 (pos t r) k)) d) (funext hY)
  · pointwise [k0_pay7]
    refine (b3 m c t r _).trans ((ctab_at _ _).trans (congrArg (fun z => CS (ix2 (pos t r) z)) (Fin.ext ?_)))
    show (64 * h.val + d.val) % 32 = d.val % 32
    omega
  · pointwise [k0_pay8]
    refine (b4 m c t r _).trans ((stab_at _ _).trans ?_)
    have e : (⟨(64 * h.val + d.val) % 32, by omega⟩ : Fin 32) = ⟨d.val % 32, by omega⟩ := Fin.ext (by show (64 * h.val + d.val) % 32 = d.val % 32; omega)
    by_cases hd : d.val < 32
    · exact (if_pos (by show (64 * h.val + d.val) % 64 < 32; omega)).trans ((congrArg (fun z => - SN (ix2 (pos t r) z)) e).trans (if_pos hd).symm)
    · exact (if_neg (by show ¬ (64 * h.val + d.val) % 64 < 32; omega)).trans ((congrArg (fun z => SN (ix2 (pos t r) z)) e).trans (if_neg hd).symm)

/-- The same after the norm. -/
theorem NRT (c : Dev nD) (t : Fin cfg0.N) (r : Fin 512) (h : Fin 2) (d : Fin 64) (Y : FVec Ideal S512x128 .f32) (G : FVec Ideal S1x128 .f32)
    (gg : Fin 64 → EReal) (o o' : ℕ) (ho : o ≤ 3528) (ho' : o' ≤ 3592) (he : o' = o + 64 * h.val)
    (hY : ∀ l : Fin 128, Y (ix2 r l) = YY m c (ix3 (bat t) (pos t r) (⟨o + l.val, by omega⟩ : Fin 3656)))
    (hG : ∀ l : Fin 128, G (ix2 0 l) = gg ⟨l.val % 64, by omega⟩)
    (hF : ∀ l : Fin 128, ∃ v : ℝ, YY m c (ix3 (bat t) (pos t r) (⟨o + l.val, by omega⟩ : Fin 3656)) = (v : EReal)) :
    RT (NR Y G) (k0_pay7 (F := Ideal) (iblk m c 3 t)) (k0_pay8 (F := Ideal) (iblk m c 4 t)) (ix2 r (⟨64 * h.val + d.val, by omega⟩ : Fin 128))
      = rot (nrm (hd (YY m c) (bat t) (pos t r) o' ho') gg) (fun k => CS (ix2 (pos t r) k)) (fun k => SN (ix2 (pos t r) k)) d := by
  subst he
  refine RTT m c t r h d _ _ fun k => ?_
  rw [NR_at Y G r h k fun l => (hF l).imp fun v hv => (hY l).trans hv]
  have e1 : (fun k : Fin 64 => Y (ix2 r (⟨64 * h.val + k.val, by omega⟩ : Fin 128))) = hd (YY m c) (bat t) (pos t r) (o + 64 * h.val) ho' := funext fun k =>
    (hY _).trans (congrArg (fun z => YY m c (ix3 (bat t) (pos t r) z)) (Fin.ext (Nat.add_assoc _ _ _).symm))
  have e2 : (fun k : Fin 64 => G (ix2 0 (⟨64 * h.val + k.val, by omega⟩ : Fin 128))) = gg := funext fun k =>
    (hG _).trans (congrArg gg (Fin.ext (by show (64 * h.val + k.val) % 64 = k.val; omega)))
  rw [e1, e2]

end Cert.InpIdeal.Final
end
-- ==== Proof.Inp.Entry.lean ====
/- The places of the projected entries, matched by their numbers. -/
module

public import proofs.«01_k».proof.Proof.Inp.Rows

@[expose] public section

set_option maxRecDepth 16384
set_option maxHeartbeats 1000000

noncomputable section

open Idealize.ShloMosaic Idealize.ShloMosaic.TcCoe Idealize.SL.Sem
open Idealize.ShloMosaic.Pipeline (Dat)

namespace Cert.InpIdeal.Final
open Cert.InpIdeal Cert.InpIdeal.Gen Cert.InpIdeal.Slab
open Cert.HeadRow (rot nrm)
open Cert.InpRefIdeal.Pure (CS SN GA0 GA1 GA2 HN HN_at PJ PJ_at PP VT VD WI hd qs PMQ PMK PDQ PDK PSQ PSK PIQ PIK7 PIK8 VT_at VD_at WI_at)

variable (m : (ℓ : Loc nD τ sig) → Buf (Elt Ideal) ℓ)

/-- Places with equal numbers are equal. -/
theorem ix_congr (b : Fin 8) {q q' : Fin 4096} {z z' : Fin 3656} (hq : q.val = q'.val) (hz : z.val = z'.val) :
    (ix3 b q z : Cert.InpRefIdeal.S8x4096x3656.Idx) = ix3 b q' z' := by
  rw [Fin.ext hq, Fin.ext hz]

end Cert.InpIdeal.Final
end
-- ==== Proof.Inp.OutP.lean ====
/- The queries and the keys that the body stores. -/
module

public import proofs.«01_k».proof.Proof.Inp.Entry

@[expose] public section

set_option maxRecDepth 16384
set_option maxHeartbeats 1000000

noncomputable section

open Idealize.ShloMosaic Idealize.ShloMosaic.TcCoe Idealize.SL.Sem
open Idealize.ShloMosaic.Pipeline (Dat)

namespace Cert.InpIdeal.Final
open Cert.InpIdeal Cert.InpIdeal.Gen Cert.InpIdeal.Slab
open Cert.HeadRow (rot nrm)
open Cert.InpRefIdeal.Pure (CS SN GA0 GA1 GA2 HN HN_at PJ PJ_at PP VT VD WI hd qs PMQ PMK PDQ PDK PSQ PSK PIQ PIK7 PIK8 VT_at VD_at WI_at)

variable (m : (ℓ : Loc nD τ sig) → Buf (Elt Ideal) ℓ)

/-- What the body stores as queries and keys are the reference's rows. -/
theorem out_p (c : Dev nD)
    (hF : ∀ (b : Fin 8) (q : Fin 4096) (n : Fin 3656), (n.val < 512 ∨ (768 ≤ n.val ∧ n.val < 1792) ∨ (2304 ≤ n.val ∧ n.val < 2816)) → ∃ v : ℝ, YY m c (ix3 b q n) = (v : EReal))
    (t : Fin cfg0.N) (y : S512x2688.Idx) :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) y
      = PP (YY m c) (A3 m c) (A4 m c) (ix2 (row t (y 0)) (y 1)) := by
  frame_out
  canon_tiles x h
  case piece0 =>
    obtain ⟨r, h, d, rfl⟩ := lane x
    have e0 : y 0 = r := Fin.ext h0
    refine (congrFun (g := truncf (F := Ideal) .bf16 (RT (extractStridedSlice S512x128 ![0, 0] (matmul (φ₂ := .bf16) dot_S512x1024_S1024x256_S512x256_1_0_0_1_n_n none (k0_pay2 (F := Ideal) (iblk m c 0 t) (iblk m c 1 t)) (shapeCast S1024x256 (View.ld (iblk m c 2 t) (Rect.unit ![0, 3584] ![1024, 256] inb_S1024x3840_S1024x256_0_3584)) shapeCasts_S1024x256_S1024x256) (constant S512x256 .f32 0x00000000#32)) slices_S512x256_o0_0_S512x128) (k0_pay7 (F := Ideal) (iblk m c 3 t)) (k0_pay8 (F := Ideal) (iblk m c 4 t))) bitsLt_bf16_f32) ?_ _).trans ?_
    · rfl
    refine Eq.trans (RTT m c t r h d _ (hd (YY m c) (bat t) (pos t r) 3584 (by omega)) fun k => ?_) ?_
    · pointwise [hd]
      by_cases hh : h.val = 0
      · exact Eq.trans (entry_lo m c t r (⟨3584 + (64 * h.val + k.val), by omega⟩ : Fin 3840) (by dsimp only; all_goals omega)) (congrArg (YY m c) (ix_congr (bat t) rfl (by dsimp only; all_goals omega)))
      · exact Eq.trans (entry_hi m c t r (⟨3584 + (64 * h.val + k.val), by omega⟩ : Fin 3840) (by dsimp only; all_goals omega) (by dsimp only; all_goals omega)) (congrArg (YY m c) (ix_congr (bat t) rfl (by dsimp only; all_goals omega)))
    by_cases hh : h.val = 0
    · have e1 : y 1 = (⟨2560 + d.val, by omega⟩ : Fin 2688) := Fin.ext (h1.trans (by show 2560 + (64 * h.val + d.val) = 2560 + d.val; omega))
      rw [e0, e1]
      exact (PIK7 (YY m c) (A3 m c) (A4 m c) (bat t) (pos t r) d).symm
    · have e1 : y 1 = (⟨2624 + d.val, by omega⟩ : Fin 2688) := Fin.ext (h1.trans (by show 2560 + (64 * h.val + d.val) = 2624 + d.val; omega))
      rw [e0, e1]
      exact (PIK8 (YY m c) (A3 m c) (A4 m c) (bat t) (pos t r) d).symm
  case piece1 =>
    obtain ⟨r, h, d, rfl⟩ := lane x
    have e0 : y 0 = r := Fin.ext h0
    have e1 : y 1 = (⟨2048 + (64 * (6 + h.val) + d.val), by omega⟩ : Fin 2688) := Fin.ext (h1.trans (by show 2432 + (64 * h.val + d.val) = 2048 + (64 * (6 + h.val) + d.val); omega))
    rw [e0, e1]
    refine Eq.trans ?_ (PIQ (YY m c) (A3 m c) (A4 m c) (bat t) (pos t r) (⟨6 + h.val, by omega⟩ : Fin 8) d).symm
    refine (congrFun (g := truncf (F := Ideal) .bf16 (mulf (RT (extractStridedSlice S512x128 ![0, 384] (matmul (φ₂ := .bf16) dot_S512x1024_S1024x512_S512x512_1_0_0_1_n_n none (k0_pay2 (F := Ideal) (iblk m c 0 t) (iblk m c 1 t)) (shapeCast S1024x512 (View.ld (iblk m c 2 t) (Rect.unit ![0, 3072] ![1024, 512] inb_S1024x3840_S1024x512_0_3072)) shapeCasts_S1024x512_S1024x512) (constant S512x512 .f32 0x00000000#32)) slices_S512x512_o0_384_S512x128) (k0_pay7 (F := Ideal) (iblk m c 3 t)) (k0_pay8 (F := Ideal) (iblk m c 4 t))) (broadcast S512x128 (Scalar.ofBits .f32 0x3E000000#32))) bitsLt_bf16_f32) ?_ _).trans ?_
    · rfl
    refine congrArg (fun z : EReal => z * Ideal.ofBits .f32 0x3E000000#32) (RTT m c t r h d _ _ fun k => ?_)
    pointwise [hd]
    exact Eq.trans (entry_lo m c t r (⟨3072 + (384 + (64 * h.val + k.val)), by omega⟩ : Fin 3840) (by dsimp only; all_goals omega)) (congrArg (YY m c) (ix_congr (bat t) rfl (by dsimp only; all_goals omega)))
  case piece2 =>
    obtain ⟨r, h, d, rfl⟩ := lane x
    have e0 : y 0 = r := Fin.ext h0
    have e1 : y 1 = (⟨2048 + (64 * (4 + h.val) + d.val), by omega⟩ : Fin 2688) := Fin.ext (h1.trans (by show 2304 + (64 * h.val + d.val) = 2048 + (64 * (4 + h.val) + d.val); omega))
    rw [e0, e1]
    refine Eq.trans ?_ (PIQ (YY m c) (A3 m c) (A4 m c) (bat t) (pos t r) (⟨4 + h.val, by omega⟩ : Fin 8) d).symm
    refine (congrFun (g := truncf (F := Ideal) .bf16 (mulf (RT (extractStridedSlice S512x128 ![0, 256] (matmul (φ₂ := .bf16) dot_S512x1024_S1024x512_S512x512_1_0_0_1_n_n none (k0_pay2 (F := Ideal) (iblk m c 0 t) (iblk m c 1 t)) (shapeCast S1024x512 (View.ld (iblk m c 2 t) (Rect.unit ![0, 3072] ![1024, 512] inb_S1024x3840_S1024x512_0_3072)) shapeCasts_S1024x512_S1024x512) (constant S512x512 .f32 0x00000000#32)) slices_S512x512_o0_256_S512x128) (k0_pay7 (F := Ideal) (iblk m c 3 t)) (k0_pay8 (F := Ideal) (iblk m c 4 t))) (broadcast S512x128 (Scalar.ofBits .f32 0x3E000000#32))) bitsLt_bf16_f32) ?_ _).trans ?_
    · rfl
    refine congrArg (fun z : EReal => z * Ideal.ofBits .f32 0x3E000000#32) (RTT m c t r h d _ _ fun k => ?_)
    pointwise [hd]
    exact Eq.trans (entry_lo m c t r (⟨3072 + (256 + (64 * h.val + k.val)), by omega⟩ : Fin 3840) (by dsimp only; all_goals omega)) (congrArg (YY m c) (ix_congr (bat t) rfl (by dsimp only; all_goals omega)))
  case piece3 =>
    obtain ⟨r, h, d, rfl⟩ := lane x
    have e0 : y 0 = r := Fin.ext h0
    have e1 : y 1 = (⟨2048 + (64 * (2 + h.val) + d.val), by omega⟩ : Fin 2688) := Fin.ext (h1.trans (by show 2176 + (64 * h.val + d.val) = 2048 + (64 * (2 + h.val) + d.val); omega))
    rw [e0, e1]
    refine Eq.trans ?_ (PIQ (YY m c) (A3 m c) (A4 m c) (bat t) (pos t r) (⟨2 + h.val, by omega⟩ : Fin 8) d).symm
    refine (congrFun (g := truncf (F := Ideal) .bf16 (mulf (RT (extractStridedSlice S512x128 ![0, 128] (matmul (φ₂ := .bf16) dot_S512x1024_S1024x512_S512x512_1_0_0_1_n_n none (k0_pay2 (F := Ideal) (iblk m c 0 t) (iblk m c 1 t)) (shapeCast S1024x512 (View.ld (iblk m c 2 t) (Rect.unit ![0, 3072] ![1024, 512] inb_S1024x3840_S1024x512_0_3072)) shapeCasts_S1024x512_S1024x512) (constant S512x512 .f32 0x00000000#32)) slices_S512x512_o0_128_S512x128) (k0_pay7 (F := Ideal) (iblk m c 3 t)) (k0_pay8 (F := Ideal) (iblk m c 4 t))) (broadcast S512x128 (Scalar.ofBits .f32 0x3E000000#32))) bitsLt_bf16_f32) ?_ _).trans ?_
    · rfl
    refine congrArg (fun z : EReal => z * Ideal.ofBits .f32 0x3E000000#32) (RTT m c t r h d _ _ fun k => ?_)
    pointwise [hd]
    exact Eq.trans (entry_lo m c t r (⟨3072 + (128 + (64 * h.val + k.val)), by omega⟩ : Fin 3840) (by dsimp only; all_goals omega)) (congrArg (YY m c) (ix_congr (bat t) rfl (by dsimp only; all_goals omega)))
  case piece4 =>
    obtain ⟨r, h, d, rfl⟩ := lane x
    have e0 : y 0 = r := Fin.ext h0
    have e1 : y 1 = (⟨2048 + (64 * (0 + h.val) + d.val), by omega⟩ : Fin 2688) := Fin.ext (h1.trans (by show 2048 + (64 * h.val + d.val) = 2048 + (64 * (0 + h.val) + d.val); omega))
    rw [e0, e1]
    refine Eq.trans ?_ (PIQ (YY m c) (A3 m c) (A4 m c) (bat t) (pos t r) (⟨0 + h.val, by omega⟩ : Fin 8) d).symm
    refine (congrFun (g := truncf (F := Ideal) .bf16 (mulf (RT (extractStridedSlice S512x128 ![0, 0] (matmul (φ₂ := .bf16) dot_S512x1024_S1024x512_S512x512_1_0_0_1_n_n none (k0_pay2 (F := Ideal) (iblk m c 0 t) (iblk m c 1 t)) (shapeCast S1024x512 (View.ld (iblk m c 2 t) (Rect.unit ![0, 3072] ![1024, 512] inb_S1024x3840_S1024x512_0_3072)) shapeCasts_S1024x512_S1024x512) (constant S512x512 .f32 0x00000000#32)) slices_S512x512_o0_0_S512x128) (k0_pay7 (F := Ideal) (iblk m c 3 t)) (k0_pay8 (F := Ideal) (iblk m c 4 t))) (broadcast S512x128 (Scalar.ofBits .f32 0x3E000000#32))) bitsLt_bf16_f32) ?_ _).trans ?_
    · rfl
    refine congrArg (fun z : EReal => z * Ideal.ofBits .f32 0x3E000000#32) (RTT m c t r h d _ _ fun k => ?_)
    pointwise [hd]
    exact Eq.trans (entry_lo m c t r (⟨3072 + (64 * h.val + k.val), by omega⟩ : Fin 3840) (by dsimp only; all_goals omega)) (congrArg (YY m c) (ix_congr (bat t) rfl (by dsimp only; all_goals omega)))
  case piece5 =>
    obtain ⟨r, h, d, rfl⟩ := lane x
    have e0 : y 0 = r := Fin.ext h0
    have e1 : y 1 = (⟨1792 + (64 * (2 + h.val) + d.val), by omega⟩ : Fin 2688) := Fin.ext (h1.trans (by show 1920 + (64 * h.val + d.val) = 1792 + (64 * (2 + h.val) + d.val); omega))
    rw [e0, e1]
    refine Eq.trans ?_ (PSK (YY m c) (A3 m c) (A4 m c) (bat t) (pos t r) (⟨2 + h.val, by omega⟩ : Fin 4) d).symm
    refine (congrFun (g := truncf (F := Ideal) .bf16 (RT (NR (extractStridedSlice S512x128 ![0, 128] (matmul (φ₂ := .bf16) dot_S512x1024_S1024x512_S512x512_1_0_0_1_n_n none (k0_pay2 (F := Ideal) (iblk m c 0 t) (iblk m c 1 t)) (shapeCast S1024x512 (View.ld (iblk m c 2 t) (Rect.unit ![0, 2560] ![1024, 512] inb_S1024x3840_S1024x512_0_2560)) shapeCasts_S1024x512_S1024x512) (constant S512x512 .f32 0x00000000#32)) slices_S512x512_o0_128_S512x128) (extractStridedSlice S1x128 ![5, 0] (k0_pay9 (F := Ideal) (iblk m c 5 t)) slices_S8x128_o5_0_S1x128)) (k0_pay7 (F := Ideal) (iblk m c 3 t)) (k0_pay8 (F := Ideal) (iblk m c 4 t))) bitsLt_bf16_f32) ?_ _).trans ?_
    · rfl
    exact (NRT m c t r h d _ _ _ 2688 _ (by omega) _ (by dsimp only; all_goals omega)
      (fun l => by
      pointwise []
      exact Eq.trans (entry_lo m c t r (⟨2560 + (128 + l.val), by omega⟩ : Fin 3840) (by dsimp only; all_goals omega)) (congrArg (YY m c) (ix_congr (bat t) rfl (by dsimp only; all_goals omega))))
      (fun l => by
        pointwise [k0_pay9]
        exact (b5 m c t _ _).trans ((gtab_at (A3 m c) (A4 m c) (⟨5, by omega⟩ : Fin 6) l).trans (gsix_at (A3 m c) (A4 m c) _).2.2.2.2.2))
      (fun l => hF _ _ _ (by dsimp only; all_goals omega)))
  case piece6 =>
    obtain ⟨r, h, d, rfl⟩ := lane x
    have e0 : y 0 = r := Fin.ext h0
    have e1 : y 1 = (⟨1792 + (64 * (0 + h.val) + d.val), by omega⟩ : Fin 2688) := Fin.ext (h1.trans (by show 1792 + (64 * h.val + d.val) = 1792 + (64 * (0 + h.val) + d.val); omega))
    rw [e0, e1]
    refine Eq.trans ?_ (PSK (YY m c) (A3 m c) (A4 m c) (bat t) (pos t r) (⟨0 + h.val, by omega⟩ : Fin 4) d).symm
    refine (congrFun (g := truncf (F := Ideal) .bf16 (RT (NR (extractStridedSlice S512x128 ![0, 0] (matmul (φ₂ := .bf16) dot_S512x1024_S1024x512_S512x512_1_0_0_1_n_n none (k0_pay2 (F := Ideal) (iblk m c 0 t) (iblk m c 1 t)) (shapeCast S1024x512 (View.ld (iblk m c 2 t) (Rect.unit ![0, 2560] ![1024, 512] inb_S1024x3840_S1024x512_0_2560)) shapeCasts_S1024x512_S1024x512) (constant S512x512 .f32 0x00000000#32)) slices_S512x512_o0_0_S512x128) (extractStridedSlice S1x128 ![5, 0] (k0_pay9 (F := Ideal) (iblk m c 5 t)) slices_S8x128_o5_0_S1x128)) (k0_pay7 (F := Ideal) (iblk m c 3 t)) (k0_pay8 (F := Ideal) (iblk m c 4 t))) bitsLt_bf16_f32) ?_ _).trans ?_
    · rfl
    exact (NRT m c t r h d _ _ _ 2560 _ (by omega) _ (by dsimp only; all_goals omega)
      (fun l => by
      pointwise []
      exact Eq.trans (entry_lo m c t r (⟨2560 + l.val, by omega⟩ : Fin 3840) (by dsimp only; all_goals omega)) (congrArg (YY m c) (ix_congr (bat t) rfl (by dsimp only; all_goals omega))))
      (fun l => by
        pointwise [k0_pay9]
        exact (b5 m c t _ _).trans ((gtab_at (A3 m c) (A4 m c) (⟨5, by omega⟩ : Fin 6) l).trans (gsix_at (A3 m c) (A4 m c) _).2.2.2.2.2))
      (fun l => hF _ _ _ (by dsimp only; all_goals omega)))
  case piece7 =>
    obtain ⟨r, h, d, rfl⟩ := lane x
    have e0 : y 0 = r := Fin.ext h0
    have e1 : y 1 = (⟨1536 + (64 * (2 + h.val) + d.val), by omega⟩ : Fin 2688) := Fin.ext (h1.trans (by show 1664 + (64 * h.val + d.val) = 1536 + (64 * (2 + h.val) + d.val); omega))
    rw [e0, e1]
    refine Eq.trans ?_ (PSQ (YY m c) (A3 m c) (A4 m c) (bat t) (pos t r) (⟨2 + h.val, by omega⟩ : Fin 4) d).symm
    refine (congrFun (g := truncf (F := Ideal) .bf16 (mulf (RT (NR (extractStridedSlice S512x128 ![0, 384] (matmul (φ₂ := .bf16) dot_S512x1024_S1024x512_S512x512_1_0_0_1_n_n none (k0_pay2 (F := Ideal) (iblk m c 0 t) (iblk m c 1 t)) (shapeCast S1024x512 (View.ld (iblk m c 2 t) (Rect.unit ![0, 2048] ![1024, 512] inb_S1024x3840_S1024x512_0_2048)) shapeCasts_S1024x512_S1024x512) (constant S512x512 .f32 0x00000000#32)) slices_S512x512_o0_384_S512x128) (extractStridedSlice S1x128 ![4, 0] (k0_pay9 (F := Ideal) (iblk m c 5 t)) slices_S8x128_o4_0_S1x128)) (k0_pay7 (F := Ideal) (iblk m c 3 t)) (k0_pay8 (F := Ideal) (iblk m c 4 t))) (broadcast S512x128 (Named.named (F := Ideal) κ "q_scale" (φ := .f32) 0x3E38AA3B#32))) bitsLt_bf16_f32) ?_ _).trans ?_
    · rfl
    exact Eq.trans (congrArg (fun z : EReal => z * (Named.named (F := Ideal) κ "q_scale" (φ := .f32) 0x3E38AA3B#32)) (NRT m c t r h d _ _ _ 2432 _ (by omega) _ (by dsimp only; all_goals omega)
      (fun l => by
      pointwise []
      exact Eq.trans (entry_lo m c t r (⟨2048 + (384 + l.val), by omega⟩ : Fin 3840) (by dsimp only; all_goals omega)) (congrArg (YY m c) (ix_congr (bat t) rfl (by dsimp only; all_goals omega))))
      (fun l => by
        pointwise [k0_pay9]
        exact (b5 m c t _ _).trans ((gtab_at (A3 m c) (A4 m c) (⟨4, by omega⟩ : Fin 6) l).trans (gsix_at (A3 m c) (A4 m c) _).2.2.2.2.1))
      (fun l => hF _ _ _ (by dsimp only; all_goals omega)))) (qs_named _)
  case piece8 =>
    obtain ⟨r, h, d, rfl⟩ := lane x
    have e0 : y 0 = r := Fin.ext h0
    have e1 : y 1 = (⟨1536 + (64 * (0 + h.val) + d.val), by omega⟩ : Fin 2688) := Fin.ext (h1.trans (by show 1536 + (64 * h.val + d.val) = 1536 + (64 * (0 + h.val) + d.val); omega))
    rw [e0, e1]
    refine Eq.trans ?_ (PSQ (YY m c) (A3 m c) (A4 m c) (bat t) (pos t r) (⟨0 + h.val, by omega⟩ : Fin 4) d).symm
    refine (congrFun (g := truncf (F := Ideal) .bf16 (mulf (RT (NR (extractStridedSlice S512x128 ![0, 256] (matmul (φ₂ := .bf16) dot_S512x1024_S1024x512_S512x512_1_0_0_1_n_n none (k0_pay2 (F := Ideal) (iblk m c 0 t) (iblk m c 1 t)) (shapeCast S1024x512 (View.ld (iblk m c 2 t) (Rect.unit ![0, 2048] ![1024, 512] inb_S1024x3840_S1024x512_0_2048)) shapeCasts_S1024x512_S1024x512) (constant S512x512 .f32 0x00000000#32)) slices_S512x512_o0_256_S512x128) (extractStridedSlice S1x128 ![4, 0] (k0_pay9 (F := Ideal) (iblk m c 5 t)) slices_S8x128_o4_0_S1x128)) (k0_pay7 (F := Ideal) (iblk m c 3 t)) (k0_pay8 (F := Ideal) (iblk m c 4 t))) (broadcast S512x128 (Named.named (F := Ideal) κ "q_scale" (φ := .f32) 0x3E38AA3B#32))) bitsLt_bf16_f32) ?_ _).trans ?_
    · rfl
    exact Eq.trans (congrArg (fun z : EReal => z * (Named.named (F := Ideal) κ "q_scale" (φ := .f32) 0x3E38AA3B#32)) (NRT m c t r h d _ _ _ 2304 _ (by omega) _ (by dsimp only; all_goals omega)
      (fun l => by
      pointwise []
      exact Eq.trans (entry_lo m c t r (⟨2048 + (256 + l.val), by omega⟩ : Fin 3840) (by dsimp only; all_goals omega)) (congrArg (YY m c) (ix_congr (bat t) rfl (by dsimp only; all_goals omega))))
      (fun l => by
        pointwise [k0_pay9]
        exact (b5 m c t _ _).trans ((gtab_at (A3 m c) (A4 m c) (⟨4, by omega⟩ : Fin 6) l).trans (gsix_at (A3 m c) (A4 m c) _).2.2.2.2.1))
      (fun l => hF _ _ _ (by dsimp only; all_goals omega)))) (qs_named _)
  case piece9 =>
    obtain ⟨r, h, d, rfl⟩ := lane x
    have e0 : y 0 = r := Fin.ext h0
    have e1 : y 1 = (⟨1024 + (64 * (6 + h.val) + d.val), by omega⟩ : Fin 2688) := Fin.ext (h1.trans (by show 1408 + (64 * h.val + d.val) = 1024 + (64 * (6 + h.val) + d.val); omega))
    rw [e0, e1]
    refine Eq.trans ?_ (PDK (YY m c) (A3 m c) (A4 m c) (bat t) (pos t r) (⟨6 + h.val, by omega⟩ : Fin 8) d).symm
    refine (congrFun (g := truncf (F := Ideal) .bf16 (RT (NR (extractStridedSlice S512x128 ![0, 128] (matmul (φ₂ := .bf16) dot_S512x1024_S1024x512_S512x512_1_0_0_1_n_n none (k0_pay2 (F := Ideal) (iblk m c 0 t) (iblk m c 1 t)) (shapeCast S1024x512 (View.ld (iblk m c 2 t) (Rect.unit ![0, 1536] ![1024, 512] inb_S1024x3840_S1024x512_0_1536)) shapeCasts_S1024x512_S1024x512) (constant S512x512 .f32 0x00000000#32)) slices_S512x512_o0_128_S512x128) (extractStridedSlice S1x128 ![3, 0] (k0_pay9 (F := Ideal) (iblk m c 5 t)) slices_S8x128_o3_0_S1x128)) (k0_pay7 (F := Ideal) (iblk m c 3 t)) (k0_pay8 (F := Ideal) (iblk m c 4 t))) bitsLt_bf16_f32) ?_ _).trans ?_
    · rfl
    exact (NRT m c t r h d _ _ _ 1664 _ (by omega) _ (by dsimp only; all_goals omega)
      (fun l => by
      pointwise []
      exact Eq.trans (entry_lo m c t r (⟨1536 + (128 + l.val), by omega⟩ : Fin 3840) (by dsimp only; all_goals omega)) (congrArg (YY m c) (ix_congr (bat t) rfl (by dsimp only; all_goals omega))))
      (fun l => by
        pointwise [k0_pay9]
        exact (b5 m c t _ _).trans ((gtab_at (A3 m c) (A4 m c) (⟨3, by omega⟩ : Fin 6) l).trans (gsix_at (A3 m c) (A4 m c) _).2.2.2.1))
      (fun l => hF _ _ _ (by dsimp only; all_goals omega)))
  case piece10 =>
    obtain ⟨r, h, d, rfl⟩ := lane x
    have e0 : y 0 = r := Fin.ext h0
    have e1 : y 1 = (⟨1024 + (64 * (4 + h.val) + d.val), by omega⟩ : Fin 2688) := Fin.ext (h1.trans (by show 1280 + (64 * h.val + d.val) = 1024 + (64 * (4 + h.val) + d.val); omega))
    rw [e0, e1]
    refine Eq.trans ?_ (PDK (YY m c) (A3 m c) (A4 m c) (bat t) (pos t r) (⟨4 + h.val, by omega⟩ : Fin 8) d).symm
    refine (congrFun (g := truncf (F := Ideal) .bf16 (RT (NR (extractStridedSlice S512x128 ![0, 0] (matmul (φ₂ := .bf16) dot_S512x1024_S1024x512_S512x512_1_0_0_1_n_n none (k0_pay2 (F := Ideal) (iblk m c 0 t) (iblk m c 1 t)) (shapeCast S1024x512 (View.ld (iblk m c 2 t) (Rect.unit ![0, 1536] ![1024, 512] inb_S1024x3840_S1024x512_0_1536)) shapeCasts_S1024x512_S1024x512) (constant S512x512 .f32 0x00000000#32)) slices_S512x512_o0_0_S512x128) (extractStridedSlice S1x128 ![3, 0] (k0_pay9 (F := Ideal) (iblk m c 5 t)) slices_S8x128_o3_0_S1x128)) (k0_pay7 (F := Ideal) (iblk m c 3 t)) (k0_pay8 (F := Ideal) (iblk m c 4 t))) bitsLt_bf16_f32) ?_ _).trans ?_
    · rfl
    exact (NRT m c t r h d _ _ _ 1536 _ (by omega) _ (by dsimp only; all_goals omega)
      (fun l => by
      pointwise []
      exact Eq.trans (entry_lo m c t r (⟨1536 + l.val, by omega⟩ : Fin 3840) (by dsimp only; all_goals omega)) (congrArg (YY m c) (ix_congr (bat t) rfl (by dsimp only; all_goals omega))))
      (fun l => by
        pointwise [k0_pay9]
        exact (b5 m c t _ _).trans ((gtab_at (A3 m c) (A4 m c) (⟨3, by omega⟩ : Fin 6) l).trans (gsix_at (A3 m c) (A4 m c) _).2.2.2.1))
      (fun l => hF _ _ _ (by dsimp only; all_goals omega)))
  case piece11 =>
    obtain ⟨r, h, d, rfl⟩ := lane x
    have e0 : y 0 = r := Fin.ext h0
    have e1 : y 1 = (⟨1024 + (64 * (2 + h.val) + d.val), by omega⟩ : Fin 2688) := Fin.ext (h1.trans (by show 1152 + (64 * h.val + d.val) = 1024 + (64 * (2 + h.val) + d.val); omega))
    rw [e0, e1]
    refine Eq.trans ?_ (PDK (YY m c) (A3 m c) (A4 m c) (bat t) (pos t r) (⟨2 + h.val, by omega⟩ : Fin 8) d).symm
    refine (congrFun (g := truncf (F := Ideal) .bf16 (RT (NR (extractStridedSlice S512x128 ![0, 384] (matmul (φ₂ := .bf16) dot_S512x1024_S1024x512_S512x512_1_0_0_1_n_n none (k0_pay2 (F := Ideal) (iblk m c 0 t) (iblk m c 1 t)) (shapeCast S1024x512 (View.ld (iblk m c 2 t) (Rect.unit ![0, 1024] ![1024, 512] inb_S1024x3840_S1024x512_0_1024)) shapeCasts_S1024x512_S1024x512) (constant S512x512 .f32 0x00000000#32)) slices_S512x512_o0_384_S512x128) (extractStridedSlice S1x128 ![3, 0] (k0_pay9 (F := Ideal) (iblk m c 5 t)) slices_S8x128_o3_0_S1x128)) (k0_pay7 (F := Ideal) (iblk m c 3 t)) (k0_pay8 (F := Ideal) (iblk m c 4 t))) bitsLt_bf16_f32) ?_ _).trans ?_
    · rfl
    exact (NRT m c t r h d _ _ _ 1408 _ (by omega) _ (by dsimp only; all_goals omega)
      (fun l => by
      pointwise []
      exact Eq.trans (entry_lo m c t r (⟨1024 + (384 + l.val), by omega⟩ : Fin 3840) (by dsimp only; all_goals omega)) (congrArg (YY m c) (ix_congr (bat t) rfl (by dsimp only; all_goals omega))))
      (fun l => by
        pointwise [k0_pay9]
        exact (b5 m c t _ _).trans ((gtab_at (A3 m c) (A4 m c) (⟨3, by omega⟩ : Fin 6) l).trans (gsix_at (A3 m c) (A4 m c) _).2.2.2.1))
      (fun l => hF _ _ _ (by dsimp only; all_goals omega)))
  case piece12 =>
    obtain ⟨r, h, d, rfl⟩ := lane x
    have e0 : y 0 = r := Fin.ext h0
    have e1 : y 1 = (⟨1024 + (64 * (0 + h.val) + d.val), by omega⟩ : Fin 2688) := Fin.ext (h1.trans (by show 1024 + (64 * h.val + d.val) = 1024 + (64 * (0 + h.val) + d.val); omega))
    rw [e0, e1]
    refine Eq.trans ?_ (PDK (YY m c) (A3 m c) (A4 m c) (bat t) (pos t r) (⟨0 + h.val, by omega⟩ : Fin 8) d).symm
    refine (congrFun (g := truncf (F := Ideal) .bf16 (RT (NR (extractStridedSlice S512x128 ![0, 256] (matmul (φ₂ := .bf16) dot_S512x1024_S1024x512_S512x512_1_0_0_1_n_n none (k0_pay2 (F := Ideal) (iblk m c 0 t) (iblk m c 1 t)) (shapeCast S1024x512 (View.ld (iblk m c 2 t) (Rect.unit ![0, 1024] ![1024, 512] inb_S1024x3840_S1024x512_0_1024)) shapeCasts_S1024x512_S1024x512) (constant S512x512 .f32 0x00000000#32)) slices_S512x512_o0_256_S512x128) (extractStridedSlice S1x128 ![3, 0] (k0_pay9 (F := Ideal) (iblk m c 5 t)) slices_S8x128_o3_0_S1x128)) (k0_pay7 (F := Ideal) (iblk m c 3 t)) (k0_pay8 (F := Ideal) (iblk m c 4 t))) bitsLt_bf16_f32) ?_ _).trans ?_
    · rfl
    exact (NRT m c t r h d _ _ _ 1280 _ (by omega) _ (by dsimp only; all_goals omega)
      (fun l => by
      pointwise []
      exact Eq.trans (entry_lo m c t r (⟨1024 + (256 + l.val), by omega⟩ : Fin 3840) (by dsimp only; all_goals omega)) (congrArg (YY m c) (ix_congr (bat t) rfl (by dsimp only; all_goals omega))))
      (fun l => by
        pointwise [k0_pay9]
        exact (b5 m c t _ _).trans ((gtab_at (A3 m c) (A4 m c) (⟨3, by omega⟩ : Fin 6) l).trans (gsix_at (A3 m c) (A4 m c) _).2.2.2.1))
      (fun l => hF _ _ _ (by dsimp only; all_goals omega)))
  case piece13 =>
    obtain ⟨r, h, d, rfl⟩ := lane x
    have e0 : y 0 = r := Fin.ext h0
    have e1 : y 1 = (⟨512 + (64 * (6 + h.val) + d.val), by omega⟩ : Fin 2688) := Fin.ext (h1.trans (by show 896 + (64 * h.val + d.val) = 512 + (64 * (6 + h.val) + d.val); omega))
    rw [e0, e1]
    refine Eq.trans ?_ (PDQ (YY m c) (A3 m c) (A4 m c) (bat t) (pos t r) (⟨6 + h.val, by omega⟩ : Fin 8) d).symm
    refine (congrFun (g := truncf (F := Ideal) .bf16 (mulf (RT (NR (extractStridedSlice S512x128 ![0, 128] (matmul (φ₂ := .bf16) dot_S512x1024_S1024x512_S512x512_1_0_0_1_n_n none (k0_pay2 (F := Ideal) (iblk m c 0 t) (iblk m c 1 t)) (shapeCast S1024x512 (View.ld (iblk m c 2 t) (Rect.unit ![0, 1024] ![1024, 512] inb_S1024x3840_S1024x512_0_1024)) shapeCasts_S1024x512_S1024x512) (constant S512x512 .f32 0x00000000#32)) slices_S512x512_o0_128_S512x128) (extractStridedSlice S1x128 ![2, 0] (k0_pay9 (F := Ideal) (iblk m c 5 t)) slices_S8x128_o2_0_S1x128)) (k0_pay7 (F := Ideal) (iblk m c 3 t)) (k0_pay8 (F := Ideal) (iblk m c 4 t))) (broadcast S512x128 (Named.named (F := Ideal) κ "q_scale" (φ := .f32) 0x3E38AA3B#32))) bitsLt_bf16_f32) ?_ _).trans ?_
    · rfl
    exact Eq.trans (congrArg (fun z : EReal => z * (Named.named (F := Ideal) κ "q_scale" (φ := .f32) 0x3E38AA3B#32)) (NRT m c t r h d _ _ _ 1152 _ (by omega) _ (by dsimp only; all_goals omega)
      (fun l => by
      pointwise []
      exact Eq.trans (entry_lo m c t r (⟨1024 + (128 + l.val), by omega⟩ : Fin 3840) (by dsimp only; all_goals omega)) (congrArg (YY m c) (ix_congr (bat t) rfl (by dsimp only; all_goals omega))))
      (fun l => by
        pointwise [k0_pay9]
        exact (b5 m c t _ _).trans ((gtab_at (A3 m c) (A4 m c) (⟨2, by omega⟩ : Fin 6) l).trans (gsix_at (A3 m c) (A4 m c) _).2.2.1))
      (fun l => hF _ _ _ (by dsimp only; all_goals omega)))) (qs_named _)
  case piece14 =>
    obtain ⟨r, h, d, rfl⟩ := lane x
    have e0 : y 0 = r := Fin.ext h0
    have e1 : y 1 = (⟨512 + (64 * (4 + h.val) + d.val), by omega⟩ : Fin 2688) := Fin.ext (h1.trans (by show 768 + (64 * h.val + d.val) = 512 + (64 * (4 + h.val) + d.val); omega))
    rw [e0, e1]
    refine Eq.trans ?_ (PDQ (YY m c) (A3 m c) (A4 m c) (bat t) (pos t r) (⟨4 + h.val, by omega⟩ : Fin 8) d).symm
    refine (congrFun (g := truncf (F := Ideal) .bf16 (mulf (RT (NR (extractStridedSlice S512x128 ![0, 0] (matmul (φ₂ := .bf16) dot_S512x1024_S1024x512_S512x512_1_0_0_1_n_n none (k0_pay2 (F := Ideal) (iblk m c 0 t) (iblk m c 1 t)) (shapeCast S1024x512 (View.ld (iblk m c 2 t) (Rect.unit ![0, 1024] ![1024, 512] inb_S1024x3840_S1024x512_0_1024)) shapeCasts_S1024x512_S1024x512) (constant S512x512 .f32 0x00000000#32)) slices_S512x512_o0_0_S512x128) (extractStridedSlice S1x128 ![2, 0] (k0_pay9 (F := Ideal) (iblk m c 5 t)) slices_S8x128_o2_0_S1x128)) (k0_pay7 (F := Ideal) (iblk m c 3 t)) (k0_pay8 (F := Ideal) (iblk m c 4 t))) (broadcast S512x128 (Named.named (F := Ideal) κ "q_scale" (φ := .f32) 0x3E38AA3B#32))) bitsLt_bf16_f32) ?_ _).trans ?_
    · rfl
    exact Eq.trans (congrArg (fun z : EReal => z * (Named.named (F := Ideal) κ "q_scale" (φ := .f32) 0x3E38AA3B#32)) (NRT m c t r h d _ _ _ 1024 _ (by omega) _ (by dsimp only; all_goals omega)
      (fun l => by
      pointwise []
      exact Eq.trans (entry_lo m c t r (⟨1024 + l.val, by omega⟩ : Fin 3840) (by dsimp only; all_goals omega)) (congrArg (YY m c) (ix_congr (bat t) rfl (by dsimp only; all_goals omega))))
      (fun l => by
        pointwise [k0_pay9]
        exact (b5 m c t _ _).trans ((gtab_at (A3 m c) (A4 m c) (⟨2, by omega⟩ : Fin 6) l).trans (gsix_at (A3 m c) (A4 m c) _).2.2.1))
      (fun l => hF _ _ _ (by dsimp only; all_goals omega)))) (qs_named _)
  case piece15 =>
    obtain ⟨r, h, d, rfl⟩ := lane x
    have e0 : y 0 = r := Fin.ext h0
    have e1 : y 1 = (⟨512 + (64 * (2 + h.val) + d.val), by omega⟩ : Fin 2688) := Fin.ext (h1.trans (by show 640 + (64 * h.val + d.val) = 512 + (64 * (2 + h.val) + d.val); omega))
    rw [e0, e1]
    refine Eq.trans ?_ (PDQ (YY m c) (A3 m c) (A4 m c) (bat t) (pos t r) (⟨2 + h.val, by omega⟩ : Fin 8) d).symm
    refine (congrFun (g := truncf (F := Ideal) .bf16 (mulf (RT (NR (extractStridedSlice S512x128 ![0, 384] (matmul (φ₂ := .bf16) dot_S512x1024_S1024x512_S512x512_1_0_0_1_n_n none (k0_pay2 (F := Ideal) (iblk m c 0 t) (iblk m c 1 t)) (shapeCast S1024x512 (View.ld (iblk m c 2 t) (Rect.unit ![0, 512] ![1024, 512] inb_S1024x3840_S1024x512_0_512)) shapeCasts_S1024x512_S1024x512) (constant S512x512 .f32 0x00000000#32)) slices_S512x512_o0_384_S512x128) (extractStridedSlice S1x128 ![2, 0] (k0_pay9 (F := Ideal) (iblk m c 5 t)) slices_S8x128_o2_0_S1x128)) (k0_pay7 (F := Ideal) (iblk m c 3 t)) (k0_pay8 (F := Ideal) (iblk m c 4 t))) (broadcast S512x128 (Named.named (F := Ideal) κ "q_scale" (φ := .f32) 0x3E38AA3B#32))) bitsLt_bf16_f32) ?_ _).trans ?_
    · rfl
    exact Eq.trans (congrArg (fun z : EReal => z * (Named.named (F := Ideal) κ "q_scale" (φ := .f32) 0x3E38AA3B#32)) (NRT m c t r h d _ _ _ 896 _ (by omega) _ (by dsimp only; all_goals omega)
      (fun l => by
      pointwise []
      exact Eq.trans (entry_lo m c t r (⟨512 + (384 + l.val), by omega⟩ : Fin 3840) (by dsimp only; all_goals omega)) (congrArg (YY m c) (ix_congr (bat t) rfl (by dsimp only; all_goals omega))))
      (fun l => by
        pointwise [k0_pay9]
        exact (b5 m c t _ _).trans ((gtab_at (A3 m c) (A4 m c) (⟨2, by omega⟩ : Fin 6) l).trans (gsix_at (A3 m c) (A4 m c) _).2.2.1))
      (fun l => hF _ _ _ (by dsimp only; all_goals omega)))) (qs_named _)
  case piece16 =>
    obtain ⟨r, h, d, rfl⟩ := lane x
    have e0 : y 0 = r := Fin.ext h0
    have e1 : y 1 = (⟨512 + (64 * (0 + h.val) + d.val), by omega⟩ : Fin 2688) := Fin.ext (h1.trans (by show 512 + (64 * h.val + d.val) = 512 + (64 * (0 + h.val) + d.val); omega))
    rw [e0, e1]
    refine Eq.trans ?_ (PDQ (YY m c) (A3 m c) (A4 m c) (bat t) (pos t r) (⟨0 + h.val, by omega⟩ : Fin 8) d).symm
    refine (congrFun (g := truncf (F := Ideal) .bf16 (mulf (RT (NR (extractStridedSlice S512x128 ![0, 256] (matmul (φ₂ := .bf16) dot_S512x1024_S1024x512_S512x512_1_0_0_1_n_n none (k0_pay2 (F := Ideal) (iblk m c 0 t) (iblk m c 1 t)) (shapeCast S1024x512 (View.ld (iblk m c 2 t) (Rect.unit ![0, 512] ![1024, 512] inb_S1024x3840_S1024x512_0_512)) shapeCasts_S1024x512_S1024x512) (constant S512x512 .f32 0x00000000#32)) slices_S512x512_o0_256_S512x128) (extractStridedSlice S1x128 ![2, 0] (k0_pay9 (F := Ideal) (iblk m c 5 t)) slices_S8x128_o2_0_S1x128)) (k0_pay7 (F := Ideal) (iblk m c 3 t)) (k0_pay8 (F := Ideal) (iblk m c 4 t))) (broadcast S512x128 (Named.named (F := Ideal) κ "q_scale" (φ := .f32) 0x3E38AA3B#32))) bitsLt_bf16_f32) ?_ _).trans ?_
    · rfl
    exact Eq.trans (congrArg (fun z : EReal => z * (Named.named (F := Ideal) κ "q_scale" (φ := .f32) 0x3E38AA3B#32)) (NRT m c t r h d _ _ _ 768 _ (by omega) _ (by dsimp only; all_goals omega)
      (fun l => by
      pointwise []
      exact Eq.trans (entry_lo m c t r (⟨512 + (256 + l.val), by omega⟩ : Fin 3840) (by dsimp only; all_goals omega)) (congrArg (YY m c) (ix_congr (bat t) rfl (by dsimp only; all_goals omega))))
      (fun l => by
        pointwise [k0_pay9]
        exact (b5 m c t _ _).trans ((gtab_at (A3 m c) (A4 m c) (⟨2, by omega⟩ : Fin 6) l).trans (gsix_at (A3 m c) (A4 m c) _).2.2.1))
      (fun l => hF _ _ _ (by dsimp only; all_goals omega)))) (qs_named _)
  case piece17 =>
    obtain ⟨r, h, d, rfl⟩ := lane x
    have e0 : y 0 = r := Fin.ext h0
    have e1 : y 1 = (⟨256 + (64 * (2 + h.val) + d.val), by omega⟩ : Fin 2688) := Fin.ext (h1.trans (by show 384 + (64 * h.val + d.val) = 256 + (64 * (2 + h.val) + d.val); omega))
    rw [e0, e1]
    refine Eq.trans ?_ (PMK (YY m c) (A3 m c) (A4 m c) (bat t) (pos t r) (⟨2 + h.val, by omega⟩ : Fin 4) d).symm
    refine (congrFun (g := truncf (F := Ideal) .bf16 (RT (NR (extractStridedSlice S512x128 ![0, 384] (matmul (φ₂ := .bf16) dot_S512x1024_S1024x512_S512x512_1_0_0_1_n_n none (k0_pay2 (F := Ideal) (iblk m c 0 t) (iblk m c 1 t)) (shapeCast S1024x512 (View.ld (iblk m c 2 t) (Rect.unit ![0, 0] ![1024, 512] inb_S1024x3840_S1024x512_0_0)) shapeCasts_S1024x512_S1024x512) (constant S512x512 .f32 0x00000000#32)) slices_S512x512_o0_384_S512x128) (extractStridedSlice S1x128 ![1, 0] (k0_pay9 (F := Ideal) (iblk m c 5 t)) slices_S8x128_o1_0_S1x128)) (k0_pay7 (F := Ideal) (iblk m c 3 t)) (k0_pay8 (F := Ideal) (iblk m c 4 t))) bitsLt_bf16_f32) ?_ _).trans ?_
    · rfl
    exact (NRT m c t r h d _ _ _ 384 _ (by omega) _ (by dsimp only; all_goals omega)
      (fun l => by
      pointwise []
      exact Eq.trans (entry_lo m c t r (⟨384 + l.val, by omega⟩ : Fin 3840) (by dsimp only; all_goals omega)) (congrArg (YY m c) (ix_congr (bat t) rfl (by dsimp only; all_goals omega))))
      (fun l => by
        pointwise [k0_pay9]
        exact (b5 m c t _ _).trans ((gtab_at (A3 m c) (A4 m c) (⟨1, by omega⟩ : Fin 6) l).trans (gsix_at (A3 m c) (A4 m c) _).2.1))
      (fun l => hF _ _ _ (by dsimp only; all_goals omega)))
  case piece18 =>
    obtain ⟨r, h, d, rfl⟩ := lane x
    have e0 : y 0 = r := Fin.ext h0
    have e1 : y 1 = (⟨256 + (64 * (0 + h.val) + d.val), by omega⟩ : Fin 2688) := Fin.ext (h1.trans (by show 256 + (64 * h.val + d.val) = 256 + (64 * (0 + h.val) + d.val); omega))
    rw [e0, e1]
    refine Eq.trans ?_ (PMK (YY m c) (A3 m c) (A4 m c) (bat t) (pos t r) (⟨0 + h.val, by omega⟩ : Fin 4) d).symm
    refine (congrFun (g := truncf (F := Ideal) .bf16 (RT (NR (extractStridedSlice S512x128 ![0, 256] (matmul (φ₂ := .bf16) dot_S512x1024_S1024x512_S512x512_1_0_0_1_n_n none (k0_pay2 (F := Ideal) (iblk m c 0 t) (iblk m c 1 t)) (shapeCast S1024x512 (View.ld (iblk m c 2 t) (Rect.unit ![0, 0] ![1024, 512] inb_S1024x3840_S1024x512_0_0)) shapeCasts_S1024x512_S1024x512) (constant S512x512 .f32 0x00000000#32)) slices_S512x512_o0_256_S512x128) (extractStridedSlice S1x128 ![1, 0] (k0_pay9 (F := Ideal) (iblk m c 5 t)) slices_S8x128_o1_0_S1x128)) (k0_pay7 (F := Ideal) (iblk m c 3 t)) (k0_pay8 (F := Ideal) (iblk m c 4 t))) bitsLt_bf16_f32) ?_ _).trans ?_
    · rfl
    exact (NRT m c t r h d _ _ _ 256 _ (by omega) _ (by dsimp only; all_goals omega)
      (fun l => by
      pointwise []
      exact Eq.trans (entry_lo m c t r (⟨256 + l.val, by omega⟩ : Fin 3840) (by dsimp only; all_goals omega)) (congrArg (YY m c) (ix_congr (bat t) rfl (by dsimp only; all_goals omega))))
      (fun l => by
        pointwise [k0_pay9]
        exact (b5 m c t _ _).trans ((gtab_at (A3 m c) (A4 m c) (⟨1, by omega⟩ : Fin 6) l).trans (gsix_at (A3 m c) (A4 m c) _).2.1))
      (fun l => hF _ _ _ (by dsimp only; all_goals omega)))
  case piece19 =>
    obtain ⟨r, h, d, rfl⟩ := lane x
    have e0 : y 0 = r := Fin.ext h0
    have e1 : y 1 = (⟨64 * (2 + h.val) + d.val, by omega⟩ : Fin 2688) := Fin.ext (h1.trans (by show 128 + (64 * h.val + d.val) = 64 * (2 + h.val) + d.val; omega))
    rw [e0, e1]
    refine Eq.trans ?_ (PMQ (YY m c) (A3 m c) (A4 m c) (bat t) (pos t r) (⟨2 + h.val, by omega⟩ : Fin 4) d).symm
    refine (congrFun (g := truncf (F := Ideal) .bf16 (mulf (RT (NR (extractStridedSlice S512x128 ![0, 128] (matmul (φ₂ := .bf16) dot_S512x1024_S1024x512_S512x512_1_0_0_1_n_n none (k0_pay2 (F := Ideal) (iblk m c 0 t) (iblk m c 1 t)) (shapeCast S1024x512 (View.ld (iblk m c 2 t) (Rect.unit ![0, 0] ![1024, 512] inb_S1024x3840_S1024x512_0_0)) shapeCasts_S1024x512_S1024x512) (constant S512x512 .f32 0x00000000#32)) slices_S512x512_o0_128_S512x128) (extractStridedSlice S1x128 ![0, 0] (k0_pay9 (F := Ideal) (iblk m c 5 t)) slices_S8x128_o0_0_S1x128)) (k0_pay7 (F := Ideal) (iblk m c 3 t)) (k0_pay8 (F := Ideal) (iblk m c 4 t))) (broadcast S512x128 (Named.named (F := Ideal) κ "q_scale" (φ := .f32) 0x3E38AA3B#32))) bitsLt_bf16_f32) ?_ _).trans ?_
    · rfl
    exact Eq.trans (congrArg (fun z : EReal => z * (Named.named (F := Ideal) κ "q_scale" (φ := .f32) 0x3E38AA3B#32)) (NRT m c t r h d _ _ _ 128 _ (by omega) _ (by dsimp only; all_goals omega)
      (fun l => by
      pointwise []
      exact Eq.trans (entry_lo m c t r (⟨128 + l.val, by omega⟩ : Fin 3840) (by dsimp only; all_goals omega)) (congrArg (YY m c) (ix_congr (bat t) rfl (by dsimp only; all_goals omega))))
      (fun l => by
        pointwise [k0_pay9]
        exact (b5 m c t _ _).trans ((gtab_at (A3 m c) (A4 m c) (⟨0, by omega⟩ : Fin 6) l).trans (gsix_at (A3 m c) (A4 m c) _).1))
      (fun l => hF _ _ _ (by dsimp only; all_goals omega)))) (qs_named _)
  case piece20 =>
    obtain ⟨r, h, d, rfl⟩ := lane x
    have e0 : y 0 = r := Fin.ext h0
    have e1 : y 1 = (⟨64 * (0 + h.val) + d.val, by omega⟩ : Fin 2688) := Fin.ext (h1.trans (by show (64 * h.val + d.val) = 64 * (0 + h.val) + d.val; omega))
    rw [e0, e1]
    refine Eq.trans ?_ (PMQ (YY m c) (A3 m c) (A4 m c) (bat t) (pos t r) (⟨0 + h.val, by omega⟩ : Fin 4) d).symm
    refine (congrFun (g := truncf (F := Ideal) .bf16 (mulf (RT (NR (extractStridedSlice S512x128 ![0, 0] (matmul (φ₂ := .bf16) dot_S512x1024_S1024x512_S512x512_1_0_0_1_n_n none (k0_pay2 (F := Ideal) (iblk m c 0 t) (iblk m c 1 t)) (shapeCast S1024x512 (View.ld (iblk m c 2 t) (Rect.unit ![0, 0] ![1024, 512] inb_S1024x3840_S1024x512_0_0)) shapeCasts_S1024x512_S1024x512) (constant S512x512 .f32 0x00000000#32)) slices_S512x512_o0_0_S512x128) (extractStridedSlice S1x128 ![0, 0] (k0_pay9 (F := Ideal) (iblk m c 5 t)) slices_S8x128_o0_0_S1x128)) (k0_pay7 (F := Ideal) (iblk m c 3 t)) (k0_pay8 (F := Ideal) (iblk m c 4 t))) (broadcast S512x128 (Named.named (F := Ideal) κ "q_scale" (φ := .f32) 0x3E38AA3B#32))) bitsLt_bf16_f32) ?_ _).trans ?_
    · rfl
    exact Eq.trans (congrArg (fun z : EReal => z * (Named.named (F := Ideal) κ "q_scale" (φ := .f32) 0x3E38AA3B#32)) (NRT m c t r h d _ _ _ 0 _ (by omega) _ (by dsimp only; all_goals omega)
      (fun l => by
      pointwise []
      exact Eq.trans (entry_lo m c t r (⟨l.val, by omega⟩ : Fin 3840) (by dsimp only; all_goals omega)) (congrArg (YY m c) (ix_congr (bat t) rfl (by dsimp only; all_goals omega))))
      (fun l => by
        pointwise [k0_pay9]
        exact (b5 m c t _ _).trans ((gtab_at (A3 m c) (A4 m c) (⟨0, by omega⟩ : Fin 6) l).trans (gsix_at (A3 m c) (A4 m c) _).1))
      (fun l => hF _ _ _ (by dsimp only; all_goals omega)))) (qs_named _)

end Cert.InpIdeal.Final
end
-- ==== Proof.Inp.OutV.lean ====
/- The values that the body stores. -/
module

public import proofs.«01_k».proof.Proof.Inp.Entry

@[expose] public section

set_option maxRecDepth 16384
set_option maxHeartbeats 1000000

noncomputable section

open Idealize.ShloMosaic Idealize.ShloMosaic.TcCoe Idealize.SL.Sem
open Idealize.ShloMosaic.Pipeline (Dat)

namespace Cert.InpIdeal.Final
open Cert.InpIdeal Cert.InpIdeal.Gen Cert.InpIdeal.Slab
open Cert.HeadRow (rot nrm)
open Cert.InpRefIdeal.Pure (CS SN GA0 GA1 GA2 HN HN_at PJ PJ_at PP VT VD WI hd qs PMQ PMK PDQ PDK PSQ PSK PIQ PIK7 PIK8 VT_at VD_at WI_at)

variable (m : (ℓ : Loc nD τ sig) → Buf (Elt Ideal) ℓ)

/-- The tile of keys that half `j` of a point's tile is. -/
def tile (t : Fin cfg0.N) (j : Fin 2) : Fin 16 := ⟨2 * (t.val % 8) + j.val, by omega⟩

/-- What the body stores as values of the two attentions are the reference's values. -/
theorem out_vt (c : Dev nD) (t : Fin cfg0.N) (y : S1x8x2x128x256.Idx) :
    out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) y
      = VT (YY m c) (ix5 (bat t) (y 1) (tile t (y 2)) (y 3) (y 4)) := by
  frame_out
  canon_tiles x h
  case piece0 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨7, by omega⟩ : Fin 8) := Fin.ext (h1.trans rfl)
    have e2 : y 2 = (⟨1, by omega⟩ : Fin 2) := Fin.ext (h2.trans rfl)
    have e3 : y 3 = (⟨64 + r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ (dif_neg (show ¬ 64 + r.val < 64 by omega)).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
  case piece1 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨7, by omega⟩ : Fin 8) := Fin.ext (h1.trans rfl)
    have e2 : y 2 = (⟨1, by omega⟩ : Fin 2) := Fin.ext (h2.trans rfl)
    have e3 : y 3 = (⟨r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ ((dif_pos (show r.val < 64 from r.isLt)).trans (dif_neg (show ¬ (7 : ℕ) < 4 by decide))).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
    exact Eq.trans (entry_lo m c t (⟨256 + k.val, by omega⟩ : Fin 512) (⟨2560 + (384 + (64 + r.val)), by omega⟩ : Fin 3840) (by dsimp only; all_goals omega)) (congrArg (YY m c) (ix_congr (bat t) (by dsimp only [pos, tile]; all_goals omega) (by dsimp only; all_goals omega)))
  case piece2 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨6, by omega⟩ : Fin 8) := Fin.ext (h1.trans rfl)
    have e2 : y 2 = (⟨1, by omega⟩ : Fin 2) := Fin.ext (h2.trans rfl)
    have e3 : y 3 = (⟨64 + r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ (dif_neg (show ¬ 64 + r.val < 64 by omega)).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
  case piece3 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨6, by omega⟩ : Fin 8) := Fin.ext (h1.trans rfl)
    have e2 : y 2 = (⟨1, by omega⟩ : Fin 2) := Fin.ext (h2.trans rfl)
    have e3 : y 3 = (⟨r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ ((dif_pos (show r.val < 64 from r.isLt)).trans (dif_neg (show ¬ (6 : ℕ) < 4 by decide))).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
    exact Eq.trans (entry_lo m c t (⟨256 + k.val, by omega⟩ : Fin 512) (⟨2560 + (384 + r.val), by omega⟩ : Fin 3840) (by dsimp only; all_goals omega)) (congrArg (YY m c) (ix_congr (bat t) (by dsimp only [pos, tile]; all_goals omega) (by dsimp only; all_goals omega)))
  case piece4 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨7, by omega⟩ : Fin 8) := Fin.ext (h1.trans rfl)
    have e2 : y 2 = (⟨0, by omega⟩ : Fin 2) := Fin.ext (h2.trans rfl)
    have e3 : y 3 = (⟨64 + r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ (dif_neg (show ¬ 64 + r.val < 64 by omega)).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
  case piece5 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨7, by omega⟩ : Fin 8) := Fin.ext (h1.trans rfl)
    have e2 : y 2 = (⟨0, by omega⟩ : Fin 2) := Fin.ext (h2.trans rfl)
    have e3 : y 3 = (⟨r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ ((dif_pos (show r.val < 64 from r.isLt)).trans (dif_neg (show ¬ (7 : ℕ) < 4 by decide))).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
    exact Eq.trans (entry_lo m c t (⟨k.val, by omega⟩ : Fin 512) (⟨2560 + (384 + (64 + r.val)), by omega⟩ : Fin 3840) (by dsimp only; all_goals omega)) (congrArg (YY m c) (ix_congr (bat t) (by dsimp only [pos, tile]; all_goals omega) (by dsimp only; all_goals omega)))
  case piece6 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨6, by omega⟩ : Fin 8) := Fin.ext (h1.trans rfl)
    have e2 : y 2 = (⟨0, by omega⟩ : Fin 2) := Fin.ext (h2.trans rfl)
    have e3 : y 3 = (⟨64 + r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ (dif_neg (show ¬ 64 + r.val < 64 by omega)).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
  case piece7 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨6, by omega⟩ : Fin 8) := Fin.ext (h1.trans rfl)
    have e2 : y 2 = (⟨0, by omega⟩ : Fin 2) := Fin.ext (h2.trans rfl)
    have e3 : y 3 = (⟨r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ ((dif_pos (show r.val < 64 from r.isLt)).trans (dif_neg (show ¬ (6 : ℕ) < 4 by decide))).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
    exact Eq.trans (entry_lo m c t (⟨k.val, by omega⟩ : Fin 512) (⟨2560 + (384 + r.val), by omega⟩ : Fin 3840) (by dsimp only; all_goals omega)) (congrArg (YY m c) (ix_congr (bat t) (by dsimp only [pos, tile]; all_goals omega) (by dsimp only; all_goals omega)))
  case piece8 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨5, by omega⟩ : Fin 8) := Fin.ext (h1.trans rfl)
    have e2 : y 2 = (⟨1, by omega⟩ : Fin 2) := Fin.ext (h2.trans rfl)
    have e3 : y 3 = (⟨64 + r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ (dif_neg (show ¬ 64 + r.val < 64 by omega)).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
  case piece9 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨5, by omega⟩ : Fin 8) := Fin.ext (h1.trans rfl)
    have e2 : y 2 = (⟨1, by omega⟩ : Fin 2) := Fin.ext (h2.trans rfl)
    have e3 : y 3 = (⟨r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ ((dif_pos (show r.val < 64 from r.isLt)).trans (dif_neg (show ¬ (5 : ℕ) < 4 by decide))).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
    exact Eq.trans (entry_lo m c t (⟨256 + k.val, by omega⟩ : Fin 512) (⟨2560 + (256 + (64 + r.val)), by omega⟩ : Fin 3840) (by dsimp only; all_goals omega)) (congrArg (YY m c) (ix_congr (bat t) (by dsimp only [pos, tile]; all_goals omega) (by dsimp only; all_goals omega)))
  case piece10 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨4, by omega⟩ : Fin 8) := Fin.ext (h1.trans rfl)
    have e2 : y 2 = (⟨1, by omega⟩ : Fin 2) := Fin.ext (h2.trans rfl)
    have e3 : y 3 = (⟨64 + r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ (dif_neg (show ¬ 64 + r.val < 64 by omega)).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
  case piece11 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨4, by omega⟩ : Fin 8) := Fin.ext (h1.trans rfl)
    have e2 : y 2 = (⟨1, by omega⟩ : Fin 2) := Fin.ext (h2.trans rfl)
    have e3 : y 3 = (⟨r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ ((dif_pos (show r.val < 64 from r.isLt)).trans (dif_neg (show ¬ (4 : ℕ) < 4 by decide))).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
    exact Eq.trans (entry_lo m c t (⟨256 + k.val, by omega⟩ : Fin 512) (⟨2560 + (256 + r.val), by omega⟩ : Fin 3840) (by dsimp only; all_goals omega)) (congrArg (YY m c) (ix_congr (bat t) (by dsimp only [pos, tile]; all_goals omega) (by dsimp only; all_goals omega)))
  case piece12 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨5, by omega⟩ : Fin 8) := Fin.ext (h1.trans rfl)
    have e2 : y 2 = (⟨0, by omega⟩ : Fin 2) := Fin.ext (h2.trans rfl)
    have e3 : y 3 = (⟨64 + r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ (dif_neg (show ¬ 64 + r.val < 64 by omega)).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
  case piece13 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨5, by omega⟩ : Fin 8) := Fin.ext (h1.trans rfl)
    have e2 : y 2 = (⟨0, by omega⟩ : Fin 2) := Fin.ext (h2.trans rfl)
    have e3 : y 3 = (⟨r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ ((dif_pos (show r.val < 64 from r.isLt)).trans (dif_neg (show ¬ (5 : ℕ) < 4 by decide))).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
    exact Eq.trans (entry_lo m c t (⟨k.val, by omega⟩ : Fin 512) (⟨2560 + (256 + (64 + r.val)), by omega⟩ : Fin 3840) (by dsimp only; all_goals omega)) (congrArg (YY m c) (ix_congr (bat t) (by dsimp only [pos, tile]; all_goals omega) (by dsimp only; all_goals omega)))
  case piece14 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨4, by omega⟩ : Fin 8) := Fin.ext (h1.trans rfl)
    have e2 : y 2 = (⟨0, by omega⟩ : Fin 2) := Fin.ext (h2.trans rfl)
    have e3 : y 3 = (⟨64 + r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ (dif_neg (show ¬ 64 + r.val < 64 by omega)).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
  case piece15 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨4, by omega⟩ : Fin 8) := Fin.ext (h1.trans rfl)
    have e2 : y 2 = (⟨0, by omega⟩ : Fin 2) := Fin.ext (h2.trans rfl)
    have e3 : y 3 = (⟨r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ ((dif_pos (show r.val < 64 from r.isLt)).trans (dif_neg (show ¬ (4 : ℕ) < 4 by decide))).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
    exact Eq.trans (entry_lo m c t (⟨k.val, by omega⟩ : Fin 512) (⟨2560 + (256 + r.val), by omega⟩ : Fin 3840) (by dsimp only; all_goals omega)) (congrArg (YY m c) (ix_congr (bat t) (by dsimp only [pos, tile]; all_goals omega) (by dsimp only; all_goals omega)))
  case piece16 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨3, by omega⟩ : Fin 8) := Fin.ext (h1.trans rfl)
    have e2 : y 2 = (⟨1, by omega⟩ : Fin 2) := Fin.ext (h2.trans rfl)
    have e3 : y 3 = (⟨64 + r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ (dif_neg (show ¬ 64 + r.val < 64 by omega)).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
  case piece17 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨3, by omega⟩ : Fin 8) := Fin.ext (h1.trans rfl)
    have e2 : y 2 = (⟨1, by omega⟩ : Fin 2) := Fin.ext (h2.trans rfl)
    have e3 : y 3 = (⟨r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ ((dif_pos (show r.val < 64 from r.isLt)).trans (dif_pos (show (3 : ℕ) < 4 by decide))).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
    exact Eq.trans (entry_lo m c t (⟨256 + k.val, by omega⟩ : Fin 512) (⟨512 + (128 + (64 + r.val)), by omega⟩ : Fin 3840) (by dsimp only; all_goals omega)) (congrArg (YY m c) (ix_congr (bat t) (by dsimp only [pos, tile]; all_goals omega) (by dsimp only; all_goals omega)))
  case piece18 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨2, by omega⟩ : Fin 8) := Fin.ext (h1.trans rfl)
    have e2 : y 2 = (⟨1, by omega⟩ : Fin 2) := Fin.ext (h2.trans rfl)
    have e3 : y 3 = (⟨64 + r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ (dif_neg (show ¬ 64 + r.val < 64 by omega)).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
  case piece19 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨2, by omega⟩ : Fin 8) := Fin.ext (h1.trans rfl)
    have e2 : y 2 = (⟨1, by omega⟩ : Fin 2) := Fin.ext (h2.trans rfl)
    have e3 : y 3 = (⟨r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ ((dif_pos (show r.val < 64 from r.isLt)).trans (dif_pos (show (2 : ℕ) < 4 by decide))).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
    exact Eq.trans (entry_lo m c t (⟨256 + k.val, by omega⟩ : Fin 512) (⟨512 + (128 + r.val), by omega⟩ : Fin 3840) (by dsimp only; all_goals omega)) (congrArg (YY m c) (ix_congr (bat t) (by dsimp only [pos, tile]; all_goals omega) (by dsimp only; all_goals omega)))
  case piece20 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨3, by omega⟩ : Fin 8) := Fin.ext (h1.trans rfl)
    have e2 : y 2 = (⟨0, by omega⟩ : Fin 2) := Fin.ext (h2.trans rfl)
    have e3 : y 3 = (⟨64 + r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ (dif_neg (show ¬ 64 + r.val < 64 by omega)).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
  case piece21 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨3, by omega⟩ : Fin 8) := Fin.ext (h1.trans rfl)
    have e2 : y 2 = (⟨0, by omega⟩ : Fin 2) := Fin.ext (h2.trans rfl)
    have e3 : y 3 = (⟨r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ ((dif_pos (show r.val < 64 from r.isLt)).trans (dif_pos (show (3 : ℕ) < 4 by decide))).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
    exact Eq.trans (entry_lo m c t (⟨k.val, by omega⟩ : Fin 512) (⟨512 + (128 + (64 + r.val)), by omega⟩ : Fin 3840) (by dsimp only; all_goals omega)) (congrArg (YY m c) (ix_congr (bat t) (by dsimp only [pos, tile]; all_goals omega) (by dsimp only; all_goals omega)))
  case piece22 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨2, by omega⟩ : Fin 8) := Fin.ext (h1.trans rfl)
    have e2 : y 2 = (⟨0, by omega⟩ : Fin 2) := Fin.ext (h2.trans rfl)
    have e3 : y 3 = (⟨64 + r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ (dif_neg (show ¬ 64 + r.val < 64 by omega)).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
  case piece23 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨2, by omega⟩ : Fin 8) := Fin.ext (h1.trans rfl)
    have e2 : y 2 = (⟨0, by omega⟩ : Fin 2) := Fin.ext (h2.trans rfl)
    have e3 : y 3 = (⟨r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ ((dif_pos (show r.val < 64 from r.isLt)).trans (dif_pos (show (2 : ℕ) < 4 by decide))).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
    exact Eq.trans (entry_lo m c t (⟨k.val, by omega⟩ : Fin 512) (⟨512 + (128 + r.val), by omega⟩ : Fin 3840) (by dsimp only; all_goals omega)) (congrArg (YY m c) (ix_congr (bat t) (by dsimp only [pos, tile]; all_goals omega) (by dsimp only; all_goals omega)))
  case piece24 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨1, by omega⟩ : Fin 8) := Fin.ext (h1.trans rfl)
    have e2 : y 2 = (⟨1, by omega⟩ : Fin 2) := Fin.ext (h2.trans rfl)
    have e3 : y 3 = (⟨64 + r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ (dif_neg (show ¬ 64 + r.val < 64 by omega)).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
  case piece25 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨1, by omega⟩ : Fin 8) := Fin.ext (h1.trans rfl)
    have e2 : y 2 = (⟨1, by omega⟩ : Fin 2) := Fin.ext (h2.trans rfl)
    have e3 : y 3 = (⟨r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ ((dif_pos (show r.val < 64 from r.isLt)).trans (dif_pos (show (1 : ℕ) < 4 by decide))).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
    exact Eq.trans (entry_lo m c t (⟨256 + k.val, by omega⟩ : Fin 512) (⟨512 + (64 + r.val), by omega⟩ : Fin 3840) (by dsimp only; all_goals omega)) (congrArg (YY m c) (ix_congr (bat t) (by dsimp only [pos, tile]; all_goals omega) (by dsimp only; all_goals omega)))
  case piece26 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨0, by omega⟩ : Fin 8) := Fin.ext (h1.trans rfl)
    have e2 : y 2 = (⟨1, by omega⟩ : Fin 2) := Fin.ext (h2.trans rfl)
    have e3 : y 3 = (⟨64 + r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ (dif_neg (show ¬ 64 + r.val < 64 by omega)).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
  case piece27 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨0, by omega⟩ : Fin 8) := Fin.ext (h1.trans rfl)
    have e2 : y 2 = (⟨1, by omega⟩ : Fin 2) := Fin.ext (h2.trans rfl)
    have e3 : y 3 = (⟨r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ ((dif_pos (show r.val < 64 from r.isLt)).trans (dif_pos (show (0 : ℕ) < 4 by decide))).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
    exact Eq.trans (entry_lo m c t (⟨256 + k.val, by omega⟩ : Fin 512) (⟨512 + r.val, by omega⟩ : Fin 3840) (by dsimp only; all_goals omega)) (congrArg (YY m c) (ix_congr (bat t) (by dsimp only [pos, tile]; all_goals omega) (by dsimp only; all_goals omega)))
  case piece28 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨1, by omega⟩ : Fin 8) := Fin.ext (h1.trans rfl)
    have e2 : y 2 = (⟨0, by omega⟩ : Fin 2) := Fin.ext (h2.trans rfl)
    have e3 : y 3 = (⟨64 + r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ (dif_neg (show ¬ 64 + r.val < 64 by omega)).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
  case piece29 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨1, by omega⟩ : Fin 8) := Fin.ext (h1.trans rfl)
    have e2 : y 2 = (⟨0, by omega⟩ : Fin 2) := Fin.ext (h2.trans rfl)
    have e3 : y 3 = (⟨r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ ((dif_pos (show r.val < 64 from r.isLt)).trans (dif_pos (show (1 : ℕ) < 4 by decide))).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
    exact Eq.trans (entry_lo m c t (⟨k.val, by omega⟩ : Fin 512) (⟨512 + (64 + r.val), by omega⟩ : Fin 3840) (by dsimp only; all_goals omega)) (congrArg (YY m c) (ix_congr (bat t) (by dsimp only [pos, tile]; all_goals omega) (by dsimp only; all_goals omega)))
  case piece30 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨0, by omega⟩ : Fin 8) := Fin.ext (h1.trans rfl)
    have e2 : y 2 = (⟨0, by omega⟩ : Fin 2) := Fin.ext (h2.trans rfl)
    have e3 : y 3 = (⟨64 + r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ (dif_neg (show ¬ 64 + r.val < 64 by omega)).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
  case piece31 =>
    obtain ⟨z0, z1, z2, r, k, rfl⟩ : ∃ (z0 z1 z2 : Fin 1) (r : Fin 64) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨0, by omega⟩ : Fin 8) := Fin.ext (h1.trans rfl)
    have e2 : y 2 = (⟨0, by omega⟩ : Fin 2) := Fin.ext (h2.trans rfl)
    have e3 : y 3 = (⟨r.val, by omega⟩ : Fin 128) := Fin.ext (h3.trans rfl)
    have e4 : y 4 = k := Fin.ext (h4.trans rfl)
    rw [e1, e2, e3, e4]
    refine Eq.trans ?_ (VT_at (YY m c) (bat t) _ _ _ _).symm
    refine Eq.trans ?_ ((dif_pos (show r.val < 64 from r.isLt)).trans (dif_pos (show (0 : ℕ) < 4 by decide))).symm
    pointwise [k0_pay10, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
    exact Eq.trans (entry_lo m c t (⟨k.val, by omega⟩ : Fin 512) (⟨512 + r.val, by omega⟩ : Fin 3840) (by dsimp only; all_goals omega)) (congrArg (YY m c) (ix_congr (bat t) (by dsimp only [pos, tile]; all_goals omega) (by dsimp only; all_goals omega)))

/-- What the body stores as values of the difference attention are the reference's values. -/
theorem out_vd (c : Dev nD) (t : Fin cfg0.N) (y : S1x4x2x144x256.Idx) :
    out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) y
      = VD (YY m c) (ix5 (bat t) (y 1) (tile t (y 2)) (y 3) (y 4)) := by
  frame_out
  canon_tiles x h using View.cover_of_tiledBy _ ![1, 1, 1, 16, 256] (by sl_kernel_rfl) _
  case piece0 =>
    obtain ⟨z0, z1, z2, r, k, rfl⟩ : ∃ (z0 z1 z2 : Fin 1) (r : Fin 16) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨3, by omega⟩ : Fin 4) := Fin.ext (h1.trans rfl)
    have e2 : y 2 = (⟨1, by omega⟩ : Fin 2) := Fin.ext (h2.trans rfl)
    have e3 : y 3 = (⟨128 + r.val, by omega⟩ : Fin 144) := Fin.ext (h3.trans rfl)
    have e4 : y 4 = k := Fin.ext (h4.trans rfl)
    rw [e1, e2, e3, e4]
    refine Eq.trans ?_ (VD_at (YY m c) (bat t) _ _ _ _).symm
    refine Eq.trans ?_ (dif_neg (show ¬ 128 + r.val < 128 by omega)).symm
    pointwise [k0_pay10, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  case piece1 =>
    obtain ⟨z0, z1, z2, r, k, rfl⟩ : ∃ (z0 z1 z2 : Fin 1) (r : Fin 128) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨3, by omega⟩ : Fin 4) := Fin.ext (h1.trans rfl)
    have e2 : y 2 = (⟨1, by omega⟩ : Fin 2) := Fin.ext (h2.trans rfl)
    have e3 : y 3 = (⟨r.val, by omega⟩ : Fin 144) := Fin.ext (h3.trans rfl)
    have e4 : y 4 = k := Fin.ext (h4.trans rfl)
    rw [e1, e2, e3, e4]
    refine Eq.trans ?_ (VD_at (YY m c) (bat t) _ _ _ _).symm
    refine Eq.trans ?_ ((dif_pos (show r.val < 128 from r.isLt))).symm
    pointwise [k0_pay10, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
    exact Eq.trans (entry_lo m c t (⟨256 + k.val, by omega⟩ : Fin 512) (⟨2048 + (128 + r.val), by omega⟩ : Fin 3840) (by dsimp only; all_goals omega)) (congrArg (YY m c) (ix_congr (bat t) (by dsimp only [pos, tile]; all_goals omega) (by dsimp only; all_goals omega)))
  case piece2 =>
    obtain ⟨z0, z1, z2, r, k, rfl⟩ : ∃ (z0 z1 z2 : Fin 1) (r : Fin 16) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨3, by omega⟩ : Fin 4) := Fin.ext (h1.trans rfl)
    have e2 : y 2 = (⟨0, by omega⟩ : Fin 2) := Fin.ext (h2.trans rfl)
    have e3 : y 3 = (⟨128 + r.val, by omega⟩ : Fin 144) := Fin.ext (h3.trans rfl)
    have e4 : y 4 = k := Fin.ext (h4.trans rfl)
    rw [e1, e2, e3, e4]
    refine Eq.trans ?_ (VD_at (YY m c) (bat t) _ _ _ _).symm
    refine Eq.trans ?_ (dif_neg (show ¬ 128 + r.val < 128 by omega)).symm
    pointwise [k0_pay10, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  case piece3 =>
    obtain ⟨z0, z1, z2, r, k, rfl⟩ : ∃ (z0 z1 z2 : Fin 1) (r : Fin 128) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨3, by omega⟩ : Fin 4) := Fin.ext (h1.trans rfl)
    have e2 : y 2 = (⟨0, by omega⟩ : Fin 2) := Fin.ext (h2.trans rfl)
    have e3 : y 3 = (⟨r.val, by omega⟩ : Fin 144) := Fin.ext (h3.trans rfl)
    have e4 : y 4 = k := Fin.ext (h4.trans rfl)
    rw [e1, e2, e3, e4]
    refine Eq.trans ?_ (VD_at (YY m c) (bat t) _ _ _ _).symm
    refine Eq.trans ?_ ((dif_pos (show r.val < 128 from r.isLt))).symm
    pointwise [k0_pay10, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
    exact Eq.trans (entry_lo m c t (⟨k.val, by omega⟩ : Fin 512) (⟨2048 + (128 + r.val), by omega⟩ : Fin 3840) (by dsimp only; all_goals omega)) (congrArg (YY m c) (ix_congr (bat t) (by dsimp only [pos, tile]; all_goals omega) (by dsimp only; all_goals omega)))
  case piece4 =>
    obtain ⟨z0, z1, z2, r, k, rfl⟩ : ∃ (z0 z1 z2 : Fin 1) (r : Fin 16) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨2, by omega⟩ : Fin 4) := Fin.ext (h1.trans rfl)
    have e2 : y 2 = (⟨1, by omega⟩ : Fin 2) := Fin.ext (h2.trans rfl)
    have e3 : y 3 = (⟨128 + r.val, by omega⟩ : Fin 144) := Fin.ext (h3.trans rfl)
    have e4 : y 4 = k := Fin.ext (h4.trans rfl)
    rw [e1, e2, e3, e4]
    refine Eq.trans ?_ (VD_at (YY m c) (bat t) _ _ _ _).symm
    refine Eq.trans ?_ (dif_neg (show ¬ 128 + r.val < 128 by omega)).symm
    pointwise [k0_pay10, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  case piece5 =>
    obtain ⟨z0, z1, z2, r, k, rfl⟩ : ∃ (z0 z1 z2 : Fin 1) (r : Fin 128) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨2, by omega⟩ : Fin 4) := Fin.ext (h1.trans rfl)
    have e2 : y 2 = (⟨1, by omega⟩ : Fin 2) := Fin.ext (h2.trans rfl)
    have e3 : y 3 = (⟨r.val, by omega⟩ : Fin 144) := Fin.ext (h3.trans rfl)
    have e4 : y 4 = k := Fin.ext (h4.trans rfl)
    rw [e1, e2, e3, e4]
    refine Eq.trans ?_ (VD_at (YY m c) (bat t) _ _ _ _).symm
    refine Eq.trans ?_ ((dif_pos (show r.val < 128 from r.isLt))).symm
    pointwise [k0_pay10, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
    exact Eq.trans (entry_lo m c t (⟨256 + k.val, by omega⟩ : Fin 512) (⟨2048 + r.val, by omega⟩ : Fin 3840) (by dsimp only; all_goals omega)) (congrArg (YY m c) (ix_congr (bat t) (by dsimp only [pos, tile]; all_goals omega) (by dsimp only; all_goals omega)))
  case piece6 =>
    obtain ⟨z0, z1, z2, r, k, rfl⟩ : ∃ (z0 z1 z2 : Fin 1) (r : Fin 16) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨2, by omega⟩ : Fin 4) := Fin.ext (h1.trans rfl)
    have e2 : y 2 = (⟨0, by omega⟩ : Fin 2) := Fin.ext (h2.trans rfl)
    have e3 : y 3 = (⟨128 + r.val, by omega⟩ : Fin 144) := Fin.ext (h3.trans rfl)
    have e4 : y 4 = k := Fin.ext (h4.trans rfl)
    rw [e1, e2, e3, e4]
    refine Eq.trans ?_ (VD_at (YY m c) (bat t) _ _ _ _).symm
    refine Eq.trans ?_ (dif_neg (show ¬ 128 + r.val < 128 by omega)).symm
    pointwise [k0_pay10, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  case piece7 =>
    obtain ⟨z0, z1, z2, r, k, rfl⟩ : ∃ (z0 z1 z2 : Fin 1) (r : Fin 128) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨2, by omega⟩ : Fin 4) := Fin.ext (h1.trans rfl)
    have e2 : y 2 = (⟨0, by omega⟩ : Fin 2) := Fin.ext (h2.trans rfl)
    have e3 : y 3 = (⟨r.val, by omega⟩ : Fin 144) := Fin.ext (h3.trans rfl)
    have e4 : y 4 = k := Fin.ext (h4.trans rfl)
    rw [e1, e2, e3, e4]
    refine Eq.trans ?_ (VD_at (YY m c) (bat t) _ _ _ _).symm
    refine Eq.trans ?_ ((dif_pos (show r.val < 128 from r.isLt))).symm
    pointwise [k0_pay10, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
    exact Eq.trans (entry_lo m c t (⟨k.val, by omega⟩ : Fin 512) (⟨2048 + r.val, by omega⟩ : Fin 3840) (by dsimp only; all_goals omega)) (congrArg (YY m c) (ix_congr (bat t) (by dsimp only [pos, tile]; all_goals omega) (by dsimp only; all_goals omega)))
  case piece8 =>
    obtain ⟨z0, z1, z2, r, k, rfl⟩ : ∃ (z0 z1 z2 : Fin 1) (r : Fin 16) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨1, by omega⟩ : Fin 4) := Fin.ext (h1.trans rfl)
    have e2 : y 2 = (⟨1, by omega⟩ : Fin 2) := Fin.ext (h2.trans rfl)
    have e3 : y 3 = (⟨128 + r.val, by omega⟩ : Fin 144) := Fin.ext (h3.trans rfl)
    have e4 : y 4 = k := Fin.ext (h4.trans rfl)
    rw [e1, e2, e3, e4]
    refine Eq.trans ?_ (VD_at (YY m c) (bat t) _ _ _ _).symm
    refine Eq.trans ?_ (dif_neg (show ¬ 128 + r.val < 128 by omega)).symm
    pointwise [k0_pay10, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  case piece9 =>
    obtain ⟨z0, z1, z2, r, k, rfl⟩ : ∃ (z0 z1 z2 : Fin 1) (r : Fin 128) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨1, by omega⟩ : Fin 4) := Fin.ext (h1.trans rfl)
    have e2 : y 2 = (⟨1, by omega⟩ : Fin 2) := Fin.ext (h2.trans rfl)
    have e3 : y 3 = (⟨r.val, by omega⟩ : Fin 144) := Fin.ext (h3.trans rfl)
    have e4 : y 4 = k := Fin.ext (h4.trans rfl)
    rw [e1, e2, e3, e4]
    refine Eq.trans ?_ (VD_at (YY m c) (bat t) _ _ _ _).symm
    refine Eq.trans ?_ ((dif_pos (show r.val < 128 from r.isLt))).symm
    pointwise [k0_pay10, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
    exact Eq.trans (entry_lo m c t (⟨256 + k.val, by omega⟩ : Fin 512) (⟨1536 + (384 + r.val), by omega⟩ : Fin 3840) (by dsimp only; all_goals omega)) (congrArg (YY m c) (ix_congr (bat t) (by dsimp only [pos, tile]; all_goals omega) (by dsimp only; all_goals omega)))
  case piece10 =>
    obtain ⟨z0, z1, z2, r, k, rfl⟩ : ∃ (z0 z1 z2 : Fin 1) (r : Fin 16) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨1, by omega⟩ : Fin 4) := Fin.ext (h1.trans rfl)
    have e2 : y 2 = (⟨0, by omega⟩ : Fin 2) := Fin.ext (h2.trans rfl)
    have e3 : y 3 = (⟨128 + r.val, by omega⟩ : Fin 144) := Fin.ext (h3.trans rfl)
    have e4 : y 4 = k := Fin.ext (h4.trans rfl)
    rw [e1, e2, e3, e4]
    refine Eq.trans ?_ (VD_at (YY m c) (bat t) _ _ _ _).symm
    refine Eq.trans ?_ (dif_neg (show ¬ 128 + r.val < 128 by omega)).symm
    pointwise [k0_pay10, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  case piece11 =>
    obtain ⟨z0, z1, z2, r, k, rfl⟩ : ∃ (z0 z1 z2 : Fin 1) (r : Fin 128) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨1, by omega⟩ : Fin 4) := Fin.ext (h1.trans rfl)
    have e2 : y 2 = (⟨0, by omega⟩ : Fin 2) := Fin.ext (h2.trans rfl)
    have e3 : y 3 = (⟨r.val, by omega⟩ : Fin 144) := Fin.ext (h3.trans rfl)
    have e4 : y 4 = k := Fin.ext (h4.trans rfl)
    rw [e1, e2, e3, e4]
    refine Eq.trans ?_ (VD_at (YY m c) (bat t) _ _ _ _).symm
    refine Eq.trans ?_ ((dif_pos (show r.val < 128 from r.isLt))).symm
    pointwise [k0_pay10, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
    exact Eq.trans (entry_lo m c t (⟨k.val, by omega⟩ : Fin 512) (⟨1536 + (384 + r.val), by omega⟩ : Fin 3840) (by dsimp only; all_goals omega)) (congrArg (YY m c) (ix_congr (bat t) (by dsimp only [pos, tile]; all_goals omega) (by dsimp only; all_goals omega)))
  case piece12 =>
    obtain ⟨z0, z1, z2, r, k, rfl⟩ : ∃ (z0 z1 z2 : Fin 1) (r : Fin 16) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨0, by omega⟩ : Fin 4) := Fin.ext (h1.trans rfl)
    have e2 : y 2 = (⟨1, by omega⟩ : Fin 2) := Fin.ext (h2.trans rfl)
    have e3 : y 3 = (⟨128 + r.val, by omega⟩ : Fin 144) := Fin.ext (h3.trans rfl)
    have e4 : y 4 = k := Fin.ext (h4.trans rfl)
    rw [e1, e2, e3, e4]
    refine Eq.trans ?_ (VD_at (YY m c) (bat t) _ _ _ _).symm
    refine Eq.trans ?_ (dif_neg (show ¬ 128 + r.val < 128 by omega)).symm
    pointwise [k0_pay10, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  case piece13 =>
    obtain ⟨z0, z1, z2, r, k, rfl⟩ : ∃ (z0 z1 z2 : Fin 1) (r : Fin 128) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨0, by omega⟩ : Fin 4) := Fin.ext (h1.trans rfl)
    have e2 : y 2 = (⟨1, by omega⟩ : Fin 2) := Fin.ext (h2.trans rfl)
    have e3 : y 3 = (⟨r.val, by omega⟩ : Fin 144) := Fin.ext (h3.trans rfl)
    have e4 : y 4 = k := Fin.ext (h4.trans rfl)
    rw [e1, e2, e3, e4]
    refine Eq.trans ?_ (VD_at (YY m c) (bat t) _ _ _ _).symm
    refine Eq.trans ?_ ((dif_pos (show r.val < 128 from r.isLt))).symm
    pointwise [k0_pay10, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
    exact Eq.trans (entry_lo m c t (⟨256 + k.val, by omega⟩ : Fin 512) (⟨1536 + (256 + r.val), by omega⟩ : Fin 3840) (by dsimp only; all_goals omega)) (congrArg (YY m c) (ix_congr (bat t) (by dsimp only [pos, tile]; all_goals omega) (by dsimp only; all_goals omega)))
  case piece14 =>
    obtain ⟨z0, z1, z2, r, k, rfl⟩ : ∃ (z0 z1 z2 : Fin 1) (r : Fin 16) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨0, by omega⟩ : Fin 4) := Fin.ext (h1.trans rfl)
    have e2 : y 2 = (⟨0, by omega⟩ : Fin 2) := Fin.ext (h2.trans rfl)
    have e3 : y 3 = (⟨128 + r.val, by omega⟩ : Fin 144) := Fin.ext (h3.trans rfl)
    have e4 : y 4 = k := Fin.ext (h4.trans rfl)
    rw [e1, e2, e3, e4]
    refine Eq.trans ?_ (VD_at (YY m c) (bat t) _ _ _ _).symm
    refine Eq.trans ?_ (dif_neg (show ¬ 128 + r.val < 128 by omega)).symm
    pointwise [k0_pay10, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  case piece15 =>
    obtain ⟨z0, z1, z2, r, k, rfl⟩ : ∃ (z0 z1 z2 : Fin 1) (r : Fin 128) (k : Fin 256), x = ix5 z0 z1 z2 r k := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    have e1 : y 1 = (⟨0, by omega⟩ : Fin 4) := Fin.ext (h1.trans rfl)
    have e2 : y 2 = (⟨0, by omega⟩ : Fin 2) := Fin.ext (h2.trans rfl)
    have e3 : y 3 = (⟨r.val, by omega⟩ : Fin 144) := Fin.ext (h3.trans rfl)
    have e4 : y 4 = k := Fin.ext (h4.trans rfl)
    rw [e1, e2, e3, e4]
    refine Eq.trans ?_ (VD_at (YY m c) (bat t) _ _ _ _).symm
    refine Eq.trans ?_ ((dif_pos (show r.val < 128 from r.isLt))).symm
    pointwise [k0_pay10, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
    exact Eq.trans (entry_lo m c t (⟨k.val, by omega⟩ : Fin 512) (⟨1536 + (256 + r.val), by omega⟩ : Fin 3840) (by dsimp only; all_goals omega)) (congrArg (YY m c) (ix_congr (bat t) (by dsimp only [pos, tile]; all_goals omega) (by dsimp only; all_goals omega)))

/-- What the body stores as the index's weights are the reference's weights. -/
theorem out_iw (c : Dev nD) (t : Fin cfg0.N) (r : Fin 512) (d : Fin 128) :
    out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (ix2 r d)
      = WI (YY m c) (ix2 (row t r) d) := by
  frame_out
  refine Eq.trans ?_ (WI_at (YY m c) (bat t) (pos t r) d).symm
  pointwise [k0_pay1, k0_pay136]
  by_cases hd : d.val < 8
  · refine Eq.trans ?_ (dif_pos hd).symm
    have E := entry_hi m c t r (⟨3584 + (128 + d.val), by omega⟩ : Fin 3840) (by dsimp only; all_goals omega) (by dsimp only; all_goals omega)
    exact (congrArg (fun z : EReal => z * Ideal.ofBits .f32 0x3EB504F3#32) E).trans
      (congrArg (fun i => YY m c i * Ideal.ofBits .f32 0x3EB504F3#32) (ix_congr (bat t) rfl (by dsimp only; all_goals omega)))
  · refine Eq.trans ?_ (dif_neg hd).symm
    have E := entry_zero m c t r (⟨3584 + (128 + d.val), by omega⟩ : Fin 3840) (by dsimp only; all_goals omega)
    exact (congrArg (fun z : EReal => z * Ideal.ofBits .f32 0x3EB504F3#32) E).trans (zero_mul _)

end Cert.InpIdeal.Final
end
-- ==== Proof.Inp.Final.lean ====
/- The arrays after the run are the reference's results. -/
module

public import proofs.«01_k».proof.Proof.Inp.OutP
public import proofs.«01_k».proof.Proof.Inp.OutV

@[expose] public section

set_option maxRecDepth 16384
set_option maxHeartbeats 1000000

noncomputable section

open Idealize.ShloMosaic Idealize.ShloMosaic.TcCoe Idealize.SL.Sem
open Idealize.ShloMosaic.Pipeline (Dat)

namespace Cert.InpIdeal.Final
open Cert.InpIdeal Cert.InpIdeal.Gen Cert.InpIdeal.Slab
open Cert.HeadRow (rot nrm)
open Cert.InpRefIdeal.Pure (CS SN GA0 GA1 GA2 HN HN_at PJ PJ_at PP VT VD WI hd qs PMQ PMK PDQ PDK PSQ PSK PIQ PIK7 PIK8 VT_at VD_at WI_at)

variable (m : (ℓ : Loc nD τ sig) → Buf (Elt Ideal) ℓ)

/-- The queries and the keys after the run. -/
theorem final_p (c : Dev nD)
    (hF : ∀ (b : Fin 8) (q : Fin 4096) (n : Fin 3656), (n.val < 512 ∨ (768 ≤ n.val ∧ n.val < 1792) ∨ (2304 ≤ n.val ∧ n.val < 2816)) → ∃ v : ℝ, YY m c (ix3 b q n) = (v : EReal)) :
    (dats m 0 c).arrAt 6 cfg0.N = PP (YY m c) (A3 m c) (A4 m c) := by
  refine (dats m 0 c).arrAt_eq_of_covers 6 _ (by decide +kernel) fun t _ y => ?_
  blk_simp
  rw [after0_6]
  refine (out_p m c hF t y).trans (congrArg (PP (YY m c) (A3 m c) (A4 m c)) ?_)
  blk_ext [idx t]
  all_goals exact row_val t _

/-- The values of the two attentions after the run. -/
theorem final_vt (c : Dev nD) : (dats m 0 c).arrAt 7 cfg0.N = VT (YY m c) := by
  refine (dats m 0 c).arrAt_eq_of_covers 7 _ (by decide +kernel) fun t _ y => ?_
  blk_simp
  rw [after0_7]
  refine (out_vt m c t y).trans (congrArg (VT (YY m c)) ?_)
  blk_ext [idx t, bat, tile]

/-- The values of the difference attention after the run. -/
theorem final_vd (c : Dev nD) : (dats m 0 c).arrAt 8 cfg0.N = VD (YY m c) := by
  refine (dats m 0 c).arrAt_eq_of_covers 8 _ (by decide +kernel) fun t _ y => ?_
  blk_simp
  rw [after0_8]
  refine (out_vd m c t y).trans (congrArg (VD (YY m c)) ?_)
  blk_ext [idx t, bat, tile]

/-- The index's weights after the run. -/
theorem final_iw (c : Dev nD) : (dats m 0 c).arrAt 9 cfg0.N = WI (YY m c) := by
  refine (dats m 0 c).arrAt_eq_of_covers 9 _ (by decide +kernel) fun t _ y => ?_
  blk_simp
  rw [after0_9]
  obtain ⟨r, d, rfl⟩ : ∃ (r : Fin 512) (d : Fin 128), y = ix2 r d := ⟨y 0, y 1, eq_ix2 y⟩
  refine (out_iw m c t r d).trans (congrArg (WI (YY m c)) ?_)
  blk_ext [idx t]
  all_goals exact row_val t _

end Cert.InpIdeal.Final
end
-- ==== Proof.Inp.Claims.lean ====
/- The claims about the input projection. -/
module

public import proofs.«01_k».proof.Defs
public import proofs.«01_k».proof.Proof.Gen.Inp.Frame
public import proofs.«01_k».proof.Proof.Gen.InpIdeal.Value
public import proofs.«01_k».proof.Proof.Gen.InpRefIdeal.Run
public import proofs.«01_k».proof.Proof.DiffIdeal.Claims
public import proofs.«01_k».proof.Proof.Inp.Results
public import proofs.«01_k».proof.Proof.Inp.Finite
public import proofs.«01_k».proof.Proof.Inp.Final
public import Idealize.ShloMosaic.Lib.Claim

@[expose] public section

set_option maxRecDepth 16384
set_option maxHeartbeats 1000000

noncomputable section

open Idealize.ShloMosaic Idealize.SL.Sem Idealize.ShloMosaic.StableHlo

namespace Cert.Proof.Inp

/-- The precondition's shapes fit. -/
theorem pre_facts : Cert.Pre_finite_weights.Facts where
  bcast_S_S1024 := by decide
  slices_S1024x3656_S1024x512_0_0 := by decide
  bcast_S_S1024x512 := by decide
  slices_S1024x3656_S1024x1024_0_768 := by decide
  bcast_S_S1024x1024 := by decide
  slices_S1024x3656_S1024x512_0_2304 := by decide

/-- The kernel runs without a fault and leaves its arguments and counters alone. -/
theorem frame_P : Cert.quiescent_Inp := fun m ρ _ => Cert.Inp.Gen.frame m ρ

/-- The same of the kernel over the extended reals. -/
theorem frame_PI : Cert.quiescent_InpIdeal := fun m ρ _ => Cert.InpIdeal.Gen.frame m ρ

/-- The same of the kernel over the extended reals where the precondition holds. -/
theorem frame_PI_pre : Cert.quiescent_InpIdeal_pre_finite_weights (hPre_finite_weights := pre_facts) :=
  fun m ρ _ => Cert.InpIdeal.Gen.frame m ρ

/-- The same of the reference over the extended reals. -/
theorem frame_RI : Cert.quiescent_InpRefIdeal := by
  intro m g _
  exact (θ_run Cert.InpRefIdeal.defs _ _).mono (fun r h => ⟨fun c => (h c).2.2.2.2, sem_eq_zero_of_no_sems (by decide) r.2⟩)
    (Cert.InpRefIdeal.Value.run m g)

/-- The same of the reference over the extended reals where the precondition holds. -/
theorem frame_RI_pre : Cert.quiescent_InpRefIdeal_pre_finite_weights (hPre_finite_weights := pre_facts) := by
  intro m g _
  exact (θ_run Cert.InpRefIdeal.defs _ _).mono (fun r h => ⟨fun c => (h c).2.2.2.2, sem_eq_zero_of_no_sems (by decide) r.2⟩)
    (Cert.InpRefIdeal.Value.run m g)

/-- Reading the kernel over the extended reals names one constant, and the name has the value. -/
theorem preserves : Cert.preserves_Inp_InpIdeal :=
  IdealRules.named_const.statement Cert.InpIdeal.κ "q_scale" .f32 0x3E38AA3B#32 (((1 / 8) * (Real.log 2)⁻¹ : ℝ) : EReal) rfl

section
local instance : Cert.Pre_finite_weights.Facts := pre_facts
open Cert.Pre_finite_weights.Facts

/-- The precondition gives finite gains, and finite weights in the columns of the normed heads. -/
theorem finite_args (m : (ℓ : Loc Cert.InpIdeal.nD Cert.InpIdeal.τ Cert.InpIdeal.sig) → Buf (Elt Ideal) ℓ)
    (h : Cert.Pre_InpIdeal_finite_weights m) (c : Dev Cert.InpIdeal.nD) :
    (∀ k : Fin 1024, ∃ v : ℝ, Cert.InpIdeal.Final.A1 m c (ix1 k) = (v : EReal)) ∧
    ∀ (k : Fin 1024) (n : Fin 3656), (n.val < 512 ∨ (768 ≤ n.val ∧ n.val < 1792) ∨ (2304 ≤ n.val ∧ n.val < 2816)) →
      ∃ v : ℝ, Cert.InpIdeal.Final.A2 m c (ix2 k n) = (v : EReal) := by
  obtain ⟨h0, h1, h2, h3⟩ := h c
  refine ⟨fun k => ?_, fun k n hn => ?_⟩
  · have := congrFun h0 (ix1 k)
    revert this
    dsimp only [Cert.Pre_finite_weights.fn]
    pointwise []
    exact fun this => ⟨_, Cert.Proof.Diff.finite_of_bit _ this⟩
  · rcases hn with hn | hn | hn
    · have := congrFun h1 (ix2 k (⟨n.val, hn⟩ : Fin 512))
      revert this
      dsimp only [Cert.Pre_finite_weights.fn]
      pointwise []
      exact fun this => ⟨_, Cert.Proof.Diff.finite_of_bit _ this⟩
    · have := congrFun h2 (ix2 k (⟨n.val - 768, by omega⟩ : Fin 1024))
      revert this
      dsimp only [Cert.Pre_finite_weights.fn]
      pointwise []
      intro this
      have e : (⟨768 + (n.val - 768), by omega⟩ : Fin 3656) = n := Fin.ext (by show 768 + (n.val - 768) = n.val; omega)
      rw [e] at this
      exact ⟨_, Cert.Proof.Diff.finite_of_bit _ this⟩
    · have := congrFun h3 (ix2 k (⟨n.val - 2304, by omega⟩ : Fin 512))
      revert this
      dsimp only [Cert.Pre_finite_weights.fn]
      pointwise []
      intro this
      have e : (⟨2304 + (n.val - 2304), by omega⟩ : Fin 3656) = n := Fin.ext (by show 2304 + (n.val - 2304) = n.val; omega)
      rw [e] at this
      exact ⟨_, Cert.Proof.Diff.finite_of_bit _ this⟩
end

/-- The projection's entries in the columns of the normed heads are finite. -/
theorem finite_entries (m : (ℓ : Loc Cert.InpIdeal.nD Cert.InpIdeal.τ Cert.InpIdeal.sig) → Buf (Elt Ideal) ℓ)
    (h : Cert.Pre_InpIdeal_finite_weights (hPre_finite_weights := pre_facts) m) (c : Dev Cert.InpIdeal.nD) (b : Fin 8) (q : Fin 4096) (n : Fin 3656)
    (hn : n.val < 512 ∨ (768 ≤ n.val ∧ n.val < 1792) ∨ (2304 ≤ n.val ∧ n.val < 2816)) :
    ∃ v : ℝ, Cert.InpIdeal.Final.YY m c (ix3 b q n) = (v : EReal) :=
  Cert.InpRefIdeal.Pure.entry_real _ _ _ (finite_args m h c).1 n (fun k => (finite_args m h c).2 k n hn) b q

/-- The reference's projection over agreeing arguments. -/
theorem proj_eq (m : (ℓ : Loc Cert.InpIdeal.nD Cert.InpIdeal.τ Cert.InpIdeal.sig) → Buf (Elt Ideal) ℓ)
    (m' : (ℓ : Loc Cert.InpRefIdeal.nD Cert.InpRefIdeal.τ Cert.InpRefIdeal.sig) → Buf (Elt Ideal) ℓ) (c : Dev Cert.InpRefIdeal.nD)
    (h0 : m' ((c.tc : Thread Cert.InpRefIdeal.nD Cert.InpRefIdeal.τ).loc Cert.InpRefIdeal.main_arg0) = Cert.InpIdeal.Final.A0 m c)
    (h1 : m' ((c.tc : Thread Cert.InpRefIdeal.nD Cert.InpRefIdeal.τ).loc Cert.InpRefIdeal.main_arg1) = Cert.InpIdeal.Final.A1 m c)
    (h2 : m' ((c.tc : Thread Cert.InpRefIdeal.nD Cert.InpRefIdeal.τ).loc Cert.InpRefIdeal.main_arg2) = Cert.InpIdeal.Final.A2 m c) :
    Cert.InpRefIdeal.Value.res_main_v33 (F := Ideal) (launchContents m' c) = Cert.InpIdeal.Final.YY m c := by
  refine (Cert.InpRefIdeal.Pure.y_eq (launchContents m' c)).trans ?_
  exact congr (congrArg Cert.InpRefIdeal.Pure.PJ (congr (congrArg Cert.InpRefIdeal.Pure.HN h0) h1)) h2

/-- The kernel and the reference leave the same four arrays over the extended reals, for finite weights. -/
theorem algebraic : Cert.algebraic_InpIdeal_InpRefIdeal_pre_finite_weights (hPre_finite_weights := pre_facts) := by
  pair_intro
  · run_from Cert.InpIdeal.Gen.run_main m g
  · run_from Cert.InpRefIdeal.Value.run m' g'
    all_goals obtain ⟨h0, h1, h2, h3, h4⟩ := hagree c
    all_goals have hy := proj_eq m m' c h0 h1 h2
    · refine (Cert.InpRefIdeal.Pure.p_eq (launchContents m' c)).trans (Eq.trans ?_ (Cert.InpIdeal.Final.final_p m c (finite_entries m hpre c)).symm)
      exact congr (congr (congrArg Cert.InpRefIdeal.Pure.PP hy) h3) h4
    · exact (congrArg Cert.InpRefIdeal.Pure.VT hy).trans (Cert.InpIdeal.Final.final_vt m c).symm
    · exact (congrArg Cert.InpRefIdeal.Pure.VD hy).trans (Cert.InpIdeal.Final.final_vd m c).symm
    · exact (congrArg Cert.InpRefIdeal.Pure.WI hy).trans (Cert.InpIdeal.Final.final_iw m c).symm

end Cert.Proof.Inp
end
-- ==== Proof.lean ====
module

public import proofs.«01_k».proof.Defs
public import proofs.«01_k».proof.Proof.Gen.Inp
public import proofs.«01_k».proof.Proof.Gen.Inp.Skeleton
public import proofs.«01_k».proof.Proof.Gen.Inp.Launch
public import proofs.«01_k».proof.Proof.Gen.Inp.Points
public import proofs.«01_k».proof.Proof.Gen.Inp.Frame
public import proofs.«01_k».proof.Proof.Gen.InpIdeal
public import proofs.«01_k».proof.Proof.Gen.InpIdeal.Skeleton
public import proofs.«01_k».proof.Proof.Gen.InpIdeal.Launch
public import proofs.«01_k».proof.Proof.Gen.InpIdeal.Points
public import proofs.«01_k».proof.Proof.Gen.InpIdeal.Frame
public import proofs.«01_k».proof.Proof.Gen.InpIdeal.Value
public import proofs.«01_k».proof.Proof.Gen.InpRefIdeal
public import proofs.«01_k».proof.Proof.Gen.InpRefIdeal.Run
public import proofs.«01_k».proof.Proof.Ffn.Claims
public import proofs.«01_k».proof.Proof.DiffIdeal.Claims
public import proofs.«01_k».proof.Proof.Inp.Claims

@[expose] public section

noncomputable section

namespace Cert.Proof

/-- The claims of the three calls. -/
theorem claim : Cert.Claim :=
  ⟨Cert.Diff.Gen.facts, Cert.DiffIdeal.Gen.facts, Cert.DiffRefIdeal.Gen.facts,
    Cert.Ffn.Gen.facts, Cert.FfnIdeal.Gen.facts, Cert.FfnRefIdeal.Gen.facts,
    Cert.Inp.Gen.facts, Cert.InpIdeal.Gen.facts, Cert.InpRefIdeal.Gen.facts, Diff.pre_facts, Inp.pre_facts,
    Diff.frame_P, Diff.frame_PI, Diff.frame_PI_pre, Diff.frame_RI, Diff.frame_RI_pre,
    Ffn.frame_P, Ffn.frame_PI, Ffn.frame_RI,
    Inp.frame_P, Inp.frame_PI, Inp.frame_PI_pre, Inp.frame_RI, Inp.frame_RI_pre,
    Diff.preserves, Diff.algebraic, Ffn.preserves, Ffn.algebraic, Inp.preserves, Inp.algebraic⟩

end Cert.Proof

end
